-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_logits [hPre_finite_logits : Cert.Pre_finite_logits.Facts] (m : (ℓ : Loc Cert.AttnIdeal.nD Cert.AttnIdeal.τ Cert.AttnIdeal.sig) → Buf (Elt Ideal) ℓ) : Prop :=
  ∀ c : Dev Cert.AttnIdeal.nD,
    (Cert.Pre_finite_logits.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_logits [hPre_finite_logits : Cert.Pre_finite_logits.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_logits.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10)) (m ((c.tc : Thread Cert.AttnRefIdeal.nD Cert.AttnRefIdeal.τ).loc Cert.AttnRefIdeal.main_arg11))) = (fun _ => 1#1)

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def Pre_PostP (m : (ℓ : Loc Cert.PostP.nD Cert.PostP.τ Cert.PostP.sig) → Buf (Elt Bits) ℓ) : Prop :=
  True

def Pre_PostPIdeal (m : (ℓ : Loc Cert.PostPIdeal.nD Cert.PostPIdeal.τ Cert.PostPIdeal.sig) → Buf (Elt Ideal) ℓ) : Prop :=
  True

def Pre_PostPRefIdeal (m : (ℓ : Loc Cert.PostPRefIdeal.nD Cert.PostPRefIdeal.τ Cert.PostPRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10)
      ∧ r.2.mem ((c.tc : Thread Cert.Attn.nD Cert.Attn.τ).loc Cert.Attn.main_arg11) = m ((c.tc : Thread Cert.Attn.nD Cert.Attn.τ).loc Cert.Attn.main_arg11))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11))
      ∧ r.2.sem = fun _ => 0)

def quiescent_AttnIdeal_pre_finite_logits [hAttnIdeal : Cert.AttnIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_logits m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10)
      ∧ r.2.mem ((c.tc : Thread Cert.AttnRefIdeal.nD Cert.AttnRefIdeal.τ).loc Cert.AttnRefIdeal.main_arg11) = m ((c.tc : Thread Cert.AttnRefIdeal.nD Cert.AttnRefIdeal.τ).loc Cert.AttnRefIdeal.main_arg11))
      ∧ r.2.sem = fun _ => 0)

def quiescent_AttnRefIdeal_pre_finite_logits [hAttnRefIdeal : Cert.AttnRefIdeal.Facts] [hPre_finite_logits : Cert.Pre_finite_logits.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_logits m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10)
      ∧ r.2.mem ((c.tc : Thread Cert.AttnRefIdeal.nD Cert.AttnRefIdeal.τ).loc Cert.AttnRefIdeal.main_arg11) = m ((c.tc : Thread Cert.AttnRefIdeal.nD Cert.AttnRefIdeal.τ).loc Cert.AttnRefIdeal.main_arg11))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9)
      ∧ r.2.mem ((c.tc : Thread Cert.PostS.nD Cert.PostS.τ).loc Cert.PostS.main_arg10) = m ((c.tc : Thread Cert.PostS.nD Cert.PostS.τ).loc Cert.PostS.main_arg10)
      ∧ r.2.mem ((c.tc : Thread Cert.PostS.nD Cert.PostS.τ).loc Cert.PostS.main_arg11) = m ((c.tc : Thread Cert.PostS.nD Cert.PostS.τ).loc Cert.PostS.main_arg11)
      ∧ r.2.mem ((c.tc : Thread Cert.PostS.nD Cert.PostS.τ).loc Cert.PostS.main_arg12) = m ((c.tc : Thread Cert.PostS.nD Cert.PostS.τ).loc Cert.PostS.main_arg12)
      ∧ r.2.mem ((c.tc : Thread Cert.PostS.nD Cert.PostS.τ).loc Cert.PostS.main_arg13) = m ((c.tc : Thread Cert.PostS.nD Cert.PostS.τ).loc Cert.PostS.main_arg13)
      ∧ r.2.mem ((c.tc : Thread Cert.PostS.nD Cert.PostS.τ).loc Cert.PostS.main_arg14) = m ((c.tc : Thread Cert.PostS.nD Cert.PostS.τ).loc Cert.PostS.main_arg14)
      ∧ r.2.mem ((c.tc : Thread Cert.PostS.nD Cert.PostS.τ).loc Cert.PostS.main_arg15) = m ((c.tc : Thread Cert.PostS.nD Cert.PostS.τ).loc Cert.PostS.main_arg15))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
      ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
      ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11)
      ∧ r.2.mem ((c.tc : Thread Cert.PostSIdeal.nD Cert.PostSIdeal.τ).loc Cert.PostSIdeal.main_arg12) = m ((c.tc : Thread Cert.PostSIdeal.nD Cert.PostSIdeal.τ).loc Cert.PostSIdeal.main_arg12)
      ∧ r.2.mem ((c.tc : Thread Cert.PostSIdeal.nD Cert.PostSIdeal.τ).loc Cert.PostSIdeal.main_arg13) = m ((c.tc : Thread Cert.PostSIdeal.nD Cert.PostSIdeal.τ).loc Cert.PostSIdeal.main_arg13)
      ∧ r.2.mem ((c.tc : Thread Cert.PostSIdeal.nD Cert.PostSIdeal.τ).loc Cert.PostSIdeal.main_arg14) = m ((c.tc : Thread Cert.PostSIdeal.nD Cert.PostSIdeal.τ).loc Cert.PostSIdeal.main_arg14)
      ∧ r.2.mem ((c.tc : Thread Cert.PostSIdeal.nD Cert.PostSIdeal.τ).loc Cert.PostSIdeal.main_arg15) = m ((c.tc : Thread Cert.PostSIdeal.nD Cert.PostSIdeal.τ).loc Cert.PostSIdeal.main_arg15))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9)
      ∧ r.2.mem ((c.tc : Thread Cert.PostSRefIdeal.nD Cert.PostSRefIdeal.τ).loc Cert.PostSRefIdeal.main_arg10) = m ((c.tc : Thread Cert.PostSRefIdeal.nD Cert.PostSRefIdeal.τ).loc Cert.PostSRefIdeal.main_arg10)
      ∧ r.2.mem ((c.tc : Thread Cert.PostSRefIdeal.nD Cert.PostSRefIdeal.τ).loc Cert.PostSRefIdeal.main_arg11) = m ((c.tc : Thread Cert.PostSRefIdeal.nD Cert.PostSRefIdeal.τ).loc Cert.PostSRefIdeal.main_arg11)
      ∧ r.2.mem ((c.tc : Thread Cert.PostSRefIdeal.nD Cert.PostSRefIdeal.τ).loc Cert.PostSRefIdeal.main_arg12) = m ((c.tc : Thread Cert.PostSRefIdeal.nD Cert.PostSRefIdeal.τ).loc Cert.PostSRefIdeal.main_arg12)
      ∧ r.2.mem ((c.tc : Thread Cert.PostSRefIdeal.nD Cert.PostSRefIdeal.τ).loc Cert.PostSRefIdeal.main_arg13) = m ((c.tc : Thread Cert.PostSRefIdeal.nD Cert.PostSRefIdeal.τ).loc Cert.PostSRefIdeal.main_arg13)
      ∧ r.2.mem ((c.tc : Thread Cert.PostSRefIdeal.nD Cert.PostSRefIdeal.τ).loc Cert.PostSRefIdeal.main_arg14) = m ((c.tc : Thread Cert.PostSRefIdeal.nD Cert.PostSRefIdeal.τ).loc Cert.PostSRefIdeal.main_arg14)
      ∧ r.2.mem ((c.tc : Thread Cert.PostSRefIdeal.nD Cert.PostSRefIdeal.τ).loc Cert.PostSRefIdeal.main_arg15) = m ((c.tc : Thread Cert.PostSRefIdeal.nD Cert.PostSRefIdeal.τ).loc Cert.PostSRefIdeal.main_arg15))
      ∧ r.2.sem = fun _ => 0)

def quiescent_PostP [hPostP : Cert.PostP.Facts] : Prop :=
  ∀ (m : (ℓ : Loc Cert.PostP.nD Cert.PostP.τ Cert.PostP.sig) → Buf (Elt Bits) ℓ) (g : Dev Cert.PostP.nD → PrngReg), Pre_PostP m →
    θ_run (Cert.PostP.defs (F := Bits)) (onTc (τ := Cert.PostP.τ) (Cert.PostP.main (F := Bits))) ⟨m, fun _ => 0, g⟩ (fun r => (∀ c : Dev Cert.PostP.nD,
      r.2.mem ((c.tc : Thread Cert.PostP.nD Cert.PostP.τ).loc Cert.PostP.main_arg0) = m ((c.tc : Thread Cert.PostP.nD Cert.PostP.τ).loc Cert.PostP.main_arg0)
      ∧ r.2.mem ((c.tc : Thread Cert.PostP.nD Cert.PostP.τ).loc Cert.PostP.main_arg1) = m ((c.tc : Thread Cert.PostP.nD Cert.PostP.τ).loc Cert.PostP.main_arg1)
      ∧ r.2.mem ((c.tc : Thread Cert.PostP.nD Cert.PostP.τ).loc Cert.PostP.main_arg2) = m ((c.tc : Thread Cert.PostP.nD Cert.PostP.τ).loc Cert.PostP.main_arg2)
      ∧ r.2.mem ((c.tc : Thread Cert.PostP.nD Cert.PostP.τ).loc Cert.PostP.main_arg3) = m ((c.tc : Thread Cert.PostP.nD Cert.PostP.τ).loc Cert.PostP.main_arg3)
      ∧ r.2.mem ((c.tc : Thread Cert.PostP.nD Cert.PostP.τ).loc Cert.PostP.main_arg4) = m ((c.tc : Thread Cert.PostP.nD Cert.PostP.τ).loc Cert.PostP.main_arg4)
      ∧ r.2.mem ((c.tc : Thread Cert.PostP.nD Cert.PostP.τ).loc Cert.PostP.main_arg5) = m ((c.tc : Thread Cert.PostP.nD Cert.PostP.τ).loc Cert.PostP.main_arg5)
      ∧ r.2.mem ((c.tc : Thread Cert.PostP.nD Cert.PostP.τ).loc Cert.PostP.main_arg6) = m ((c.tc : Thread Cert.PostP.nD Cert.PostP.τ).loc Cert.PostP.main_arg6)
      ∧ r.2.mem ((c.tc : Thread Cert.PostP.nD Cert.PostP.τ).loc Cert.PostP.main_arg7) = m ((c.tc : Thread Cert.PostP.nD Cert.PostP.τ).loc Cert.PostP.main_arg7)
      ∧ r.2.mem ((c.tc : Thread Cert.PostP.nD Cert.PostP.τ).loc Cert.PostP.main_arg8) = m ((c.tc : Thread Cert.PostP.nD Cert.PostP.τ).loc Cert.PostP.main_arg8)
      ∧ r.2.mem ((c.tc : Thread Cert.PostP.nD Cert.PostP.τ).loc Cert.PostP.main_arg9) = m ((c.tc : Thread Cert.PostP.nD Cert.PostP.τ).loc Cert.PostP.main_arg9)
      ∧ r.2.mem ((c.tc : Thread Cert.PostP.nD Cert.PostP.τ).loc Cert.PostP.main_arg10) = m ((c.tc : Thread Cert.PostP.nD Cert.PostP.τ).loc Cert.PostP.main_arg10)
      ∧ r.2.mem ((c.tc : Thread Cert.PostP.nD Cert.PostP.τ).loc Cert.PostP.main_arg11) = m ((c.tc : Thread Cert.PostP.nD Cert.PostP.τ).loc Cert.PostP.main_arg11)
      ∧ r.2.mem ((c.tc : Thread Cert.PostP.nD Cert.PostP.τ).loc Cert.PostP.main_arg12) = m ((c.tc : Thread Cert.PostP.nD Cert.PostP.τ).loc Cert.PostP.main_arg12)
      ∧ r.2.mem ((c.tc : Thread Cert.PostP.nD Cert.PostP.τ).loc Cert.PostP.main_arg13) = m ((c.tc : Thread Cert.PostP.nD Cert.PostP.τ).loc Cert.PostP.main_arg13)
      ∧ r.2.mem ((c.tc : Thread Cert.PostP.nD Cert.PostP.τ).loc Cert.PostP.main_arg14) = m ((c.tc : Thread Cert.PostP.nD Cert.PostP.τ).loc Cert.PostP.main_arg14))
      ∧ r.2.sem = fun _ => 0)

def quiescent_PostPIdeal [hPostPIdeal : Cert.PostPIdeal.Facts] : Prop :=
  ∀ (m : (ℓ : Loc Cert.PostPIdeal.nD Cert.PostPIdeal.τ Cert.PostPIdeal.sig) → Buf (Elt Ideal) ℓ) (g : Dev Cert.PostPIdeal.nD → PrngReg), Pre_PostPIdeal m →
    θ_run (Cert.PostPIdeal.defs (F := Ideal)) (onTc (τ := Cert.PostPIdeal.τ) (Cert.PostPIdeal.main (F := Ideal))) ⟨m, fun _ => 0, g⟩ (fun r => (∀ c : Dev Cert.PostPIdeal.nD,
      r.2.mem ((c.tc : Thread Cert.PostPIdeal.nD Cert.PostPIdeal.τ).loc Cert.PostPIdeal.main_arg0) = m ((c.tc : Thread Cert.PostPIdeal.nD Cert.PostPIdeal.τ).loc Cert.PostPIdeal.main_arg0)
      ∧ r.2.mem ((c.tc : Thread Cert.PostPIdeal.nD Cert.PostPIdeal.τ).loc Cert.PostPIdeal.main_arg1) = m ((c.tc : Thread Cert.PostPIdeal.nD Cert.PostPIdeal.τ).loc Cert.PostPIdeal.main_arg1)
      ∧ r.2.mem ((c.tc : Thread Cert.PostPIdeal.nD Cert.PostPIdeal.τ).loc Cert.PostPIdeal.main_arg2) = m ((c.tc : Thread Cert.PostPIdeal.nD Cert.PostPIdeal.τ).loc Cert.PostPIdeal.main_arg2)
      ∧ r.2.mem ((c.tc : Thread Cert.PostPIdeal.nD Cert.PostPIdeal.τ).loc Cert.PostPIdeal.main_arg3) = m ((c.tc : Thread Cert.PostPIdeal.nD Cert.PostPIdeal.τ).loc Cert.PostPIdeal.main_arg3)
      ∧ r.2.mem ((c.tc : Thread Cert.PostPIdeal.nD Cert.PostPIdeal.τ).loc Cert.PostPIdeal.main_arg4) = m ((c.tc : Thread Cert.PostPIdeal.nD Cert.PostPIdeal.τ).loc Cert.PostPIdeal.main_arg4)
      ∧ r.2.mem ((c.tc : Thread Cert.PostPIdeal.nD Cert.PostPIdeal.τ).loc Cert.PostPIdeal.main_arg5) = m ((c.tc : Thread Cert.PostPIdeal.nD Cert.PostPIdeal.τ).loc Cert.PostPIdeal.main_arg5)
      ∧ r.2.mem ((c.tc : Thread Cert.PostPIdeal.nD Cert.PostPIdeal.τ).loc Cert.PostPIdeal.main_arg6) = m ((c.tc : Thread Cert.PostPIdeal.nD Cert.PostPIdeal.τ).loc Cert.PostPIdeal.main_arg6)
      ∧ r.2.mem ((c.tc : Thread Cert.PostPIdeal.nD Cert.PostPIdeal.τ).loc Cert.PostPIdeal.main_arg7) = m ((c.tc : Thread Cert.PostPIdeal.nD Cert.PostPIdeal.τ).loc Cert.PostPIdeal.main_arg7)
      ∧ r.2.mem ((c.tc : Thread Cert.PostPIdeal.nD Cert.PostPIdeal.τ).loc Cert.PostPIdeal.main_arg8) = m ((c.tc : Thread Cert.PostPIdeal.nD Cert.PostPIdeal.τ).loc Cert.PostPIdeal.main_arg8)
      ∧ r.2.mem ((c.tc : Thread Cert.PostPIdeal.nD Cert.PostPIdeal.τ).loc Cert.PostPIdeal.main_arg9) = m ((c.tc : Thread Cert.PostPIdeal.nD Cert.PostPIdeal.τ).loc Cert.PostPIdeal.main_arg9)
      ∧ r.2.mem ((c.tc : Thread Cert.PostPIdeal.nD Cert.PostPIdeal.τ).loc Cert.PostPIdeal.main_arg10) = m ((c.tc : Thread Cert.PostPIdeal.nD Cert.PostPIdeal.τ).loc Cert.PostPIdeal.main_arg10)
      ∧ r.2.mem ((c.tc : Thread Cert.PostPIdeal.nD Cert.PostPIdeal.τ).loc Cert.PostPIdeal.main_arg11) = m ((c.tc : Thread Cert.PostPIdeal.nD Cert.PostPIdeal.τ).loc Cert.PostPIdeal.main_arg11)
      ∧ r.2.mem ((c.tc : Thread Cert.PostPIdeal.nD Cert.PostPIdeal.τ).loc Cert.PostPIdeal.main_arg12) = m ((c.tc : Thread Cert.PostPIdeal.nD Cert.PostPIdeal.τ).loc Cert.PostPIdeal.main_arg12)
      ∧ r.2.mem ((c.tc : Thread Cert.PostPIdeal.nD Cert.PostPIdeal.τ).loc Cert.PostPIdeal.main_arg13) = m ((c.tc : Thread Cert.PostPIdeal.nD Cert.PostPIdeal.τ).loc Cert.PostPIdeal.main_arg13)
      ∧ r.2.mem ((c.tc : Thread Cert.PostPIdeal.nD Cert.PostPIdeal.τ).loc Cert.PostPIdeal.main_arg14) = m ((c.tc : Thread Cert.PostPIdeal.nD Cert.PostPIdeal.τ).loc Cert.PostPIdeal.main_arg14))
      ∧ r.2.sem = fun _ => 0)

def quiescent_PostPRefIdeal [hPostPRefIdeal : Cert.PostPRefIdeal.Facts] : Prop :=
  ∀ (m : (ℓ : Loc Cert.PostPRefIdeal.nD Cert.PostPRefIdeal.τ Cert.PostPRefIdeal.sig) → Buf (Elt Ideal) ℓ) (g : Dev Cert.PostPRefIdeal.nD → PrngReg), Pre_PostPRefIdeal m →
    θ_run (Cert.PostPRefIdeal.defs (F := Ideal)) (onTc (τ := Cert.PostPRefIdeal.τ) (Cert.PostPRefIdeal.main (F := Ideal))) ⟨m, fun _ => 0, g⟩ (fun r => (∀ c : Dev Cert.PostPRefIdeal.nD,
      r.2.mem ((c.tc : Thread Cert.PostPRefIdeal.nD Cert.PostPRefIdeal.τ).loc Cert.PostPRefIdeal.main_arg0) = m ((c.tc : Thread Cert.PostPRefIdeal.nD Cert.PostPRefIdeal.τ).loc Cert.PostPRefIdeal.main_arg0)
      ∧ r.2.mem ((c.tc : Thread Cert.PostPRefIdeal.nD Cert.PostPRefIdeal.τ).loc Cert.PostPRefIdeal.main_arg1) = m ((c.tc : Thread Cert.PostPRefIdeal.nD Cert.PostPRefIdeal.τ).loc Cert.PostPRefIdeal.main_arg1)
      ∧ r.2.mem ((c.tc : Thread Cert.PostPRefIdeal.nD Cert.PostPRefIdeal.τ).loc Cert.PostPRefIdeal.main_arg2) = m ((c.tc : Thread Cert.PostPRefIdeal.nD Cert.PostPRefIdeal.τ).loc Cert.PostPRefIdeal.main_arg2)
      ∧ r.2.mem ((c.tc : Thread Cert.PostPRefIdeal.nD Cert.PostPRefIdeal.τ).loc Cert.PostPRefIdeal.main_arg3) = m ((c.tc : Thread Cert.PostPRefIdeal.nD Cert.PostPRefIdeal.τ).loc Cert.PostPRefIdeal.main_arg3)
      ∧ r.2.mem ((c.tc : Thread Cert.PostPRefIdeal.nD Cert.PostPRefIdeal.τ).loc Cert.PostPRefIdeal.main_arg4) = m ((c.tc : Thread Cert.PostPRefIdeal.nD Cert.PostPRefIdeal.τ).loc Cert.PostPRefIdeal.main_arg4)
      ∧ r.2.mem ((c.tc : Thread Cert.PostPRefIdeal.nD Cert.PostPRefIdeal.τ).loc Cert.PostPRefIdeal.main_arg5) = m ((c.tc : Thread Cert.PostPRefIdeal.nD Cert.PostPRefIdeal.τ).loc Cert.PostPRefIdeal.main_arg5)
      ∧ r.2.mem ((c.tc : Thread Cert.PostPRefIdeal.nD Cert.PostPRefIdeal.τ).loc Cert.PostPRefIdeal.main_arg6) = m ((c.tc : Thread Cert.PostPRefIdeal.nD Cert.PostPRefIdeal.τ).loc Cert.PostPRefIdeal.main_arg6)
      ∧ r.2.mem ((c.tc : Thread Cert.PostPRefIdeal.nD Cert.PostPRefIdeal.τ).loc Cert.PostPRefIdeal.main_arg7) = m ((c.tc : Thread Cert.PostPRefIdeal.nD Cert.PostPRefIdeal.τ).loc Cert.PostPRefIdeal.main_arg7)
      ∧ r.2.mem ((c.tc : Thread Cert.PostPRefIdeal.nD Cert.PostPRefIdeal.τ).loc Cert.PostPRefIdeal.main_arg8) = m ((c.tc : Thread Cert.PostPRefIdeal.nD Cert.PostPRefIdeal.τ).loc Cert.PostPRefIdeal.main_arg8)
      ∧ r.2.mem ((c.tc : Thread Cert.PostPRefIdeal.nD Cert.PostPRefIdeal.τ).loc Cert.PostPRefIdeal.main_arg9) = m ((c.tc : Thread Cert.PostPRefIdeal.nD Cert.PostPRefIdeal.τ).loc Cert.PostPRefIdeal.main_arg9)
      ∧ r.2.mem ((c.tc : Thread Cert.PostPRefIdeal.nD Cert.PostPRefIdeal.τ).loc Cert.PostPRefIdeal.main_arg10) = m ((c.tc : Thread Cert.PostPRefIdeal.nD Cert.PostPRefIdeal.τ).loc Cert.PostPRefIdeal.main_arg10)
      ∧ r.2.mem ((c.tc : Thread Cert.PostPRefIdeal.nD Cert.PostPRefIdeal.τ).loc Cert.PostPRefIdeal.main_arg11) = m ((c.tc : Thread Cert.PostPRefIdeal.nD Cert.PostPRefIdeal.τ).loc Cert.PostPRefIdeal.main_arg11)
      ∧ r.2.mem ((c.tc : Thread Cert.PostPRefIdeal.nD Cert.PostPRefIdeal.τ).loc Cert.PostPRefIdeal.main_arg12) = m ((c.tc : Thread Cert.PostPRefIdeal.nD Cert.PostPRefIdeal.τ).loc Cert.PostPRefIdeal.main_arg12)
      ∧ r.2.mem ((c.tc : Thread Cert.PostPRefIdeal.nD Cert.PostPRefIdeal.τ).loc Cert.PostPRefIdeal.main_arg13) = m ((c.tc : Thread Cert.PostPRefIdeal.nD Cert.PostPRefIdeal.τ).loc Cert.PostPRefIdeal.main_arg13)
      ∧ r.2.mem ((c.tc : Thread Cert.PostPRefIdeal.nD Cert.PostPRefIdeal.τ).loc Cert.PostPRefIdeal.main_arg14) = m ((c.tc : Thread Cert.PostPRefIdeal.nD Cert.PostPRefIdeal.τ).loc Cert.PostPRefIdeal.main_arg14))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Attn_AttnIdeal : Prop :=
  True

def algebraic_AttnIdeal_AttnRefIdeal_pre_finite_logits [hAttnIdeal : Cert.AttnIdeal.Facts] [hAttnRefIdeal : Cert.AttnRefIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_logits m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)
      ∧ m' ((c.tc : Thread Cert.AttnRefIdeal.nD Cert.AttnRefIdeal.τ).loc Cert.AttnRefIdeal.main_arg11) = m ((c.tc : Thread Cert.AttnIdeal.nD Cert.AttnIdeal.τ).loc Cert.AttnIdeal.main_arg11)) →
    ∃ (v0 : (c : Dev Cert.AttnIdeal.nD) → Buf (Elt Ideal) ((c.tc : Thread Cert.AttnIdeal.nD Cert.AttnIdeal.τ).loc Cert.AttnIdeal.main_v16_0)) (v1 : (c : Dev Cert.AttnIdeal.nD) → Buf (Elt Ideal) ((c.tc : Thread Cert.AttnIdeal.nD Cert.AttnIdeal.τ).loc Cert.AttnIdeal.main_v16_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v16_0) = v0 c
          ∧ r.2.mem ((c.tc : Thread Cert.AttnIdeal.nD Cert.AttnIdeal.τ).loc Cert.AttnIdeal.main_v16_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
          ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v74) = v0 c
          ∧ r.2.mem ((c.tc : Thread Cert.AttnRefIdeal.nD Cert.AttnRefIdeal.τ).loc Cert.AttnRefIdeal.main_v76) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10)
          ∧ r.2.mem ((c.tc : Thread Cert.AttnRefIdeal.nD Cert.AttnRefIdeal.τ).loc Cert.AttnRefIdeal.main_arg11) = m' ((c.tc : Thread Cert.AttnRefIdeal.nD Cert.AttnRefIdeal.τ).loc Cert.AttnRefIdeal.main_arg11))

def preserves_PostS_PostSIdeal : Prop :=
  IdealRules.named_const.Statement Cert.PostSIdeal.κ "sqrt_half" .f32 0x3F3504F3#32 (((Real.sqrt 2)⁻¹ : ℝ) : EReal)

def algebraic_PostSIdeal_PostSRefIdeal [hPostSIdeal : Cert.PostSIdeal.Facts] [hPostSRefIdeal : Cert.PostSRefIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)
      ∧ m' ((c.tc : Thread Cert.PostSRefIdeal.nD Cert.PostSRefIdeal.τ).loc Cert.PostSRefIdeal.main_arg10) = m ((c.tc : Thread Cert.PostSIdeal.nD Cert.PostSIdeal.τ).loc Cert.PostSIdeal.main_arg10)
      ∧ m' ((c.tc : Thread Cert.PostSRefIdeal.nD Cert.PostSRefIdeal.τ).loc Cert.PostSRefIdeal.main_arg11) = m ((c.tc : Thread Cert.PostSIdeal.nD Cert.PostSIdeal.τ).loc Cert.PostSIdeal.main_arg11)
      ∧ m' ((c.tc : Thread Cert.PostSRefIdeal.nD Cert.PostSRefIdeal.τ).loc Cert.PostSRefIdeal.main_arg12) = m ((c.tc : Thread Cert.PostSIdeal.nD Cert.PostSIdeal.τ).loc Cert.PostSIdeal.main_arg12)
      ∧ m' ((c.tc : Thread Cert.PostSRefIdeal.nD Cert.PostSRefIdeal.τ).loc Cert.PostSRefIdeal.main_arg13) = m ((c.tc : Thread Cert.PostSIdeal.nD Cert.PostSIdeal.τ).loc Cert.PostSIdeal.main_arg13)
      ∧ m' ((c.tc : Thread Cert.PostSRefIdeal.nD Cert.PostSRefIdeal.τ).loc Cert.PostSRefIdeal.main_arg14) = m ((c.tc : Thread Cert.PostSIdeal.nD Cert.PostSIdeal.τ).loc Cert.PostSIdeal.main_arg14)
      ∧ m' ((c.tc : Thread Cert.PostSRefIdeal.nD Cert.PostSRefIdeal.τ).loc Cert.PostSRefIdeal.main_arg15) = m ((c.tc : Thread Cert.PostSIdeal.nD Cert.PostSIdeal.τ).loc Cert.PostSIdeal.main_arg15)) →
    ∃ (v0 : (c : Dev Cert.PostSIdeal.nD) → Buf (Elt Ideal) ((c.tc : Thread Cert.PostSIdeal.nD Cert.PostSIdeal.τ).loc Cert.PostSIdeal.main_v23_0)) (v1 : (c : Dev Cert.PostSIdeal.nD) → Buf (Elt Ideal) ((c.tc : Thread Cert.PostSIdeal.nD Cert.PostSIdeal.τ).loc Cert.PostSIdeal.main_v23_1)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v23_0) = v0 c
          ∧ r.2.mem ((c.tc : Thread Cert.PostSIdeal.nD Cert.PostSIdeal.τ).loc Cert.PostSIdeal.main_v23_1) = v1 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
          ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
          ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11)
          ∧ r.2.mem ((c.tc : Thread Cert.PostSIdeal.nD Cert.PostSIdeal.τ).loc Cert.PostSIdeal.main_arg12) = m ((c.tc : Thread Cert.PostSIdeal.nD Cert.PostSIdeal.τ).loc Cert.PostSIdeal.main_arg12)
          ∧ r.2.mem ((c.tc : Thread Cert.PostSIdeal.nD Cert.PostSIdeal.τ).loc Cert.PostSIdeal.main_arg13) = m ((c.tc : Thread Cert.PostSIdeal.nD Cert.PostSIdeal.τ).loc Cert.PostSIdeal.main_arg13)
          ∧ r.2.mem ((c.tc : Thread Cert.PostSIdeal.nD Cert.PostSIdeal.τ).loc Cert.PostSIdeal.main_arg14) = m ((c.tc : Thread Cert.PostSIdeal.nD Cert.PostSIdeal.τ).loc Cert.PostSIdeal.main_arg14)
          ∧ r.2.mem ((c.tc : Thread Cert.PostSIdeal.nD Cert.PostSIdeal.τ).loc Cert.PostSIdeal.main_arg15) = m ((c.tc : Thread Cert.PostSIdeal.nD Cert.PostSIdeal.τ).loc Cert.PostSIdeal.main_arg15))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v95) = v0 c
          ∧ r.2.mem ((c.tc : Thread Cert.PostSRefIdeal.nD Cert.PostSRefIdeal.τ).loc Cert.PostSRefIdeal.main_v97) = v1 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7)
          ∧ r.2.mem ((c.tc : Thread Cert.PostSRefIdeal.nD Cert.PostSRefIdeal.τ).loc Cert.PostSRefIdeal.main_arg8) = m' ((c.tc : Thread Cert.PostSRefIdeal.nD Cert.PostSRefIdeal.τ).loc Cert.PostSRefIdeal.main_arg8)
          ∧ r.2.mem ((c.tc : Thread Cert.PostSRefIdeal.nD Cert.PostSRefIdeal.τ).loc Cert.PostSRefIdeal.main_arg9) = m' ((c.tc : Thread Cert.PostSRefIdeal.nD Cert.PostSRefIdeal.τ).loc Cert.PostSRefIdeal.main_arg9)
          ∧ r.2.mem ((c.tc : Thread Cert.PostSRefIdeal.nD Cert.PostSRefIdeal.τ).loc Cert.PostSRefIdeal.main_arg10) = m' ((c.tc : Thread Cert.PostSRefIdeal.nD Cert.PostSRefIdeal.τ).loc Cert.PostSRefIdeal.main_arg10)
          ∧ r.2.mem ((c.tc : Thread Cert.PostSRefIdeal.nD Cert.PostSRefIdeal.τ).loc Cert.PostSRefIdeal.main_arg11) = m' ((c.tc : Thread Cert.PostSRefIdeal.nD Cert.PostSRefIdeal.τ).loc Cert.PostSRefIdeal.main_arg11)
          ∧ r.2.mem ((c.tc : Thread Cert.PostSRefIdeal.nD Cert.PostSRefIdeal.τ).loc Cert.PostSRefIdeal.main_arg12) = m' ((c.tc : Thread Cert.PostSRefIdeal.nD Cert.PostSRefIdeal.τ).loc Cert.PostSRefIdeal.main_arg12)
          ∧ r.2.mem ((c.tc : Thread Cert.PostSRefIdeal.nD Cert.PostSRefIdeal.τ).loc Cert.PostSRefIdeal.main_arg13) = m' ((c.tc : Thread Cert.PostSRefIdeal.nD Cert.PostSRefIdeal.τ).loc Cert.PostSRefIdeal.main_arg13)
          ∧ r.2.mem ((c.tc : Thread Cert.PostSRefIdeal.nD Cert.PostSRefIdeal.τ).loc Cert.PostSRefIdeal.main_arg14) = m' ((c.tc : Thread Cert.PostSRefIdeal.nD Cert.PostSRefIdeal.τ).loc Cert.PostSRefIdeal.main_arg14)
          ∧ r.2.mem ((c.tc : Thread Cert.PostSRefIdeal.nD Cert.PostSRefIdeal.τ).loc Cert.PostSRefIdeal.main_arg15) = m' ((c.tc : Thread Cert.PostSRefIdeal.nD Cert.PostSRefIdeal.τ).loc Cert.PostSRefIdeal.main_arg15))

def preserves_PostP_PostPIdeal : Prop :=
  IdealRules.named_const.Statement Cert.PostPIdeal.κ "sqrt_half" .f32 0x3F3504F3#32 (((Real.sqrt 2)⁻¹ : ℝ) : EReal)

def algebraic_PostPIdeal_PostPRefIdeal [hPostPIdeal : Cert.PostPIdeal.Facts] [hPostPRefIdeal : Cert.PostPRefIdeal.Facts] : Prop :=
  ∀ (m : (ℓ : Loc Cert.PostPIdeal.nD Cert.PostPIdeal.τ Cert.PostPIdeal.sig) → Buf (Elt Ideal) ℓ) (g : Dev Cert.PostPIdeal.nD → PrngReg)
    (m' : (ℓ : Loc Cert.PostPRefIdeal.nD Cert.PostPRefIdeal.τ Cert.PostPRefIdeal.sig) → Buf (Elt Ideal) ℓ) (g' : Dev Cert.PostPRefIdeal.nD → PrngReg), Pre_PostPIdeal m →
    (∀ c : Dev Cert.PostPIdeal.nD,
      m' ((c.tc : Thread Cert.PostPRefIdeal.nD Cert.PostPRefIdeal.τ).loc Cert.PostPRefIdeal.main_arg0) = m ((c.tc : Thread Cert.PostPIdeal.nD Cert.PostPIdeal.τ).loc Cert.PostPIdeal.main_arg0)
      ∧ m' ((c.tc : Thread Cert.PostPRefIdeal.nD Cert.PostPRefIdeal.τ).loc Cert.PostPRefIdeal.main_arg1) = m ((c.tc : Thread Cert.PostPIdeal.nD Cert.PostPIdeal.τ).loc Cert.PostPIdeal.main_arg1)
      ∧ m' ((c.tc : Thread Cert.PostPRefIdeal.nD Cert.PostPRefIdeal.τ).loc Cert.PostPRefIdeal.main_arg2) = m ((c.tc : Thread Cert.PostPIdeal.nD Cert.PostPIdeal.τ).loc Cert.PostPIdeal.main_arg2)
      ∧ m' ((c.tc : Thread Cert.PostPRefIdeal.nD Cert.PostPRefIdeal.τ).loc Cert.PostPRefIdeal.main_arg3) = m ((c.tc : Thread Cert.PostPIdeal.nD Cert.PostPIdeal.τ).loc Cert.PostPIdeal.main_arg3)
      ∧ m' ((c.tc : Thread Cert.PostPRefIdeal.nD Cert.PostPRefIdeal.τ).loc Cert.PostPRefIdeal.main_arg4) = m ((c.tc : Thread Cert.PostPIdeal.nD Cert.PostPIdeal.τ).loc Cert.PostPIdeal.main_arg4)
      ∧ m' ((c.tc : Thread Cert.PostPRefIdeal.nD Cert.PostPRefIdeal.τ).loc Cert.PostPRefIdeal.main_arg5) = m ((c.tc : Thread Cert.PostPIdeal.nD Cert.PostPIdeal.τ).loc Cert.PostPIdeal.main_arg5)
      ∧ m' ((c.tc : Thread Cert.PostPRefIdeal.nD Cert.PostPRefIdeal.τ).loc Cert.PostPRefIdeal.main_arg6) = m ((c.tc : Thread Cert.PostPIdeal.nD Cert.PostPIdeal.τ).loc Cert.PostPIdeal.main_arg6)
      ∧ m' ((c.tc : Thread Cert.PostPRefIdeal.nD Cert.PostPRefIdeal.τ).loc Cert.PostPRefIdeal.main_arg7) = m ((c.tc : Thread Cert.PostPIdeal.nD Cert.PostPIdeal.τ).loc Cert.PostPIdeal.main_arg7)
      ∧ m' ((c.tc : Thread Cert.PostPRefIdeal.nD Cert.PostPRefIdeal.τ).loc Cert.PostPRefIdeal.main_arg8) = m ((c.tc : Thread Cert.PostPIdeal.nD Cert.PostPIdeal.τ).loc Cert.PostPIdeal.main_arg8)
      ∧ m' ((c.tc : Thread Cert.PostPRefIdeal.nD Cert.PostPRefIdeal.τ).loc Cert.PostPRefIdeal.main_arg9) = m ((c.tc : Thread Cert.PostPIdeal.nD Cert.PostPIdeal.τ).loc Cert.PostPIdeal.main_arg9)
      ∧ m' ((c.tc : Thread Cert.PostPRefIdeal.nD Cert.PostPRefIdeal.τ).loc Cert.PostPRefIdeal.main_arg10) = m ((c.tc : Thread Cert.PostPIdeal.nD Cert.PostPIdeal.τ).loc Cert.PostPIdeal.main_arg10)
      ∧ m' ((c.tc : Thread Cert.PostPRefIdeal.nD Cert.PostPRefIdeal.τ).loc Cert.PostPRefIdeal.main_arg11) = m ((c.tc : Thread Cert.PostPIdeal.nD Cert.PostPIdeal.τ).loc Cert.PostPIdeal.main_arg11)
      ∧ m' ((c.tc : Thread Cert.PostPRefIdeal.nD Cert.PostPRefIdeal.τ).loc Cert.PostPRefIdeal.main_arg12) = m ((c.tc : Thread Cert.PostPIdeal.nD Cert.PostPIdeal.τ).loc Cert.PostPIdeal.main_arg12)
      ∧ m' ((c.tc : Thread Cert.PostPRefIdeal.nD Cert.PostPRefIdeal.τ).loc Cert.PostPRefIdeal.main_arg13) = m ((c.tc : Thread Cert.PostPIdeal.nD Cert.PostPIdeal.τ).loc Cert.PostPIdeal.main_arg13)
      ∧ m' ((c.tc : Thread Cert.PostPRefIdeal.nD Cert.PostPRefIdeal.τ).loc Cert.PostPRefIdeal.main_arg14) = m ((c.tc : Thread Cert.PostPIdeal.nD Cert.PostPIdeal.τ).loc Cert.PostPIdeal.main_arg14)) →
    ∃ (v0 : (c : Dev Cert.PostPIdeal.nD) → Buf (Elt Ideal) ((c.tc : Thread Cert.PostPIdeal.nD Cert.PostPIdeal.τ).loc Cert.PostPIdeal.main_v16_0)) (v1 : (c : Dev Cert.PostPIdeal.nD) → Buf (Elt Ideal) ((c.tc : Thread Cert.PostPIdeal.nD Cert.PostPIdeal.τ).loc Cert.PostPIdeal.main_v16_1)),
      θ_run (Cert.PostPIdeal.defs (F := Ideal)) (onTc (τ := Cert.PostPIdeal.τ) (Cert.PostPIdeal.main (F := Ideal))) ⟨m, fun _ => 0, g⟩ (fun r => ∀ c : Dev Cert.PostPIdeal.nD,
          r.2.mem ((c.tc : Thread Cert.PostPIdeal.nD Cert.PostPIdeal.τ).loc Cert.PostPIdeal.main_v16_0) = v0 c
          ∧ r.2.mem ((c.tc : Thread Cert.PostPIdeal.nD Cert.PostPIdeal.τ).loc Cert.PostPIdeal.main_v16_1) = v1 c
          ∧ r.2.mem ((c.tc : Thread Cert.PostPIdeal.nD Cert.PostPIdeal.τ).loc Cert.PostPIdeal.main_arg0) = m ((c.tc : Thread Cert.PostPIdeal.nD Cert.PostPIdeal.τ).loc Cert.PostPIdeal.main_arg0)
          ∧ r.2.mem ((c.tc : Thread Cert.PostPIdeal.nD Cert.PostPIdeal.τ).loc Cert.PostPIdeal.main_arg1) = m ((c.tc : Thread Cert.PostPIdeal.nD Cert.PostPIdeal.τ).loc Cert.PostPIdeal.main_arg1)
          ∧ r.2.mem ((c.tc : Thread Cert.PostPIdeal.nD Cert.PostPIdeal.τ).loc Cert.PostPIdeal.main_arg2) = m ((c.tc : Thread Cert.PostPIdeal.nD Cert.PostPIdeal.τ).loc Cert.PostPIdeal.main_arg2)
          ∧ r.2.mem ((c.tc : Thread Cert.PostPIdeal.nD Cert.PostPIdeal.τ).loc Cert.PostPIdeal.main_arg3) = m ((c.tc : Thread Cert.PostPIdeal.nD Cert.PostPIdeal.τ).loc Cert.PostPIdeal.main_arg3)
          ∧ r.2.mem ((c.tc : Thread Cert.PostPIdeal.nD Cert.PostPIdeal.τ).loc Cert.PostPIdeal.main_arg4) = m ((c.tc : Thread Cert.PostPIdeal.nD Cert.PostPIdeal.τ).loc Cert.PostPIdeal.main_arg4)
          ∧ r.2.mem ((c.tc : Thread Cert.PostPIdeal.nD Cert.PostPIdeal.τ).loc Cert.PostPIdeal.main_arg5) = m ((c.tc : Thread Cert.PostPIdeal.nD Cert.PostPIdeal.τ).loc Cert.PostPIdeal.main_arg5)
          ∧ r.2.mem ((c.tc : Thread Cert.PostPIdeal.nD Cert.PostPIdeal.τ).loc Cert.PostPIdeal.main_arg6) = m ((c.tc : Thread Cert.PostPIdeal.nD Cert.PostPIdeal.τ).loc Cert.PostPIdeal.main_arg6)
          ∧ r.2.mem ((c.tc : Thread Cert.PostPIdeal.nD Cert.PostPIdeal.τ).loc Cert.PostPIdeal.main_arg7) = m ((c.tc : Thread Cert.PostPIdeal.nD Cert.PostPIdeal.τ).loc Cert.PostPIdeal.main_arg7)
          ∧ r.2.mem ((c.tc : Thread Cert.PostPIdeal.nD Cert.PostPIdeal.τ).loc Cert.PostPIdeal.main_arg8) = m ((c.tc : Thread Cert.PostPIdeal.nD Cert.PostPIdeal.τ).loc Cert.PostPIdeal.main_arg8)
          ∧ r.2.mem ((c.tc : Thread Cert.PostPIdeal.nD Cert.PostPIdeal.τ).loc Cert.PostPIdeal.main_arg9) = m ((c.tc : Thread Cert.PostPIdeal.nD Cert.PostPIdeal.τ).loc Cert.PostPIdeal.main_arg9)
          ∧ r.2.mem ((c.tc : Thread Cert.PostPIdeal.nD Cert.PostPIdeal.τ).loc Cert.PostPIdeal.main_arg10) = m ((c.tc : Thread Cert.PostPIdeal.nD Cert.PostPIdeal.τ).loc Cert.PostPIdeal.main_arg10)
          ∧ r.2.mem ((c.tc : Thread Cert.PostPIdeal.nD Cert.PostPIdeal.τ).loc Cert.PostPIdeal.main_arg11) = m ((c.tc : Thread Cert.PostPIdeal.nD Cert.PostPIdeal.τ).loc Cert.PostPIdeal.main_arg11)
          ∧ r.2.mem ((c.tc : Thread Cert.PostPIdeal.nD Cert.PostPIdeal.τ).loc Cert.PostPIdeal.main_arg12) = m ((c.tc : Thread Cert.PostPIdeal.nD Cert.PostPIdeal.τ).loc Cert.PostPIdeal.main_arg12)
          ∧ r.2.mem ((c.tc : Thread Cert.PostPIdeal.nD Cert.PostPIdeal.τ).loc Cert.PostPIdeal.main_arg13) = m ((c.tc : Thread Cert.PostPIdeal.nD Cert.PostPIdeal.τ).loc Cert.PostPIdeal.main_arg13)
          ∧ r.2.mem ((c.tc : Thread Cert.PostPIdeal.nD Cert.PostPIdeal.τ).loc Cert.PostPIdeal.main_arg14) = m ((c.tc : Thread Cert.PostPIdeal.nD Cert.PostPIdeal.τ).loc Cert.PostPIdeal.main_arg14))
      ∧ θ_run (Cert.PostPRefIdeal.defs (F := Ideal)) (onTc (τ := Cert.PostPRefIdeal.τ) (Cert.PostPRefIdeal.main (F := Ideal))) ⟨m', fun _ => 0, g'⟩ (fun r => ∀ c : Dev Cert.PostPRefIdeal.nD,
          r.2.mem ((c.tc : Thread Cert.PostPRefIdeal.nD Cert.PostPRefIdeal.τ).loc Cert.PostPRefIdeal.main_v96) = v0 c
          ∧ r.2.mem ((c.tc : Thread Cert.PostPRefIdeal.nD Cert.PostPRefIdeal.τ).loc Cert.PostPRefIdeal.main_v97) = v1 c
          ∧ r.2.mem ((c.tc : Thread Cert.PostPRefIdeal.nD Cert.PostPRefIdeal.τ).loc Cert.PostPRefIdeal.main_arg0) = m' ((c.tc : Thread Cert.PostPRefIdeal.nD Cert.PostPRefIdeal.τ).loc Cert.PostPRefIdeal.main_arg0)
          ∧ r.2.mem ((c.tc : Thread Cert.PostPRefIdeal.nD Cert.PostPRefIdeal.τ).loc Cert.PostPRefIdeal.main_arg1) = m' ((c.tc : Thread Cert.PostPRefIdeal.nD Cert.PostPRefIdeal.τ).loc Cert.PostPRefIdeal.main_arg1)
          ∧ r.2.mem ((c.tc : Thread Cert.PostPRefIdeal.nD Cert.PostPRefIdeal.τ).loc Cert.PostPRefIdeal.main_arg2) = m' ((c.tc : Thread Cert.PostPRefIdeal.nD Cert.PostPRefIdeal.τ).loc Cert.PostPRefIdeal.main_arg2)
          ∧ r.2.mem ((c.tc : Thread Cert.PostPRefIdeal.nD Cert.PostPRefIdeal.τ).loc Cert.PostPRefIdeal.main_arg3) = m' ((c.tc : Thread Cert.PostPRefIdeal.nD Cert.PostPRefIdeal.τ).loc Cert.PostPRefIdeal.main_arg3)
          ∧ r.2.mem ((c.tc : Thread Cert.PostPRefIdeal.nD Cert.PostPRefIdeal.τ).loc Cert.PostPRefIdeal.main_arg4) = m' ((c.tc : Thread Cert.PostPRefIdeal.nD Cert.PostPRefIdeal.τ).loc Cert.PostPRefIdeal.main_arg4)
          ∧ r.2.mem ((c.tc : Thread Cert.PostPRefIdeal.nD Cert.PostPRefIdeal.τ).loc Cert.PostPRefIdeal.main_arg5) = m' ((c.tc : Thread Cert.PostPRefIdeal.nD Cert.PostPRefIdeal.τ).loc Cert.PostPRefIdeal.main_arg5)
          ∧ r.2.mem ((c.tc : Thread Cert.PostPRefIdeal.nD Cert.PostPRefIdeal.τ).loc Cert.PostPRefIdeal.main_arg6) = m' ((c.tc : Thread Cert.PostPRefIdeal.nD Cert.PostPRefIdeal.τ).loc Cert.PostPRefIdeal.main_arg6)
          ∧ r.2.mem ((c.tc : Thread Cert.PostPRefIdeal.nD Cert.PostPRefIdeal.τ).loc Cert.PostPRefIdeal.main_arg7) = m' ((c.tc : Thread Cert.PostPRefIdeal.nD Cert.PostPRefIdeal.τ).loc Cert.PostPRefIdeal.main_arg7)
          ∧ r.2.mem ((c.tc : Thread Cert.PostPRefIdeal.nD Cert.PostPRefIdeal.τ).loc Cert.PostPRefIdeal.main_arg8) = m' ((c.tc : Thread Cert.PostPRefIdeal.nD Cert.PostPRefIdeal.τ).loc Cert.PostPRefIdeal.main_arg8)
          ∧ r.2.mem ((c.tc : Thread Cert.PostPRefIdeal.nD Cert.PostPRefIdeal.τ).loc Cert.PostPRefIdeal.main_arg9) = m' ((c.tc : Thread Cert.PostPRefIdeal.nD Cert.PostPRefIdeal.τ).loc Cert.PostPRefIdeal.main_arg9)
          ∧ r.2.mem ((c.tc : Thread Cert.PostPRefIdeal.nD Cert.PostPRefIdeal.τ).loc Cert.PostPRefIdeal.main_arg10) = m' ((c.tc : Thread Cert.PostPRefIdeal.nD Cert.PostPRefIdeal.τ).loc Cert.PostPRefIdeal.main_arg10)
          ∧ r.2.mem ((c.tc : Thread Cert.PostPRefIdeal.nD Cert.PostPRefIdeal.τ).loc Cert.PostPRefIdeal.main_arg11) = m' ((c.tc : Thread Cert.PostPRefIdeal.nD Cert.PostPRefIdeal.τ).loc Cert.PostPRefIdeal.main_arg11)
          ∧ r.2.mem ((c.tc : Thread Cert.PostPRefIdeal.nD Cert.PostPRefIdeal.τ).loc Cert.PostPRefIdeal.main_arg12) = m' ((c.tc : Thread Cert.PostPRefIdeal.nD Cert.PostPRefIdeal.τ).loc Cert.PostPRefIdeal.main_arg12)
          ∧ r.2.mem ((c.tc : Thread Cert.PostPRefIdeal.nD Cert.PostPRefIdeal.τ).loc Cert.PostPRefIdeal.main_arg13) = m' ((c.tc : Thread Cert.PostPRefIdeal.nD Cert.PostPRefIdeal.τ).loc Cert.PostPRefIdeal.main_arg13)
          ∧ r.2.mem ((c.tc : Thread Cert.PostPRefIdeal.nD Cert.PostPRefIdeal.τ).loc Cert.PostPRefIdeal.main_arg14) = m' ((c.tc : Thread Cert.PostPRefIdeal.nD Cert.PostPRefIdeal.τ).loc Cert.PostPRefIdeal.main_arg14))

def preserves_InS_InSIdeal : Prop :=
  IdealRules.named_const.Statement Cert.InSIdeal.κ "scale" .f32 0x3E38AA3B#32 (((1 / 8) * (Real.log 2)⁻¹ : ℝ) : EReal)

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)) →
    ∃ (v0 : (c : Dev Cert.InSIdeal.nD) → Buf (Elt Ideal) ((c.tc : Thread Cert.InSIdeal.nD Cert.InSIdeal.τ).loc Cert.InSIdeal.main_v39_0)) (v1 : (c : Dev Cert.InSIdeal.nD) → Buf (Elt Ideal) ((c.tc : Thread Cert.InSIdeal.nD Cert.InSIdeal.τ).loc Cert.InSIdeal.main_v39_1)) (v2 : (c : Dev Cert.InSIdeal.nD) → Buf (Elt Ideal) ((c.tc : Thread Cert.InSIdeal.nD Cert.InSIdeal.τ).loc Cert.InSIdeal.main_v39_2)) (v3 : (c : Dev Cert.InSIdeal.nD) → Buf (Elt Ideal) ((c.tc : Thread Cert.InSIdeal.nD Cert.InSIdeal.τ).loc Cert.InSIdeal.main_v39_3)) (v4 : (c : Dev Cert.InSIdeal.nD) → Buf (Elt Ideal) ((c.tc : Thread Cert.InSIdeal.nD Cert.InSIdeal.τ).loc Cert.InSIdeal.main_v39_4)) (v5 : (c : Dev Cert.InSIdeal.nD) → Buf (Elt Ideal) ((c.tc : Thread Cert.InSIdeal.nD Cert.InSIdeal.τ).loc Cert.InSIdeal.main_v39_5)) (v6 : (c : Dev Cert.InSIdeal.nD) → Buf (Elt Ideal) ((c.tc : Thread Cert.InSIdeal.nD Cert.InSIdeal.τ).loc Cert.InSIdeal.main_v39_6)) (v7 : (c : Dev Cert.InSIdeal.nD) → Buf (Elt Ideal) ((c.tc : Thread Cert.InSIdeal.nD Cert.InSIdeal.τ).loc Cert.InSIdeal.main_v39_7)) (v8 : (c : Dev Cert.InSIdeal.nD) → Buf (Elt Ideal) ((c.tc : Thread Cert.InSIdeal.nD Cert.InSIdeal.τ).loc Cert.InSIdeal.main_v39_8)) (v9 : (c : Dev Cert.InSIdeal.nD) → Buf (Elt Ideal) ((c.tc : Thread Cert.InSIdeal.nD Cert.InSIdeal.τ).loc Cert.InSIdeal.main_v39_9)) (v10 : (c : Dev Cert.InSIdeal.nD) → Buf (Elt Ideal) ((c.tc : Thread Cert.InSIdeal.nD Cert.InSIdeal.τ).loc Cert.InSIdeal.main_v39_10)) (v11 : (c : Dev Cert.InSIdeal.nD) → Buf (Elt Ideal) ((c.tc : Thread Cert.InSIdeal.nD Cert.InSIdeal.τ).loc Cert.InSIdeal.main_v39_11)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v39_0) = v0 c
          ∧ r.2.mem ((c.tc : Thread Cert.InSIdeal.nD Cert.InSIdeal.τ).loc Cert.InSIdeal.main_v39_1) = v1 c
          ∧ r.2.mem ((c.tc : Thread Cert.InSIdeal.nD Cert.InSIdeal.τ).loc Cert.InSIdeal.main_v39_2) = v2 c
          ∧ r.2.mem ((c.tc : Thread Cert.InSIdeal.nD Cert.InSIdeal.τ).loc Cert.InSIdeal.main_v39_3) = v3 c
          ∧ r.2.mem ((c.tc : Thread Cert.InSIdeal.nD Cert.InSIdeal.τ).loc Cert.InSIdeal.main_v39_4) = v4 c
          ∧ r.2.mem ((c.tc : Thread Cert.InSIdeal.nD Cert.InSIdeal.τ).loc Cert.InSIdeal.main_v39_5) = v5 c
          ∧ r.2.mem ((c.tc : Thread Cert.InSIdeal.nD Cert.InSIdeal.τ).loc Cert.InSIdeal.main_v39_6) = v6 c
          ∧ r.2.mem ((c.tc : Thread Cert.InSIdeal.nD Cert.InSIdeal.τ).loc Cert.InSIdeal.main_v39_7) = v7 c
          ∧ r.2.mem ((c.tc : Thread Cert.InSIdeal.nD Cert.InSIdeal.τ).loc Cert.InSIdeal.main_v39_8) = v8 c
          ∧ r.2.mem ((c.tc : Thread Cert.InSIdeal.nD Cert.InSIdeal.τ).loc Cert.InSIdeal.main_v39_9) = v9 c
          ∧ r.2.mem ((c.tc : Thread Cert.InSIdeal.nD Cert.InSIdeal.τ).loc Cert.InSIdeal.main_v39_10) = v10 c
          ∧ r.2.mem ((c.tc : Thread Cert.InSIdeal.nD Cert.InSIdeal.τ).loc Cert.InSIdeal.main_v39_11) = v11 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v104) = v0 c
          ∧ r.2.mem ((c.tc : Thread Cert.InSRefIdeal.nD Cert.InSRefIdeal.τ).loc Cert.InSRefIdeal.main_v106) = v1 c
          ∧ r.2.mem ((c.tc : Thread Cert.InSRefIdeal.nD Cert.InSRefIdeal.τ).loc Cert.InSRefIdeal.main_v108) = v2 c
          ∧ r.2.mem ((c.tc : Thread Cert.InSRefIdeal.nD Cert.InSRefIdeal.τ).loc Cert.InSRefIdeal.main_v115) = v3 c
          ∧ r.2.mem ((c.tc : Thread Cert.InSRefIdeal.nD Cert.InSRefIdeal.τ).loc Cert.InSRefIdeal.main_v117) = v4 c
          ∧ r.2.mem ((c.tc : Thread Cert.InSRefIdeal.nD Cert.InSRefIdeal.τ).loc Cert.InSRefIdeal.main_v119) = v5 c
          ∧ r.2.mem ((c.tc : Thread Cert.InSRefIdeal.nD Cert.InSRefIdeal.τ).loc Cert.InSRefIdeal.main_v127) = v6 c
          ∧ r.2.mem ((c.tc : Thread Cert.InSRefIdeal.nD Cert.InSRefIdeal.τ).loc Cert.InSRefIdeal.main_v135) = v7 c
          ∧ r.2.mem ((c.tc : Thread Cert.InSRefIdeal.nD Cert.InSRefIdeal.τ).loc Cert.InSRefIdeal.main_v136) = v8 c
          ∧ r.2.mem ((c.tc : Thread Cert.InSRefIdeal.nD Cert.InSRefIdeal.τ).loc Cert.InSRefIdeal.main_v137) = v9 c
          ∧ r.2.mem ((c.tc : Thread Cert.InSRefIdeal.nD Cert.InSRefIdeal.τ).loc Cert.InSRefIdeal.main_v138) = v10 c
          ∧ r.2.mem ((c.tc : Thread Cert.InSRefIdeal.nD Cert.InSRefIdeal.τ).loc Cert.InSRefIdeal.main_v139) = v11 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2))

def preserves_InP_InPIdeal : Prop :=
  IdealRules.named_const.Statement Cert.InPIdeal.κ "scale" .f32 0x3E38AA3B#32 (((1 / 8) * (Real.log 2)⁻¹ : ℝ) : EReal)

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
      ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)) →
    ∃ (v0 : (c : Dev Cert.InPIdeal.nD) → Buf (Elt Ideal) ((c.tc : Thread Cert.InPIdeal.nD Cert.InPIdeal.τ).loc Cert.InPIdeal.main_v34_0)) (v1 : (c : Dev Cert.InPIdeal.nD) → Buf (Elt Ideal) ((c.tc : Thread Cert.InPIdeal.nD Cert.InPIdeal.τ).loc Cert.InPIdeal.main_v34_1)) (v2 : (c : Dev Cert.InPIdeal.nD) → Buf (Elt Ideal) ((c.tc : Thread Cert.InPIdeal.nD Cert.InPIdeal.τ).loc Cert.InPIdeal.main_v34_2)) (v3 : (c : Dev Cert.InPIdeal.nD) → Buf (Elt Ideal) ((c.tc : Thread Cert.InPIdeal.nD Cert.InPIdeal.τ).loc Cert.InPIdeal.main_v34_3)) (v4 : (c : Dev Cert.InPIdeal.nD) → Buf (Elt Ideal) ((c.tc : Thread Cert.InPIdeal.nD Cert.InPIdeal.τ).loc Cert.InPIdeal.main_v34_4)) (v5 : (c : Dev Cert.InPIdeal.nD) → Buf (Elt Ideal) ((c.tc : Thread Cert.InPIdeal.nD Cert.InPIdeal.τ).loc Cert.InPIdeal.main_v34_5)) (v6 : (c : Dev Cert.InPIdeal.nD) → Buf (Elt Ideal) ((c.tc : Thread Cert.InPIdeal.nD Cert.InPIdeal.τ).loc Cert.InPIdeal.main_v34_6)) (v7 : (c : Dev Cert.InPIdeal.nD) → Buf (Elt Ideal) ((c.tc : Thread Cert.InPIdeal.nD Cert.InPIdeal.τ).loc Cert.InPIdeal.main_v34_7)) (v8 : (c : Dev Cert.InPIdeal.nD) → Buf (Elt Ideal) ((c.tc : Thread Cert.InPIdeal.nD Cert.InPIdeal.τ).loc Cert.InPIdeal.main_v34_8)) (v9 : (c : Dev Cert.InPIdeal.nD) → Buf (Elt Ideal) ((c.tc : Thread Cert.InPIdeal.nD Cert.InPIdeal.τ).loc Cert.InPIdeal.main_v34_9)) (v10 : (c : Dev Cert.InPIdeal.nD) → Buf (Elt Ideal) ((c.tc : Thread Cert.InPIdeal.nD Cert.InPIdeal.τ).loc Cert.InPIdeal.main_v34_10)) (v11 : (c : Dev Cert.InPIdeal.nD) → Buf (Elt Ideal) ((c.tc : Thread Cert.InPIdeal.nD Cert.InPIdeal.τ).loc Cert.InPIdeal.main_v34_11)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v34_0) = v0 c
          ∧ r.2.mem ((c.tc : Thread Cert.InPIdeal.nD Cert.InPIdeal.τ).loc Cert.InPIdeal.main_v34_1) = v1 c
          ∧ r.2.mem ((c.tc : Thread Cert.InPIdeal.nD Cert.InPIdeal.τ).loc Cert.InPIdeal.main_v34_2) = v2 c
          ∧ r.2.mem ((c.tc : Thread Cert.InPIdeal.nD Cert.InPIdeal.τ).loc Cert.InPIdeal.main_v34_3) = v3 c
          ∧ r.2.mem ((c.tc : Thread Cert.InPIdeal.nD Cert.InPIdeal.τ).loc Cert.InPIdeal.main_v34_4) = v4 c
          ∧ r.2.mem ((c.tc : Thread Cert.InPIdeal.nD Cert.InPIdeal.τ).loc Cert.InPIdeal.main_v34_5) = v5 c
          ∧ r.2.mem ((c.tc : Thread Cert.InPIdeal.nD Cert.InPIdeal.τ).loc Cert.InPIdeal.main_v34_6) = v6 c
          ∧ r.2.mem ((c.tc : Thread Cert.InPIdeal.nD Cert.InPIdeal.τ).loc Cert.InPIdeal.main_v34_7) = v7 c
          ∧ r.2.mem ((c.tc : Thread Cert.InPIdeal.nD Cert.InPIdeal.τ).loc Cert.InPIdeal.main_v34_8) = v8 c
          ∧ r.2.mem ((c.tc : Thread Cert.InPIdeal.nD Cert.InPIdeal.τ).loc Cert.InPIdeal.main_v34_9) = v9 c
          ∧ r.2.mem ((c.tc : Thread Cert.InPIdeal.nD Cert.InPIdeal.τ).loc Cert.InPIdeal.main_v34_10) = v10 c
          ∧ r.2.mem ((c.tc : Thread Cert.InPIdeal.nD Cert.InPIdeal.τ).loc Cert.InPIdeal.main_v34_11) = v11 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v104) = v0 c
          ∧ r.2.mem ((c.tc : Thread Cert.InPRefIdeal.nD Cert.InPRefIdeal.τ).loc Cert.InPRefIdeal.main_v106) = v1 c
          ∧ r.2.mem ((c.tc : Thread Cert.InPRefIdeal.nD Cert.InPRefIdeal.τ).loc Cert.InPRefIdeal.main_v108) = v2 c
          ∧ r.2.mem ((c.tc : Thread Cert.InPRefIdeal.nD Cert.InPRefIdeal.τ).loc Cert.InPRefIdeal.main_v115) = v3 c
          ∧ r.2.mem ((c.tc : Thread Cert.InPRefIdeal.nD Cert.InPRefIdeal.τ).loc Cert.InPRefIdeal.main_v117) = v4 c
          ∧ r.2.mem ((c.tc : Thread Cert.InPRefIdeal.nD Cert.InPRefIdeal.τ).loc Cert.InPRefIdeal.main_v119) = v5 c
          ∧ r.2.mem ((c.tc : Thread Cert.InPRefIdeal.nD Cert.InPRefIdeal.τ).loc Cert.InPRefIdeal.main_v127) = v6 c
          ∧ r.2.mem ((c.tc : Thread Cert.InPRefIdeal.nD Cert.InPRefIdeal.τ).loc Cert.InPRefIdeal.main_v135) = v7 c
          ∧ r.2.mem ((c.tc : Thread Cert.InPRefIdeal.nD Cert.InPRefIdeal.τ).loc Cert.InPRefIdeal.main_v136) = v8 c
          ∧ r.2.mem ((c.tc : Thread Cert.InPRefIdeal.nD Cert.InPRefIdeal.τ).loc Cert.InPRefIdeal.main_v137) = v9 c
          ∧ r.2.mem ((c.tc : Thread Cert.InPRefIdeal.nD Cert.InPRefIdeal.τ).loc Cert.InPRefIdeal.main_v138) = v10 c
          ∧ r.2.mem ((c.tc : Thread Cert.InPRefIdeal.nD Cert.InPRefIdeal.τ).loc Cert.InPRefIdeal.main_v139) = v11 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
          ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v12)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v12) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v22) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hAttn : Cert.Attn.Facts) (hAttnIdeal : Cert.AttnIdeal.Facts) (hAttnRefIdeal : Cert.AttnRefIdeal.Facts) (hPostS : Cert.PostS.Facts) (hPostSIdeal : Cert.PostSIdeal.Facts) (hPostSRefIdeal : Cert.PostSRefIdeal.Facts) (hPostP : Cert.PostP.Facts) (hPostPIdeal : Cert.PostPIdeal.Facts) (hPostPRefIdeal : Cert.PostPRefIdeal.Facts) (hInS : Cert.InS.Facts) (hInSIdeal : Cert.InSIdeal.Facts) (hInSRefIdeal : Cert.InSRefIdeal.Facts) (hInP : Cert.InP.Facts) (hInPIdeal : Cert.InPIdeal.Facts) (hInPRefIdeal : Cert.InPRefIdeal.Facts) (hBias : Cert.Bias.Facts) (hBiasIdeal : Cert.BiasIdeal.Facts) (hBiasRefIdeal : Cert.BiasRefIdeal.Facts) (hPre_finite_logits : Cert.Pre_finite_logits.Facts),
    quiescent_Attn (hAttn := hAttn)
    ∧ quiescent_AttnIdeal (hAttnIdeal := hAttnIdeal)
    ∧ quiescent_AttnIdeal_pre_finite_logits (hAttnIdeal := hAttnIdeal) (hPre_finite_logits := hPre_finite_logits)
    ∧ quiescent_AttnRefIdeal (hAttnRefIdeal := hAttnRefIdeal)
    ∧ quiescent_AttnRefIdeal_pre_finite_logits (hAttnRefIdeal := hAttnRefIdeal) (hPre_finite_logits := hPre_finite_logits)
    ∧ quiescent_PostS (hPostS := hPostS)
    ∧ quiescent_PostSIdeal (hPostSIdeal := hPostSIdeal)
    ∧ quiescent_PostSRefIdeal (hPostSRefIdeal := hPostSRefIdeal)
    ∧ quiescent_PostP (hPostP := hPostP)
    ∧ quiescent_PostPIdeal (hPostPIdeal := hPostPIdeal)
    ∧ quiescent_PostPRefIdeal (hPostPRefIdeal := hPostPRefIdeal)
    ∧ quiescent_InS (hInS := hInS)
    ∧ quiescent_InSIdeal (hInSIdeal := hInSIdeal)
    ∧ quiescent_InSRefIdeal (hInSRefIdeal := hInSRefIdeal)
    ∧ quiescent_InP (hInP := hInP)
    ∧ quiescent_InPIdeal (hInPIdeal := hInPIdeal)
    ∧ quiescent_InPRefIdeal (hInPRefIdeal := hInPRefIdeal)
    ∧ quiescent_Bias (hBias := hBias)
    ∧ quiescent_BiasIdeal (hBiasIdeal := hBiasIdeal)
    ∧ quiescent_BiasRefIdeal (hBiasRefIdeal := hBiasRefIdeal)
    ∧ preserves_Attn_AttnIdeal
    ∧ algebraic_AttnIdeal_AttnRefIdeal_pre_finite_logits (hAttnIdeal := hAttnIdeal) (hAttnRefIdeal := hAttnRefIdeal) (hPre_finite_logits := hPre_finite_logits)
    ∧ preserves_PostS_PostSIdeal
    ∧ algebraic_PostSIdeal_PostSRefIdeal (hPostSIdeal := hPostSIdeal) (hPostSRefIdeal := hPostSRefIdeal)
    ∧ preserves_PostP_PostPIdeal
    ∧ algebraic_PostPIdeal_PostPRefIdeal (hPostPIdeal := hPostPIdeal) (hPostPRefIdeal := hPostPRefIdeal)
    ∧ preserves_InS_InSIdeal
    ∧ algebraic_InSIdeal_InSRefIdeal (hInSIdeal := hInSIdeal) (hInSRefIdeal := hInSRefIdeal)
    ∧ preserves_InP_InPIdeal
    ∧ algebraic_InPIdeal_InPRefIdeal (hInPIdeal := hInPIdeal) (hInPRefIdeal := hInPRefIdeal)
    ∧ preserves_Bias_BiasIdeal
    ∧ algebraic_BiasIdeal_BiasRefIdeal (hBiasIdeal := hBiasIdeal) (hBiasRefIdeal := hBiasRefIdeal)
-- ==== Pre_finite_logits.lean ====
abbrev S128x512 : Shape := ⟨2, ![128, 512]⟩
abbrev S128x128 : Shape := ⟨2, ![128, 128]⟩
abbrev S8x128x2x64 : Shape := ⟨4, ![8, 128, 2, 64]⟩
abbrev S8x512x8x64 : Shape := ⟨4, ![8, 512, 8, 64]⟩
abbrev S8x64x640 : Shape := ⟨3, ![8, 64, 640]⟩
abbrev S8 : Shape := ⟨1, ![8]⟩
abbrev S_ : Shape := ⟨0, ![]⟩

class Facts : Prop where
  bitsLt_bf16_f32 : FTy.bits .bf16 < FTy.bits .f32
  bcast_S_S128x512 : S_.BroadcastsInDim S128x512 (![] : Fin 0 → Fin S128x512.rank)
  reducesTo_S128x512_S_d0_1 : S128x512.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S8x128x2x64 : S_.BroadcastsInDim S8x128x2x64 (![] : Fin 0 → Fin S8x128x2x64.rank)
  reducesTo_S8x128x2x64_S_d0_1_2_3 : S8x128x2x64.ReducesTo [0, 1, 2, 3] S_
  bcast_S_S8 : S_.BroadcastsInDim S8 (![] : Fin 0 → Fin S8.rank)
  reducesTo_S8_S_d0 : S8.ReducesTo [0] S_
  bcast_S_S8x512x8x64 : S_.BroadcastsInDim S8x512x8x64 (![] : Fin 0 → Fin S8x512x8x64.rank)
  reducesTo_S8x512x8x64_S_d0_1_2_3 : S8x512x8x64.ReducesTo [0, 1, 2, 3] S_
  bcast_S_S8x64x640 : S_.BroadcastsInDim S8x64x640 (![] : Fin 0 → Fin S8x64x640.rank)
  reducesTo_S8x64x640_S_d0_1_2 : S8x64x640.ReducesTo [0, 1, 2] S_

variable [Facts]

def fn_part2 {F : FTy → Type} [FloatOps F] (main_arg10 : FVec F S8x64x640 .f32) (main_v32 : IVec S_ 1) (main_v33 : FVec F S8x512x8x64 .f32) (main_v34 : FVec F S8x512x8x64 .f32) : IVec S_ 1 :=
  let main_v35 : IVec S8x512x8x64 1 := cmpf .olt main_v33 main_v34
  let main_c_11 : IVec S_ 1 := constantI S_ 1 1#1
  let main_v36 : IVec S_ 1 := (fun x v => Host.reduce IntOp.andi x v reducesTo_S8x512x8x64_S_d0_1_2_3 h_S_) main_v35 main_c_11
  let main_v37 : IVec S_ 1 := andi main_v32 main_v36
  let main_v38 : FVec F S8x64x640 .f32 := Host.absf main_arg10
  let main_cst_12 : FVec F S_ .f32 := constant S_ .f32 0x7F800000#32
  let main_v39 : FVec F S8x64x640 .f32 := broadcastInDim S8x64x640 ![] bcast_S_S8x64x640 main_cst_12
  let main_v40 : IVec S8x64x640 1 := cmpf .olt main_v38 main_v39
  let main_c_13 : IVec S_ 1 := constantI S_ 1 1#1
  let main_v41 : IVec S_ 1 := (fun x v => Host.reduce IntOp.andi x v reducesTo_S8x64x640_S_d0_1_2 h_S_) main_v40 main_c_13
  let main_v42 : IVec S_ 1 := andi main_v37 main_v41
  main_v42

def fn_part1 {F : FTy → Type} [FloatOps F] (main_arg5 : FVec F S128x512 .bf16) (main_arg6 : FVec F S128x512 .bf16) (main_arg8 : FVec F S8x512x8x64 .f32) (main_arg10 : FVec F S8x64x640 .f32) (main_v15 : IVec S_ 1) (main_v16 : FVec F S8 .f32) (main_cst_4 : FVec F S_ .f32) : IVec S_ 1 :=
  let main_v17 : FVec F S8 .f32 := broadcastInDim S8 ![] bcast_S_S8 main_cst_4
  let main_v18 : IVec S8 1 := cmpf .olt main_v16 main_v17
  let main_c_5 : IVec S_ 1 := constantI S_ 1 1#1
  let main_v19 : IVec S_ 1 := (fun x v => Host.reduce IntOp.andi x v reducesTo_S8_S_d0 h_S_) main_v18 main_c_5
  let main_v20 : IVec S_ 1 := andi main_v15 main_v19
  let main_v21 : FVec F S128x512 .f32 := (extf .f32 · bitsLt_bf16_f32) main_arg5
  let main_v22 : FVec F S128x512 .f32 := Host.absf main_v21
  let main_cst_6 : FVec F S_ .f32 := constant S_ .f32 0x7F800000#32
  let main_v23 : FVec F S128x512 .f32 := broadcastInDim S128x512 ![] bcast_S_S128x512 main_cst_6
  let main_v24 : IVec S128x512 1 := cmpf .olt main_v22 main_v23
  let main_c_7 : IVec S_ 1 := constantI S_ 1 1#1
  let main_v25 : IVec S_ 1 := (fun x v => Host.reduce IntOp.andi x v reducesTo_S128x512_S_d0_1 h_S_) main_v24 main_c_7
  let main_v26 : IVec S_ 1 := andi main_v20 main_v25
  let main_v27 : FVec F S128x512 .f32 := (extf .f32 · bitsLt_bf16_f32) main_arg6
  let main_v28 : FVec F S128x512 .f32 := Host.absf main_v27
  let main_cst_8 : FVec F S_ .f32 := constant S_ .f32 0x7F800000#32
  let main_v29 : FVec F S128x512 .f32 := broadcastInDim S128x512 ![] bcast_S_S128x512 main_cst_8
  let main_v30 : IVec S128x512 1 := cmpf .olt main_v28 main_v29
  let main_c_9 : IVec S_ 1 := constantI S_ 1 1#1
  let main_v31 : IVec S_ 1 := (fun x v => Host.reduce IntOp.andi x v reducesTo_S128x512_S_d0_1 h_S_) main_v30 main_c_9
  let main_v32 : IVec S_ 1 := andi main_v26 main_v31
  let main_v33 : FVec F S8x512x8x64 .f32 := Host.absf main_arg8
  let main_cst_10 : FVec F S_ .f32 := constant S_ .f32 0x7F800000#32
  let main_v34 : FVec F S8x512x8x64 .f32 := broadcastInDim S8x512x8x64 ![] bcast_S_S8x512x8x64 main_cst_10
  fn_part2 (F := F) main_arg10 main_v32 main_v33 main_v34

def fn {F : FTy → Type} [FloatOps F] (main_arg0 : FVec F S128x512 .bf16) (main_arg1 : FVec F S128x128 .bf16) (main_arg2 : FVec F S128x128 .bf16) (main_arg3 : FVec F S8x128x2x64 .f32) (main_arg4 : FVec F S8x128x2x64 .f32) (main_arg5 : FVec F S128x512 .bf16) (main_arg6 : FVec F S128x512 .bf16) (main_arg7 : FVec F S128x512 .bf16) (main_arg8 : FVec F S8x512x8x64 .f32) (main_arg9 : FVec F S8x512x8x64 .f32) (main_arg10 : FVec F S8x64x640 .f32) (main_arg11 : FVec F S8 .f32) : IVec S_ 1 :=
  let main_v0 : FVec F S128x512 .f32 := (extf .f32 · bitsLt_bf16_f32) main_arg0
  let main_v1 : FVec F S128x512 .f32 := Host.absf main_v0
  let main_cst : FVec F S_ .f32 := constant S_ .f32 0x7F800000#32
  let main_v2 : FVec F S128x512 .f32 := broadcastInDim S128x512 ![] bcast_S_S128x512 main_cst
  let main_v3 : IVec S128x512 1 := cmpf .olt main_v1 main_v2
  let main_c : IVec S_ 1 := constantI S_ 1 1#1
  let main_v4 : IVec S_ 1 := (fun x v => Host.reduce IntOp.andi x v reducesTo_S128x512_S_d0_1 h_S_) main_v3 main_c
  let main_v5 : FVec F S128x128 .f32 := (extf .f32 · bitsLt_bf16_f32) main_arg1
  let main_v6 : FVec F S128x128 .f32 := Host.absf main_v5
  let main_cst_0 : FVec F S_ .f32 := constant S_ .f32 0x7F800000#32
  let main_v7 : FVec F S128x128 .f32 := broadcastInDim S128x128 ![] bcast_S_S128x128 main_cst_0
  let main_v8 : IVec S128x128 1 := cmpf .olt main_v6 main_v7
  let main_c_1 : IVec S_ 1 := constantI S_ 1 1#1
  let main_v9 : IVec S_ 1 := (fun x v => Host.reduce IntOp.andi x v reducesTo_S128x128_S_d0_1 h_S_) main_v8 main_c_1
  let main_v10 : IVec S_ 1 := andi main_v4 main_v9
  let main_v11 : FVec F S8x128x2x64 .f32 := Host.absf main_arg3
  let main_cst_2 : FVec F S_ .f32 := constant S_ .f32 0x7F800000#32
  let main_v12 : FVec F S8x128x2x64 .f32 := broadcastInDim S8x128x2x64 ![] bcast_S_S8x128x2x64 main_cst_2
  let main_v13 : IVec S8x128x2x64 1 := cmpf .olt main_v11 main_v12
  let main_c_3 : IVec S_ 1 := constantI S_ 1 1#1
  let main_v14 : IVec S_ 1 := (fun x v => Host.reduce IntOp.andi x v reducesTo_S8x128x2x64_S_d0_1_2_3 h_S_) main_v13 main_c_3
  let main_v15 : IVec S_ 1 := andi main_v10 main_v14
  let main_v16 : FVec F S8 .f32 := Host.absf main_arg11
  let main_cst_4 : FVec F S_ .f32 := constant S_ .f32 0x7F800000#32
  fn_part1 (F := F) main_arg5 main_arg6 main_arg8 main_arg10 main_v15 main_v16 main_cst_4
-- ==== Attn.lean ====
abbrev S128x512 : Shape := ⟨2, ![128, 512]⟩
abbrev S128x128 : Shape := ⟨2, ![128, 128]⟩
abbrev S8x128x2x64 : Shape := ⟨4, ![8, 128, 2, 64]⟩
abbrev S8x512x8x64 : Shape := ⟨4, ![8, 512, 8, 64]⟩
abbrev S8x64x640 : Shape := ⟨3, ![8, 64, 640]⟩
abbrev S8 : Shape := ⟨1, ![8]⟩
abbrev S2x4 : Shape := ⟨2, ![2, 4]⟩
abbrev S4x2 : Shape := ⟨2, ![4, 2]⟩
abbrev S8x16x528 : Shape := ⟨3, ![8, 16, 528]⟩
abbrev S4x32x528 : Shape := ⟨3, ![4, 32, 528]⟩
abbrev S8x128x128 : Shape := ⟨3, ![8, 128, 128]⟩
abbrev S8x512x512 : Shape := ⟨3, ![8, 512, 512]⟩
abbrev S4x2x16 : Shape := ⟨3, ![4, 2, 16]⟩
abbrev S4x32 : Shape := ⟨2, ![4, 32]⟩
abbrev S4x32x1 : Shape := ⟨3, ![4, 32, 1]⟩
abbrev S4x32x128 : Shape := ⟨3, ![4, 32, 128]⟩
abbrev S16x512 : Shape := ⟨2, ![16, 512]⟩
abbrev S16x128 : Shape := ⟨2, ![16, 128]⟩
abbrev S1x128x128 : Shape := ⟨3, ![1, 128, 128]⟩
abbrev S1x512x512 : Shape := ⟨3, ![1, 512, 512]⟩
abbrev S144x128 : Shape := ⟨2, ![144, 128]⟩
abbrev S1x32x128 : Shape := ⟨3, ![1, 32, 128]⟩
abbrev S32x128 : Shape := ⟨2, ![32, 128]⟩
abbrev S32x144 : Shape := ⟨2, ![32, 144]⟩
abbrev S32 : Shape := ⟨1, ![32]⟩
abbrev S32x1 : Shape := ⟨2, ![32, 1]⟩
abbrev S32x16 : Shape := ⟨2, ![32, 16]⟩
abbrev S1x512x128 : Shape := ⟨3, ![1, 512, 128]⟩
abbrev S512x128 : Shape := ⟨2, ![512, 128]⟩
abbrev S528x128 : Shape := ⟨2, ![528, 128]⟩
abbrev S1x32x528 : Shape := ⟨3, ![1, 32, 528]⟩
abbrev S32x528 : Shape := ⟨2, ![32, 528]⟩

abbrev nBuf : Space → Nat
  | .hbm => 30
  | .vmem => 26
  | .smem => 0
  | _ => 0

abbrev bufTy : (tb : Table) → Fin (tcTables nBuf tb) → BufTy
  | .hbm, ⟨0, _⟩ => ⟨S128x512, .bf16⟩
  | .hbm, ⟨1, _⟩ => ⟨S128x128, .bf16⟩
  | .hbm, ⟨2, _⟩ => ⟨S128x128, .bf16⟩
  | .hbm, ⟨3, _⟩ => ⟨S8x128x2x64, .f32⟩
  | .hbm, ⟨4, _⟩ => ⟨S8x128x2x64, .f32⟩
  | .hbm, ⟨5, _⟩ => ⟨S128x512, .bf16⟩
  | .hbm, ⟨6, _⟩ => ⟨S128x512, .bf16⟩
  | .hbm, ⟨7, _⟩ => ⟨S128x512, .bf16⟩
  | .hbm, ⟨8, _⟩ => ⟨S8x512x8x64, .f32⟩
  | .hbm, ⟨9, _⟩ => ⟨S8x512x8x64, .f32⟩
  | .hbm, ⟨10, _⟩ => ⟨S8x64x640, .f32⟩
  | .hbm, ⟨11, _⟩ => ⟨S8, .f32⟩
  | .hbm, ⟨12, _⟩ => ⟨S2x4, .f32⟩
  | .hbm, ⟨13, _⟩ => ⟨S4x2, .f32⟩
  | .hbm, ⟨14, _⟩ => ⟨S8x16x528, .f32⟩
  | .hbm, ⟨15, _⟩ => ⟨S4x32x528, .f32⟩
  | .hbm, ⟨16, _⟩ => ⟨S8x128x128, .f32⟩
  | .hbm, ⟨17, _⟩ => ⟨S8x128x128, .bf16⟩
  | .hbm, ⟨18, _⟩ => ⟨S8x128x128, .f32⟩
  | .hbm, ⟨19, _⟩ => ⟨S8x128x128, .bf16⟩
  | .hbm, ⟨20, _⟩ => ⟨S8x512x512, .f32⟩
  | .hbm, ⟨21, _⟩ => ⟨S8x512x512, .bf16⟩
  | .hbm, ⟨22, _⟩ => ⟨S8x512x512, .f32⟩
  | .hbm, ⟨23, _⟩ => ⟨S8x512x512, .bf16⟩
  | .hbm, ⟨24, _⟩ => ⟨S4x2x16, .f32⟩
  | .hbm, ⟨25, _⟩ => ⟨S4x32, .f32⟩
  | .hbm, ⟨26, _⟩ => ⟨S4x32x1, .f32⟩
  | .hbm, ⟨27, _⟩ => ⟨S4x32x128, .f32⟩
  | .hbm, ⟨28, _⟩ => ⟨S128x512, .bf16⟩
  | .hbm, ⟨29, _⟩ => ⟨S128x512, .bf16⟩
  | .local _ .vmem, ⟨0, _⟩ => ⟨S16x512, .bf16⟩
  | .local _ .vmem, ⟨1, _⟩ => ⟨S16x512, .bf16⟩
  | .local _ .vmem, ⟨2, _⟩ => ⟨S16x128, .bf16⟩
  | .local _ .vmem, ⟨3, _⟩ => ⟨S16x128, .bf16⟩
  | .local _ .vmem, ⟨4, _⟩ => ⟨S16x128, .bf16⟩
  | .local _ .vmem, ⟨5, _⟩ => ⟨S16x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S4x32x528, .f32⟩
  | .local _ .vmem, ⟨21, _⟩ => ⟨S4x32x128, .f32⟩
  | .local _ .vmem, ⟨22, _⟩ => ⟨S16x512, .bf16⟩
  | .local _ .vmem, ⟨23, _⟩ => ⟨S16x512, .bf16⟩
  | .local _ .vmem, ⟨24, _⟩ => ⟨S16x512, .bf16⟩
  | .local _ .vmem, ⟨25, _⟩ => ⟨S16x512, .bf16⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x32x528 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AttnRefIdeal.lean ====
abbrev S128x512 : Shape := ⟨2, ![128, 512]⟩
abbrev S128x128 : Shape := ⟨2, ![128, 128]⟩
abbrev S8x128x2x64 : Shape := ⟨4, ![8, 128, 2, 64]⟩
abbrev S8x512x8x64 : Shape := ⟨4, ![8, 512, 8, 64]⟩
abbrev S8x64x640 : Shape := ⟨3, ![8, 64, 640]⟩
abbrev S8 : Shape := ⟨1, ![8]⟩
abbrev S8x16x4x2x64 : Shape := ⟨5, ![8, 16, 4, 2, 64]⟩
abbrev S8x16x2x4x64 : Shape := ⟨5, ![8, 16, 2, 4, 64]⟩
abbrev S8x16x8x64 : Shape := ⟨4, ![8, 16, 8, 64]⟩
abbrev S8x16x2x64 : Shape := ⟨4, ![8, 16, 2, 64]⟩
abbrev S8x144x2x64 : Shape := ⟨4, ![8, 144, 2, 64]⟩
abbrev S_ : Shape := ⟨0, ![]⟩
abbrev S8x2x144x16x4 : Shape := ⟨5, ![8, 2, 144, 16, 4]⟩
abbrev S8x2x4x16x144 : Shape := ⟨5, ![8, 2, 4, 16, 144]⟩
abbrev S1x2x4x1x1 : Shape := ⟨5, ![1, 2, 4, 1, 1]⟩
abbrev S8x2x4x16x1 : Shape := ⟨5, ![8, 2, 4, 16, 1]⟩
abbrev S8x2x4x16x145 : Shape := ⟨5, ![8, 2, 4, 16, 145]⟩
abbrev S8x2x4x16 : Shape := ⟨4, ![8, 2, 4, 16]⟩
abbrev S8x2x64x4x16 : Shape := ⟨5, ![8, 2, 64, 4, 16]⟩
abbrev S8x528x8x64 : Shape := ⟨4, ![8, 528, 8, 64]⟩
abbrev S8x16x528 : Shape := ⟨3, ![8, 16, 528]⟩
abbrev S8x16x8x1x64 : Shape := ⟨5, ![8, 16, 8, 1, 64]⟩
abbrev S8x8x528x16x1 : Shape := ⟨5, ![8, 8, 528, 16, 1]⟩
abbrev S8x8x1x16x528 : Shape := ⟨5, ![8, 8, 1, 16, 528]⟩
abbrev S8x1x16x528 : Shape := ⟨4, ![8, 1, 16, 528]⟩
abbrev S1x8x1x16x528 : Shape := ⟨5, ![1, 8, 1, 16, 528]⟩
abbrev S8x8x1x16 : Shape := ⟨4, ![8, 8, 1, 16]⟩
abbrev S8x8x1x16x1 : Shape := ⟨5, ![8, 8, 1, 16, 1]⟩
abbrev S8x8x64x1x16 : Shape := ⟨5, ![8, 8, 64, 1, 16]⟩

abbrev nBuf : Space → Nat
  | .hbm => 97
  | .vmem => 0
  | .smem => 0
  | _ => 0

abbrev bufTy : (tb : Table) → Fin (tcTables nBuf tb) → BufTy
  | .hbm, ⟨0, _⟩ => ⟨S128x512, .bf16⟩
  | .hbm, ⟨1, _⟩ => ⟨S128x128, .bf16⟩
  | .hbm, ⟨2, _⟩ => ⟨S128x128, .bf16⟩
  | .hbm, ⟨3, _⟩ => ⟨S8x128x2x64, .f32⟩
  | .hbm, ⟨4, _⟩ => ⟨S8x128x2x64, .f32⟩
  | .hbm, ⟨5, _⟩ => ⟨S128x512, .bf16⟩
  | .hbm, ⟨6, _⟩ => ⟨S128x512, .bf16⟩
  | .hbm, ⟨7, _⟩ => ⟨S128x512, .bf16⟩
  | .hbm, ⟨8, _⟩ => ⟨S8x512x8x64, .f32⟩
  | .hbm, ⟨9, _⟩ => ⟨S8x512x8x64, .f32⟩
  | .hbm, ⟨10, _⟩ => ⟨S8x64x640, .f32⟩
  | .hbm, ⟨11, _⟩ => ⟨S8, .f32⟩
  | .hbm, ⟨12, _⟩ => ⟨S128x512, .f32⟩
  | .hbm, ⟨13, _⟩ => ⟨S8x16x4x2x64, .f32⟩
  | .hbm, ⟨14, _⟩ => ⟨S8x16x2x4x64, .f32⟩
  | .hbm, ⟨15, _⟩ => ⟨S8x16x8x64, .f32⟩
  | .hbm, ⟨16, _⟩ => ⟨S128x128, .f32⟩
  | .hbm, ⟨17, _⟩ => ⟨S8x16x2x64, .f32⟩
  | .hbm, ⟨18, _⟩ => ⟨S8x144x2x64, .f32⟩
  | .hbm, ⟨19, _⟩ => ⟨S128x128, .f32⟩
  | .hbm, ⟨20, _⟩ => ⟨S8x16x2x64, .f32⟩
  | .hbm, ⟨21, _⟩ => ⟨S8x144x2x64, .f32⟩
  | .hbm, ⟨22, _⟩ => ⟨S_, .f32⟩
  | .hbm, ⟨23, _⟩ => ⟨S_, .f32⟩
  | .hbm, ⟨24, _⟩ => ⟨S8x16x2x4x64, .f32⟩
  | .hbm, ⟨25, _⟩ => ⟨S8x2x144x16x4, .f32⟩
  | .hbm, ⟨26, _⟩ => ⟨S8x2x4x16x144, .f32⟩
  | .hbm, ⟨27, _⟩ => ⟨S8x2x4x16x144, .f32⟩
  | .hbm, ⟨28, _⟩ => ⟨S8x2x4x16x144, .f32⟩
  | .hbm, ⟨29, _⟩ => ⟨S8, .f32⟩
  | .hbm, ⟨30, _⟩ => ⟨S8, .f32⟩
  | .hbm, ⟨31, _⟩ => ⟨S1x2x4x1x1, .f32⟩
  | .hbm, ⟨32, _⟩ => ⟨S8x2x4x16x1, .f32⟩
  | .hbm, ⟨33, _⟩ => ⟨S8x2x4x16x145, .f32⟩
  | .hbm, ⟨34, _⟩ => ⟨S_, .f32⟩
  | .hbm, ⟨35, _⟩ => ⟨S8x2x4x16, .f32⟩
  | .hbm, ⟨36, _⟩ => ⟨S_, .f32⟩
  | .hbm, ⟨37, _⟩ => ⟨S8x2x4x16, .f32⟩
  | .hbm, ⟨38, _⟩ => ⟨S8x2x4x16, .f32⟩
  | .hbm, ⟨39, _⟩ => ⟨S8x2x4x16x1, .f32⟩
  | .hbm, ⟨40, _⟩ => ⟨S8x2x4x16x145, .f32⟩
  | .hbm, ⟨41, _⟩ => ⟨S8x2x4x16x145, .f32⟩
  | .hbm, ⟨42, _⟩ => ⟨S8x2x4x16x145, .f32⟩
  | .hbm, ⟨43, _⟩ => ⟨S_, .f32⟩
  | .hbm, ⟨44, _⟩ => ⟨S8x2x4x16, .f32⟩
  | .hbm, ⟨45, _⟩ => ⟨S8x2x4x16x1, .f32⟩
  | .hbm, ⟨46, _⟩ => ⟨S8x2x4x16x145, .f32⟩
  | .hbm, ⟨47, _⟩ => ⟨S8x2x4x16x145, .f32⟩
  | .hbm, ⟨48, _⟩ => ⟨S8x2x4x16x144, .f32⟩
  | .hbm, ⟨49, _⟩ => ⟨S8x2x64x4x16, .f32⟩
  | .hbm, ⟨50, _⟩ => ⟨S8x16x2x4x64, .f32⟩
  | .hbm, ⟨51, _⟩ => ⟨S8x16x8x64, .f32⟩
  | .hbm, ⟨52, _⟩ => ⟨S8x16x2x4x64, .f32⟩
  | .hbm, ⟨53, _⟩ => ⟨S8x16x4x2x64, .f32⟩
  | .hbm, ⟨54, _⟩ => ⟨S128x512, .f32⟩
  | .hbm, ⟨55, _⟩ => ⟨S128x512, .f32⟩
  | .hbm, ⟨56, _⟩ => ⟨S8x16x8x64, .f32⟩
  | .hbm, ⟨57, _⟩ => ⟨S8x528x8x64, .f32⟩
  | .hbm, ⟨58, _⟩ => ⟨S128x512, .f32⟩
  | .hbm, ⟨59, _⟩ => ⟨S8x16x8x64, .f32⟩
  | .hbm, ⟨60, _⟩ => ⟨S8x528x8x64, .f32⟩
  | .hbm, ⟨61, _⟩ => ⟨S128x512, .f32⟩
  | .hbm, ⟨62, _⟩ => ⟨S8x16x8x64, .f32⟩
  | .hbm, ⟨63, _⟩ => ⟨S8x16x528, .f32⟩
  | .hbm, ⟨64, _⟩ => ⟨S_, .f32⟩
  | .hbm, ⟨65, _⟩ => ⟨S_, .f32⟩
  | .hbm, ⟨66, _⟩ => ⟨S8x16x8x1x64, .f32⟩
  | .hbm, ⟨67, _⟩ => ⟨S8x8x528x16x1, .f32⟩
  | .hbm, ⟨68, _⟩ => ⟨S8x8x1x16x528, .f32⟩
  | .hbm, ⟨69, _⟩ => ⟨S8x8x1x16x528, .f32⟩
  | .hbm, ⟨70, _⟩ => ⟨S8x8x1x16x528, .f32⟩
  | .hbm, ⟨71, _⟩ => ⟨S8x16x528, .f32⟩
  | .hbm, ⟨72, _⟩ => ⟨S8x16x528, .f32⟩
  | .hbm, ⟨73, _⟩ => ⟨S8x1x16x528, .f32⟩
  | .hbm, ⟨74, _⟩ => ⟨S1x8x1x16x528, .f32⟩
  | .hbm, ⟨75, _⟩ => ⟨S8x8x1x16x528, .f32⟩
  | .hbm, ⟨76, _⟩ => ⟨S8x8x1x16x528, .f32⟩
  | .hbm, ⟨77, _⟩ => ⟨S_, .f32⟩
  | .hbm, ⟨78, _⟩ => ⟨S8x8x1x16, .f32⟩
  | .hbm, ⟨79, _⟩ => ⟨S_, .f32⟩
  | .hbm, ⟨80, _⟩ => ⟨S8x8x1x16, .f32⟩
  | .hbm, ⟨81, _⟩ => ⟨S8x8x1x16, .f32⟩
  | .hbm, ⟨82, _⟩ => ⟨S8x8x1x16x1, .f32⟩
  | .hbm, ⟨83, _⟩ => ⟨S8x8x1x16x528, .f32⟩
  | .hbm, ⟨84, _⟩ => ⟨S8x8x1x16x528, .f32⟩
  | .hbm, ⟨85, _⟩ => ⟨S8x8x1x16x528, .f32⟩
  | .hbm, ⟨86, _⟩ => ⟨S_, .f32⟩
  | .hbm, ⟨87, _⟩ => ⟨S8x8x1x16, .f32⟩
  | .hbm, ⟨88, _⟩ => ⟨S8x8x1x16x1, .f32⟩
  | .hbm, ⟨89, _⟩ => ⟨S8x8x1x16x528, .f32⟩
  | .hbm, ⟨90, _⟩ => ⟨S8x8x1x16x528, .f32⟩
  | .hbm, ⟨91, _⟩ => ⟨S8x8x64x1x16, .f32⟩
  | .hbm, ⟨92, _⟩ => ⟨S8x16x8x1x64, .f32⟩
  | .hbm, ⟨93, _⟩ => ⟨S8x16x8x64, .f32⟩
  | .hbm, ⟨94, _⟩ => ⟨S128x512, .bf16⟩
  | .hbm, ⟨95, _⟩ => ⟨S128x512, .f32⟩
  | .hbm, ⟨96, _⟩ => ⟨S128x512, .bf16⟩
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== PostS.lean ====
abbrev S8x16x1024 : Shape := ⟨3, ![8, 16, 1024]⟩
abbrev S128x512 : Shape := ⟨2, ![128, 512]⟩
abbrev S128x1024 : Shape := ⟨2, ![128, 1024]⟩
abbrev S8x2x2816 : Shape := ⟨3, ![8, 2, 2816]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S2x4x64x1024 : Shape := ⟨4, ![2, 4, 64, 1024]⟩
abbrev S4x2x64x1024 : Shape := ⟨4, ![4, 2, 64, 1024]⟩
abbrev S1024x2816 : Shape := ⟨2, ![1024, 2816]⟩
abbrev S_ : Shape := ⟨0, ![]⟩
abbrev S8x14x2816 : Shape := ⟨3, ![8, 14, 2816]⟩
abbrev S8x1x2816 : Shape := ⟨3, ![8, 1, 2816]⟩
abbrev S8x16x2816 : Shape := ⟨3, ![8, 16, 2816]⟩
abbrev S128x2816 : Shape := ⟨2, ![128, 2816]⟩
abbrev S1x1024 : Shape := ⟨2, ![1, 1024]⟩
abbrev S1x2816 : Shape := ⟨2, ![1, 2816]⟩
abbrev S128 : Shape := ⟨1, ![128]⟩
abbrev S128x1 : Shape := ⟨2, ![128, 1]⟩
abbrev S128x5632 : Shape := ⟨2, ![128, 5632]⟩

abbrev nBuf : Space → Nat
  | .hbm => 42
  | .vmem => 20
  | .smem => 0
  | _ => 0

abbrev bufTy : (tb : Table) → Fin (tcTables nBuf tb) → BufTy
  | .hbm, ⟨0, _⟩ => ⟨S8x16x1024, .f32⟩
  | .hbm, ⟨1, _⟩ => ⟨S128x512, .bf16⟩
  | .hbm, ⟨2, _⟩ => ⟨S128x512, .bf16⟩
  | .hbm, ⟨3, _⟩ => ⟨S128x1024, .bf16⟩
  | .hbm, ⟨4, _⟩ => ⟨S128x1024, .bf16⟩
  | .hbm, ⟨5, _⟩ => ⟨S8x2x2816, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x5632, .f32⟩
  | .hbm, ⟨12, _⟩ => ⟨S3x2816, .f32⟩
  | .hbm, ⟨13, _⟩ => ⟨S2816, .f32⟩
  | .hbm, ⟨14, _⟩ => ⟨S2816x1024, .f32⟩
  | .hbm, ⟨15, _⟩ => ⟨S1024, .f32⟩
  | .hbm, ⟨16, _⟩ => ⟨S2x4x64x1024, .f32⟩
  | .hbm, ⟨17, _⟩ => ⟨S4x2x64x1024, .f32⟩
  | .hbm, ⟨18, _⟩ => ⟨S512x1024, .f32⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1024x2816, .f32⟩
  | .hbm, ⟨23, _⟩ => ⟨S1024x2816, .f32⟩
  | .hbm, ⟨24, _⟩ => ⟨S1024x5632, .f32⟩
  | .hbm, ⟨25, _⟩ => ⟨S1024x5632, .bf16⟩
  | .hbm, ⟨26, _⟩ => ⟨S2816x1024, .bf16⟩
  | .hbm, ⟨27, _⟩ => ⟨S_, .f32⟩
  | .hbm, ⟨28, _⟩ => ⟨S8x14x2816, .f32⟩
  | .hbm, ⟨29, _⟩ => ⟨S8x1x2816, .f32⟩
  | .hbm, ⟨30, _⟩ => ⟨S8x1x2816, .f32⟩
  | .hbm, ⟨31, _⟩ => ⟨S8x16x2816, .f32⟩
  | .hbm, ⟨32, _⟩ => ⟨S128x2816, .f32⟩
  | .hbm, ⟨33, _⟩ => ⟨S8x16x2816, .f32⟩
  | .hbm, ⟨34, _⟩ => ⟨S128x2816, .f32⟩
  | .hbm, ⟨35, _⟩ => ⟨S128x1024, .f32⟩
  | .hbm, ⟨36, _⟩ => ⟨S1x1024, .f32⟩
  | .hbm, ⟨37, _⟩ => ⟨S1x1024, .f32⟩
  | .hbm, ⟨38, _⟩ => ⟨S1x2816, .f32⟩
  | .hbm, ⟨39, _⟩ => ⟨S1x1024, .f32⟩
  | .hbm, ⟨40, _⟩ => ⟨S128x1024, .f32⟩
  | .hbm, ⟨41, _⟩ => ⟨S128x2816, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S128x1024, .bf16⟩
  | .local _ .vmem, ⟨4, _⟩ => ⟨S128x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S3x2816, .f32⟩
  | .local _ .vmem, ⟨12, _⟩ => ⟨S1x2816, .f32⟩
  | .local _ .vmem, ⟨13, _⟩ => ⟨S2816x1024, .bf16⟩
  | .local _ .vmem, ⟨14, _⟩ => ⟨S1x1024, .f32⟩
  | .local _ .vmem, ⟨15, _⟩ => ⟨S128x2816, .f32⟩
  | .local _ .vmem, ⟨16, _⟩ => ⟨S128x2816, .f32⟩
  | .local _ .vmem, ⟨17, _⟩ => ⟨S128x1024, .f32⟩
  | .local _ .vmem, ⟨18, _⟩ => ⟨S128x2816, .f32⟩
  | .local _ .vmem, ⟨19, _⟩ => ⟨S128x1024, .bf16⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S128x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S128x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]
-- ==== PostSIdeal.lean ====
variable {F : FTy → Type} [FloatOps F] [Named F]
def κ : String → Option EReal := fun
  | "sqrt_half" => some (((Real.sqrt 2)⁻¹ : ℝ) : EReal)
  | _ => none
-- ==== PostSRefIdeal.lean ====
abbrev S8x16x1024 : Shape := ⟨3, ![8, 16, 1024]⟩
abbrev S128x512 : Shape := ⟨2, ![128, 512]⟩
abbrev S128x1024 : Shape := ⟨2, ![128, 1024]⟩
abbrev S8x2x2816 : Shape := ⟨3, ![8, 2, 2816]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x16x4x2x64 : Shape := ⟨5, ![8, 16, 4, 2, 64]⟩
abbrev S8x16x2x4x64 : Shape := ⟨5, ![8, 16, 2, 4, 64]⟩
abbrev S8x16x512 : Shape := ⟨3, ![8, 16, 512]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x5632 : Shape := ⟨3, ![8, 16, 5632]⟩
abbrev S8x16x2816 : Shape := ⟨3, ![8, 16, 2816]⟩
abbrev S8x18x2816 : Shape := ⟨3, ![8, 18, 2816]⟩
abbrev S1x2816 : Shape := ⟨2, ![1, 2816]⟩
abbrev S1x1x2816 : Shape := ⟨3, ![1, 1, 2816]⟩
abbrev S128x2816 : Shape := ⟨2, ![128, 2816]⟩

abbrev nBuf : Space → Nat
  | .hbm => 126
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S128x512, .bf16⟩
  | .hbm, ⟨2, _⟩ => ⟨S128x512, .bf16⟩
  | .hbm, ⟨3, _⟩ => ⟨S128x1024, .bf16⟩
  | .hbm, ⟨4, _⟩ => ⟨S128x1024, .bf16⟩
  | .hbm, ⟨5, _⟩ => ⟨S8x2x2816, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x5632, .f32⟩
  | .hbm, ⟨12, _⟩ => ⟨S3x2816, .f32⟩
  | .hbm, ⟨13, _⟩ => ⟨S2816, .f32⟩
  | .hbm, ⟨14, _⟩ => ⟨S2816x1024, .f32⟩
  | .hbm, ⟨15, _⟩ => ⟨S1024, .f32⟩
  | .hbm, ⟨16, _⟩ => ⟨S128x512, .f32⟩
  | .hbm, ⟨17, _⟩ => ⟨S8x16x4x2x64, .f32⟩
  | .hbm, ⟨18, _⟩ => ⟨S8x16x2x4x64, .f32⟩
  | .hbm, ⟨19, _⟩ => ⟨S128x1024, .f32⟩
  | .hbm, ⟨20, _⟩ => ⟨S8x16x1024, .f32⟩
  | .hbm, ⟨21, _⟩ => ⟨S8x16x512, .f32⟩
  | .hbm, ⟨22, _⟩ => ⟨S8x16x1024, .f32⟩
  | .hbm, ⟨23, _⟩ => ⟨S8x16x1024, .f32⟩
  | .hbm, ⟨24, _⟩ => ⟨S128x1024, .f32⟩
  | .hbm, ⟨25, _⟩ => ⟨S8x16x1024, .f32⟩
  | .hbm, ⟨26, _⟩ => ⟨S128x512, .f32⟩
  | .hbm, ⟨27, _⟩ => ⟨S8x16x512, .f32⟩
  | .hbm, ⟨28, _⟩ => ⟨S8x16x1024, .f32⟩
  | .hbm, ⟨29, _⟩ => ⟨S8x16x1024, .f32⟩
  | .hbm, ⟨30, _⟩ => ⟨S8x16x1024, .f32⟩
  | .hbm, ⟨31, _⟩ => ⟨S8x16x1024, .f32⟩
  | .hbm, ⟨32, _⟩ => ⟨S8x16x1024, .f32⟩
  | .hbm, ⟨33, _⟩ => ⟨S_, .f32⟩
  | .hbm, ⟨34, _⟩ => ⟨S8x16, .f32⟩
  | .hbm, ⟨35, _⟩ => ⟨S8x16x1, .f32⟩
  | .hbm, ⟨36, _⟩ => ⟨S_, .f32⟩
  | .hbm, ⟨37, _⟩ => ⟨S8x16x1, .f32⟩
  | .hbm, ⟨38, _⟩ => ⟨S8x16x1, .f32⟩
  | .hbm, ⟨39, _⟩ => ⟨S_, .f32⟩
  | .hbm, ⟨40, _⟩ => ⟨S8x16x1, .f32⟩
  | .hbm, ⟨41, _⟩ => ⟨S8x16x1, .f32⟩
  | .hbm, ⟨42, _⟩ => ⟨S8x16x1, .f32⟩
  | .hbm, ⟨43, _⟩ => ⟨S8x16x1024, .f32⟩
  | .hbm, ⟨44, _⟩ => ⟨S8x16x1024, .f32⟩
  | .hbm, ⟨45, _⟩ => ⟨S1x1x1024, .f32⟩
  | .hbm, ⟨46, _⟩ => ⟨S8x16x1024, .f32⟩
  | .hbm, ⟨47, _⟩ => ⟨S8x16x1024, .f32⟩
  | .hbm, ⟨48, _⟩ => ⟨S8x16x1024, .f32⟩
  | .hbm, ⟨49, _⟩ => ⟨S8x16x1024, .f32⟩
  | .hbm, ⟨50, _⟩ => ⟨S_, .f32⟩
  | .hbm, ⟨51, _⟩ => ⟨S8x16, .f32⟩
  | .hbm, ⟨52, _⟩ => ⟨S8x16x1, .f32⟩
  | .hbm, ⟨53, _⟩ => ⟨S_, .f32⟩
  | .hbm, ⟨54, _⟩ => ⟨S8x16x1, .f32⟩
  | .hbm, ⟨55, _⟩ => ⟨S8x16x1, .f32⟩
  | .hbm, ⟨56, _⟩ => ⟨S_, .f32⟩
  | .hbm, ⟨57, _⟩ => ⟨S8x16x1, .f32⟩
  | .hbm, ⟨58, _⟩ => ⟨S8x16x1, .f32⟩
  | .hbm, ⟨59, _⟩ => ⟨S8x16x1, .f32⟩
  | .hbm, ⟨60, _⟩ => ⟨S8x16x1024, .f32⟩
  | .hbm, ⟨61, _⟩ => ⟨S8x16x1024, .f32⟩
  | .hbm, ⟨62, _⟩ => ⟨S1x1x1024, .f32⟩
  | .hbm, ⟨63, _⟩ => ⟨S8x16x1024, .f32⟩
  | .hbm, ⟨64, _⟩ => ⟨S8x16x1024, .f32⟩
  | .hbm, ⟨65, _⟩ => ⟨S8x16x5632, .f32⟩
  | .hbm, ⟨66, _⟩ => ⟨S8x16x2816, .f32⟩
  | .hbm, ⟨67, _⟩ => ⟨S8x16x2816, .f32⟩
  | .hbm, ⟨68, _⟩ => ⟨S8x18x2816, .f32⟩
  | .hbm, ⟨69, _⟩ => ⟨S8x16x2816, .f32⟩
  | .hbm, ⟨70, _⟩ => ⟨S1x2816, .f32⟩
  | .hbm, ⟨71, _⟩ => ⟨S2816, .f32⟩
  | .hbm, ⟨72, _⟩ => ⟨S1x1x2816, .f32⟩
  | .hbm, ⟨73, _⟩ => ⟨S8x16x2816, .f32⟩
  | .hbm, ⟨74, _⟩ => ⟨S8x16x2816, .f32⟩
  | .hbm, ⟨75, _⟩ => ⟨S1x1x2816, .f32⟩
  | .hbm, ⟨76, _⟩ => ⟨S8x16x2816, .f32⟩
  | .hbm, ⟨77, _⟩ => ⟨S8x16x2816, .f32⟩
  | .hbm, ⟨78, _⟩ => ⟨S8x16x2816, .f32⟩
  | .hbm, ⟨79, _⟩ => ⟨S1x2816, .f32⟩
  | .hbm, ⟨80, _⟩ => ⟨S2816, .f32⟩
  | .hbm, ⟨81, _⟩ => ⟨S1x1x2816, .f32⟩
  | .hbm, ⟨82, _⟩ => ⟨S8x16x2816, .f32⟩
  | .hbm, ⟨83, _⟩ => ⟨S8x16x2816, .f32⟩
  | .hbm, ⟨84, _⟩ => ⟨S8x16x2816, .f32⟩
  | .hbm, ⟨85, _⟩ => ⟨S8x16x2816, .f32⟩
  | .hbm, ⟨86, _⟩ => ⟨S1x2816, .f32⟩
  | .hbm, ⟨87, _⟩ => ⟨S2816, .f32⟩
  | .hbm, ⟨88, _⟩ => ⟨S1x1x2816, .f32⟩
  | .hbm, ⟨89, _⟩ => ⟨S8x16x2816, .f32⟩
  | .hbm, ⟨90, _⟩ => ⟨S8x16x2816, .f32⟩
  | .hbm, ⟨91, _⟩ => ⟨S8x16x2816, .f32⟩
  | .hbm, ⟨92, _⟩ => ⟨S_, .f32⟩
  | .hbm, ⟨93, _⟩ => ⟨S8x16x2816, .f32⟩
  | .hbm, ⟨94, _⟩ => ⟨S8x16x2816, .f32⟩
  | .hbm, ⟨95, _⟩ => ⟨S_, .f32⟩
  | .hbm, ⟨96, _⟩ => ⟨S_, .f32⟩
  | .hbm, ⟨97, _⟩ => ⟨S8x16x2816, .f32⟩
  | .hbm, ⟨98, _⟩ => ⟨S8x16x2816, .f32⟩
  | .hbm, ⟨99, _⟩ => ⟨S8x16x2816, .f32⟩
  | .hbm, ⟨100, _⟩ => ⟨S_, .f32⟩
  | .hbm, ⟨101, _⟩ => ⟨S8x16x2816, .f32⟩
  | .hbm, ⟨102, _⟩ => ⟨S8x16x2816, .f32⟩
  | .hbm, ⟨103, _⟩ => ⟨S8x16x2816, .f32⟩
  | .hbm, ⟨104, _⟩ => ⟨S8x16x2816, .f32⟩
  | .hbm, ⟨105, _⟩ => ⟨S8x16x1024, .f32⟩
  | .hbm, ⟨106, _⟩ => ⟨S8x16x1024, .f32⟩
  | .hbm, ⟨107, _⟩ => ⟨S_, .f32⟩
  | .hbm, ⟨108, _⟩ => ⟨S8x16, .f32⟩
  | .hbm, ⟨109, _⟩ => ⟨S8x16x1, .f32⟩
  | .hbm, ⟨110, _⟩ => ⟨S_, .f32⟩
  | .hbm, ⟨111, _⟩ => ⟨S8x16x1, .f32⟩
  | .hbm, ⟨112, _⟩ => ⟨S8x16x1, .f32⟩
  | .hbm, ⟨113, _⟩ => ⟨S_, .f32⟩
  | .hbm, ⟨114, _⟩ => ⟨S8x16x1, .f32⟩
  | .hbm, ⟨115, _⟩ => ⟨S8x16x1, .f32⟩
  | .hbm, ⟨116, _⟩ => ⟨S8x16x1, .f32⟩
  | .hbm, ⟨117, _⟩ => ⟨S8x16x1024, .f32⟩
  | .hbm, ⟨118, _⟩ => ⟨S8x16x1024, .f32⟩
  | .hbm, ⟨119, _⟩ => ⟨S1x1x1024, .f32⟩
  | .hbm, ⟨120, _⟩ => ⟨S8x16x1024, .f32⟩
  | .hbm, ⟨121, _⟩ => ⟨S8x16x1024, .f32⟩
  | .hbm, ⟨122, _⟩ => ⟨S8x16x1024, .f32⟩
  | .hbm, ⟨123, _⟩ => ⟨S128x1024, .f32⟩
  | .hbm, ⟨124, _⟩ => ⟨S8x16x2816, .f32⟩
  | .hbm, ⟨125, _⟩ => ⟨S128x2816, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_5 : Ref sig .tc := ⟨.hbm, 92, rfl⟩
abbrev main_v70 : Ref sig .tc := ⟨.hbm, 93, rfl⟩
abbrev main_v71 : Ref sig .tc := ⟨.hbm, 94, rfl⟩
abbrev main_cst_6 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_7 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_8 : Ref sig .tc := ⟨.hbm, 107, rfl⟩
abbrev main_v82 : Ref sig .tc := ⟨.hbm, 108, rfl⟩
abbrev main_v83 : Ref sig .tc := ⟨.hbm, 109, rfl⟩
abbrev main_cst_9 : Ref sig .tc := ⟨.hbm, 110, rfl⟩
abbrev main_v84 : Ref sig .tc := ⟨.hbm, 111, rfl⟩
abbrev main_v85 : Ref sig .tc := ⟨.hbm, 112, rfl⟩
abbrev main_cst_10 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩

abbrev nD : Nat := 1
abbrev τ : Topo := Topo.v7x

variable {F : FTy → Type} [FloatOps F]
-- ==== PostP.lean ====
abbrev S16x4096x1024 : Shape := ⟨3, ![16, 4096, 1024]⟩
abbrev S65536x512 : Shape := ⟨2, ![65536, 512]⟩
abbrev S65536x1024 : Shape := ⟨2, ![65536, 1024]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S2x4x64x1024 : Shape := ⟨4, ![2, 4, 64, 1024]⟩
abbrev S4x2x64x1024 : Shape := ⟨4, ![4, 2, 64, 1024]⟩
abbrev S1024x2816 : Shape := ⟨2, ![1024, 2816]⟩
abbrev S1x1024 : Shape := ⟨2, ![1, 1024]⟩
abbrev S1x2816 : Shape := ⟨2, ![1, 2816]⟩
abbrev S16x2x2816 : Shape := ⟨3, ![16, 2, 2816]⟩
abbrev S512x512 : Shape := ⟨2, ![512, 512]⟩
abbrev S1x2x2816 : Shape := ⟨3, ![1, 2, 2816]⟩
abbrev S2x2816 : Shape := ⟨2, ![2, 2816]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩
abbrev S1x1x2816 : Shape := ⟨3, ![1, 1, 2816]⟩

abbrev nBuf : Space → Nat
  | .hbm => 33
  | .vmem => 25
  | .smem => 0
  | _ => 0

abbrev bufTy : (tb : Table) → Fin (tcTables nBuf tb) → BufTy
  | .hbm, ⟨0, _⟩ => ⟨S16x4096x1024, .f32⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x5632, .f32⟩
  | .hbm, ⟨11, _⟩ => ⟨S3x2816, .f32⟩
  | .hbm, ⟨12, _⟩ => ⟨S2816, .f32⟩
  | .hbm, ⟨13, _⟩ => ⟨S2816x1024, .f32⟩
  | .hbm, ⟨14, _⟩ => ⟨S1024, .f32⟩
  | .hbm, ⟨15, _⟩ => ⟨S2x4x64x1024, .f32⟩
  | .hbm, ⟨16, _⟩ => ⟨S4x2x64x1024, .f32⟩
  | .hbm, ⟨17, _⟩ => ⟨S512x1024, .f32⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1024x2816, .f32⟩
  | .hbm, ⟨22, _⟩ => ⟨S1024x2816, .f32⟩
  | .hbm, ⟨23, _⟩ => ⟨S1024x5632, .f32⟩
  | .hbm, ⟨24, _⟩ => ⟨S1024x5632, .bf16⟩
  | .hbm, ⟨25, _⟩ => ⟨S2816x1024, .bf16⟩
  | .hbm, ⟨26, _⟩ => ⟨S65536x1024, .f32⟩
  | .hbm, ⟨27, _⟩ => ⟨S1x1024, .f32⟩
  | .hbm, ⟨28, _⟩ => ⟨S1x1024, .f32⟩
  | .hbm, ⟨29, _⟩ => ⟨S1x2816, .f32⟩
  | .hbm, ⟨30, _⟩ => ⟨S1x1024, .f32⟩
  | .hbm, ⟨31, _⟩ => ⟨S65536x1024, .f32⟩
  | .hbm, ⟨32, _⟩ => ⟨S16x2x2816, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x5632, .bf16⟩
  | .local _ .vmem, ⟨16, _⟩ => ⟨S3x2816, .f32⟩
  | .local _ .vmem, ⟨17, _⟩ => ⟨S1x2816, .f32⟩
  | .local _ .vmem, ⟨18, _⟩ => ⟨S2816x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1x2x2816, .f32⟩
  | .local _ .vmem, ⟨23, _⟩ => ⟨S1x2x2816, .f32⟩
  | .local _ .vmem, ⟨24, _⟩ => ⟨S512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x2816 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== PostPIdeal.lean ====
variable {F : FTy → Type} [FloatOps F] [Named F]
def κ : String → Option EReal := fun
  | "sqrt_half" => some (((Real.sqrt 2)⁻¹ : ℝ) : EReal)
  | _ => none
-- ==== PostPRefIdeal.lean ====
abbrev S16x4096x1024 : Shape := ⟨3, ![16, 4096, 1024]⟩
abbrev S65536x512 : Shape := ⟨2, ![65536, 512]⟩
abbrev S65536x1024 : Shape := ⟨2, ![65536, 1024]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16x2x2816 : Shape := ⟨3, ![16, 2, 2816]⟩
abbrev S16x4096x4x2x64 : Shape := ⟨5, ![16, 4096, 4, 2, 64]⟩
abbrev S16x4096x2x4x64 : Shape := ⟨5, ![16, 4096, 2, 4, 64]⟩
abbrev S16x4096x512 : Shape := ⟨3, ![16, 4096, 512]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩
abbrev S16x4098x2816 : Shape := ⟨3, ![16, 4098, 2816]⟩
abbrev S1x2816 : Shape := ⟨2, ![1, 2816]⟩
abbrev S1x1x2816 : Shape := ⟨3, ![1, 1, 2816]⟩

abbrev nBuf : Space → Nat
  | .hbm => 126
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x5632, .f32⟩
  | .hbm, ⟨11, _⟩ => ⟨S3x2816, .f32⟩
  | .hbm, ⟨12, _⟩ => ⟨S2816, .f32⟩
  | .hbm, ⟨13, _⟩ => ⟨S2816x1024, .f32⟩
  | .hbm, ⟨14, _⟩ => ⟨S1024, .f32⟩
  | .hbm, ⟨15, _⟩ => ⟨S_, .f32⟩
  | .hbm, ⟨16, _⟩ => ⟨S16x2x2816, .f32⟩
  | .hbm, ⟨17, _⟩ => ⟨S65536x512, .f32⟩
  | .hbm, ⟨18, _⟩ => ⟨S16x4096x4x2x64, .f32⟩
  | .hbm, ⟨19, _⟩ => ⟨S16x4096x2x4x64, .f32⟩
  | .hbm, ⟨20, _⟩ => ⟨S65536x1024, .f32⟩
  | .hbm, ⟨21, _⟩ => ⟨S16x4096x1024, .f32⟩
  | .hbm, ⟨22, _⟩ => ⟨S16x4096x512, .f32⟩
  | .hbm, ⟨23, _⟩ => ⟨S16x4096x1024, .f32⟩
  | .hbm, ⟨24, _⟩ => ⟨S16x4096x1024, .f32⟩
  | .hbm, ⟨25, _⟩ => ⟨S65536x1024, .f32⟩
  | .hbm, ⟨26, _⟩ => ⟨S16x4096x1024, .f32⟩
  | .hbm, ⟨27, _⟩ => ⟨S65536x512, .f32⟩
  | .hbm, ⟨28, _⟩ => ⟨S16x4096x512, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S_, .f32⟩
  | .hbm, ⟨38, _⟩ => ⟨S16x4096x1, .f32⟩
  | .hbm, ⟨39, _⟩ => ⟨S16x4096x1, .f32⟩
  | .hbm, ⟨40, _⟩ => ⟨S_, .f32⟩
  | .hbm, ⟨41, _⟩ => ⟨S16x4096x1, .f32⟩
  | .hbm, ⟨42, _⟩ => ⟨S16x4096x1, .f32⟩
  | .hbm, ⟨43, _⟩ => ⟨S16x4096x1, .f32⟩
  | .hbm, ⟨44, _⟩ => ⟨S16x4096x1024, .f32⟩
  | .hbm, ⟨45, _⟩ => ⟨S16x4096x1024, .f32⟩
  | .hbm, ⟨46, _⟩ => ⟨S1x1x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S_, .f32⟩
  | .hbm, ⟨55, _⟩ => ⟨S16x4096x1, .f32⟩
  | .hbm, ⟨56, _⟩ => ⟨S16x4096x1, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S16x4096x1, .f32⟩
  | .hbm, ⟨61, _⟩ => ⟨S16x4096x1024, .f32⟩
  | .hbm, ⟨62, _⟩ => ⟨S16x4096x1024, .f32⟩
  | .hbm, ⟨63, _⟩ => ⟨S1x1x1024, .f32⟩
  | .hbm, ⟨64, _⟩ => ⟨S16x4096x1024, .f32⟩
  | .hbm, ⟨65, _⟩ => ⟨S16x4096x1024, .f32⟩
  | .hbm, ⟨66, _⟩ => ⟨S16x4096x5632, .f32⟩
  | .hbm, ⟨67, _⟩ => ⟨S16x4096x2816, .f32⟩
  | .hbm, ⟨68, _⟩ => ⟨S16x4096x2816, .f32⟩
  | .hbm, ⟨69, _⟩ => ⟨S16x4098x2816, .f32⟩
  | .hbm, ⟨70, _⟩ => ⟨S16x4096x2816, .f32⟩
  | .hbm, ⟨71, _⟩ => ⟨S1x2816, .f32⟩
  | .hbm, ⟨72, _⟩ => ⟨S2816, .f32⟩
  | .hbm, ⟨73, _⟩ => ⟨S1x1x2816, .f32⟩
  | .hbm, ⟨74, _⟩ => ⟨S16x4096x2816, .f32⟩
  | .hbm, ⟨75, _⟩ => ⟨S16x4096x2816, .f32⟩
  | .hbm, ⟨76, _⟩ => ⟨S1x1x2816, .f32⟩
  | .hbm, ⟨77, _⟩ => ⟨S16x4096x2816, .f32⟩
  | .hbm, ⟨78, _⟩ => ⟨S16x4096x2816, .f32⟩
  | .hbm, ⟨79, _⟩ => ⟨S16x4096x2816, .f32⟩
  | .hbm, ⟨80, _⟩ => ⟨S1x2816, .f32⟩
  | .hbm, ⟨81, _⟩ => ⟨S2816, .f32⟩
  | .hbm, ⟨82, _⟩ => ⟨S1x1x2816, .f32⟩
  | .hbm, ⟨83, _⟩ => ⟨S16x4096x2816, .f32⟩
  | .hbm, ⟨84, _⟩ => ⟨S16x4096x2816, .f32⟩
  | .hbm, ⟨85, _⟩ => ⟨S16x4096x2816, .f32⟩
  | .hbm, ⟨86, _⟩ => ⟨S16x4096x2816, .f32⟩
  | .hbm, ⟨87, _⟩ => ⟨S1x2816, .f32⟩
  | .hbm, ⟨88, _⟩ => ⟨S2816, .f32⟩
  | .hbm, ⟨89, _⟩ => ⟨S1x1x2816, .f32⟩
  | .hbm, ⟨90, _⟩ => ⟨S16x4096x2816, .f32⟩
  | .hbm, ⟨91, _⟩ => ⟨S16x4096x2816, .f32⟩
  | .hbm, ⟨92, _⟩ => ⟨S16x4096x2816, .f32⟩
  | .hbm, ⟨93, _⟩ => ⟨S_, .f32⟩
  | .hbm, ⟨94, _⟩ => ⟨S16x4096x2816, .f32⟩
  | .hbm, ⟨95, _⟩ => ⟨S16x4096x2816, .f32⟩
  | .hbm, ⟨96, _⟩ => ⟨S_, .f32⟩
  | .hbm, ⟨97, _⟩ => ⟨S_, .f32⟩
  | .hbm, ⟨98, _⟩ => ⟨S16x4096x2816, .f32⟩
  | .hbm, ⟨99, _⟩ => ⟨S16x4096x2816, .f32⟩
  | .hbm, ⟨100, _⟩ => ⟨S16x4096x2816, .f32⟩
  | .hbm, ⟨101, _⟩ => ⟨S_, .f32⟩
  | .hbm, ⟨102, _⟩ => ⟨S16x4096x2816, .f32⟩
  | .hbm, ⟨103, _⟩ => ⟨S16x4096x2816, .f32⟩
  | .hbm, ⟨104, _⟩ => ⟨S16x4096x2816, .f32⟩
  | .hbm, ⟨105, _⟩ => ⟨S16x4096x2816, .f32⟩
  | .hbm, ⟨106, _⟩ => ⟨S16x4096x1024, .f32⟩
  | .hbm, ⟨107, _⟩ => ⟨S16x4096x1024, .f32⟩
  | .hbm, ⟨108, _⟩ => ⟨S_, .f32⟩
  | .hbm, ⟨109, _⟩ => ⟨S16x4096, .f32⟩
  | .hbm, ⟨110, _⟩ => ⟨S16x4096x1, .f32⟩
  | .hbm, ⟨111, _⟩ => ⟨S_, .f32⟩
  | .hbm, ⟨112, _⟩ => ⟨S16x4096x1, .f32⟩
  | .hbm, ⟨113, _⟩ => ⟨S16x4096x1, .f32⟩
  | .hbm, ⟨114, _⟩ => ⟨S_, .f32⟩
  | .hbm, ⟨115, _⟩ => ⟨S16x4096x1, .f32⟩
  | .hbm, ⟨116, _⟩ => ⟨S16x4096x1, .f32⟩
  | .hbm, ⟨117, _⟩ => ⟨S16x4096x1, .f32⟩
  | .hbm, ⟨118, _⟩ => ⟨S16x4096x1024, .f32⟩
  | .hbm, ⟨119, _⟩ => ⟨S16x4096x1024, .f32⟩
  | .hbm, ⟨120, _⟩ => ⟨S1x1x1024, .f32⟩
  | .hbm, ⟨121, _⟩ => ⟨S16x4096x1024, .f32⟩
  | .hbm, ⟨122, _⟩ => ⟨S16x4096x1024, .f32⟩
  | .hbm, ⟨123, _⟩ => ⟨S16x4096x1024, .f32⟩
  | .hbm, ⟨124, _⟩ => ⟨S65536x1024, .f32⟩
  | .hbm, ⟨125, _⟩ => ⟨S16x2x2816, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_6 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_8 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_9 : Ref sig .tc := ⟨.hbm, 108, rfl⟩
abbrev main_v83 : Ref sig .tc := ⟨.hbm, 109, rfl⟩
abbrev main_v84 : Ref sig .tc := ⟨.hbm, 110, rfl⟩
abbrev main_cst_10 : Ref sig .tc := ⟨.hbm, 111, rfl⟩
abbrev main_v85 : Ref sig .tc := ⟨.hbm, 112, rfl⟩
abbrev main_v86 : Ref sig .tc := ⟨.hbm, 113, rfl⟩
abbrev main_cst_11 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩

abbrev nD : Nat := 1
abbrev τ : Topo := Topo.v7x

variable {F : FTy → Type} [FloatOps F]
-- ==== InS.lean ====
abbrev S8x16x1024 : Shape := ⟨3, ![8, 16, 1024]⟩
abbrev S1024 : Shape := ⟨1, ![1024]⟩
abbrev S1024x4352 : Shape := ⟨2, ![1024, 4352]⟩
abbrev S16 : Shape := ⟨1, ![16]⟩
abbrev S_ : Shape := ⟨0, ![]⟩
abbrev S1x16 : Shape := ⟨2, ![1, 16]⟩
abbrev S8x16 : Shape := ⟨2, ![8, 16]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S128x1024 : Shape := ⟨2, ![128, 1024]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x3840 : Shape := ⟨2, ![1024, 3840]⟩
abbrev S1x1024 : Shape := ⟨2, ![1, 1024]⟩
abbrev S128x512 : Shape := ⟨2, ![128, 512]⟩
abbrev S1x128x128 : Shape := ⟨3, ![1, 128, 128]⟩
abbrev S1x128x512 : Shape := ⟨3, ![1, 128, 512]⟩
abbrev S128x4352 : Shape := ⟨2, ![128, 4352]⟩

abbrev nBuf : Space → Nat
  | .hbm => 58
  | .vmem => 17
  | .smem => 0
  | _ => 0

abbrev bufTy : (tb : Table) → Fin (tcTables nBuf tb) → BufTy
  | .hbm, ⟨0, _⟩ => ⟨S8x16x1024, .f32⟩
  | .hbm, ⟨1, _⟩ => ⟨S1024, .f32⟩
  | .hbm, ⟨2, _⟩ => ⟨S1024x4352, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S1x16, .i32⟩
  | .hbm, ⟨8, _⟩ => ⟨S8x16, .i32⟩
  | .hbm, ⟨9, _⟩ => ⟨S128, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S128, .f32⟩
  | .hbm, ⟨21, _⟩ => ⟨S128x1, .f32⟩
  | .hbm, ⟨22, _⟩ => ⟨S1x32, .f32⟩
  | .hbm, ⟨23, _⟩ => ⟨S128x32, .f32⟩
  | .hbm, ⟨24, _⟩ => ⟨S128x32, .f32⟩
  | .hbm, ⟨25, _⟩ => ⟨S128x32, .f32⟩
  | .hbm, ⟨26, _⟩ => ⟨S128x32, .f32⟩
  | .hbm, ⟨27, _⟩ => ⟨S128x32, .f32⟩
  | .hbm, ⟨28, _⟩ => ⟨S128x64, .f32⟩
  | .hbm, ⟨29, _⟩ => ⟨S1x128x1x64, .f32⟩
  | .hbm, ⟨30, _⟩ => ⟨S1x128x2x64, .f32⟩
  | .hbm, ⟨31, _⟩ => ⟨S128x128, .f32⟩
  | .hbm, ⟨32, _⟩ => ⟨S128x32, .f32⟩
  | .hbm, ⟨33, _⟩ => ⟨S128x64, .f32⟩
  | .hbm, ⟨34, _⟩ => ⟨S1x128x1x64, .f32⟩
  | .hbm, ⟨35, _⟩ => ⟨S1x128x2x64, .f32⟩
  | .hbm, ⟨36, _⟩ => ⟨S128x128, .f32⟩
  | .hbm, ⟨37, _⟩ => ⟨S128x1024, .f32⟩
  | .hbm, ⟨38, _⟩ => ⟨S1024x512, .f32⟩
  | .hbm, ⟨39, _⟩ => ⟨S1024x2x4x64, .f32⟩
  | .hbm, ⟨40, _⟩ => ⟨S1024x4x2x64, .f32⟩
  | .hbm, ⟨41, _⟩ => ⟨S1024x512, .f32⟩
  | .hbm, ⟨42, _⟩ => ⟨S1024x3840, .f32⟩
  | .hbm, ⟨43, _⟩ => ⟨S1024x4352, .f32⟩
  | .hbm, ⟨44, _⟩ => ⟨S1024x4352, .bf16⟩
  | .hbm, ⟨45, _⟩ => ⟨S1x1024, .f32⟩
  | .hbm, ⟨46, _⟩ => ⟨S128x512, .bf16⟩
  | .hbm, ⟨47, _⟩ => ⟨S128x128, .bf16⟩
  | .hbm, ⟨48, _⟩ => ⟨S128x128, .bf16⟩
  | .hbm, ⟨49, _⟩ => ⟨S128x512, .bf16⟩
  | .hbm, ⟨50, _⟩ => ⟨S128x512, .bf16⟩
  | .hbm, ⟨51, _⟩ => ⟨S128x512, .bf16⟩
  | .hbm, ⟨52, _⟩ => ⟨S128x1024, .bf16⟩
  | .hbm, ⟨53, _⟩ => ⟨S128x1024, .bf16⟩
  | .hbm, ⟨54, _⟩ => ⟨S1x128x128, .f32⟩
  | .hbm, ⟨55, _⟩ => ⟨S1x128x128, .f32⟩
  | .hbm, ⟨56, _⟩ => ⟨S1x128x512, .f32⟩
  | .hbm, ⟨57, _⟩ => ⟨S1x128x512, .f32⟩
  | .local _ .vmem, ⟨0, _⟩ => ⟨S128x1024, .f32⟩
  | .local _ .vmem, ⟨1, _⟩ => ⟨S1x1024, .f32⟩
  | .local _ .vmem, ⟨2, _⟩ => ⟨S1024x4352, .bf16⟩
  | .local _ .vmem, ⟨3, _⟩ => ⟨S128x128, .f32⟩
  | .local _ .vmem, ⟨4, _⟩ => ⟨S128x128, .f32⟩
  | .local _ .vmem, ⟨5, _⟩ => ⟨S128x512, .bf16⟩
  | .local _ .vmem, ⟨6, _⟩ => ⟨S128x128, .bf16⟩
  | .local _ .vmem, ⟨7, _⟩ => ⟨S128x128, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x1024, .bf16⟩
  | .local _ .vmem, ⟨12, _⟩ => ⟨S128x1024, .bf16⟩
  | .local _ .vmem, ⟨13, _⟩ => ⟨S1x128x128, .f32⟩
  | .local _ .vmem, ⟨14, _⟩ => ⟨S1x128x128, .f32⟩
  | .local _ .vmem, ⟨15, _⟩ => ⟨S1x128x512, .f32⟩
  | .local _ .vmem, ⟨16, _⟩ => ⟨S1x128x512, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39_0 : Ref sig .tc := ⟨.hbm, 46, rfl⟩
abbrev main_v39_1 : Ref sig .tc := ⟨.hbm, 47, rfl⟩
abbrev main_v39_2 : Ref sig .tc := ⟨.hbm, 48, rfl⟩
abbrev main_v39_3 : Ref sig .tc := ⟨.hbm, 49, rfl⟩
abbrev main_v39_4 : Ref sig .tc := ⟨.hbm, 50, rfl⟩
abbrev main_v39_5 : Ref sig .tc := ⟨.hbm, 51, rfl⟩
abbrev main_v39_6 : Ref sig .tc := ⟨.hbm, 52, rfl⟩
abbrev main_v39_7 : Ref sig .tc := ⟨.hbm, 53, rfl⟩
abbrev main_v39_8 : Ref sig .tc := ⟨.hbm, 54, rfl⟩
abbrev main_v39_9 : Ref sig .tc := ⟨.hbm, 55, rfl⟩
abbrev main_v39_10 : Ref sig .tc := ⟨.hbm, 56, rfl⟩
abbrev main_v39_11 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S1x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S1x128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 1 → Memref sig .tc .vmem S1x128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]
-- ==== InSIdeal.lean ====
variable {F : FTy → Type} [FloatOps F] [Named F]
def κ : String → Option EReal := fun
  | "scale" => some (((1 / 8) * (Real.log 2)⁻¹ : ℝ) : EReal)
  | _ => none
-- ==== InSRefIdeal.lean ====
abbrev S8x16x1024 : Shape := ⟨3, ![8, 16, 1024]⟩
abbrev S1024 : Shape := ⟨1, ![1024]⟩
abbrev S1024x4352 : Shape := ⟨2, ![1024, 4352]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x4352 : Shape := ⟨3, ![8, 16, 4352]⟩
abbrev S8x16x512 : Shape := ⟨3, ![8, 16, 512]⟩
abbrev S8x16x128 : Shape := ⟨3, ![8, 16, 128]⟩
abbrev S16 : Shape := ⟨1, ![16]⟩
abbrev S8x16x8x64 : Shape := ⟨4, ![8, 16, 8, 64]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S16x1x32 : Shape := ⟨3, ![16, 1, 32]⟩
abbrev S8x16x8x32 : Shape := ⟨4, ![8, 16, 8, 32]⟩
abbrev S1x16x1x32 : Shape := ⟨4, ![1, 16, 1, 32]⟩
abbrev S8x16x2x64 : Shape := ⟨4, ![8, 16, 2, 64]⟩
abbrev S8x16x2x32 : Shape := ⟨4, ![8, 16, 2, 32]⟩
abbrev S8x16x2x4x64 : Shape := ⟨5, ![8, 16, 2, 4, 64]⟩
abbrev S8x16x4x2x64 : Shape := ⟨5, ![8, 16, 4, 2, 64]⟩
abbrev S128x512 : Shape := ⟨2, ![128, 512]⟩
abbrev S128x128 : Shape := ⟨2, ![128, 128]⟩
abbrev S128x1024 : Shape := ⟨2, ![128, 1024]⟩
abbrev S1x128x128 : Shape := ⟨3, ![1, 128, 128]⟩
abbrev S1x128x512 : Shape := ⟨3, ![1, 128, 512]⟩

abbrev nBuf : Space → Nat
  | .hbm => 161
  | .vmem => 0
  | .smem => 0
  | _ => 0

abbrev hbmTy0_0 (i : Nat) : BufTy := match i % 128 with
  | 0 => ⟨S8x16x1024, .f32⟩
  | 1 => ⟨S1024, .f32⟩
  | 2 => ⟨S1024x4352, .f32⟩
  | 3 => ⟨S8x16x1024, .f32⟩
  | 4 => ⟨S_, .f32⟩
  | 5 => ⟨S8x16, .f32⟩
  | 6 => ⟨S8x16x1, .f32⟩
  | 7 => ⟨S_, .f32⟩
  | 8 => ⟨S8x16x1, .f32⟩
  | 9 => ⟨S8x16x1, .f32⟩
  | 10 => ⟨S_, .f32⟩
  | 11 => ⟨S8x16x1, .f32⟩
  | 12 => ⟨S8x16x1, .f32⟩
  | 13 => ⟨S8x16x1, .f32⟩
  | 14 => ⟨S8x16x1024, .f32⟩
  | 15 => ⟨S8x16x1024, .f32⟩
  | 16 => ⟨S1x1x1024, .f32⟩
  | 17 => ⟨S8x16x1024, .f32⟩
  | 18 => ⟨S8x16x1024, .f32⟩
  | 19 => ⟨S8x16x4352, .f32⟩
  | 20 => ⟨S8x16x512, .f32⟩
  | 21 => ⟨S8x16x128, .f32⟩
  | 22 => ⟨S8x16x128, .f32⟩
  | 23 => ⟨S8x16x512, .f32⟩
  | 24 => ⟨S8x16x512, .f32⟩
  | 25 => ⟨S8x16x512, .f32⟩
  | 26 => ⟨S8x16x1024, .f32⟩
  | 27 => ⟨S8x16x1024, .f32⟩
  | 28 => ⟨S16, .i32⟩
  | 29 => ⟨S_, .i32⟩
  | 30 => ⟨S16, .i32⟩
  | 31 => ⟨S16, .i32⟩
  | 32 => ⟨S8x16x8x64, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S16, .f32⟩
  | 44 => ⟨S16x1, .f32⟩
  | 45 => ⟨S1x32, .f32⟩
  | 46 => ⟨S16x32, .f32⟩
  | 47 => ⟨S16x32, .f32⟩
  | 48 => ⟨S16x32, .f32⟩
  | 49 => ⟨S16x32, .f32⟩
  | 50 => ⟨S16x1x32, .f32⟩
  | 51 => ⟨S16x32, .f32⟩
  | 52 => ⟨S16x1x32, .f32⟩
  | 53 => ⟨S8x16x8x32, .f32⟩
  | 54 => ⟨S8x16x8x32, .f32⟩
  | 55 => ⟨S1x16x1x32, .f32⟩
  | 56 => ⟨S8x16x8x32, .f32⟩
  | 57 => ⟨S8x16x8x32, .f32⟩
  | 58 => ⟨S1x16x1x32, .f32⟩
  | 59 => ⟨S8x16x8x32, .f32⟩
  | 60 => ⟨S8x16x8x32, .f32⟩
  | 61 => ⟨S8x16x8x32, .f32⟩
  | 62 => ⟨S1x16x1x32, .f32⟩
  | 63 => ⟨S8x16x8x32, .f32⟩
  | 64 => ⟨S8x16x8x32, .f32⟩
  | 65 => ⟨S1x16x1x32, .f32⟩
  | 66 => ⟨S8x16x8x32, .f32⟩
  | 67 => ⟨S8x16x8x32, .f32⟩
  | 68 => ⟨S8x16x8x32, .f32⟩
  | 69 => ⟨S8x16x8x64, .f32⟩
  | 70 => ⟨S8x16x2x64, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S16, .f32⟩
  | 82 => ⟨S16x1, .f32⟩
  | 83 => ⟨S1x32, .f32⟩
  | 84 => ⟨S16x32, .f32⟩
  | 85 => ⟨S16x32, .f32⟩
  | 86 => ⟨S16x32, .f32⟩
  | 87 => ⟨S16x32, .f32⟩
  | 88 => ⟨S16x1x32, .f32⟩
  | 89 => ⟨S16x32, .f32⟩
  | 90 => ⟨S16x1x32, .f32⟩
  | 91 => ⟨S8x16x2x32, .f32⟩
  | 92 => ⟨S8x16x2x32, .f32⟩
  | 93 => ⟨S1x16x1x32, .f32⟩
  | 94 => ⟨S8x16x2x32, .f32⟩
  | 95 => ⟨S8x16x2x32, .f32⟩
  | 96 => ⟨S1x16x1x32, .f32⟩
  | 97 => ⟨S8x16x2x32, .f32⟩
  | 98 => ⟨S8x16x2x32, .f32⟩
  | 99 => ⟨S8x16x2x32, .f32⟩
  | 100 => ⟨S1x16x1x32, .f32⟩
  | 101 => ⟨S8x16x2x32, .f32⟩
  | 102 => ⟨S8x16x2x32, .f32⟩
  | 103 => ⟨S1x16x1x32, .f32⟩
  | 104 => ⟨S8x16x2x32, .f32⟩
  | 105 => ⟨S8x16x2x32, .f32⟩
  | 106 => ⟨S8x16x2x32, .f32⟩
  | 107 => ⟨S8x16x2x64, .f32⟩
  | 108 => ⟨S8x16x128, .f32⟩
  | 109 => ⟨S_, .f32⟩
  | 110 => ⟨S8x16x8x64, .f32⟩
  | 111 => ⟨S8x16x8x64, .f32⟩
  | 112 => ⟨S_, .f32⟩
  | 113 => ⟨S_, .f32⟩
  | 114 => ⟨S8x16x8x64, .f32⟩
  | 115 => ⟨S8x16x8x64, .f32⟩
  | 116 => ⟨S8x16x2x4x64, .f32⟩
  | 117 => ⟨S8x16x4x2x64, .f32⟩
  | 118 => ⟨S128x512, .f32⟩
  | 119 => ⟨S128x512, .bf16⟩
  | 120 => ⟨S128x128, .f32⟩
  | 121 => ⟨S128x128, .bf16⟩
  | 122 => ⟨S128x128, .f32⟩
  | 123 => ⟨S128x128, .bf16⟩
  | 124 => ⟨S_, .f32⟩
  | 125 => ⟨S8x16x512, .f32⟩
  | 126 => ⟨S8x16x512, .f32⟩
  | 127 => ⟨S_, .f32⟩
  | _ => ⟨S8x16x1024, .f32⟩

abbrev hbmTy0_1 (i : Nat) : BufTy := match i % 128 with
  | 0 => ⟨S_, .f32⟩
  | 1 => ⟨S8x16x512, .f32⟩
  | 2 => ⟨S8x16x512, .f32⟩
  | 3 => ⟨S128x512, .f32⟩
  | 4 => ⟨S128x512, .bf16⟩
  | 5 => ⟨S128x512, .f32⟩
  | 6 => ⟨S128x512, .bf16⟩
  | 7 => ⟨S128x512, .f32⟩
  | 8 => ⟨S128x512, .bf16⟩
  | 9 => ⟨S8x16x1024, .f32⟩
  | 10 => ⟨S8x16x1024, .f32⟩
  | 11 => ⟨S_, .f32⟩
  | 12 => ⟨S8x16x1024, .f32⟩
  | 13 => ⟨S8x16x1024, .f32⟩
  | 14 => ⟨S_, .f32⟩
  | 15 => ⟨S8x16x1024, .f32⟩
  | 16 => ⟨S8x16x1024, .f32⟩
  | 17 => ⟨S128x1024, .f32⟩
  | 18 => ⟨S128x1024, .bf16⟩
  | 19 => ⟨S8x16x1024, .f32⟩
  | 20 => ⟨S8x16x1024, .f32⟩
  | 21 => ⟨S_, .f32⟩
  | 22 => ⟨S8x16x1024, .f32⟩
  | 23 => ⟨S8x16x1024, .f32⟩
  | 24 => ⟨S_, .f32⟩
  | 25 => ⟨S8x16x1024, .f32⟩
  | 26 => ⟨S8x16x1024, .f32⟩
  | 27 => ⟨S128x1024, .f32⟩
  | 28 => ⟨S128x1024, .bf16⟩
  | 29 => ⟨S1x128x128, .f32⟩
  | 30 => ⟨S1x128x128, .f32⟩
  | 31 => ⟨S1x128x512, .f32⟩
  | 32 => ⟨S1x128x512, .f32⟩
  | _ => ⟨S8x16x1024, .f32⟩

abbrev hbmTy (i : Nat) : BufTy := match i / 128 with
  | 0 => hbmTy0_0 i
  | 1 => hbmTy0_1 i
  | _ => ⟨S8x16x1024, .f32⟩

abbrev bufTy : (tb : Table) → Fin (tcTables nBuf tb) → BufTy
  | .hbm, ⟨i, _⟩ => hbmTy i
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_5 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_8 : Ref sig .tc := ⟨.hbm, 109, rfl⟩
abbrev main_v96 : Ref sig .tc := ⟨.hbm, 110, rfl⟩
abbrev main_v97 : Ref sig .tc := ⟨.hbm, 111, rfl⟩
abbrev main_cst_9 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_cst_10 : Ref sig .tc := ⟨.hbm, 124, rfl⟩
abbrev main_v109 : Ref sig .tc := ⟨.hbm, 125, rfl⟩
abbrev main_v110 : Ref sig .tc := ⟨.hbm, 126, rfl⟩
abbrev main_cst_11 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_cst_12 : Ref sig .tc := ⟨.hbm, 139, rfl⟩
abbrev main_v122 : Ref sig .tc := ⟨.hbm, 140, rfl⟩
abbrev main_v123 : Ref sig .tc := ⟨.hbm, 141, rfl⟩
abbrev main_cst_13 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_cst_14 : Ref sig .tc := ⟨.hbm, 149, rfl⟩
abbrev main_v130 : Ref sig .tc := ⟨.hbm, 150, rfl⟩
abbrev main_v131 : Ref sig .tc := ⟨.hbm, 151, rfl⟩
abbrev main_cst_15 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩

abbrev nD : Nat := 1
abbrev τ : Topo := Topo.v7x

variable {F : FTy → Type} [FloatOps F]
-- ==== InP.lean ====
abbrev S16x4096x1024 : Shape := ⟨3, ![16, 4096, 1024]⟩
abbrev S1024 : Shape := ⟨1, ![1024]⟩
abbrev S1024x4352 : Shape := ⟨2, ![1024, 4352]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S65536x1024 : Shape := ⟨2, ![65536, 1024]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x3840 : Shape := ⟨2, ![1024, 3840]⟩
abbrev S1x1024 : Shape := ⟨2, ![1, 1024]⟩
abbrev S65536x512 : Shape := ⟨2, ![65536, 512]⟩
abbrev S65536x128 : Shape := ⟨2, ![65536, 128]⟩
abbrev S16x128x128 : Shape := ⟨3, ![16, 128, 128]⟩
abbrev S16x512x512 : Shape := ⟨3, ![16, 512, 512]⟩
abbrev S1024x1024 : Shape := ⟨2, ![1024, 1024]⟩
abbrev S1024x128 : Shape := ⟨2, ![1024, 128]⟩
abbrev S1x128x128 : Shape := ⟨3, ![1, 128, 128]⟩
abbrev S1x512x512 : Shape := ⟨3, ![1, 512, 512]⟩
abbrev S256x1024 : Shape := ⟨2, ![256, 1024]⟩
abbrev S256 : Shape := ⟨1, ![256]⟩
abbrev S256x1 : Shape := ⟨2, ![256, 1]⟩
abbrev S256x4352 : Shape := ⟨2, ![256, 4352]⟩
abbrev S256x128 : Shape := ⟨2, ![256, 128]⟩
abbrev S256x512 : Shape := ⟨2, ![256, 512]⟩
abbrev S1x256x512 : Shape := ⟨3, ![1, 256, 512]⟩
abbrev S128x128 : Shape := ⟨2, ![128, 128]⟩

abbrev nBuf : Space → Nat
  | .hbm => 52
  | .vmem => 32
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x4352, .f32⟩
  | .hbm, ⟨3, _⟩ => ⟨S4096, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S1x4096x1x64, .f32⟩
  | .hbm, ⟨24, _⟩ => ⟨S1x4096x2x64, .f32⟩
  | .hbm, ⟨25, _⟩ => ⟨S4096x128, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S65536x1024, .f32⟩
  | .hbm, ⟨32, _⟩ => ⟨S1024x512, .f32⟩
  | .hbm, ⟨33, _⟩ => ⟨S1024x2x4x64, .f32⟩
  | .hbm, ⟨34, _⟩ => ⟨S1024x4x2x64, .f32⟩
  | .hbm, ⟨35, _⟩ => ⟨S1024x512, .f32⟩
  | .hbm, ⟨36, _⟩ => ⟨S1024x3840, .f32⟩
  | .hbm, ⟨37, _⟩ => ⟨S1024x4352, .f32⟩
  | .hbm, ⟨38, _⟩ => ⟨S1024x4352, .bf16⟩
  | .hbm, ⟨39, _⟩ => ⟨S1x1024, .f32⟩
  | .hbm, ⟨40, _⟩ => ⟨S65536x512, .bf16⟩
  | .hbm, ⟨41, _⟩ => ⟨S65536x128, .bf16⟩
  | .hbm, ⟨42, _⟩ => ⟨S65536x128, .bf16⟩
  | .hbm, ⟨43, _⟩ => ⟨S65536x512, .bf16⟩
  | .hbm, ⟨44, _⟩ => ⟨S65536x512, .bf16⟩
  | .hbm, ⟨45, _⟩ => ⟨S65536x512, .bf16⟩
  | .hbm, ⟨46, _⟩ => ⟨S65536x1024, .bf16⟩
  | .hbm, ⟨47, _⟩ => ⟨S65536x1024, .bf16⟩
  | .hbm, ⟨48, _⟩ => ⟨S16x128x128, .f32⟩
  | .hbm, ⟨49, _⟩ => ⟨S16x128x128, .f32⟩
  | .hbm, ⟨50, _⟩ => ⟨S16x512x512, .f32⟩
  | .hbm, ⟨51, _⟩ => ⟨S16x512x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4352, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x128x128, .f32⟩
  | .local _ .vmem, ⟨25, _⟩ => ⟨S1x128x128, .f32⟩
  | .local _ .vmem, ⟨26, _⟩ => ⟨S1x128x128, .f32⟩
  | .local _ .vmem, ⟨27, _⟩ => ⟨S1x128x128, .f32⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34_0 : Ref sig .tc := ⟨.hbm, 40, rfl⟩
abbrev main_v34_1 : Ref sig .tc := ⟨.hbm, 41, rfl⟩
abbrev main_v34_2 : Ref sig .tc := ⟨.hbm, 42, rfl⟩
abbrev main_v34_3 : Ref sig .tc := ⟨.hbm, 43, rfl⟩
abbrev main_v34_4 : Ref sig .tc := ⟨.hbm, 44, rfl⟩
abbrev main_v34_5 : Ref sig .tc := ⟨.hbm, 45, rfl⟩
abbrev main_v34_6 : Ref sig .tc := ⟨.hbm, 46, rfl⟩
abbrev main_v34_7 : Ref sig .tc := ⟨.hbm, 47, rfl⟩
abbrev main_v34_8 : Ref sig .tc := ⟨.hbm, 48, rfl⟩
abbrev main_v34_9 : Ref sig .tc := ⟨.hbm, 49, rfl⟩
abbrev main_v34_10 : Ref sig .tc := ⟨.hbm, 50, rfl⟩
abbrev main_v34_11 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== InPIdeal.lean ====
variable {F : FTy → Type} [FloatOps F] [Named F]
def κ : String → Option EReal := fun
  | "scale" => some (((1 / 8) * (Real.log 2)⁻¹ : ℝ) : EReal)
  | _ => none
-- ==== InPRefIdeal.lean ====
abbrev S16x4096x1024 : Shape := ⟨3, ![16, 4096, 1024]⟩
abbrev S1024 : Shape := ⟨1, ![1024]⟩
abbrev S1024x4352 : Shape := ⟨2, ![1024, 4352]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4352 : Shape := ⟨3, ![16, 4096, 4352]⟩
abbrev S16x4096x512 : Shape := ⟨3, ![16, 4096, 512]⟩
abbrev S16x4096x128 : Shape := ⟨3, ![16, 4096, 128]⟩
abbrev S4096 : Shape := ⟨1, ![4096]⟩
abbrev S16x4096x8x64 : Shape := ⟨4, ![16, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S16x4096x8x32 : Shape := ⟨4, ![16, 4096, 8, 32]⟩
abbrev S1x4096x1x32 : Shape := ⟨4, ![1, 4096, 1, 32]⟩
abbrev S16x4096x2x64 : Shape := ⟨4, ![16, 4096, 2, 64]⟩
abbrev S16x4096x2x32 : Shape := ⟨4, ![16, 4096, 2, 32]⟩
abbrev S16x4096x2x4x64 : Shape := ⟨5, ![16, 4096, 2, 4, 64]⟩
abbrev S16x4096x4x2x64 : Shape := ⟨5, ![16, 4096, 4, 2, 64]⟩
abbrev S65536x512 : Shape := ⟨2, ![65536, 512]⟩
abbrev S65536x128 : Shape := ⟨2, ![65536, 128]⟩
abbrev S65536x1024 : Shape := ⟨2, ![65536, 1024]⟩
abbrev S16x128x128 : Shape := ⟨3, ![16, 128, 128]⟩
abbrev S16x512x512 : Shape := ⟨3, ![16, 512, 512]⟩

abbrev nBuf : Space → Nat
  | .hbm => 161
  | .vmem => 0
  | .smem => 0
  | _ => 0

abbrev hbmTy0_0 (i : Nat) : BufTy := match i % 128 with
  | 0 => ⟨S16x4096x1024, .f32⟩
  | 1 => ⟨S1024, .f32⟩
  | 2 => ⟨S1024x4352, .f32⟩
  | 3 => ⟨S16x4096x1024, .f32⟩
  | 4 => ⟨S_, .f32⟩
  | 5 => ⟨S16x4096, .f32⟩
  | 6 => ⟨S16x4096x1, .f32⟩
  | 7 => ⟨S_, .f32⟩
  | 8 => ⟨S16x4096x1, .f32⟩
  | 9 => ⟨S16x4096x1, .f32⟩
  | 10 => ⟨S_, .f32⟩
  | 11 => ⟨S16x4096x1, .f32⟩
  | 12 => ⟨S16x4096x1, .f32⟩
  | 13 => ⟨S16x4096x1, .f32⟩
  | 14 => ⟨S16x4096x1024, .f32⟩
  | 15 => ⟨S16x4096x1024, .f32⟩
  | 16 => ⟨S1x1x1024, .f32⟩
  | 17 => ⟨S16x4096x1024, .f32⟩
  | 18 => ⟨S16x4096x1024, .f32⟩
  | 19 => ⟨S16x4096x4352, .f32⟩
  | 20 => ⟨S16x4096x512, .f32⟩
  | 21 => ⟨S16x4096x128, .f32⟩
  | 22 => ⟨S16x4096x128, .f32⟩
  | 23 => ⟨S16x4096x512, .f32⟩
  | 24 => ⟨S16x4096x512, .f32⟩
  | 25 => ⟨S16x4096x512, .f32⟩
  | 26 => ⟨S16x4096x1024, .f32⟩
  | 27 => ⟨S16x4096x1024, .f32⟩
  | 28 => ⟨S4096, .i32⟩
  | 29 => ⟨S_, .i32⟩
  | 30 => ⟨S4096, .i32⟩
  | 31 => ⟨S4096, .i32⟩
  | 32 => ⟨S16x4096x8x64, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S4096, .f32⟩
  | 44 => ⟨S4096x1, .f32⟩
  | 45 => ⟨S1x32, .f32⟩
  | 46 => ⟨S4096x32, .f32⟩
  | 47 => ⟨S4096x32, .f32⟩
  | 48 => ⟨S4096x32, .f32⟩
  | 49 => ⟨S4096x32, .f32⟩
  | 50 => ⟨S4096x1x32, .f32⟩
  | 51 => ⟨S4096x32, .f32⟩
  | 52 => ⟨S4096x1x32, .f32⟩
  | 53 => ⟨S16x4096x8x32, .f32⟩
  | 54 => ⟨S16x4096x8x32, .f32⟩
  | 55 => ⟨S1x4096x1x32, .f32⟩
  | 56 => ⟨S16x4096x8x32, .f32⟩
  | 57 => ⟨S16x4096x8x32, .f32⟩
  | 58 => ⟨S1x4096x1x32, .f32⟩
  | 59 => ⟨S16x4096x8x32, .f32⟩
  | 60 => ⟨S16x4096x8x32, .f32⟩
  | 61 => ⟨S16x4096x8x32, .f32⟩
  | 62 => ⟨S1x4096x1x32, .f32⟩
  | 63 => ⟨S16x4096x8x32, .f32⟩
  | 64 => ⟨S16x4096x8x32, .f32⟩
  | 65 => ⟨S1x4096x1x32, .f32⟩
  | 66 => ⟨S16x4096x8x32, .f32⟩
  | 67 => ⟨S16x4096x8x32, .f32⟩
  | 68 => ⟨S16x4096x8x32, .f32⟩
  | 69 => ⟨S16x4096x8x64, .f32⟩
  | 70 => ⟨S16x4096x2x64, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S4096, .f32⟩
  | 82 => ⟨S4096x1, .f32⟩
  | 83 => ⟨S1x32, .f32⟩
  | 84 => ⟨S4096x32, .f32⟩
  | 85 => ⟨S4096x32, .f32⟩
  | 86 => ⟨S4096x32, .f32⟩
  | 87 => ⟨S4096x32, .f32⟩
  | 88 => ⟨S4096x1x32, .f32⟩
  | 89 => ⟨S4096x32, .f32⟩
  | 90 => ⟨S4096x1x32, .f32⟩
  | 91 => ⟨S16x4096x2x32, .f32⟩
  | 92 => ⟨S16x4096x2x32, .f32⟩
  | 93 => ⟨S1x4096x1x32, .f32⟩
  | 94 => ⟨S16x4096x2x32, .f32⟩
  | 95 => ⟨S16x4096x2x32, .f32⟩
  | 96 => ⟨S1x4096x1x32, .f32⟩
  | 97 => ⟨S16x4096x2x32, .f32⟩
  | 98 => ⟨S16x4096x2x32, .f32⟩
  | 99 => ⟨S16x4096x2x32, .f32⟩
  | 100 => ⟨S1x4096x1x32, .f32⟩
  | 101 => ⟨S16x4096x2x32, .f32⟩
  | 102 => ⟨S16x4096x2x32, .f32⟩
  | 103 => ⟨S1x4096x1x32, .f32⟩
  | 104 => ⟨S16x4096x2x32, .f32⟩
  | 105 => ⟨S16x4096x2x32, .f32⟩
  | 106 => ⟨S16x4096x2x32, .f32⟩
  | 107 => ⟨S16x4096x2x64, .f32⟩
  | 108 => ⟨S16x4096x128, .f32⟩
  | 109 => ⟨S_, .f32⟩
  | 110 => ⟨S16x4096x8x64, .f32⟩
  | 111 => ⟨S16x4096x8x64, .f32⟩
  | 112 => ⟨S_, .f32⟩
  | 113 => ⟨S_, .f32⟩
  | 114 => ⟨S16x4096x8x64, .f32⟩
  | 115 => ⟨S16x4096x8x64, .f32⟩
  | 116 => ⟨S16x4096x2x4x64, .f32⟩
  | 117 => ⟨S16x4096x4x2x64, .f32⟩
  | 118 => ⟨S65536x512, .f32⟩
  | 119 => ⟨S65536x512, .bf16⟩
  | 120 => ⟨S65536x128, .f32⟩
  | 121 => ⟨S65536x128, .bf16⟩
  | 122 => ⟨S65536x128, .f32⟩
  | 123 => ⟨S65536x128, .bf16⟩
  | 124 => ⟨S_, .f32⟩
  | 125 => ⟨S16x4096x512, .f32⟩
  | 126 => ⟨S16x4096x512, .f32⟩
  | 127 => ⟨S_, .f32⟩
  | _ => ⟨S16x4096x1024, .f32⟩

abbrev hbmTy0_1 (i : Nat) : BufTy := match i % 128 with
  | 0 => ⟨S_, .f32⟩
  | 1 => ⟨S16x4096x512, .f32⟩
  | 2 => ⟨S16x4096x512, .f32⟩
  | 3 => ⟨S65536x512, .f32⟩
  | 4 => ⟨S65536x512, .bf16⟩
  | 5 => ⟨S65536x512, .f32⟩
  | 6 => ⟨S65536x512, .bf16⟩
  | 7 => ⟨S65536x512, .f32⟩
  | 8 => ⟨S65536x512, .bf16⟩
  | 9 => ⟨S16x4096x1024, .f32⟩
  | 10 => ⟨S16x4096x1024, .f32⟩
  | 11 => ⟨S_, .f32⟩
  | 12 => ⟨S16x4096x1024, .f32⟩
  | 13 => ⟨S16x4096x1024, .f32⟩
  | 14 => ⟨S_, .f32⟩
  | 15 => ⟨S16x4096x1024, .f32⟩
  | 16 => ⟨S16x4096x1024, .f32⟩
  | 17 => ⟨S65536x1024, .f32⟩
  | 18 => ⟨S65536x1024, .bf16⟩
  | 19 => ⟨S16x4096x1024, .f32⟩
  | 20 => ⟨S16x4096x1024, .f32⟩
  | 21 => ⟨S_, .f32⟩
  | 22 => ⟨S16x4096x1024, .f32⟩
  | 23 => ⟨S16x4096x1024, .f32⟩
  | 24 => ⟨S_, .f32⟩
  | 25 => ⟨S16x4096x1024, .f32⟩
  | 26 => ⟨S16x4096x1024, .f32⟩
  | 27 => ⟨S65536x1024, .f32⟩
  | 28 => ⟨S65536x1024, .bf16⟩
  | 29 => ⟨S16x128x128, .f32⟩
  | 30 => ⟨S16x128x128, .f32⟩
  | 31 => ⟨S16x512x512, .f32⟩
  | 32 => ⟨S16x512x512, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_5 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_8 : Ref sig .tc := ⟨.hbm, 109, rfl⟩
abbrev main_v96 : Ref sig .tc := ⟨.hbm, 110, rfl⟩
abbrev main_v97 : Ref sig .tc := ⟨.hbm, 111, rfl⟩
abbrev main_cst_9 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_cst_10 : Ref sig .tc := ⟨.hbm, 124, rfl⟩
abbrev main_v109 : Ref sig .tc := ⟨.hbm, 125, rfl⟩
abbrev main_v110 : Ref sig .tc := ⟨.hbm, 126, rfl⟩
abbrev main_cst_11 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_cst_12 : Ref sig .tc := ⟨.hbm, 139, rfl⟩
abbrev main_v122 : Ref sig .tc := ⟨.hbm, 140, rfl⟩
abbrev main_v123 : Ref sig .tc := ⟨.hbm, 141, rfl⟩
abbrev main_cst_13 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_cst_14 : Ref sig .tc := ⟨.hbm, 149, rfl⟩
abbrev main_v130 : Ref sig .tc := ⟨.hbm, 150, rfl⟩
abbrev main_v131 : Ref sig .tc := ⟨.hbm, 151, rfl⟩
abbrev main_cst_15 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩

abbrev nD : Nat := 1
abbrev τ : Topo := Topo.v7x

variable {F : FTy → Type} [FloatOps F]
-- ==== Bias.lean ====
abbrev S8x257 : Shape := ⟨2, ![8, 257]⟩
abbrev S8x1 : Shape := ⟨2, ![8, 1]⟩
abbrev S_ : Shape := ⟨0, ![]⟩
abbrev S8x384 : Shape := ⟨2, ![8, 384]⟩
abbrev S8x192 : Shape := ⟨2, ![8, 192]⟩
abbrev S8x448 : Shape := ⟨2, ![8, 448]⟩
abbrev S8x1024 : Shape := ⟨2, ![8, 1024]⟩
abbrev S8x1x1024 : Shape := ⟨3, ![8, 1, 1024]⟩
abbrev S8x64x640 : Shape := ⟨3, ![8, 64, 640]⟩
abbrev S64x1024 : Shape := ⟨2, ![64, 1024]⟩
abbrev S64x640 : Shape := ⟨2, ![64, 640]⟩
abbrev S1x1x1024 : Shape := ⟨3, ![1, 1, 1024]⟩
abbrev S1x1024 : Shape := ⟨2, ![1, 1024]⟩
abbrev S1x64x640 : Shape := ⟨3, ![1, 64, 640]⟩

abbrev nBuf : Space → Nat
  | .hbm => 15
  | .vmem => 2
  | .smem => 0
  | _ => 0

abbrev bufTy : (tb : Table) → Fin (tcTables nBuf tb) → BufTy
  | .hbm, ⟨0, _⟩ => ⟨S8x257, .f32⟩
  | .hbm, ⟨1, _⟩ => ⟨S8x1, .f32⟩
  | .hbm, ⟨2, _⟩ => ⟨S8x257, .f32⟩
  | .hbm, ⟨3, _⟩ => ⟨S8x257, .f32⟩
  | .hbm, ⟨4, _⟩ => ⟨S_, .f32⟩
  | .hbm, ⟨5, _⟩ => ⟨S8x257, .f32⟩
  | .hbm, ⟨6, _⟩ => ⟨S8x257, .f32⟩
  | .hbm, ⟨7, _⟩ => ⟨S8x1, .f32⟩
  | .hbm, ⟨8, _⟩ => ⟨S8x384, .f32⟩
  | .hbm, ⟨9, _⟩ => ⟨S8x192, .f32⟩
  | .hbm, ⟨10, _⟩ => ⟨S8x1, .f32⟩
  | .hbm, ⟨11, _⟩ => ⟨S8x448, .f32⟩
  | .hbm, ⟨12, _⟩ => ⟨S8x1024, .f32⟩
  | .hbm, ⟨13, _⟩ => ⟨S8x1x1024, .f32⟩
  | .hbm, ⟨14, _⟩ => ⟨S8x64x640, .f32⟩
  | .local _ .vmem, ⟨0, _⟩ => ⟨S8x1x1024, .f32⟩
  | .local _ .vmem, ⟨1, _⟩ => ⟨S8x64x640, .f32⟩
  | _, _ => ⟨S8x257, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x64x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== BiasRefIdeal.lean ====
abbrev S8x257 : Shape := ⟨2, ![8, 257]⟩
abbrev S640 : Shape := ⟨1, ![640]⟩
abbrev S_ : Shape := ⟨0, ![]⟩
abbrev S1x640 : Shape := ⟨2, ![1, 640]⟩
abbrev S64 : Shape := ⟨1, ![64]⟩
abbrev S64x1 : Shape := ⟨2, ![64, 1]⟩
abbrev S64x640 : Shape := ⟨2, ![64, 640]⟩
abbrev S64x640x1 : Shape := ⟨3, ![64, 640, 1]⟩
abbrev S8x64x640 : Shape := ⟨3, ![8, 64, 640]⟩
abbrev S8x1 : Shape := ⟨2, ![8, 1]⟩
abbrev S8 : Shape := ⟨1, ![8]⟩
abbrev S8x1x1 : Shape := ⟨3, ![8, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x257, .f32⟩
  | .hbm, ⟨1, _⟩ => ⟨S640, .i32⟩
  | .hbm, ⟨2, _⟩ => ⟨S_, .i32⟩
  | .hbm, ⟨3, _⟩ => ⟨S640, .i32⟩
  | .hbm, ⟨4, _⟩ => ⟨S640, .i32⟩
  | .hbm, ⟨5, _⟩ => ⟨S1x640, .i32⟩
  | .hbm, ⟨6, _⟩ => ⟨S64, .i32⟩
  | .hbm, ⟨7, _⟩ => ⟨S64x1, .i32⟩
  | .hbm, ⟨8, _⟩ => ⟨S64x640, .i32⟩
  | .hbm, ⟨9, _⟩ => ⟨S64x640, .i32⟩
  | .hbm, ⟨10, _⟩ => ⟨S64x640, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x640, .i32⟩
  | .hbm, ⟨15, _⟩ => ⟨S64x640, .i32⟩
  | .hbm, ⟨16, _⟩ => ⟨S_, .i32⟩
  | .hbm, ⟨17, _⟩ => ⟨S64x640, .i32⟩
  | .hbm, ⟨18, _⟩ => ⟨S64x640, .i32⟩
  | .hbm, ⟨19, _⟩ => ⟨S_, .i32⟩
  | .hbm, ⟨20, _⟩ => ⟨S64x640, .i32⟩
  | .hbm, ⟨21, _⟩ => ⟨S64x640, .i32⟩
  | .hbm, ⟨22, _⟩ => ⟨S64x640x1, .i32⟩
  | .hbm, ⟨23, _⟩ => ⟨S8x64x640, .f32⟩
  | .hbm, ⟨24, _⟩ => ⟨S8x1, .f32⟩
  | .hbm, ⟨25, _⟩ => ⟨S8, .f32⟩
  | .hbm, ⟨26, _⟩ => ⟨S8x1x1, .f32⟩
  | .hbm, ⟨27, _⟩ => ⟨S8x64x640, .f32⟩
  | .hbm, ⟨28, _⟩ => ⟨S8x64x640, .f32⟩
  | .hbm, ⟨29, _⟩ => ⟨S_, .f32⟩
  | .hbm, ⟨30, _⟩ => ⟨S8x64x640, .f32⟩
  | .hbm, ⟨31, _⟩ => ⟨S8x64x640, .f32⟩
  | .hbm, ⟨32, _⟩ => ⟨S_, .i32⟩
  | .hbm, ⟨33, _⟩ => ⟨S640, .i32⟩
  | .hbm, ⟨34, _⟩ => ⟨S640, .i1⟩
  | .hbm, ⟨35, _⟩ => ⟨S_, .f32⟩
  | .hbm, ⟨36, _⟩ => ⟨S_, .f32⟩
  | .hbm, ⟨37, _⟩ => ⟨S8x64x640, .i1⟩
  | .hbm, ⟨38, _⟩ => ⟨S8x64x640, .f32⟩
  | .hbm, ⟨39, _⟩ => ⟨S8x64x640, .f32⟩
  | _, _ => ⟨S8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proof.Softmax.lean ====
/-
  A softmax-weighted sum of values, two ways over the extended reals: with powers of two and one reciprocal after
  the sum, and with exponentials of the logits times `log 2` and a quotient inside it.
-/
module

public import Idealize.ShloMosaic.Lib.Pointwise

@[expose] public section

noncomputable section

namespace Cert.Softmax

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (Max.max x y) := by
  rcases max_cases x y with h | h <;> rw [h.1] <;> assumption

theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem isReal_iff {x : EReal} : IsReal x ↔ x ≠ ⊥ ∧ x ≠ ⊤ := by
  constructor
  · rintro ⟨r, rfl⟩; exact ⟨EReal.coe_ne_bot r, EReal.coe_ne_top r⟩
  · rintro ⟨h1, h2⟩; exact ⟨x.toReal, (EReal.coe_toReal h2 h1).symm⟩

/-- The largest of finitely many real numbers, at least one, from `-∞` up: a real number. -/
theorem isReal_fold {n : ℕ} [NeZero n] (f : Fin n → EReal) (h : ∀ i, IsReal (f i)) :
    IsReal ((Finset.univ : Finset (Fin n)).fold Max.max ⊥ f) := by
  rw [isReal_iff]
  constructor
  · refine ne_of_gt ?_
    rw [Finset.lt_fold_max]
    exact Or.inr ⟨0, Finset.mem_univ _, bot_lt_iff_ne_bot.mpr (isReal_iff.mp (h 0)).1⟩
  · refine ne_of_lt ?_
    rw [Finset.fold_max_lt]
    exact ⟨bot_lt_top, fun x _ => lt_top_iff_ne_top.mpr (isReal_iff.mp (h x)).2⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
      rw [Finset.sum_insert ha, Finset.sum_insert ha, ← ih, mul_comm,
        EReal.left_distrib_of_nonneg_of_ne_top (EReal.coe_nonneg.mpr hr) (EReal.coe_ne_top r), mul_comm, mul_comm (r : EReal)]

/-- The weight of one logit among `t` and a further term `z` of the denominator. -/
def weight {n : ℕ} (t : Fin n → ℝ) (z : ℝ) (c : Fin n) : ℝ :=
  Real.exp (t c * Real.log 2) / (∑ e, Real.exp (t e * Real.log 2) + z)

theorem two_rpow (x : ℝ) : Real.rpow 2 x = Real.exp (x * Real.log 2) := by
  show (2 : ℝ) ^ x = _
  rw [Real.rpow_def_of_pos (by norm_num), mul_comm]

theorem weight_shift {n : ℕ} (t : Fin n → ℝ) (z m : ℝ) (c : Fin n) :
    Real.exp ((t c) * Real.log 2 - m) / (∑ e, Real.exp (t e * Real.log 2 - m) + z * Real.exp (-m)) = weight t z c := by
  have e : ∀ e, Real.exp (t e * Real.log 2 - m) = Real.exp (t e * Real.log 2) * Real.exp (-m) := fun e => by
    rw [sub_eq_add_neg, Real.exp_add]
  unfold weight
  simp only [e]
  rw [← Finset.sum_mul, ← add_mul, mul_div_mul_right _ _ (Real.exp_pos _).ne']

/-- With powers of two, any real shift `m` and one reciprocal after the sum: the weighted sum. -/
theorem powers {n : ℕ} [NeZero n] (t : Fin n → ℝ) (m z : ℝ) (hz : 0 ≤ z) (v : Fin n → EReal) :
    (∑ c, Ideal.exp2 ((t c : EReal) - (m : EReal)) * v c)
        * Ideal.div 1 (∑ c, Ideal.exp2 ((t c : EReal) - (m : EReal)) + ((z * Real.exp (-(m * Real.log 2)) : ℝ) : EReal))
      = ∑ c, (weight t z c : EReal) * v c := by
  have hx : ∀ c, Ideal.exp2 ((t c : EReal) - (m : EReal)) = ((Real.exp (t c * Real.log 2 - m * Real.log 2) : ℝ) : EReal) := fun c => by
    rw [← EReal.coe_sub, Ideal.exp2_coe, two_rpow, sub_mul]
  simp only [hx]
  rw [← coe_sum, ← EReal.coe_add]
  have hpos : 0 < ∑ c, Real.exp (t c * Real.log 2 - m * Real.log 2) + z * Real.exp (-(m * Real.log 2)) :=
    add_pos_of_pos_of_nonneg (Finset.sum_pos (fun _ _ => Real.exp_pos _) ⟨0, Finset.mem_univ _⟩)
      (mul_nonneg hz (Real.exp_pos _).le)
  rw [Ideal.div_coe hpos.ne', one_mul, sum_mul_coe _ _ (by positivity)]
  refine Finset.sum_congr rfl fun c _ => ?_
  rw [mul_right_comm, ← EReal.coe_mul, mul_one_div, weight_shift]

/-- With exponentials, any real shift `m` and the quotient inside the sum: the same weighted sum. -/
theorem quotients {n : ℕ} [NeZero n] (t : Fin n → ℝ) (m z : ℝ) (hz : 0 ≤ z) (v : Fin n → EReal) :
    (∑ c, v c * Ideal.div (Ideal.exp ((t c : EReal) * (Real.log 2 : EReal) - (m : EReal)))
        (∑ c, Ideal.exp ((t c : EReal) * (Real.log 2 : EReal) - (m : EReal)) + ((z * Real.exp (-m) : ℝ) : EReal)))
      = ∑ c, (weight t z c : EReal) * v c := by
  have hx : ∀ c, Ideal.exp ((t c : EReal) * (Real.log 2 : EReal) - (m : EReal)) = ((Real.exp (t c * Real.log 2 - m) : ℝ) : EReal) := fun c => by
    rw [← EReal.coe_mul, ← EReal.coe_sub, Ideal.exp_coe]
  simp only [hx]
  rw [← coe_sum, ← EReal.coe_add]
  have hpos : 0 < ∑ c, Real.exp (t c * Real.log 2 - m) + z * Real.exp (-m) :=
    add_pos_of_pos_of_nonneg (Finset.sum_pos (fun _ _ => Real.exp_pos _) ⟨0, Finset.mem_univ _⟩)
      (mul_nonneg hz (Real.exp_pos _).le)
  refine Finset.sum_congr rfl fun c _ => ?_
  rw [Ideal.div_coe hpos.ne', ← EReal.coe_mul, mul_one_div, weight_shift, mul_comm]

/-- The weighted sum with powers of two, one reciprocal after it, and a further logit `x` in the denominator only. -/
def withSink {n : ℕ} (s : Fin n → EReal) (x : EReal) (v : Fin n → EReal) : EReal :=
  (∑ c, Ideal.exp2 (s c - max ((Finset.univ : Finset (Fin n)).fold max ⊥ s) x) * v c)
    * Ideal.div 1 (∑ c, Ideal.exp2 (s c - max ((Finset.univ : Finset (Fin n)).fold max ⊥ s) x)
        + Ideal.exp2 (x - max ((Finset.univ : Finset (Fin n)).fold max ⊥ s) x))

/-- The same without the further logit. -/
def plain {n : ℕ} (s : Fin n → EReal) (v : Fin n → EReal) : EReal :=
  (∑ c, Ideal.exp2 (s c - (Finset.univ : Finset (Fin n)).fold max ⊥ s) * v c)
    * Ideal.div 1 (∑ c, Ideal.exp2 (s c - (Finset.univ : Finset (Fin n)).fold max ⊥ s))

theorem withSink_eq {n : ℕ} [NeZero n] (t : Fin n → ℝ) (x : ℝ) (v : Fin n → EReal) :
    withSink (fun c => (t c : EReal)) x v = ∑ c, (weight t (Real.exp (x * Real.log 2)) c : EReal) * v c := by
  obtain ⟨m, hm⟩ := (isReal_fold (fun c => (t c : EReal)) fun i => ⟨_, rfl⟩).max (IsReal.coe x)
  unfold withSink
  rw [hm, ← powers t m _ (Real.exp_pos _).le v]
  congr 3
  rw [← EReal.coe_sub, Ideal.exp2_coe, two_rpow, ← Real.exp_add]
  congr 2; ring

theorem plain_eq {n : ℕ} [NeZero n] (t : Fin n → ℝ) (v : Fin n → EReal) :
    plain (fun c => (t c : EReal)) v = ∑ c, (weight t 0 c : EReal) * v c := by
  obtain ⟨m, hm⟩ := isReal_fold (fun c => (t c : EReal)) fun i => ⟨_, rfl⟩
  unfold plain
  rw [hm, ← powers t m 0 le_rfl v]
  simp

/-- The quotients with the further logit, whatever real number the logits are shifted by. -/
theorem quotients_sink {n : ℕ} [NeZero n] (t : Fin n → ℝ) (x : ℝ) {m : EReal} (hm : IsReal m) (v : Fin n → EReal) :
    (∑ c, v c * Ideal.div (Ideal.exp ((t c : EReal) * (Real.log 2 : EReal) - m))
        (∑ c, Ideal.exp ((t c : EReal) * (Real.log 2 : EReal) - m) + Ideal.exp ((x : EReal) * (Real.log 2 : EReal) - m)))
      = ∑ c, (weight t (Real.exp (x * Real.log 2)) c : EReal) * v c := by
  obtain ⟨m, rfl⟩ := hm
  rw [← quotients t m _ (Real.exp_pos _).le v, ← Real.exp_add, ← sub_eq_add_neg, ← EReal.coe_mul, ← EReal.coe_sub, Ideal.exp_coe]

theorem quotients_plain {n : ℕ} [NeZero n] (t : Fin n → ℝ) {m : EReal} (hm : IsReal m) (v : Fin n → EReal) :
    (∑ c, v c * Ideal.div (Ideal.exp ((t c : EReal) * (Real.log 2 : EReal) - m))
        (∑ c, Ideal.exp ((t c : EReal) * (Real.log 2 : EReal) - m)))
      = ∑ c, (weight t 0 c : EReal) * v c := by
  obtain ⟨m, rfl⟩ := hm
  rw [← quotients t m 0 le_rfl v]
  simp

end Cert.Softmax

end
-- ==== Proof.AttnBlock.lean ====
/-
  What the sample attention's body stores, read at an index: per head pair and half of its lanes, a softmax-weighted
  sum of the values (in `Cert.Softmax`'s words).
-/
module

public import proofs.«01_k».proof.Defs
public import proofs.«01_k».proof.Proof.Gen.AttnIdeal.Value
public import proofs.«01_k».proof.Proof.Softmax
public import Idealize.ShloMosaic.Lib.Pointwise

@[expose] public section

set_option maxRecDepth 16384

noncomputable section

namespace Cert.AttnIdeal.Block

open Cert.AttnIdeal Cert.AttnIdeal.Gen Idealize.ShloMosaic Idealize.ShloMosaic.TcCoe

/-- Lane `d` of half `g` of a head pair's 128 lanes. -/
abbrev lane (g : Fin 2) (d : Fin 64) : Fin 128 := ⟨64 * g.val + d.val, by omega⟩

/-- Row `r` of half `g` of the 32 stacked query rows. -/
abbrev srow (g : Fin 2) (r : Fin 16) : Fin 32 := ⟨16 * g.val + r.val, by omega⟩

/-- The product of query row `r` and key `c` over half `g` of the lanes. -/
def score {n : ℕ} (q : (⟨2, ![16, 128]⟩ : Shape).Idx → EReal) (k : (⟨2, ![n, 128]⟩ : Shape).Idx → EReal) (g : Fin 2) (r : Fin 16)
    (c : Fin n) : EReal :=
  ∑ d : Fin 64, q (ix2 r (lane g d)) * k (ix2 c (lane g d))

theorem slt_lane (g : Fin 2) (d : Fin 64) :
    IntOp.cmpi CmpIPredicate.slt (BitVec.ofNat 32 (64 * g.val + d.val)) 64#32 = if g = 0 then 1#1 else 0#1 := by
  revert g d; decide

theorem select_lane {α : Type} (g : Fin 2) (d : Fin 64) (a b : α) :
    Scalar.select (IntOp.cmpi CmpIPredicate.slt (BitVec.ofNat 32 (64 * g.val + d.val)) 64#32) a b = if g = 0 then a else b := by
  rw [slt_lane]
  by_cases h : g = 0 <;> simp [h, Scalar.select]

/-- A sum over the 128 lanes in its two halves. -/
theorem sum_halves (f : Fin 128 → EReal) : ∑ x, f x = ∑ d : Fin 64, f (lane 0 d) + ∑ d : Fin 64, f (lane 1 d) := by
  rw [show ∑ x, f x = ∑ x : Fin (64 + 64), f x from rfl, Fin.sum_univ_add]
  congr 1 <;> refine Finset.sum_congr rfl fun d _ => congrArg f (Fin.ext ?_) <;> simp [lane]

theorem stacked {n : ℕ} (q : (⟨2, ![16, 128]⟩ : Shape).Idx → EReal) (k : (⟨2, ![n, 128]⟩ : Shape).Idx → EReal) (g : Fin 2) (r : Fin 16)
    (c : Fin n) :
    ∑ x : Fin 128, (if h : (srow g r).val < 16 then
        Scalar.select (IntOp.cmpi CmpIPredicate.slt (BitVec.ofNat 32 x.val) 64#32) (q (ix2 ⟨(srow g r).val, h⟩ x)) 0
      else Scalar.select (IntOp.cmpi CmpIPredicate.slt (BitVec.ofNat 32 x.val) 64#32) 0
        (q (ix2 (⟨(srow g r).val - 16, by omega⟩ : Fin 16) x))) * k (ix2 c x) = score q k g r c := by
  rw [sum_halves]
  simp only [select_lane]
  match g with
  | 0 =>
    have h : (srow 0 r).val < 16 := by have := r.isLt; simp [srow]
    have e : (⟨(srow 0 r).val, h⟩ : Fin 16) = r := Fin.ext (by simp [srow])
    simp only [dif_pos h, e, if_true, one_ne_zero, if_false, zero_mul, Finset.sum_const_zero, add_zero]
    rfl
  | 1 =>
    have h : ¬ (srow 1 r).val < 16 := by simp [srow]
    have e : (⟨(srow 1 r).val - 16, by omega⟩ : Fin 16) = r := Fin.ext (by simp [srow])
    simp only [dif_neg h, e, if_true, one_ne_zero, if_false, zero_mul, Finset.sum_const_zero, zero_add]
    rfl

theorem scoresA_apply (k : FVec Ideal S144x128 .bf16) (q : Vec Ideal S16x128 .bf16) (g : Fin 2) (r : Fin 16) (c : Fin 144) :
    k0_pay10 k q (ix2 (srow g r) c) = score q k g r c := by
  pointwise [k0_pay10]
  exact stacked q k g r c

/-- Mixer A's block of one head pair. -/
def pairA (k v : FVec Ideal S144x128 .bf16) (q : Vec Ideal S16x128 .bf16) (sk : Vec Ideal S1x32x128 .f32) : FVec Ideal S16x128 .bf16 :=
  k0_pay14 v (k0_pay12 k q sk) (k0_pay13 k q sk)

theorem negInf : Ideal.ofBits FTy.f32 4286578688#32 = ⊥ := by simp [Ideal.ofBits, Ideal.ieee]

theorem maxA_apply (k : FVec Ideal S144x128 .bf16) (q : Vec Ideal S16x128 .bf16) (sk : Vec Ideal S1x32x128 .f32) (r : Fin 32) (l : Fin 128) :
    k0_pay11 k q sk (ix2 r l) = max (Finset.fold max ⊥ (fun x => k0_pay10 k q (ix2 r x)) Finset.univ) (sk (ix3 0 r l)) := by
  pointwise [k0_pay11, k0_pay9]
  rw [negInf]

theorem pairA_apply (k v : FVec Ideal S144x128 .bf16) (q : Vec Ideal S16x128 .bf16) (sk : Vec Ideal S1x32x128 .f32)
    (sv : Fin 32 → EReal) (hsk : ∀ r l, sk (ix3 0 r l) = sv r) (r : Fin 16) (g : Fin 2) (d : Fin 64) :
    pairA k v q sk (ix2 r (lane g d))
      = Softmax.withSink (fun c => score q k g r c) (sv (srow g r)) (fun c => v (ix2 c (lane g d))) := by
  have hm : ∀ l, k0_pay11 k q sk (ix2 (srow g r) l)
      = max (Finset.fold max ⊥ (fun c => score q k g r c) Finset.univ) (sv (srow g r)) := fun l => by
    rw [maxA_apply, hsk]; simp only [scoresA_apply]
  have he : ∀ c, k0_pay12 k q sk (ix2 (srow g r) c) = Ideal.exp2 (score q k g r c
      - max (Finset.fold max ⊥ (fun c => score q k g r c) Finset.univ) (sv (srow g r))) := fun c => by
    pointwise [k0_pay12]
    simp only [hm]
    by_cases h : c.val < 128
    · rw [dif_pos h, scoresA_apply]; rfl
    · have e : (⟨128 + (c.val - 128), by omega⟩ : Fin 144) = c := Fin.ext (by simp only; omega)
      rw [dif_neg h, e, scoresA_apply]; rfl
  have hd : ∀ l, k0_pay13 k q sk (ix2 (srow g r) l) = (∑ c, Ideal.exp2 (score q k g r c
      - max (Finset.fold max ⊥ (fun c => score q k g r c) Finset.univ) (sv (srow g r))))
      + Ideal.exp2 (sv (srow g r) - max (Finset.fold max ⊥ (fun c => score q k g r c) Finset.univ) (sv (srow g r))) := fun l => by
    pointwise [k0_pay13, k0_pay9]
    simp only [hm, he, hsk]
    rfl
  unfold pairA Softmax.withSink
  pointwise [k0_pay14]
  rw [select_lane]
  match g with
  | 0 =>
    have e : (⟨r.val, by omega⟩ : Fin 32) = srow 0 r := Fin.ext (by simp [srow])
    rw [if_pos rfl]
    simp only [e, he, hd]
  | 1 =>
    have e : (⟨16 + r.val, by omega⟩ : Fin 32) = srow 1 r := Fin.ext (by simp [srow])
    rw [if_neg one_ne_zero]
    simp only [e, he, hd]

/-! ## Mixer B -/

/-- Mixer B's block of one head pair. -/
def pairB (kc : Vec Ideal S1x512x128 .bf16) (kn : Vec Ideal S16x128 .bf16) (vc : Vec Ideal S1x512x128 .bf16) (vn q : Vec Ideal S16x128 .bf16)
    (b : Vec Ideal S1x32x528 .f32) : FVec Ideal S16x128 .bf16 :=
  k0_pay30 (k0_pay27 vc vn) (k0_pay28 kc kn q b) (k0_pay29 kc kn q b)

theorem scoresB_apply (kc : Vec Ideal S1x512x128 .bf16) (kn q : Vec Ideal S16x128 .bf16)
    (b : Vec Ideal S1x32x528 .f32) (g : Fin 2) (r : Fin 16) (c : Fin 528) :
    k0_pay28 kc kn q b (ix2 (srow g r) c) = score q (k0_pay27 kc kn) g r c + b (ix3 0 (srow g r) c) := by
  have h : k0_pay28 kc kn q b = addf (matmul dot_S32x128_S528x128_S32x528_1_1_0_0_n_n none
    (concatenate S32x128 0 [⟨S16x128, select (cmpi .slt (iota .tc S16x128 32 [1] iota_S16x128_d1_w32) (broadcast S16x128 64#32)) q
        (broadcast S16x128 (Scalar.ofBits .bf16 0x0000#16))⟩,
      ⟨S16x128, select (cmpi .slt (iota .tc S16x128 32 [1] iota_S16x128_d1_w32) (broadcast S16x128 64#32))
        (broadcast S16x128 (Scalar.ofBits .bf16 0x0000#16)) q⟩] concatenates_S16x128_S16x128_S32x128_d0)
    (k0_pay27 kc kn) (constant S32x528 .f32 0x00000000#32)) (shapeCast S32x528 b shapeCasts_S1x32x528_S32x528) := rfl
  rw [h]
  pointwise
  rw [stacked q (k0_pay27 kc kn) g r c]

/-- The powers of two of the scores `s` less their row's largest `m`, put together of the five column blocks. -/
def powersB (v203 : FVec Ideal S32x528 .f32) (v205 : FVec Ideal S32x1 .f32) : FVec Ideal S32x528 .f32 :=
  have v206 : FVec Ideal S32x1 .f32 := shapeCast S32x1 v205 shapeCasts_S32x1_S32x1
  have v207 : FVec Ideal S32x128 .f32 := broadcastTo S32x128 v206 broadcasts_S32x1_S32x128
  have v208 : FVec Ideal S32x128 .f32 := extractStridedSlice S32x128 ![0, 0] v203 slices_S32x528_o0_0_S32x128
  have v209 : FVec Ideal S32x128 .f32 := subf v208 v207
  have v210 : FVec Ideal S32x128 .f32 := exp2 v209
  have v211 : FVec Ideal S32x128 .f32 := extractStridedSlice S32x128 ![0, 128] v203 slices_S32x528_o0_128_S32x128
  have v212 : FVec Ideal S32x128 .f32 := subf v211 v207
  have v213 : FVec Ideal S32x128 .f32 := exp2 v212
  have v214 : FVec Ideal S32x128 .f32 := extractStridedSlice S32x128 ![0, 256] v203 slices_S32x528_o0_256_S32x128
  have v215 : FVec Ideal S32x128 .f32 := subf v214 v207
  have v216 : FVec Ideal S32x128 .f32 := exp2 v215
  have v217 : FVec Ideal S32x128 .f32 := extractStridedSlice S32x128 ![0, 384] v203 slices_S32x528_o0_384_S32x128
  have v218 : FVec Ideal S32x128 .f32 := subf v217 v207
  have v219 : FVec Ideal S32x128 .f32 := exp2 v218
  have v220 : FVec Ideal S32x16 .f32 := extractStridedSlice S32x16 ![0, 512] v203 slices_S32x528_o0_512_S32x16
  have v221 : FVec Ideal S32x16 .f32 := extractStridedSlice S32x16 ![0, 0] v207 slices_S32x128_o0_0_S32x16
  have v222 : FVec Ideal S32x16 .f32 := subf v220 v221
  have v223 : FVec Ideal S32x16 .f32 := exp2 v222
  have v224 : FVec Ideal S32x528 .f32 := concatenate S32x528 1 [⟨S32x128, v210⟩, ⟨S32x128, v213⟩, ⟨S32x128, v216⟩, ⟨S32x128, v219⟩, ⟨S32x16, v223⟩] concatenates_S32x128_S32x128_S32x128_S32x128_S32x16_S32x528_d1
  v224

/-- The weighted values, times one over the row's sum, the two halves of the lanes from the two halves of the rows. -/
def outB (v191 : FVec Ideal S528x128 .bf16) (v224 : FVec Ideal S32x528 .f32) : FVec Ideal S16x128 .bf16 :=
  have v225 : FVec Ideal S32 .f32 := multiReduction .add [1] S32 v224 0x00000000#32 reduces_S32x528_S32 (.inl rfl) rfl
  have v226 : FVec Ideal S32x1 .f32 := shapeCast S32x1 v225 shapeCasts_S32_S32x1
  have v227 : FVec Ideal S32x1 .f32 := shapeCast S32x1 v226 shapeCasts_S32x1_S32x1
  have v228 : FVec Ideal S32x128 .f32 := broadcastTo S32x128 v227 broadcasts_S32x1_S32x128
  have v229 : FVec Ideal S32x528 .bf16 := truncf .bf16 v224 bitsLt_bf16_f32
  have cst_81 : Ideal .f32 := Scalar.ofBits .f32 0x3F800000#32
  have v230 : FVec Ideal S32x128 .f32 := broadcast S32x128 cst_81
  have v231 : FVec Ideal S32x128 .f32 := divf v230 v228
  have cst_82 : FVec Ideal S32x128 .f32 := constant S32x128 .f32 0x00000000#32
  have v232 : FVec Ideal S32x128 .f32 := matmul dot_S32x528_S528x128_S32x128_1_0_0_1_n_n none v229 v191 cst_82
  have v233 : FVec Ideal S32x128 .f32 := mulf v232 v231
  have v234 : IVec S16x128 32 := iota .tc S16x128 32 [1] iota_S16x128_d1_w32
  have v235 : IVec S16x128 32 := broadcast S16x128 64#32
  have v236 : IVec S16x128 1 := cmpi .slt v234 v235
  have v237 : FVec Ideal S16x128 .f32 := extractStridedSlice S16x128 ![0, 0] v233 slices_S32x128_o0_0_S16x128
  have v238 : FVec Ideal S16x128 .f32 := extractStridedSlice S16x128 ![16, 0] v233 slices_S32x128_o16_0_S16x128
  have v239 : FVec Ideal S16x128 .f32 := select v236 v237 v238
  have v240 : FVec Ideal S16x128 .bf16 := truncf .bf16 v239 bitsLt_bf16_f32
  v240

theorem pay30_eq (v : FVec Ideal S528x128 .bf16) (s : FVec Ideal S32x528 .f32) (m : FVec Ideal S32x1 .f32) :
    k0_pay30 v s m = outB v (powersB s m) := rfl

theorem powersB_apply (s : FVec Ideal S32x528 .f32) (m : FVec Ideal S32x1 .f32) (r : Fin 32) (c : Fin 528) :
    powersB s m (ix2 r c) = Ideal.exp2 (s (ix2 r c) - m (ix2 r 0)) := by
  pointwise [powersB]
  have h := c.isLt
  split_ifs <;> first | rfl | (refine congrArg (fun y => Ideal.exp2 (s (ix2 r y) - m (ix2 r 0))) (Fin.ext ?_); simp only; omega)

theorem pairB_apply (kc : Vec Ideal S1x512x128 .bf16) (kn : Vec Ideal S16x128 .bf16) (vc : Vec Ideal S1x512x128 .bf16) (vn q : Vec Ideal S16x128 .bf16)
    (b : Vec Ideal S1x32x528 .f32) (r : Fin 16) (g : Fin 2) (d : Fin 64) :
    pairB kc kn vc vn q b (ix2 r (lane g d))
      = Softmax.plain (fun c => score q (k0_pay27 kc kn) g r c + b (ix3 0 (srow g r) c)) (fun c => k0_pay27 vc vn (ix2 c (lane g d))) := by
  have hm : ∀ l, k0_pay29 kc kn q b (ix2 (srow g r) l)
      = Finset.fold max ⊥ (fun c => score q (k0_pay27 kc kn) g r c + b (ix3 0 (srow g r) c)) Finset.univ := fun l => by
    pointwise [k0_pay29]
    rw [negInf]; simp only [scoresB_apply]
  unfold pairB Softmax.plain
  rw [pay30_eq]
  pointwise [outB]
  rw [select_lane]
  simp only [powersB_apply]
  have two : ∀ g : Fin 2, g = 0 ∨ g = 1 := by decide
  rcases two g with rfl | rfl
  · have e : (⟨r.val, by omega⟩ : Fin 32) = srow 0 r := Fin.ext (by simp [srow])
    rw [if_pos rfl]
    simp only [e, hm, scoresB_apply]
  · have e : (⟨16 + r.val, by omega⟩ : Fin 32) = srow 1 r := Fin.ext (by simp [srow])
    rw [if_neg one_ne_zero]
    simp only [e, hm, scoresB_apply]

end Cert.AttnIdeal.Block

end
-- ==== Proof.AttnSpec.lean ====
/-
  The sample attention in plain terms, over the argument arrays: which products make a logit, and which softmax
  weighs which values. Both the kernel and the reference are read against these.
-/
module

public import proofs.«01_k».proof.Proof.Softmax
public import Idealize.ShloMosaic.Lib.Pointwise

@[expose] public section

noncomputable section

namespace Cert.AttnSpec

open Idealize.ShloMosaic

/-- Row `16 b + r`: query `r` of sequence `b`. -/
abbrev row (b : Fin 8) (r : Fin 16) : Fin 128 := ⟨16 * b.val + r.val, by omega⟩

/-- Column `128 j + 64 g + d`: coordinate `d` of half `g` of head pair `j`. -/
abbrev col (j : Fin 4) (g : Fin 2) (d : Fin 64) : Fin 512 := ⟨128 * j.val + (64 * g.val + d.val), by omega⟩

/-- Column `64 g + d` of the two key heads of mixer A. -/
abbrev half (g : Fin 2) (d : Fin 64) : Fin 128 := ⟨64 * g.val + d.val, by omega⟩

/-- Coordinate `d` of key (value) `c` of head `g` in mixer A: the cached ones, then the new ones. -/
def keyA (cache : (⟨4, ![8, 128, 2, 64]⟩ : Shape).Idx → EReal) (new : (⟨2, ![128, 128]⟩ : Shape).Idx → EReal)
    (b : Fin 8) (g : Fin 2) (c : Fin 144) (d : Fin 64) : EReal :=
  if h : c.val < 128 then cache (ix4 b ⟨c.val, h⟩ g d) else new (ix2 (row b ⟨c.val - 128, by omega⟩) (half g d))

/-- Coordinate `d` of key (value) `c` of head `2 j + g` in mixer B. -/
def keyB (cache : (⟨4, ![8, 512, 8, 64]⟩ : Shape).Idx → EReal) (new : (⟨2, ![128, 512]⟩ : Shape).Idx → EReal)
    (b : Fin 8) (j : Fin 4) (g : Fin 2) (c : Fin 528) (d : Fin 64) : EReal :=
  if h : c.val < 512 then cache (ix4 b ⟨c.val, h⟩ ⟨2 * j.val + g.val, by omega⟩ d)
  else new (ix2 (row b ⟨c.val - 512, by omega⟩) (col j g d))

def logitA (q : (⟨2, ![128, 512]⟩ : Shape).Idx → EReal) (kn : (⟨2, ![128, 128]⟩ : Shape).Idx → EReal)
    (kc : (⟨4, ![8, 128, 2, 64]⟩ : Shape).Idx → EReal) (b : Fin 8) (r : Fin 16) (j : Fin 4) (g : Fin 2) (c : Fin 144) : EReal :=
  ∑ d : Fin 64, q (ix2 (row b r) (col j g d)) * keyA kc kn b g c d

def logitB (q kn : (⟨2, ![128, 512]⟩ : Shape).Idx → EReal) (kc : (⟨4, ![8, 512, 8, 64]⟩ : Shape).Idx → EReal)
    (bias : (⟨3, ![8, 64, 640]⟩ : Shape).Idx → EReal) (b : Fin 8) (r : Fin 16) (j : Fin 4) (g : Fin 2) (c : Fin 528) : EReal :=
  (∑ d : Fin 64, q (ix2 (row b r) (col j g d)) * keyB kc kn b j g c d)
    + bias (ix3 ⟨2 * j.val + g.val, by omega⟩ ⟨r.val, by omega⟩ ⟨c.val, by omega⟩)

/-- The sink's logit for head pair `j`, half `g`. -/
abbrev sinkAt (s : (⟨1, ![8]⟩ : Shape).Idx → EReal) (j : Fin 4) (g : Fin 2) : EReal := s (ix1 ⟨4 * g.val + j.val, by omega⟩)

/-- Every row is row `r` of some sequence, -/
theorem exists_row (i : Fin 128) : ∃ b r, i = row b r :=
  ⟨⟨i.val / 16, by omega⟩, ⟨i.val % 16, by omega⟩, Fin.ext (by simp only; omega)⟩

/-- and every column a coordinate of some half of some head pair. -/
theorem exists_col (i : Fin 512) : ∃ j g d, i = col j g d :=
  ⟨⟨i.val / 128, by omega⟩, ⟨i.val % 128 / 64, by omega⟩, ⟨i.val % 64, by omega⟩, Fin.ext (by simp only; omega)⟩

/-- The array with `P b r j g d` at row `16 b + r` and column `128 j + 64 g + d`. -/
def full (P : Fin 8 → Fin 16 → Fin 4 → Fin 2 → Fin 64 → EReal) (y : (⟨2, ![128, 512]⟩ : Shape).Idx) : EReal :=
  P ⟨(y 0).val / 16, by have h : (y 0).val < 128 := (y 0).isLt; omega⟩ ⟨(y 0).val % 16, by omega⟩
    ⟨(y 1).val / 128, by have h : (y 1).val < 512 := (y 1).isLt; omega⟩ ⟨(y 1).val % 128 / 64, by omega⟩ ⟨(y 1).val % 64, by omega⟩

theorem full_apply (P : Fin 8 → Fin 16 → Fin 4 → Fin 2 → Fin 64 → EReal) (b : Fin 8) (r : Fin 16) (j : Fin 4) (g : Fin 2) (d : Fin 64) :
    full P (ix2 (row b r) (col j g d)) = P b r j g d := by
  unfold full
  congr 1 <;> refine Fin.ext ?_ <;> simp only [ix2_0, ix2_1] <;> omega

/-- Two arrays that agree there agree. -/
theorem full_ext {f h : (⟨2, ![128, 512]⟩ : Shape).Idx → EReal}
    (e : ∀ b r j g d, f (ix2 (row b r) (col j g d)) = h (ix2 (row b r) (col j g d))) : f = h := by
  funext y
  obtain ⟨b, r, hb⟩ := exists_row (y 0)
  obtain ⟨j, g, d, hj⟩ := exists_col (y 1)
  have hy : y = ix2 (row b r) (col j g d) := (eq_ix2 y).trans (by rw [hb, hj])
  rw [hy]; exact e b r j g d

/-- Every element is a finite number. -/
def Finite {s : Shape} (x : s.Idx → EReal) : Prop := ∀ i, Softmax.IsReal (x i)

theorem keyA_real {cache : (⟨4, ![8, 128, 2, 64]⟩ : Shape).Idx → EReal} {new : (⟨2, ![128, 128]⟩ : Shape).Idx → EReal}
    (hc : Finite cache) (hn : Finite new) (b : Fin 8) (g : Fin 2) (c : Fin 144) (d : Fin 64) : Softmax.IsReal (keyA cache new b g c d) := by
  unfold keyA; split
  · exact hc _
  · exact hn _

theorem keyB_real {cache : (⟨4, ![8, 512, 8, 64]⟩ : Shape).Idx → EReal} {new : (⟨2, ![128, 512]⟩ : Shape).Idx → EReal}
    (hc : Finite cache) (hn : Finite new) (b : Fin 8) (j : Fin 4) (g : Fin 2) (c : Fin 528) (d : Fin 64) :
    Softmax.IsReal (keyB cache new b j g c d) := by
  unfold keyB; split
  · exact hc _
  · exact hn _

theorem logitA_real {q : (⟨2, ![128, 512]⟩ : Shape).Idx → EReal} {kn : (⟨2, ![128, 128]⟩ : Shape).Idx → EReal}
    {kc : (⟨4, ![8, 128, 2, 64]⟩ : Shape).Idx → EReal} (hq : Finite q) (hn : Finite kn) (hc : Finite kc)
    (b : Fin 8) (r : Fin 16) (j : Fin 4) (g : Fin 2) (c : Fin 144) : Softmax.IsReal (logitA q kn kc b r j g c) :=
  Softmax.IsReal.sum _ _ fun _ => (hq _).mul (keyA_real hc hn ..)

theorem logitB_real {q kn : (⟨2, ![128, 512]⟩ : Shape).Idx → EReal} {kc : (⟨4, ![8, 512, 8, 64]⟩ : Shape).Idx → EReal}
    {bias : (⟨3, ![8, 64, 640]⟩ : Shape).Idx → EReal} (hq : Finite q) (hn : Finite kn) (hc : Finite kc) (hb : Finite bias)
    (b : Fin 8) (r : Fin 16) (j : Fin 4) (g : Fin 2) (c : Fin 528) : Softmax.IsReal (logitB q kn kc bias b r j g c) :=
  (Softmax.IsReal.sum _ _ fun _ => (hq _).mul (keyB_real hc hn ..)).add (hb _)

end Cert.AttnSpec

end
-- ==== Proof.AttnCanon.lean ====
/-
  What the sample attention's body leaves in its two output blocks, one head pair's 128 columns at a time.
-/
module

public import proofs.«01_k».proof.Proof.AttnBlock
public import proofs.«01_k».proof.Proof.AttnSpec

@[expose] public section

set_option maxRecDepth 16384

noncomputable section

namespace Cert.AttnIdeal.Block

open Cert.AttnIdeal Cert.AttnIdeal.Gen Idealize.ShloMosaic Idealize.ShloMosaic.TcCoe

/-- Column `l` of head pair `j`. -/
abbrev pcol (j : Fin 4) (l : Fin 128) : Fin 512 := ⟨128 * j.val + l.val, by omega⟩

abbrev qCut (x : Vec Ideal S16x512 .bf16) (j : Fin 4) : Vec Ideal S16x128 .bf16 := fun i => x (ix2 (i 0) (pcol j (i 1)))
abbrev cCut (x : Vec Ideal S1x512x512 .bf16) (j : Fin 4) : Vec Ideal S1x512x128 .bf16 := fun i => x (ix3 (i 0) (i 1) (pcol j (i 2)))
abbrev sCut (x : Vec Ideal S4x32x128 .f32) (j : Fin 4) : Vec Ideal S1x32x128 .f32 := fun i => x (ix3 j (i 1) (i 2))
abbrev bCut (x : Vec Ideal S4x32x528 .f32) (j : Fin 4) : Vec Ideal S1x32x528 .f32 := fun i => x (ix3 j (i 1) (i 2))

theorem ld_q0 (x : Vec Ideal S16x512 .bf16) : View.ld x r0_2 = qCut x 0 := by
  funext i; refine congrArg x (funext fun a => Fin.ext ?_); match a with | 0 => simp | 1 => simp
theorem ld_q1 (x : Vec Ideal S16x512 .bf16) : View.ld x r0_4 = qCut x 1 := by
  funext i; refine congrArg x (funext fun a => Fin.ext ?_); match a with | 0 => simp | 1 => simp
theorem ld_q2 (x : Vec Ideal S16x512 .bf16) : View.ld x r0_6 = qCut x 2 := by
  funext i; refine congrArg x (funext fun a => Fin.ext ?_); match a with | 0 => simp | 1 => simp
theorem ld_q3 (x : Vec Ideal S16x512 .bf16) : View.ld x r0_8 = qCut x 3 := by
  funext i; refine congrArg x (funext fun a => Fin.ext ?_); match a with | 0 => simp | 1 => simp

theorem ixOne (i : Fin 1) : i.val = 0 := by omega

theorem ld_c0 (x : Vec Ideal S1x512x512 .bf16) : View.ld x r0_10 = cCut x 0 := by
  funext i; refine congrArg x (funext fun a => Fin.ext ?_); match a with | 0 => simp | 1 => simp | 2 => simp
theorem ld_c1 (x : Vec Ideal S1x512x512 .bf16) : View.ld x r0_12 = cCut x 1 := by
  funext i; refine congrArg x (funext fun a => Fin.ext ?_); match a with | 0 => simp | 1 => simp | 2 => simp
theorem ld_c2 (x : Vec Ideal S1x512x512 .bf16) : View.ld x r0_14 = cCut x 2 := by
  funext i; refine congrArg x (funext fun a => Fin.ext ?_); match a with | 0 => simp | 1 => simp | 2 => simp
theorem ld_c3 (x : Vec Ideal S1x512x512 .bf16) : View.ld x r0_16 = cCut x 3 := by
  funext i; refine congrArg x (funext fun a => Fin.ext ?_); match a with | 0 => simp | 1 => simp | 2 => simp
theorem ld_s0 (x : Vec Ideal S4x32x128 .f32) : View.ld x r0_3 = sCut x 0 := by
  funext i; refine congrArg x (funext fun a => Fin.ext ?_); match a with | 0 => (simp; exact ixOne (i 0)) | 1 => simp | 2 => simp
theorem ld_s1 (x : Vec Ideal S4x32x128 .f32) : View.ld x r0_5 = sCut x 1 := by
  funext i; refine congrArg x (funext fun a => Fin.ext ?_); match a with | 0 => (simp; exact ixOne (i 0)) | 1 => simp | 2 => simp
theorem ld_s2 (x : Vec Ideal S4x32x128 .f32) : View.ld x r0_7 = sCut x 2 := by
  funext i; refine congrArg x (funext fun a => Fin.ext ?_); match a with | 0 => (simp; exact ixOne (i 0)) | 1 => simp | 2 => simp
theorem ld_s3 (x : Vec Ideal S4x32x128 .f32) : View.ld x r0_9 = sCut x 3 := by
  funext i; refine congrArg x (funext fun a => Fin.ext ?_); match a with | 0 => (simp; exact ixOne (i 0)) | 1 => simp | 2 => simp
theorem ld_b0 (x : Vec Ideal S4x32x528 .f32) : View.ld x r0_11 = bCut x 0 := by
  funext i; refine congrArg x (funext fun a => Fin.ext ?_); match a with | 0 => (simp; exact ixOne (i 0)) | 1 => simp | 2 => simp
theorem ld_b1 (x : Vec Ideal S4x32x528 .f32) : View.ld x r0_13 = bCut x 1 := by
  funext i; refine congrArg x (funext fun a => Fin.ext ?_); match a with | 0 => (simp; exact ixOne (i 0)) | 1 => simp | 2 => simp
theorem ld_b2 (x : Vec Ideal S4x32x528 .f32) : View.ld x r0_15 = bCut x 2 := by
  funext i; refine congrArg x (funext fun a => Fin.ext ?_); match a with | 0 => (simp; exact ixOne (i 0)) | 1 => simp | 2 => simp
theorem ld_b3 (x : Vec Ideal S4x32x528 .f32) : View.ld x r0_17 = bCut x 3 := by
  funext i; refine congrArg x (funext fun a => Fin.ext ?_); match a with | 0 => (simp; exact ixOne (i 0)) | 1 => simp | 2 => simp

/-- Four blocks of 128 columns side by side. -/
def side (P : Fin 4 → S16x128.Idx → EReal) (y : S16x512.Idx) : EReal :=
  P ⟨(y 1).val / 128, by have := (y 1).isLt; simp only [S16x512, Matrix.cons_val_one, Matrix.cons_val_zero] at this; omega⟩
    (ix2 (y 0) ⟨(y 1).val % 128, Nat.mod_lt _ (by decide)⟩)

theorem side_apply (P : Fin 4 → S16x128.Idx → EReal) (r : Fin 16) (j : Fin 4) (l : Fin 128) :
    side P (ix2 r (pcol j l)) = P j (ix2 r l) := by
  have e1 : (⟨(128 * j.val + l.val) / 128, by omega⟩ : Fin 4) = j := Fin.ext (by simp only; omega)
  have e2 : (⟨(128 * j.val + l.val) % 128, Nat.mod_lt _ (by decide)⟩ : Fin 128) = l := Fin.ext (by simp only; omega)
  show P (⟨(128 * j.val + l.val) / 128, _⟩ : Fin 4) (ix2 r (⟨(128 * j.val + l.val) % 128, _⟩ : Fin 128)) = _
  rw [e1, e2]

theorem side_emb0 (P : Fin 4 → S16x128.Idx → EReal) (x : S16x128.Idx) : P 0 x = side P (r0_2.emb x) :=
  (congrArg (P 0) (ix2_eta x)).symm.trans ((side_apply P (x 0) 0 (x 1)).symm.trans
    (congrArg (side P) (funext fun a => Fin.ext (by match a with | 0 => simp | 1 => simp))))

theorem side_emb1 (P : Fin 4 → S16x128.Idx → EReal) (x : S16x128.Idx) : P 1 x = side P (r0_4.emb x) :=
  (congrArg (P 1) (ix2_eta x)).symm.trans ((side_apply P (x 0) 1 (x 1)).symm.trans
    (congrArg (side P) (funext fun a => Fin.ext (by match a with | 0 => simp | 1 => simp))))

theorem side_emb2 (P : Fin 4 → S16x128.Idx → EReal) (x : S16x128.Idx) : P 2 x = side P (r0_6.emb x) :=
  (congrArg (P 2) (ix2_eta x)).symm.trans ((side_apply P (x 0) 2 (x 1)).symm.trans
    (congrArg (side P) (funext fun a => Fin.ext (by match a with | 0 => simp | 1 => simp))))

theorem side_emb3 (P : Fin 4 → S16x128.Idx → EReal) (x : S16x128.Idx) : P 3 x = side P (r0_8.emb x) :=
  (congrArg (P 3) (ix2_eta x)).symm.trans ((side_apply P (x 0) 3 (x 1)).symm.trans
    (congrArg (side P) (funext fun a => Fin.ext (by match a with | 0 => simp | 1 => simp))))

theorem canon_side (P : Fin 4 → S16x128.Idx → EReal) (y : S16x512.Idx) :
    (View.canon [⟨r0_8, P 3⟩, ⟨r0_6, P 2⟩, ⟨r0_4, P 1⟩, ⟨r0_2, P 0⟩] : Vec Ideal S16x512 .bf16) y = side P y := by
  refine View.canon_apply_of_pieces (side P) _ (fun p hp x => ?_) y (cover0_12 (F := Ideal) (P 3) (P 2) (P 1) (P 0) y)
  simp only [List.mem_cons, List.not_mem_nil, or_false] at hp
  rcases hp with rfl | rfl | rfl | rfl
  · exact side_emb3 P x
  · exact side_emb2 P x
  · exact side_emb1 P x
  · exact side_emb0 P x

theorem out12_apply (x0 : Vec Ideal S16x512 .bf16) (x1 : Vec Ideal S16x128 .bf16) (x2 : Vec Ideal S16x128 .bf16) (x3 : Vec Ideal S1x128x128 .bf16) (x4 : Vec Ideal S1x128x128 .bf16) (x5 : Vec Ideal S16x512 .bf16) (x6 : Vec Ideal S16x512 .bf16) (x7 : Vec Ideal S16x512 .bf16) (x8 : Vec Ideal S1x512x512 .bf16) (x9 : Vec Ideal S1x512x512 .bf16) (x10 : Vec Ideal S4x32x528 .f32) (x11 : Vec Ideal S4x32x128 .f32)
    (j : Fin 4) (r : Fin 16) (l : Fin 128) :
    out0_12 x0 x1 x2 x3 x4 x5 x6 x7 x8 x9 x10 x11 (ix2 r (pcol j l))
      = pairA (k0_pay1 (View.ld x3 r0_0) (View.ld x1 r0_1)) (k0_pay2 (View.ld x4 r0_0) (View.ld x2 r0_1)) (qCut x0 j) (sCut x11 j) (ix2 r l) := by
  rw [← side_apply (fun j => pairA (k0_pay1 (View.ld x3 r0_0) (View.ld x1 r0_1)) (k0_pay2 (View.ld x4 r0_0) (View.ld x2 r0_1)) (qCut x0 j) (sCut x11 j)),
    ← canon_side, ← ld_q0, ← ld_q1, ← ld_q2, ← ld_q3, ← ld_s0, ← ld_s1, ← ld_s2, ← ld_s3]
  rfl

theorem out13_apply (x0 : Vec Ideal S16x512 .bf16) (x1 : Vec Ideal S16x128 .bf16) (x2 : Vec Ideal S16x128 .bf16) (x3 : Vec Ideal S1x128x128 .bf16) (x4 : Vec Ideal S1x128x128 .bf16) (x5 : Vec Ideal S16x512 .bf16) (x6 : Vec Ideal S16x512 .bf16) (x7 : Vec Ideal S16x512 .bf16) (x8 : Vec Ideal S1x512x512 .bf16) (x9 : Vec Ideal S1x512x512 .bf16) (x10 : Vec Ideal S4x32x528 .f32) (x11 : Vec Ideal S4x32x128 .f32)
    (j : Fin 4) (r : Fin 16) (l : Fin 128) :
    out0_13 x0 x1 x2 x3 x4 x5 x6 x7 x8 x9 x10 x11 (ix2 r (pcol j l))
      = pairB (cCut x8 j) (qCut x6 j) (cCut x9 j) (qCut x7 j) (qCut x5 j) (bCut x10 j) (ix2 r l) := by
  rw [← side_apply (fun j => pairB (cCut x8 j) (qCut x6 j) (cCut x9 j) (qCut x7 j) (qCut x5 j) (bCut x10 j)), ← canon_side]
  simp only [← ld_q0, ← ld_q1, ← ld_q2, ← ld_q3, ← ld_c0, ← ld_c1, ← ld_c2, ← ld_c3, ← ld_b0, ← ld_b1, ← ld_b2, ← ld_b3]
  rfl

end Cert.AttnIdeal.Block

end
-- ==== Proof.AttnArray.lean ====
/-
  The sample attention's two result arrays, read at an index from the argument arrays.
-/
module

public import proofs.«01_k».proof.Proof.AttnCanon
public import Idealize.ShloMosaic.Lib.Pipeline.ValueKit
public import Idealize.ShloMosaic.Lib.StableHlo.ReadAt

@[expose] public section

set_option maxRecDepth 16384

noncomputable section

namespace Cert.AttnIdeal.Block

open Cert.AttnIdeal Cert.AttnIdeal.Gen Idealize.ShloMosaic Idealize.ShloMosaic.TcCoe Idealize.SL.Sem

variable (m : (ℓ : Loc nD τ sig) → Buf (Elt Ideal) ℓ) (c : Dev nD)

/-! ## The host's operands -/

theorem V_v5 (b : Fin 8) (k : Fin 128) (g : Fin 2) (d : Fin 64) :
    V m c main_v5 (ix3 b k (lane g d)) = m ((c : Thread nD τ).loc main_arg3) (ix4 b k g d) := by
  unfold V
  after_reads_at
  blk_ext

theorem V_v7 (b : Fin 8) (k : Fin 128) (g : Fin 2) (d : Fin 64) :
    V m c main_v7 (ix3 b k (lane g d)) = m ((c : Thread nD τ).loc main_arg4) (ix4 b k g d) := by
  unfold V
  after_reads_at
  blk_ext

theorem V_v9 (b : Fin 8) (k : Fin 512) (j : Fin 4) (g : Fin 2) (d : Fin 64) :
    V m c main_v9 (ix3 b k (AttnSpec.col j g d)) = m ((c : Thread nD τ).loc main_arg8) (ix4 b k ⟨2 * j.val + g.val, by omega⟩ d) := by
  unfold V
  after_reads_at
  blk_ext

theorem V_v11 (b : Fin 8) (k : Fin 512) (j : Fin 4) (g : Fin 2) (d : Fin 64) :
    V m c main_v11 (ix3 b k (AttnSpec.col j g d)) = m ((c : Thread nD τ).loc main_arg9) (ix4 b k ⟨2 * j.val + g.val, by omega⟩ d) := by
  unfold V
  after_reads_at
  blk_ext

theorem V_v3 (j : Fin 4) (g : Fin 2) (r : Fin 16) (k : Fin 528) :
    V m c main_v3 (ix3 j (srow g r) k) = m ((c : Thread nD τ).loc main_arg10) (ix3 ⟨2 * j.val + g.val, by omega⟩ ⟨r.val, by omega⟩ ⟨k.val, by omega⟩) := by
  unfold V
  after_reads_at
  blk_ext

theorem V_v15 (j : Fin 4) (g : Fin 2) (r : Fin 16) (l : Fin 128) :
    V m c main_v15 (ix3 j (srow g r) l) = m ((c : Thread nD τ).loc main_arg11) (ix1 ⟨4 * g.val + j.val, by omega⟩) := by
  unfold V
  after_reads_at
  blk_ext

/-! ## The blocks -/

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![t.val, 0] := by decide +kernel
theorem idx_5 : ∀ t : Fin cfg0.N, win0_5.index t = ![t.val, 0] := by decide +kernel
theorem idx_6 : ∀ t : Fin cfg0.N, win0_6.index t = ![t.val, 0] := by decide +kernel
theorem idx_7 : ∀ t : Fin cfg0.N, win0_7.index t = ![t.val, 0] := by decide +kernel
theorem idx_3 : ∀ t : Fin cfg0.N, win0_3.index t = ![t.val, 0, 0] := by decide +kernel
theorem idx_4 : ∀ t : Fin cfg0.N, win0_4.index t = ![t.val, 0, 0] := by decide +kernel
theorem idx_8 : ∀ t : Fin cfg0.N, win0_8.index t = ![t.val, 0, 0] := by decide +kernel
theorem idx_9 : ∀ t : Fin cfg0.N, win0_9.index t = ![t.val, 0, 0] := by decide +kernel
theorem idx_10 : ∀ t : Fin cfg0.N, win0_10.index t = ![0, 0, 0] := by decide +kernel
theorem idx_11 : ∀ t : Fin cfg0.N, win0_11.index t = ![0, 0, 0] := by decide +kernel
theorem idx_12 : ∀ t : Fin cfg0.N, win0_12.index t = ![t.val, 0] := by decide +kernel
theorem idx_13 : ∀ t : Fin cfg0.N, win0_13.index t = ![t.val, 0] := by decide +kernel

variable (t : Fin cfg0.N) (ht : t.val < 8)

theorem iblk_0 (r : Fin 16) (k : Fin 512) :
    iblk m c 0 t (ix2 r k) = m ((c : Thread nD τ).loc main_arg0) (ix2 (AttnSpec.row ⟨t.val, ht⟩ r) k) := by
  blk_ext [iblk, V, idx_0 t]

theorem iblk_1 (r : Fin 16) (k : Fin 128) :
    iblk m c 1 t (ix2 r k) = m ((c : Thread nD τ).loc main_arg1) (ix2 (AttnSpec.row ⟨t.val, ht⟩ r) k) := by
  blk_ext [iblk, V, idx_1 t]

theorem iblk_2 (r : Fin 16) (k : Fin 128) :
    iblk m c 2 t (ix2 r k) = m ((c : Thread nD τ).loc main_arg2) (ix2 (AttnSpec.row ⟨t.val, ht⟩ r) k) := by
  blk_ext [iblk, V, idx_2 t]

theorem iblk_5 (r : Fin 16) (k : Fin 512) :
    iblk m c 5 t (ix2 r k) = m ((c : Thread nD τ).loc main_arg5) (ix2 (AttnSpec.row ⟨t.val, ht⟩ r) k) := by
  blk_ext [iblk, V, idx_5 t]

theorem iblk_6 (r : Fin 16) (k : Fin 512) :
    iblk m c 6 t (ix2 r k) = m ((c : Thread nD τ).loc main_arg6) (ix2 (AttnSpec.row ⟨t.val, ht⟩ r) k) := by
  blk_ext [iblk, V, idx_6 t]

theorem iblk_7 (r : Fin 16) (k : Fin 512) :
    iblk m c 7 t (ix2 r k) = m ((c : Thread nD τ).loc main_arg7) (ix2 (AttnSpec.row ⟨t.val, ht⟩ r) k) := by
  blk_ext [iblk, V, idx_7 t]

theorem iblk_3 (k : Fin 128) (g : Fin 2) (d : Fin 64) :
    iblk m c 3 t (ix3 0 k (lane g d)) = m ((c : Thread nD τ).loc main_arg3) (ix4 ⟨t.val, ht⟩ k g d) := by
  rw [← V_v5 m c]
  blk_ext [iblk, idx_3 t]

theorem iblk_4 (k : Fin 128) (g : Fin 2) (d : Fin 64) :
    iblk m c 4 t (ix3 0 k (lane g d)) = m ((c : Thread nD τ).loc main_arg4) (ix4 ⟨t.val, ht⟩ k g d) := by
  rw [← V_v7 m c]
  blk_ext [iblk, idx_4 t]

theorem iblk_8 (k : Fin 512) (j : Fin 4) (g : Fin 2) (d : Fin 64) :
    iblk m c 8 t (ix3 0 k (AttnSpec.col j g d)) = m ((c : Thread nD τ).loc main_arg8) (ix4 ⟨t.val, ht⟩ k ⟨2 * j.val + g.val, by omega⟩ d) := by
  rw [← V_v9 m c]
  blk_ext [iblk, idx_8 t]

theorem iblk_9 (k : Fin 512) (j : Fin 4) (g : Fin 2) (d : Fin 64) :
    iblk m c 9 t (ix3 0 k (AttnSpec.col j g d)) = m ((c : Thread nD τ).loc main_arg9) (ix4 ⟨t.val, ht⟩ k ⟨2 * j.val + g.val, by omega⟩ d) := by
  rw [← V_v11 m c]
  blk_ext [iblk, idx_9 t]

theorem iblk_10 (j : Fin 4) (g : Fin 2) (r : Fin 16) (k : Fin 528) :
    iblk m c 10 t (ix3 j (srow g r) k) = m ((c : Thread nD τ).loc main_arg10) (ix3 ⟨2 * j.val + g.val, by omega⟩ ⟨r.val, by omega⟩ ⟨k.val, by omega⟩) := by
  rw [← V_v3 m c]
  blk_ext [iblk, idx_10 t]

theorem iblk_11 (j : Fin 4) (g : Fin 2) (r : Fin 16) (l : Fin 128) :
    iblk m c 11 t (ix3 j (srow g r) l) = m ((c : Thread nD τ).loc main_arg11) (ix1 ⟨4 * g.val + j.val, by omega⟩) := by
  rw [← V_v15 m c j g r l]
  blk_ext [iblk, idx_11 t]

theorem newA_1 (k : Fin 144) (g : Fin 2) (d : Fin 64) :
    k0_pay1 (F := Ideal) (View.ld (iblk m c 3 t) r0_0) (View.ld (iblk m c 1 t) r0_1) (ix2 k (lane g d))
      = AttnSpec.keyA (m ((c : Thread nD τ).loc main_arg3)) (m ((c : Thread nD τ).loc main_arg1)) ⟨t.val, ht⟩ g k d := by
  unfold AttnSpec.keyA
  pointwise [k0_pay1]
  split
  · exact iblk_3 m c t ht _ g d
  · exact iblk_1 m c t ht _ _

theorem newA_2 (k : Fin 144) (g : Fin 2) (d : Fin 64) :
    k0_pay2 (F := Ideal) (View.ld (iblk m c 4 t) r0_0) (View.ld (iblk m c 2 t) r0_1) (ix2 k (lane g d))
      = AttnSpec.keyA (m ((c : Thread nD τ).loc main_arg4)) (m ((c : Thread nD τ).loc main_arg2)) ⟨t.val, ht⟩ g k d := by
  unfold AttnSpec.keyA
  pointwise [k0_pay2]
  split
  · exact iblk_4 m c t ht _ g d
  · exact iblk_2 m c t ht _ _

theorem newB_6 (j : Fin 4) (k : Fin 528) (g : Fin 2) (d : Fin 64) :
    k0_pay27 (F := Ideal) (cCut (iblk m c 8 t) j) (qCut (iblk m c 6 t) j) (ix2 k (lane g d))
      = AttnSpec.keyB (m ((c : Thread nD τ).loc main_arg8)) (m ((c : Thread nD τ).loc main_arg6)) ⟨t.val, ht⟩ j g k d := by
  unfold AttnSpec.keyB
  pointwise [k0_pay27]
  split
  · exact iblk_8 m c t ht _ j g d
  · exact iblk_6 m c t ht _ (AttnSpec.col j g d)

theorem newB_7 (j : Fin 4) (k : Fin 528) (g : Fin 2) (d : Fin 64) :
    k0_pay27 (F := Ideal) (cCut (iblk m c 9 t) j) (qCut (iblk m c 7 t) j) (ix2 k (lane g d))
      = AttnSpec.keyB (m ((c : Thread nD τ).loc main_arg9)) (m ((c : Thread nD τ).loc main_arg7)) ⟨t.val, ht⟩ j g k d := by
  unfold AttnSpec.keyB
  pointwise [k0_pay27]
  split
  · exact iblk_9 m c t ht _ j g d
  · exact iblk_7 m c t ht _ (AttnSpec.col j g d)

/-! ## The results -/

/-- Mixer A's result. -/
def resA : (⟨2, ![128, 512]⟩ : Shape).Idx → EReal := AttnSpec.full fun b r j g d =>
  Softmax.withSink (AttnSpec.logitA (m ((c : Thread nD τ).loc main_arg0)) (m ((c : Thread nD τ).loc main_arg1)) (m ((c : Thread nD τ).loc main_arg3)) b r j g) (AttnSpec.sinkAt (m ((c : Thread nD τ).loc main_arg11)) j g)
    (fun k => AttnSpec.keyA (m ((c : Thread nD τ).loc main_arg4)) (m ((c : Thread nD τ).loc main_arg2)) b g k d)

/-- Mixer B's result. -/
def resB : (⟨2, ![128, 512]⟩ : Shape).Idx → EReal := AttnSpec.full fun b r j g d =>
  Softmax.plain (AttnSpec.logitB (m ((c : Thread nD τ).loc main_arg5)) (m ((c : Thread nD τ).loc main_arg6)) (m ((c : Thread nD τ).loc main_arg8)) (m ((c : Thread nD τ).loc main_arg10)) b r j g)
    (fun k => AttnSpec.keyB (m ((c : Thread nD τ).loc main_arg9)) (m ((c : Thread nD τ).loc main_arg7)) b j g k d)

theorem final12 : (dats m 0 c).arrAt 12 cfg0.N = resA m c := by
  refine (dats m 0 c).arrAt_eq_of_covers 12 _ (by decide +kernel) fun t hf y => ?_
  blk_simp
  rw [after0_12]
  have ht : t.val < 8 := t.isLt
  obtain ⟨r, k, rfl⟩ : ∃ (r : Fin 16) (k : Fin 512), y = ix2 r k := ⟨y 0, y 1, eq_ix2 y⟩
  obtain ⟨j, g, d, rfl⟩ := AttnSpec.exists_col k
  have he : (win0_12.blk t).view.emb (ix2 r (AttnSpec.col j g d)) = ix2 (AttnSpec.row ⟨t.val, ht⟩ r) (AttnSpec.col j g d) := by
    blk_ext [idx_12 t]
  refine Eq.trans ?_ (congrArg (resA m c) he).symm
  refine (out12_apply _ _ _ _ _ _ _ _ _ _ _ _ j r (lane g d)).trans ?_
  refine (pairA_apply _ _ _ _ (fun x => iblk m c 11 t (ix3 j x 0)) (fun x l => ?_) r g d).trans ?_
  · obtain ⟨g, r, rfl⟩ : ∃ g r, x = srow g r := ⟨⟨x.val / 16, by omega⟩, ⟨x.val % 16, by omega⟩, Fin.ext (by simp only; omega)⟩
    exact (iblk_11 m c t j g r l).trans (iblk_11 m c t j g r 0).symm
  · unfold resA
    rw [AttnSpec.full_apply]
    congr 1
    · funext k
      unfold score AttnSpec.logitA
      refine Finset.sum_congr rfl fun d _ => ?_
      exact congrArg₂ (· * ·) (iblk_0 m c t ht r (AttnSpec.col j g d)) (newA_1 m c t ht k g d)
    · exact iblk_11 m c t j g r 0
    · funext k
      exact newA_2 m c t ht k g d

theorem final13 : (dats m 0 c).arrAt 13 cfg0.N = resB m c := by
  refine (dats m 0 c).arrAt_eq_of_covers 13 _ (by decide +kernel) fun t hf y => ?_
  blk_simp
  rw [after0_13]
  have ht : t.val < 8 := t.isLt
  obtain ⟨r, k, rfl⟩ : ∃ (r : Fin 16) (k : Fin 512), y = ix2 r k := ⟨y 0, y 1, eq_ix2 y⟩
  obtain ⟨j, g, d, rfl⟩ := AttnSpec.exists_col k
  have he : (win0_13.blk t).view.emb (ix2 r (AttnSpec.col j g d)) = ix2 (AttnSpec.row ⟨t.val, ht⟩ r) (AttnSpec.col j g d) := by
    blk_ext [idx_13 t]
  refine Eq.trans ?_ (congrArg (resB m c) he).symm
  refine (out13_apply _ _ _ _ _ _ _ _ _ _ _ _ j r (lane g d)).trans ?_
  refine (pairB_apply _ _ _ _ _ _ r g d).trans ?_
  unfold resB
  rw [AttnSpec.full_apply]
  congr 1
  · funext k
    unfold score AttnSpec.logitB
    exact congrArg₂ (· + ·) (Finset.sum_congr rfl fun d _ =>
      congrArg₂ (· * ·) (iblk_5 m c t ht r (AttnSpec.col j g d)) (newB_6 m c t ht j k g d)) (iblk_10 m c t j g r k)
  · funext k
    exact newB_7 m c t ht j k g d

end Cert.AttnIdeal.Block

end
-- ==== Proof.AttnRefRead.lean ====
/-
  The sample attention's reference, read at an index: the same softmax over the logits times log 2.
-/
module

public import proofs.«01_k».proof.Defs
public import proofs.«01_k».proof.Proof.Gen.AttnRefIdeal.Read
public import proofs.«01_k».proof.Proof.AttnSpec
public import Idealize.ShloMosaic.Lib.Pointwise

@[expose] public section

set_option maxRecDepth 16384

noncomputable section

namespace Cert.AttnRefIdeal.Stage

open Cert.AttnRefIdeal Cert.AttnRefIdeal.Read Idealize.ShloMosaic Idealize.ShloMosaic.TcCoe

variable (x0 x5 x6 x7 : (⟨2, ![128, 512]⟩ : Shape).Idx → EReal) (x1 x2 : (⟨2, ![128, 128]⟩ : Shape).Idx → EReal)
  (x3 x4 : (⟨4, ![8, 128, 2, 64]⟩ : Shape).Idx → EReal) (x8 x9 : (⟨4, ![8, 512, 8, 64]⟩ : Shape).Idx → EReal)
  (x10 : (⟨3, ![8, 64, 640]⟩ : Shape).Idx → EReal) (x11 : (⟨1, ![8]⟩ : Shape).Idx → EReal)

theorem negInf : Ideal.ofBits FTy.f32 4286578688#32 = ⊥ := by simp [Ideal.ofBits, Ideal.ieee]

theorem log_two : Ideal.log (Ideal.ofBits FTy.f32 1073741824#32) = ((Real.log 2 : ℝ) : EReal) := by
  have h : Ideal.ofBits FTy.f32 1073741824#32 = ((2 : ℝ) : EReal) := by
    simp only [Ideal.ofBits, Ideal.ieee]
    simp
    rw [← EReal.coe_mul]; norm_num
  rw [h, Ideal.log_coe, if_neg (by norm_num)]

/-! ## Mixer A -/

theorem keys_A (b : Fin 8) (c : Fin 144) (g : Fin 2) (d : Fin 64) :
    val_main_v6 (F := Ideal) x1 x3 (ix4 b c g d) = AttnSpec.keyA x3 x1 b g c d := by
  pointwise [val_main_v6, val_main_v5, val_main_v4, AttnSpec.keyA]
  refine dite_congr rfl (fun _ => rfl) fun h => congrArg x1 ?_
  congr 1 <;> exact Fin.ext (by simp only; omega)

theorem values_A (b : Fin 8) (c : Fin 144) (g : Fin 2) (d : Fin 64) :
    val_main_v9 (F := Ideal) x2 x4 (ix4 b c g d) = AttnSpec.keyA x4 x2 b g c d := by
  pointwise [val_main_v9, val_main_v8, val_main_v7, AttnSpec.keyA]
  refine dite_congr rfl (fun _ => rfl) fun h => congrArg x2 ?_
  congr 1 <;> exact Fin.ext (by simp only; omega)

theorem queries_A (b : Fin 8) (r : Fin 16) (g : Fin 2) (j : Fin 4) (d : Fin 64) :
    val_main_v11 (F := Ideal) x0 (ix5 b r g j d) = x0 (ix2 (AttnSpec.row b r) (AttnSpec.col j g d)) := by
  pointwise [val_main_v11, val_main_v3, val_main_v2, val_main_v1, val_main_v0]
  refine congrArg x0 ?_
  congr 1 <;> exact Fin.ext (by simp only; omega)

theorem logits_A (b : Fin 8) (g : Fin 2) (j : Fin 4) (r : Fin 16) (c : Fin 144) :
    val_main_v15 (F := Ideal) x0 x1 x3 (ix5 b g j r c) = AttnSpec.logitA x0 x1 x3 b r j g c * ((Real.log 2 : ℝ) : EReal) := by
  pointwise [val_main_v15, val_main_v14, val_main_v13, val_main_v12, val_main_v10, val_main_cst]
  rw [log_two]
  refine congrArg (· * _) (Finset.sum_congr rfl fun d _ => ?_)
  rw [keys_A, queries_A, mul_comm]

theorem logits_sink_A (b : Fin 8) (g : Fin 2) (j : Fin 4) (r : Fin 16) (c : Fin 145) :
    val_main_v20 (F := Ideal) x0 x1 x3 x11 (ix5 b g j r c)
      = if h : c.val < 144 then AttnSpec.logitA x0 x1 x3 b r j g ⟨c.val, h⟩ * ((Real.log 2 : ℝ) : EReal)
        else AttnSpec.sinkAt x11 j g * ((Real.log 2 : ℝ) : EReal) := by
  pointwise [val_main_v20, val_main_v19, val_main_v18, val_main_v17, val_main_v16, val_main_v10, val_main_cst]
  rw [log_two]
  refine dite_congr rfl (fun h => logits_A x0 x1 x3 b g j r ⟨c.val, h⟩) fun _ => congrArg (fun y => x11 y * _) ?_
  congr 1; exact Fin.ext (by simp only; omega)

theorem max_A_real (h0 : AttnSpec.Finite x0) (h1 : AttnSpec.Finite x1) (h3 : AttnSpec.Finite x3) (h11 : AttnSpec.Finite x11)
    (b : Fin 8) (g : Fin 2) (j : Fin 4) (r : Fin 16) : Softmax.IsReal (val_main_v23 (F := Ideal) x0 x1 x3 x11 (ix4 b g j r)) := by
  pointwise [val_main_v23, val_main_v22, val_main_v21, val_main_cst_1, val_main_cst_0]
  rw [negInf, max_eq_right bot_le]
  refine Softmax.isReal_fold _ fun c => ?_
  rw [logits_sink_A]
  split
  · exact (AttnSpec.logitA_real h0 h1 h3 ..).mul (Softmax.IsReal.coe _)
  · exact (h11 _).mul (Softmax.IsReal.coe _)

theorem quotients_A (b : Fin 8) (g : Fin 2) (j : Fin 4) (r : Fin 16) (c : Fin 144) :
    val_main_v32 (F := Ideal) x0 x1 x3 x11 (ix5 b g j r c)
      = Ideal.div (Ideal.exp (AttnSpec.logitA x0 x1 x3 b r j g c * ((Real.log 2 : ℝ) : EReal) - val_main_v23 (F := Ideal) x0 x1 x3 x11 (ix4 b g j r)))
        ((∑ c, Ideal.exp (AttnSpec.logitA x0 x1 x3 b r j g c * ((Real.log 2 : ℝ) : EReal) - val_main_v23 (F := Ideal) x0 x1 x3 x11 (ix4 b g j r)))
          + Ideal.exp (AttnSpec.sinkAt x11 j g * ((Real.log 2 : ℝ) : EReal) - val_main_v23 (F := Ideal) x0 x1 x3 x11 (ix4 b g j r))) := by
  pointwise [val_main_v32, val_main_v31, val_main_v30, val_main_v29, val_main_v28, val_main_v27, val_main_v26, val_main_v25, val_main_v24,
    val_main_cst_2]
  simp only [logits_sink_A]
  rw [Fin.sum_univ_castSucc, dif_pos c.isLt]
  simp

theorem out_A (h0 : AttnSpec.Finite x0) (h1 : AttnSpec.Finite x1) (h3 : AttnSpec.Finite x3) (h11 : AttnSpec.Finite x11) :
    val_main_v74 (F := Ideal) x0 x1 x2 x3 x4 x11 = AttnSpec.full fun b r j g d =>
      Softmax.withSink (AttnSpec.logitA x0 x1 x3 b r j g) (AttnSpec.sinkAt x11 j g) (fun k => AttnSpec.keyA x4 x2 b g k d) := by
  refine AttnSpec.full_ext fun b r j g d => ?_
  rw [AttnSpec.full_apply]
  have e : val_main_v74 (F := Ideal) x0 x1 x2 x3 x4 x11 (ix2 (AttnSpec.row b r) (AttnSpec.col j g d))
      = ∑ c, val_main_v9 (F := Ideal) x2 x4 (ix4 b c g d) * val_main_v32 (F := Ideal) x0 x1 x3 x11 (ix5 b g j r c) := by
    have e1 : (⟨(16 * b.val + r.val) / 16, by omega⟩ : Fin 8) = b := Fin.ext (by simp only; omega)
    have e2 : (⟨(16 * b.val + r.val) % 16, by omega⟩ : Fin 16) = r := Fin.ext (by simp only; omega)
    have e3 : (⟨(128 * j.val + (64 * g.val + d.val)) / 64 % 2, by omega⟩ : Fin 2) = g := Fin.ext (by simp only; omega)
    have e4 : (⟨(128 * j.val + (64 * g.val + d.val)) % 64, by omega⟩ : Fin 64) = d := Fin.ext (by simp only; omega)
    have e5 : (⟨(128 * j.val + (64 * g.val + d.val)) / 128, by omega⟩ : Fin 4) = j := Fin.ext (by simp only; omega)
    pointwise [val_main_v74, val_main_v38, val_main_v37, val_main_v36, val_main_v35, val_main_v34, val_main_v33]
    simp only [e1, e2, e3, e4, e5]
  rw [e]
  choose t ht using fun c => AttnSpec.logitA_real h0 h1 h3 b r j g c
  obtain ⟨x, hx⟩ := h11 (ix1 ⟨4 * g.val + j.val, by omega⟩)
  simp only [quotients_A, values_A]
  have hs : AttnSpec.sinkAt x11 j g = (x : EReal) := hx
  rw [hs, funext ht]
  rw [Softmax.withSink_eq]
  simp only [ht]
  exact Softmax.quotients_sink t x (max_A_real x0 x1 x3 x11 h0 h1 h3 h11 b g j r) _

/-! ## Mixer B -/

theorem keys_B (b : Fin 8) (c : Fin 528) (j : Fin 4) (g : Fin 2) (d : Fin 64) :
    val_main_v41 (F := Ideal) x6 x8 (ix4 b c ⟨2 * j.val + g.val, by omega⟩ d) = AttnSpec.keyB x8 x6 b j g c d := by
  pointwise [val_main_v41, val_main_v40, val_main_v39, AttnSpec.keyB]
  refine dite_congr rfl (fun _ => rfl) fun h => congrArg x6 ?_
  congr 1 <;> exact Fin.ext (by simp only; omega)

theorem values_B (b : Fin 8) (c : Fin 528) (j : Fin 4) (g : Fin 2) (d : Fin 64) :
    val_main_v44 (F := Ideal) x7 x9 (ix4 b c ⟨2 * j.val + g.val, by omega⟩ d) = AttnSpec.keyB x9 x7 b j g c d := by
  pointwise [val_main_v44, val_main_v43, val_main_v42, AttnSpec.keyB]
  refine dite_congr rfl (fun _ => rfl) fun h => congrArg x7 ?_
  congr 1 <;> exact Fin.ext (by simp only; omega)

theorem queries_B (b : Fin 8) (r : Fin 16) (j : Fin 4) (g : Fin 2) (d : Fin 64) :
    val_main_v49 (F := Ideal) x5 (ix5 b r ⟨2 * j.val + g.val, by omega⟩ 0 d) = x5 (ix2 (AttnSpec.row b r) (AttnSpec.col j g d)) := by
  pointwise [val_main_v49, val_main_v46, val_main_v45]
  refine congrArg x5 ?_
  congr 1 <;> exact Fin.ext (by simp only; omega)

theorem logits_B (h5 : AttnSpec.Finite x5) (h6 : AttnSpec.Finite x6) (h8 : AttnSpec.Finite x8) (h10 : AttnSpec.Finite x10)
    (b : Fin 8) (j : Fin 4) (g : Fin 2) (r : Fin 16) (c : Fin 528) :
    val_main_v59 (F := Ideal) x5 x6 x8 x10 (ix5 b ⟨2 * j.val + g.val, by omega⟩ 0 r c)
      = AttnSpec.logitB x5 x6 x8 x10 b r j g c * ((Real.log 2 : ℝ) : EReal) := by
  pointwise [val_main_v59, val_main_v58, val_main_v57, val_main_v56, val_main_v55, val_main_v54, val_main_v53, val_main_v52, val_main_v51,
    val_main_v50, val_main_v48, val_main_v47, val_main_cst_3]
  rw [log_two]
  have e : (∑ d, val_main_v41 (F := Ideal) x6 x8 (ix4 b c ⟨2 * j.val + g.val, by omega⟩ d) * val_main_v49 (F := Ideal) x5 (ix5 b r ⟨2 * j.val + g.val, by omega⟩ 0 d))
      = ∑ d, x5 (ix2 (AttnSpec.row b r) (AttnSpec.col j g d)) * AttnSpec.keyB x8 x6 b j g c d :=
    Finset.sum_congr rfl fun d _ => by rw [keys_B, queries_B, mul_comm]
  rw [e]
  unfold AttnSpec.logitB
  obtain ⟨u, hu⟩ := Softmax.IsReal.sum Finset.univ (fun d => x5 (ix2 (AttnSpec.row b r) (AttnSpec.col j g d)) * AttnSpec.keyB x8 x6 b j g c d)
    fun d => (h5 _).mul (AttnSpec.keyB_real h8 h6 b j g c d)
  obtain ⟨w, hw⟩ := h10 (ix3 ⟨2 * j.val + g.val, by omega⟩ ⟨r.val, by omega⟩ ⟨c.val, by omega⟩)
  rw [hu, hw, ← EReal.coe_mul, ← EReal.coe_mul, ← EReal.coe_add, ← EReal.coe_add, ← EReal.coe_mul, add_mul]

theorem max_B_real (h5 : AttnSpec.Finite x5) (h6 : AttnSpec.Finite x6) (h8 : AttnSpec.Finite x8) (h10 : AttnSpec.Finite x10)
    (b : Fin 8) (j : Fin 4) (g : Fin 2) (r : Fin 16) :
    Softmax.IsReal (val_main_v62 (F := Ideal) x5 x6 x8 x10 (ix4 b ⟨2 * j.val + g.val, by omega⟩ 0 r)) := by
  pointwise [val_main_v62, val_main_v61, val_main_v60, val_main_cst_5, val_main_cst_4]
  rw [negInf, max_eq_right bot_le]
  refine Softmax.isReal_fold _ fun c => ?_
  rw [logits_B x5 x6 x8 x10 h5 h6 h8 h10]
  exact (AttnSpec.logitB_real h5 h6 h8 h10 ..).mul (Softmax.IsReal.coe _)

theorem quotients_B (h5 : AttnSpec.Finite x5) (h6 : AttnSpec.Finite x6) (h8 : AttnSpec.Finite x8) (h10 : AttnSpec.Finite x10)
    (b : Fin 8) (j : Fin 4) (g : Fin 2) (r : Fin 16) (c : Fin 528) :
    val_main_v70 (F := Ideal) x5 x6 x8 x10 (ix5 b ⟨2 * j.val + g.val, by omega⟩ 0 r c)
      = Ideal.div (Ideal.exp (AttnSpec.logitB x5 x6 x8 x10 b r j g c * ((Real.log 2 : ℝ) : EReal)
          - val_main_v62 (F := Ideal) x5 x6 x8 x10 (ix4 b ⟨2 * j.val + g.val, by omega⟩ 0 r)))
        (∑ c, Ideal.exp (AttnSpec.logitB x5 x6 x8 x10 b r j g c * ((Real.log 2 : ℝ) : EReal)
          - val_main_v62 (F := Ideal) x5 x6 x8 x10 (ix4 b ⟨2 * j.val + g.val, by omega⟩ 0 r))) := by
  pointwise [val_main_v70, val_main_v69, val_main_v68, val_main_v67, val_main_v66, val_main_v65, val_main_v64, val_main_v63, val_main_cst_6]
  simp only [logits_B x5 x6 x8 x10 h5 h6 h8 h10]

theorem out_B (h5 : AttnSpec.Finite x5) (h6 : AttnSpec.Finite x6) (h8 : AttnSpec.Finite x8) (h10 : AttnSpec.Finite x10) :
    val_main_v76 (F := Ideal) x5 x6 x7 x8 x9 x10 = AttnSpec.full fun b r j g d =>
      Softmax.plain (AttnSpec.logitB x5 x6 x8 x10 b r j g) (fun k => AttnSpec.keyB x9 x7 b j g k d) := by
  refine AttnSpec.full_ext fun b r j g d => ?_
  rw [AttnSpec.full_apply]
  have e : val_main_v76 (F := Ideal) x5 x6 x7 x8 x9 x10 (ix2 (AttnSpec.row b r) (AttnSpec.col j g d))
      = ∑ c, val_main_v44 (F := Ideal) x7 x9 (ix4 b c ⟨2 * j.val + g.val, by omega⟩ d)
          * val_main_v70 (F := Ideal) x5 x6 x8 x10 (ix5 b ⟨2 * j.val + g.val, by omega⟩ 0 r c) := by
    have e1 : (⟨(16 * b.val + r.val) / 16, by omega⟩ : Fin 8) = b := Fin.ext (by simp only; omega)
    have e2 : (⟨(16 * b.val + r.val) % 16, by omega⟩ : Fin 16) = r := Fin.ext (by simp only; omega)
    have e4 : (⟨(128 * j.val + (64 * g.val + d.val)) % 64, by omega⟩ : Fin 64) = d := Fin.ext (by simp only; omega)
    have e5 : (⟨(128 * j.val + (64 * g.val + d.val)) / 64, by omega⟩ : Fin 8) = ⟨2 * j.val + g.val, by omega⟩ := Fin.ext (by simp only; omega)
    pointwise [val_main_v76, val_main_v75, val_main_v73, val_main_v72, val_main_v71]
    simp only [e1, e2, e4, e5]
  rw [e]
  choose t ht using fun c => AttnSpec.logitB_real h5 h6 h8 h10 b r j g c
  simp only [quotients_B x5 x6 x8 x10 h5 h6 h8 h10, values_B]
  rw [funext ht, Softmax.plain_eq]
  simp only [ht]
  exact Softmax.quotients_plain t (max_B_real x5 x6 x8 x10 h5 h6 h8 h10 b j g r) _

end Cert.AttnRefIdeal.Stage

end
-- ==== Proof.AttnPre.lean ====
/-
  What the precondition says: every element of the arrays the logits are made of is a finite number.
-/
module

public import proofs.«01_k».proof.Defs
public import proofs.«01_k».proof.Proof.Gen.Pre_finite_logits
public import proofs.«01_k».proof.Proof.AttnSpec
public import Idealize.ShloMosaic.Lib.ReduceAll

@[expose] public section

set_option maxRecDepth 16384

noncomputable section

namespace Cert.Pre_finite_logits

open Idealize.ShloMosaic

variable [Facts]

theorem andi_one {x y : IVec S_ 1} (h : andi x y = fun _ => 1#1) : x = (fun _ => 1#1) ∧ y = fun _ => 1#1 := by
  have e : ∀ a b : BitVec 1, IntOp.andi a b = 1#1 → a = 1#1 ∧ b = 1#1 := by decide
  exact ⟨funext fun i => (e _ _ (congrFun h i)).1, funext fun i => (e _ _ (congrFun h i)).2⟩

/-- An extended real whose absolute value is below infinity is a number. -/
theorem real_of_lt (x : EReal) (h : FloatOps.cmpf (F := Ideal) (φ := .f32) .olt (FloatOps.hostAbsf (F := Ideal) (φ := .f32) x) (Ideal.ofBits .f32 0x7F800000#32) = 1#1) : Softmax.IsReal x := by
  have inf : Ideal.ofBits .f32 0x7F800000#32 = ⊤ := by simp [Ideal.ofBits, Ideal.ieee]
  have hlt : max x (-x) < ⊤ := by
    by_contra hn
    have : Ideal.cmp .olt (max x (-x)) (Ideal.ofBits .f32 0x7F800000#32) = 0#1 := by
      rw [inf]; simp [Ideal.cmp, hn]
    have e := h.symm.trans this
    exact absurd e (by decide)
  refine Softmax.isReal_iff.mpr ⟨fun e => ?_, fun e => ?_⟩ <;> subst e <;> simp at hlt

theorem finite (a0 : FVec Ideal S128x512 .bf16) (a1 a2 : FVec Ideal S128x128 .bf16) (a3 a4 : FVec Ideal S8x128x2x64 .f32)
    (a5 a6 a7 : FVec Ideal S128x512 .bf16) (a8 a9 : FVec Ideal S8x512x8x64 .f32) (a10 : FVec Ideal S8x64x640 .f32) (a11 : FVec Ideal S8 .f32)
    (h : fn (F := Ideal) a0 a1 a2 a3 a4 a5 a6 a7 a8 a9 a10 a11 = fun _ => 1#1) :
    AttnSpec.Finite a0 ∧ AttnSpec.Finite a1 ∧ AttnSpec.Finite a3 ∧ AttnSpec.Finite a11 ∧ AttnSpec.Finite a5 ∧ AttnSpec.Finite a6
      ∧ AttnSpec.Finite a8 ∧ AttnSpec.Finite a10 := by
  dsimp only [fn, fn_part1, fn_part2] at h
  obtain ⟨h, h10⟩ := andi_one h
  obtain ⟨h, h8⟩ := andi_one h
  obtain ⟨h, h6⟩ := andi_one h
  obtain ⟨h, h5⟩ := andi_one h
  obtain ⟨h, h11⟩ := andi_one h
  obtain ⟨h, h3⟩ := andi_one h
  obtain ⟨h0, h1⟩ := andi_one h
  have read : ∀ {s : Shape} {axes : List (Fin s.rank)} (p : IVec s 1) (init : IVec S_ 1) (r : s.ReducesTo axes S_) (hu : 0 < S_.numel),
      Host.reduce IntOp.andi p init r hu = (fun _ => 1#1) → ∀ i, p i = 1#1 := fun p init r hu e i =>
    Host.reduce_andi_all p init r hu ix0 (congrFun e ix0) i
  exact ⟨fun i => real_of_lt _ (read _ _ _ _ h0 i), fun i => real_of_lt _ (read _ _ _ _ h1 i), fun i => real_of_lt _ (read _ _ _ _ h3 i),
    fun i => real_of_lt _ (read _ _ _ _ h11 i), fun i => real_of_lt _ (read _ _ _ _ h5 i), fun i => real_of_lt _ (read _ _ _ _ h6 i),
    fun i => real_of_lt _ (read _ _ _ _ h8 i), fun i => real_of_lt _ (read _ _ _ _ h10 i)⟩

end Cert.Pre_finite_logits

end
-- ==== Proof.AttnClaim.lean ====
/-
  The claims about the sample attention: its frames, and that its two results are the reference's.
-/
module

public import proofs.«01_k».proof.Defs
public import proofs.«01_k».proof.Proof.AttnArray
public import proofs.«01_k».proof.Proof.AttnRefRead
public import proofs.«01_k».proof.Proof.AttnPre
public import proofs.«01_k».proof.Proof.Gen.Attn.Frame
public import proofs.«01_k».proof.Proof.Gen.AttnIdeal.Frame

@[expose] public section

set_option maxRecDepth 16384

noncomputable section

namespace Cert.AttnClaim

open Idealize.ShloMosaic Idealize.SL.Sem

/-- The reference launches nothing and has no counters: its run is its frame. -/
theorem ref_frame : Cert.quiescent_AttnRefIdeal := fun m ρ _ =>
  (θ_run AttnRefIdeal.defs _ _).mono (fun r h => ⟨fun c => (h c).2.2, sem_eq_zero_of_no_sems (by decide) r.2⟩)
    (AttnRefIdeal.Value.run (F := Ideal) m ρ)

theorem algebraic : Cert.algebraic_AttnIdeal_AttnRefIdeal_pre_finite_logits := by
  intro m g m' g' hpre hargs
  refine ⟨fun c => AttnIdeal.Block.resA m c, fun c => AttnIdeal.Block.resB m c, ?_, ?_⟩
  · exact (θ_run AttnIdeal.defs _ _).mono (fun r h c =>
      ⟨(h c).1.trans (AttnIdeal.Block.final12 m c), (h c).2.1.trans (AttnIdeal.Block.final13 m c), (h c).2.2⟩)
      (AttnIdeal.Value.run_blocks m g)
  · refine (θ_run AttnRefIdeal.defs _ _).mono (fun r h c => ?_) (AttnRefIdeal.Value.run (F := Ideal) m' g')
    obtain ⟨f0, f1, f3, f11, f5, f6, f8, f10⟩ := Pre_finite_logits.finite _ _ _ _ _ _ _ _ _ _ _ _ (hpre c)
    obtain ⟨e0, e1, e2, e3, e4, e5, e6, e7, e8, e9, e10, e11⟩ := hargs c
    refine ⟨(h c).1.trans ?_, (h c).2.1.trans ?_, (h c).2.2⟩
    · refine (AttnRefIdeal.Read.val_main_v74_eq m' c).trans ?_
      rw [e0, e1, e2, e3, e4, e11]
      exact AttnRefIdeal.Stage.out_A _ _ _ _ _ _ f0 f1 f3 f11
    · refine (AttnRefIdeal.Read.val_main_v76_eq m' c).trans ?_
      rw [e5, e6, e7, e8, e9, e10]
      exact AttnRefIdeal.Stage.out_B _ _ _ _ _ _ f5 f6 f8 f10

end Cert.AttnClaim

end
-- ==== Proof.PostSpec.lean ====
/-
  One row of the layer after its two attentions, as functions of the row's channels: the gated mix of the two
  attention outputs, the two residual branches with their RMS norms, and the gated feed-forward with its causal
  convolution over the row and the two rows before it.
-/
module

public import proofs.«01_k».proof.Defs
public import Idealize.ShloMosaic.Lib.Pointwise

@[expose] public section

noncomputable section

namespace Cert.PostSpec

open Idealize.ShloMosaic

/-- The layer's weights after the attentions, mixer A's output rows in the order in which the output's heads come. -/
structure Weights where
  woa : Fin 512 → Fin 1024 → EReal
  wob : Fin 512 → Fin 1024 → EReal
  wout : Fin 1024 → Fin 1024 → EReal
  gmix : Fin 1024 → EReal
  gpre : Fin 1024 → EReal
  wup : Fin 1024 → Fin 5632 → EReal
  cw : Fin 3 → Fin 2816 → EReal
  cb : Fin 2816 → EReal
  wdown : Fin 2816 → Fin 1024 → EReal
  gpost : Fin 1024 → EReal

/-- What one row reads: its input, its two attention outputs and the two gates. -/
structure Row where
  x : Fin 1024 → EReal
  a : Fin 512 → EReal
  b : Fin 512 → EReal
  sa : Fin 1024 → EReal
  sb : Fin 1024 → EReal

/-- The RMS norm of a row of 1024 with the gain `g`. -/
def rms (x g : Fin 1024 → EReal) (n : Fin 1024) : EReal :=
  x n * Ideal.rsqrt (Ideal.div (∑ k, x k * x k) (Ideal.ofBits .f32 0x44800000#32) + Ideal.ofBits .f32 0x358637BD#32) * g n

/-- The gated sum of the two mixers' outputs. -/
def mix (W : Weights) (R : Row) (n : Fin 1024) : EReal :=
  R.sa n * (∑ k, R.a k * W.woa k n) + R.sb n * (∑ k, R.b k * W.wob k n)

/-- The mixers' residual branch. -/
def attn (W : Weights) (R : Row) (n : Fin 1024) : EReal := ∑ k, mix W R k * W.wout k n

/-- The row after the mixers' residual. -/
def x1 (W : Weights) (R : Row) (n : Fin 1024) : EReal := R.x n + rms (attn W R) W.gmix n

/-- The feed-forward's input. -/
def h2 (W : Weights) (R : Row) (n : Fin 1024) : EReal := rms (x1 W R) W.gpre n

/-- The up projection's 5632 channels. -/
def uv (W : Weights) (R : Row) (j : Fin 5632) : EReal := ∑ k, h2 W R k * W.wup k j

/-- The channels that the convolution runs over: the first half. -/
def u (W : Weights) (R : Row) (j : Fin 2816) : EReal := uv W R ⟨j.val, by omega⟩

/-- The channels that the activation gates: the second half. -/
def val (W : Weights) (R : Row) (j : Fin 2816) : EReal := uv W R ⟨2816 + j.val, by omega⟩

/-- The causal convolution of width 3 at a row whose own channels are `u0` and whose two preceding rows are `u1`, `u2`. -/
def conv (W : Weights) (u2 u1 u0 : Fin 2816 → EReal) (j : Fin 2816) : EReal :=
  W.cb j + u2 j * W.cw 0 j + u1 j * W.cw 1 j + u0 j * W.cw 2 j

/-- The exact GELU. -/
def gelu (c : EReal) : EReal :=
  Ideal.ofBits .f32 0x3F000000#32 * c * (1 + Ideal.erf (c * ((((Real.sqrt 2)⁻¹ : ℝ)) : EReal)))

/-- The down projection of the gated activation. -/
def ff (W : Weights) (u2 u1 : Fin 2816 → EReal) (R : Row) (n : Fin 1024) : EReal :=
  ∑ j, gelu (conv W u2 u1 (u W R) j) * val W R j * W.wdown j n

/-- The layer's output row. -/
def y (W : Weights) (u2 u1 : Fin 2816 → EReal) (R : Row) (n : Fin 1024) : EReal :=
  x1 W R n + rms (ff W u2 u1 R) W.gpost n

/-- Row `r` of a batch of sequences of `T` rows each, `P` being the two rows before a sequence. -/
def seqY (T : ℕ) {N : ℕ} (P : Fin N → Fin 2 → Fin 2816 → EReal) (W : Weights) (R : Fin N → Row) (r : Fin N) (n : Fin 1024) : EReal :=
  y W (if r.val % T = 0 then P r 0 else if r.val % T = 1 then P r 1 else u W (R ⟨r.val - 2, by omega⟩))
    (if r.val % T = 0 then P r 1 else u W (R ⟨r.val - 1, by omega⟩)) (R r) n

/-! ## The arrays -/

/-- Where row `k` of mixer A's output projection lies: the output's heads come as (pair, kv head), the projection's
    as (kv head, pair). -/
def perm (k : Fin 512) : Fin 512 := ⟨64 * (4 * (k.val / 64 % 2) + k.val / 128) + k.val % 64, by omega⟩

/-- The way back. -/
def unperm (k : Fin 512) : Fin 512 := ⟨64 * (2 * (k.val / 64 % 4) + k.val / 256) + k.val % 64, by omega⟩

/-- `perm` as a bijection. -/
def permE : Fin 512 ≃ Fin 512 where
  toFun := perm
  invFun := unperm
  left_inv := (by decide +kernel : ∀ k, unperm (perm k) = k)
  right_inv := (by decide +kernel : ∀ k, perm (unperm k) = k)

/-- The weights, from the arrays that hold them. -/
def weights (woa wob : (⟨2, ![512, 1024]⟩ : Shape).Idx → EReal) (wout : (⟨2, ![1024, 1024]⟩ : Shape).Idx → EReal)
    (gmix gpre : (⟨1, ![1024]⟩ : Shape).Idx → EReal) (wup : (⟨2, ![1024, 5632]⟩ : Shape).Idx → EReal)
    (cw : (⟨2, ![3, 2816]⟩ : Shape).Idx → EReal) (cb : (⟨1, ![2816]⟩ : Shape).Idx → EReal)
    (wdown : (⟨2, ![2816, 1024]⟩ : Shape).Idx → EReal) (gpost : (⟨1, ![1024]⟩ : Shape).Idx → EReal) : Weights where
  woa k n := woa (ix2 (perm k) n)
  wob k n := wob (ix2 k n)
  wout k n := wout (ix2 k n)
  gmix n := gmix (ix1 n)
  gpre n := gpre (ix1 n)
  wup k j := wup (ix2 k j)
  cw i j := cw (ix2 i j)
  cb j := cb (ix1 j)
  wdown k n := wdown (ix2 k n)
  gpost n := gpost (ix1 n)

/-- The prompt batch's rows, 16 sequences of 4096 one after the other. -/
def promptRows (x : (⟨3, ![16, 4096, 1024]⟩ : Shape).Idx → EReal) (a b : (⟨2, ![65536, 512]⟩ : Shape).Idx → EReal)
    (sa sb : (⟨2, ![65536, 1024]⟩ : Shape).Idx → EReal) (r : Fin 65536) : Row where
  x n := x (ix3 ⟨r.val / 4096, by omega⟩ ⟨r.val % 4096, by omega⟩ n)
  a k := a (ix2 r k)
  b k := b (ix2 r k)
  sa n := sa (ix2 r n)
  sb n := sb (ix2 r n)

/-- The sample batch's rows, 8 sequences of 16 one after the other. -/
def sampleRows (x : (⟨3, ![8, 16, 1024]⟩ : Shape).Idx → EReal) (a b : (⟨2, ![128, 512]⟩ : Shape).Idx → EReal)
    (sa sb : (⟨2, ![128, 1024]⟩ : Shape).Idx → EReal) (r : Fin 128) : Row where
  x n := x (ix3 ⟨r.val / 16, by omega⟩ ⟨r.val % 16, by omega⟩ n)
  a k := a (ix2 r k)
  b k := b (ix2 r k)
  sa n := sa (ix2 r n)
  sb n := sb (ix2 r n)

end Cert.PostSpec
-- ==== Proof.PostPBlock.lean ====
/-
  What the prompt post kernel's body computes of a block of 512 rows, read at an index, in `Cert.PostSpec`'s words.
-/
module

public import proofs.«01_k».proof.Proof.Gen.PostPIdeal.Skeleton
public import proofs.«01_k».proof.Proof.PostSpec

@[expose] public section

set_option maxRecDepth 16384

noncomputable section

namespace Cert.PostPIdeal.Block

open Cert.PostPIdeal Cert.PostPIdeal.Gen Idealize.ShloMosaic Idealize.ShloMosaic.TcCoe

section
variable (W : PostSpec.Weights) (R : Fin 512 → PostSpec.Row)
variable (sa sb : Vec Ideal S512x1024 .bf16) (a b : Vec Ideal S512x512 .bf16) (woa wob : Vec Ideal S512x1024 .bf16)
  (wout : Vec Ideal S1024x1024 .bf16) (x : Vec Ideal S512x1024 .f32) (gm gp : Vec Ideal S1x1024 .f32)

theorem attn_apply (hsa : ∀ r n, sa (ix2 r n) = (R r).sa n) (hsb : ∀ r n, sb (ix2 r n) = (R r).sb n)
    (ha : ∀ r k, a (ix2 r k) = (R r).a k) (hb : ∀ r k, b (ix2 r k) = (R r).b k)
    (hwa : ∀ k n, woa (ix2 k n) = W.woa k n) (hwb : ∀ k n, wob (ix2 k n) = W.wob k n)
    (hwo : ∀ k n, wout (ix2 k n) = W.wout k n) (r : Fin 512) (n : Fin 1024) :
    k0_pay3 sa a woa sb b wob wout (ix2 r n) = PostSpec.attn W (R r) n := by
  pointwise [k0_pay3]
  simp only [hsa, hsb, ha, hb, hwa, hwb, hwo]
  rfl

theorem x1_apply (t : FVec Ideal S512x1024 .f32) (ht : ∀ r n, t (ix2 r n) = PostSpec.attn W (R r) n)
    (m : FVec Ideal S512x1 .f32)
    (hm : ∀ r, m (ix2 r 0) = Ideal.div (∑ k, PostSpec.attn W (R r) k * PostSpec.attn W (R r) k) (Ideal.ofBits .f32 0x44800000#32))
    (hx : ∀ r n, x (ix2 r n) = (R r).x n) (hg : ∀ n, gm (ix2 0 n) = W.gmix n) (r : Fin 512) (n : Fin 1024) :
    k0_pay7 t (k0_pay4 x) (k0_pay5 gm) m (Scalar.ofBits .f32 0x358637BD#32) (ix2 r n) = PostSpec.x1 W (R r) n := by
  pointwise [k0_pay7, k0_pay4, k0_pay5]
  simp only [ht, hm, hx, hg]
  rfl

theorem mean_apply (h : ∀ r n, k0_pay3 sa a woa sb b wob wout (ix2 r n) = PostSpec.attn W (R r) n) (r : Fin 512) :
    k0_pay6 sa a woa sb b wob wout (ix2 r 0)
      = Ideal.div (∑ k, PostSpec.attn W (R r) k * PostSpec.attn W (R r) k) (Ideal.ofBits .f32 0x44800000#32) := by
  pointwise [k0_pay6]
  simp only [h]

theorem h2_apply (t : FVec Ideal S512x1024 .f32) (m : FVec Ideal S512x1 .f32)
    (h : ∀ r n, k0_pay7 t (k0_pay4 x) (k0_pay5 gm) m (Scalar.ofBits .f32 0x358637BD#32) (ix2 r n) = PostSpec.x1 W (R r) n)
    (hg : ∀ n, gp (ix2 0 n) = W.gpre n) (r : Fin 512) (n : Fin 1024) :
    k0_pay8 t (k0_pay4 x) (k0_pay5 gm) m (Scalar.ofBits .f32 0x358637BD#32) gp (ix2 r n) = PostSpec.h2 W (R r) n := by
  have h' : ∀ r n, k0_pay7 t (k0_pay4 x) (k0_pay5 gm) m (Ideal.ofBits .f32 0x358637BD#32) (ix2 r n) = PostSpec.x1 W (R r) n := h
  pointwise [k0_pay8]
  simp only [h', hg]
  rfl

end

section
variable (W : PostSpec.Weights) (R : Fin 512 → PostSpec.Row)
variable (h2 : Vec Ideal S512x1024 .bf16) (wup : Vec Ideal S1024x5632 .bf16)

theorem u_apply (hh : ∀ r n, h2 (ix2 r n) = PostSpec.h2 W (R r) n) (hw : ∀ k j, wup (ix2 k j) = W.wup k j)
    (r : Fin 512) (j : Fin 2816) : k0_pay10 h2 wup (ix2 r j) = PostSpec.u W (R r) j := by
  pointwise [k0_pay10, k0_pay9]
  simp only [hh, hw]
  rfl

theorem val_apply (hh : ∀ r n, h2 (ix2 r n) = PostSpec.h2 W (R r) n) (hw : ∀ k j, wup (ix2 k j) = W.wup k j)
    (r : Fin 512) (j : Fin 2816) : k0_pay11 h2 wup (ix2 r j) = PostSpec.val W (R r) j := by
  pointwise [k0_pay11, k0_pay9]
  simp only [hh, hw]
  rfl

theorem last_apply (v : FVec Ideal S512x2816 .f32) (q : Fin 2) (j : Fin 2816) :
    k0_pay15 v (ix3 0 q j) = v (ix2 ⟨510 + q.val, by omega⟩ j) := by
  pointwise [k0_pay15]

/-- A choice by whether the row's number is `k`. -/
theorem select_row (r k : ℕ) (hr : r < 512) (hk : k < 512) (a b : EReal) :
    Scalar.select (IntOp.cmpi CmpIPredicate.eq (BitVec.ofNat 32 r) (BitVec.ofNat 32 k)) a b = if r = k then a else b := by
  have e : (BitVec.ofNat 32 r = BitVec.ofNat 32 k) ↔ r = k :=
    ⟨fun h => by
      have := congrArg BitVec.toNat h
      simp only [BitVec.toNat_ofNat] at this
      omega, fun h => h ▸ rfl⟩
  by_cases h : r = k
  · subst h; simp [Scalar.select, IntOp.cmpi]
  · have hb : (BitVec.ofNat 32 r == BitVec.ofNat 32 k) = false := beq_eq_false_iff_ne.2 fun q => h (e.1 q)
    simp [Scalar.select, IntOp.cmpi, hb, h]

/-- The named constant is the real `1/√2`. -/
theorem sqrt_half : Named.named (F := Ideal) κ "sqrt_half" (φ := .f32) 0x3F3504F3#32 = (((Real.sqrt 2)⁻¹ : ℝ) : EReal) :=
  IdealRules.named_const.ideal_named_scalar _ _ _ _ rfl

theorem conv_apply (v : FVec Ideal S512x2816 .f32) (c0 c1 : Vec Ideal S1x1x2816 .f32) (cb w0 w1 w2 : Vec Ideal S1x2816 .f32)
    (u : Fin 512 → Fin 2816 → EReal) (p0 p1 : Fin 2816 → EReal)
    (hv : ∀ r j, v (ix2 r j) = u r j) (h0 : ∀ j, c0 (ix3 0 0 j) = p0 j) (h1 : ∀ j, c1 (ix3 0 0 j) = p1 j)
    (hb : ∀ j, cb (ix2 0 j) = W.cb j) (hw0 : ∀ j, w0 (ix2 0 j) = W.cw 0 j) (hw1 : ∀ j, w1 (ix2 0 j) = W.cw 1 j)
    (hw2 : ∀ j, w2 (ix2 0 j) = W.cw 2 j) (r : Fin 512) (j : Fin 2816) :
    k0_pay16 v (iota .tc S512x2816 32 [0] iota_S512x2816_d0_w32) (dynamicRotate 0 1#32 none v rotates_S512x2816_d0)
      (dynamicRotate 0 2#32 none v rotates_S512x2816_d0) (k0_pay14 c0) c1 cb w0 w1 w2 (ix2 r j)
      = PostSpec.conv W (if r.val = 0 then p0 else if r.val = 1 then p1 else u ⟨r.val - 2, by omega⟩)
          (if r.val = 0 then p1 else u ⟨r.val - 1, by omega⟩) (u r) j := by
  pointwise [k0_pay16, k0_pay14]
  simp only [hv, h0, h1, hb, hw0, hw1, hw2]
  simp only [select_row _ 0 (by omega : r.val < 512) (by omega), select_row _ 1 (by omega : r.val < 512) (by omega)]
  unfold PostSpec.conv
  by_cases e0 : r.val = 0
  · simp only [if_pos e0]
  · have i1 : (⟨(r.val + 512 - 1) % 512, Nat.mod_lt _ (by omega)⟩ : Fin 512) = ⟨r.val - 1, by omega⟩ := Fin.ext (by simp only; omega)
    by_cases e1 : r.val = 1
    · simp only [if_neg e0, if_pos e1, i1]
    · have i2 : (⟨(r.val + 512 - 2) % 512, Nat.mod_lt _ (by omega)⟩ : Fin 512) = ⟨r.val - 2, by omega⟩ := Fin.ext (by simp only; omega)
      simp only [if_neg e0, if_neg e1, i1, i2]

theorem y_apply (U2 U1 : Fin 512 → Fin 2816 → EReal) (v : FVec Ideal S512x2816 .f32) (it : IVec S512x2816 32)
    (v65 v66 : FVec Ideal S512x2816 .f32) (v68 : FVec Ideal S1x2816 .f32) (v69 : Vec Ideal S1x1x2816 .f32) (cb w0 w1 w2 : Vec Ideal S1x2816 .f32)
    (vl : FVec Ideal S512x2816 .f32) (wd : Vec Ideal S2816x1024 .bf16) (x1 : Vec Ideal S512x1024 .f32) (gf : Vec Ideal S1x1024 .f32)
    (hc : ∀ r j, k0_pay16 v it v65 v66 v68 v69 cb w0 w1 w2 (ix2 r j) = PostSpec.conv W (U2 r) (U1 r) (PostSpec.u W (R r)) j)
    (hv : ∀ r j, vl (ix2 r j) = PostSpec.val W (R r) j) (hwd : ∀ k n, wd (ix2 k n) = W.wdown k n)
    (hx : ∀ r n, x1 (ix2 r n) = PostSpec.x1 W (R r) n) (hg : ∀ n, gf (ix2 0 n) = W.gpost n) (r : Fin 512) (n : Fin 1024) :
    k0_pay1 vl (k0_pay17 v it v65 v66 v68 v69 cb w0 w1 w2) (k0_pay18 v it v65 v66 v68 v69 cb w0 w1 w2) wd x1 gf (ix2 r n)
      = PostSpec.y W (U2 r) (U1 r) (R r) n := by
  pointwise [k0_pay1, k0_pay17, k0_pay18]
  simp only [hc, hv, hwd, hx, hg, sqrt_half]
  rfl

end

end Cert.PostPIdeal.Block
-- ==== Proof.Loads.lean ====
/-
  Loads and stores of a whole block, at the block's literal sizes.
-/
module

public import Idealize.ShloMosaic.Lib.VecWindow
public import Idealize.ShloMosaic.Lib.WholeRead
public import Idealize.ShloMosaic.Lib.Pipeline.ValueKit

@[expose] public section

noncomputable section

namespace Cert.Loads

open Idealize.ShloMosaic

variable {Val : EltTy → Type} {S : Shape} {e : EltTy} {sig : RefSig} {κ : Kind} {sp : Space}

/-- A load of a whole block held at `X` reads `X`. -/
theorem load_whole {m : Memref sig κ sp S e} (h : m.IsWhole) (X : S.Idx → Val e) {off : Fin S.rank → ℕ}
    (inb : ∀ a, off a + S.size a ≤ S.size a) :
    View.readAt Val m.view (Rect.unit off (no_index S.size) inb).toLoadRect (h.unread X) = X :=
  (View.readAt_full m.view (h.unread X) inb).trans (h.read_unread X)

/-- A load of a part of a block held at `X` reads that part of `X`. -/
theorem load_part {m : Memref sig κ sp S e} (h : m.IsWhole) (X : S.Idx → Val e) (B : LoadRect S) :
    View.readAt Val m.view B (h.unread X) = fun x => X (B.idx x) := funext fun x => Memref.IsWhole.readAt_unread h X B x

/-- A load of a whole block after a store of the whole block reads what was stored. -/
theorem load_stored [∀ e, Nonempty (Val e)] (v : View sig κ sp S e) {off off' : Fin S.rank → ℕ}
    (inb : ∀ a, off a + S.size a ≤ S.size a) (inb' : ∀ a, off' a + S.size a ≤ S.size a) (w : S.Idx → Val e)
    (L : List (View.Piece Val S e)) :
    v.readCov ((⟨Rect.unit off' (no_index S.size) inb', w⟩ : View.Piece Val S e) :: L)
      (Rect.unit off (no_index S.size) inb).toLoadRect = w :=
  View.readCov_full v inb inb' w L

/-- What a block holds after a store of the whole block is what was stored. -/
theorem stored_whole (v : View sig κ sp S e) (f : v.ty.Contents Val) {off : Fin S.rank → ℕ}
    (inb : ∀ a, off a + S.size a ≤ S.size a) (w : S.Idx → Val e) (L : List (View.Piece Val S e)) :
    v.read Val (v.writes Val f ((⟨Rect.unit off (no_index S.size) inb, w⟩ : View.Piece Val S e) :: L)) = w :=
  View.read_writes_full v f inb w L

/-- A load of a part of a block after a store of the whole block reads that part of what was stored. -/
theorem load_stored_part [∀ e, Nonempty (Val e)] (v : View sig κ sp S e) {off : Fin S.rank → ℕ}
    (inb : ∀ a, off a + S.size a ≤ S.size a) (w : S.Idx → Val e) (L : List (View.Piece Val S e)) (B : LoadRect S) :
    v.readCov ((⟨Rect.unit off (no_index S.size) inb, w⟩ : View.Piece Val S e) :: L) B = fun x => w (B.idx x) :=
  funext fun x => congrFun (View.read_writes_full v v.junk inb w L) (B.idx x)

end Cert.Loads

end
-- ==== Proof.PostPBody.lean ====
/-
  What the prompt post kernel's body leaves in its two output blocks: the layer's rows, and the last two rows that the
  convolution runs over, which the next block starts from.
-/
module

public import proofs.«01_k».proof.Proof.PostPBlock
public import proofs.«01_k».proof.Proof.Loads
public import proofs.«01_k».proof.Proof.Gen.PostPIdeal.Value

@[expose] public section

set_option maxRecDepth 16384

noncomputable section

namespace Cert.PostPIdeal.Block

open Cert.PostPIdeal Cert.PostPIdeal.Gen Idealize.ShloMosaic Idealize.ShloMosaic.TcCoe

section
variable (x0 : Vec Ideal S512x1024 .f32) (x1 x2 : Vec Ideal S512x512 .bf16) (x3 x4 x5 x6 : Vec Ideal S512x1024 .bf16)
  (x7 : Vec Ideal S1024x1024 .bf16) (x8 x9 : Vec Ideal S1x1024 .f32) (x10 : Vec Ideal S1024x5632 .bf16) (x11 : Vec Ideal S3x2816 .f32)
  (x12 : Vec Ideal S1x2816 .f32) (x13 : Vec Ideal S2816x1024 .bf16) (x14 : Vec Ideal S1x1024 .f32)

/-- The weights that the body's blocks hold. -/
def wts (x5 x6 : Vec Ideal S512x1024 .bf16) (x7 : Vec Ideal S1024x1024 .bf16) (x8 x9 : Vec Ideal S1x1024 .f32)
    (x10 : Vec Ideal S1024x5632 .bf16) (x11 : Vec Ideal S3x2816 .f32) (x12 : Vec Ideal S1x2816 .f32)
    (x13 : Vec Ideal S2816x1024 .bf16) (x14 : Vec Ideal S1x1024 .f32) : PostSpec.Weights where
  woa k n := x5 (ix2 k n)
  wob k n := x6 (ix2 k n)
  wout k n := x7 (ix2 k n)
  gmix n := x8 (ix2 0 n)
  gpre n := x9 (ix2 0 n)
  wup k j := x10 (ix2 k j)
  cw i j := x11 (ix2 i j)
  cb j := x12 (ix2 0 j)
  wdown k n := x13 (ix2 k n)
  gpost n := x14 (ix2 0 n)

/-- Row `r` of the body's blocks. -/
def row (x0 : Vec Ideal S512x1024 .f32) (x1 x2 : Vec Ideal S512x512 .bf16) (x3 x4 : Vec Ideal S512x1024 .bf16) (r : Fin 512) :
    PostSpec.Row where
  x n := x0 (ix2 r n)
  a k := x1 (ix2 r k)
  b k := x2 (ix2 r k)
  sa n := x3 (ix2 r n)
  sb n := x4 (ix2 r n)

/-- The body's rows after the mixers' residual. -/
def bx1 : FVec Ideal S512x1024 .f32 :=
  k0_pay7 (k0_pay3 x3 x1 x5 x4 x2 x6 x7) (k0_pay4 x0) (k0_pay5 x8) (k0_pay6 x3 x1 x5 x4 x2 x6 x7) (Scalar.ofBits .f32 0x358637BD#32)

/-- The body's feed-forward input. -/
def bh2 : FVec Ideal S512x1024 .bf16 :=
  k0_pay8 (k0_pay3 x3 x1 x5 x4 x2 x6 x7) (k0_pay4 x0) (k0_pay5 x8) (k0_pay6 x3 x1 x5 x4 x2 x6 x7) (Scalar.ofBits .f32 0x358637BD#32) x9

theorem bx1_apply (r : Fin 512) (n : Fin 1024) :
    bx1 x0 x1 x2 x3 x4 x5 x6 x7 x8 (ix2 r n) = PostSpec.x1 (wts x5 x6 x7 x8 x9 x10 x11 x12 x13 x14) ((row x0 x1 x2 x3 x4) r) n :=
  have ha := attn_apply (wts x5 x6 x7 x8 x9 x10 x11 x12 x13 x14) (row x0 x1 x2 x3 x4) x3 x4 x1 x2 x5 x6 x7 (fun _ _ => rfl) (fun _ _ => rfl) (fun _ _ => rfl)
    (fun _ _ => rfl) (fun _ _ => rfl) (fun _ _ => rfl) (fun _ _ => rfl)
  x1_apply (wts x5 x6 x7 x8 x9 x10 x11 x12 x13 x14) (row x0 x1 x2 x3 x4) x0 x8 _ ha _ (mean_apply (wts x5 x6 x7 x8 x9 x10 x11 x12 x13 x14) (row x0 x1 x2 x3 x4) x3 x4 x1 x2 x5 x6 x7 ha)
    (fun _ _ => rfl) (fun _ => rfl) r n

theorem bh2_apply (r : Fin 512) (n : Fin 1024) :
    bh2 x0 x1 x2 x3 x4 x5 x6 x7 x8 x9 (ix2 r n) = PostSpec.h2 (wts x5 x6 x7 x8 x9 x10 x11 x12 x13 x14) ((row x0 x1 x2 x3 x4) r) n :=
  h2_apply (wts x5 x6 x7 x8 x9 x10 x11 x12 x13 x14) (row x0 x1 x2 x3 x4) x0 x8 x9 _ _ (bx1_apply x0 x1 x2 x3 x4 x5 x6 x7 x8 x9 x10 x11 x12 x13 x14)
    (fun _ => rfl) r n

/-- Row `k` of the convolution's weights. -/
def cw0 (x11 : Vec Ideal S3x2816 .f32) : Vec Ideal S1x2816 .f32 := View.ld x11 (Rect.unit (s := S3x2816) ![0, 0] S1x2816.size inb_S3x2816_S1x2816_0_0)
def cw1 (x11 : Vec Ideal S3x2816 .f32) : Vec Ideal S1x2816 .f32 := View.ld x11 (Rect.unit (s := S3x2816) ![1, 0] S1x2816.size inb_S3x2816_S1x2816_1_0)
def cw2 (x11 : Vec Ideal S3x2816 .f32) : Vec Ideal S1x2816 .f32 := View.ld x11 (Rect.unit (s := S3x2816) ![2, 0] S1x2816.size inb_S3x2816_S1x2816_2_0)
def pr0 (z : Vec Ideal S1x2x2816 .f32) : Vec Ideal S1x1x2816 .f32 := View.ld z (Rect.unit (s := S1x2x2816) ![0, 0, 0] S1x1x2816.size inb_S1x2x2816_S1x1x2816_0_0_0)
def pr1 (z : Vec Ideal S1x2x2816 .f32) : Vec Ideal S1x1x2816 .f32 := View.ld z (Rect.unit (s := S1x2x2816) ![0, 1, 0] S1x1x2816.size inb_S1x2x2816_S1x1x2816_0_1_0)

theorem cw0_apply (j : Fin 2816) : cw0 x11 (ix2 0 j) = x11 (ix2 0 j) :=
  congrArg x11 (funext fun a => Fin.ext (by match a with | 0 => simp | 1 => simp))
theorem cw1_apply (j : Fin 2816) : cw1 x11 (ix2 0 j) = x11 (ix2 1 j) :=
  congrArg x11 (funext fun a => Fin.ext (by match a with | 0 => simp | 1 => simp))
theorem cw2_apply (j : Fin 2816) : cw2 x11 (ix2 0 j) = x11 (ix2 2 j) :=
  congrArg x11 (funext fun a => Fin.ext (by match a with | 0 => simp | 1 => simp))
theorem pr0_apply (z : Vec Ideal S1x2x2816 .f32) (j : Fin 2816) : pr0 z (ix3 0 0 j) = z (ix3 0 0 j) :=
  congrArg z (funext fun a => Fin.ext (by match a with | 0 => simp | 1 => simp | 2 => simp))
theorem pr1_apply (z : Vec Ideal S1x2x2816 .f32) (j : Fin 2816) : pr1 z (ix3 0 0 j) = z (ix3 0 1 j) :=
  congrArg z (funext fun a => Fin.ext (by match a with | 0 => simp | 1 => simp | 2 => simp))

/-- The body's channels that the convolution runs over. -/
def bu : FVec Ideal S512x2816 .f32 := k0_pay10 (bh2 x0 x1 x2 x3 x4 x5 x6 x7 x8 x9) x10

theorem bu_apply (r : Fin 512) (j : Fin 2816) :
    bu x0 x1 x2 x3 x4 x5 x6 x7 x8 x9 x10 (ix2 r j) = PostSpec.u (wts x5 x6 x7 x8 x9 x10 x11 x12 x13 x14) ((row x0 x1 x2 x3 x4) r) j :=
  u_apply (wts x5 x6 x7 x8 x9 x10 x11 x12 x13 x14) (row x0 x1 x2 x3 x4) _ x10 (bh2_apply x0 x1 x2 x3 x4 x5 x6 x7 x8 x9 x10 x11 x12 x13 x14) (fun _ _ => rfl) r j

/-- The body's output block, the two rows before it being `z`'s. -/
def by_ (z : Vec Ideal S1x2x2816 .f32) : FVec Ideal S512x1024 .f32 :=
  have v := bu x0 x1 x2 x3 x4 x5 x6 x7 x8 x9 x10
  have h := bh2 x0 x1 x2 x3 x4 x5 x6 x7 x8 x9
  k0_pay1 (k0_pay11 h x10)
    (k0_pay17 v (iota .tc S512x2816 32 [0] iota_S512x2816_d0_w32) (k0_pay12 h x10) (k0_pay13 h x10) (k0_pay14 (pr0 z)) (pr1 z) x12 (cw0 x11) (cw1 x11) (cw2 x11))
    (k0_pay18 v (iota .tc S512x2816 32 [0] iota_S512x2816_d0_w32) (k0_pay12 h x10) (k0_pay13 h x10) (k0_pay14 (pr0 z)) (pr1 z) x12 (cw0 x11) (cw1 x11) (cw2 x11))
    x13 (bx1 x0 x1 x2 x3 x4 x5 x6 x7 x8) x14

theorem by_apply (z : Vec Ideal S1x2x2816 .f32) (r : Fin 512) (n : Fin 1024) :
    by_ x0 x1 x2 x3 x4 x5 x6 x7 x8 x9 x10 x11 x12 x13 x14 z (ix2 r n)
      = PostSpec.y (wts x5 x6 x7 x8 x9 x10 x11 x12 x13 x14)
          (if r.val = 0 then fun j => z (ix3 0 0 j) else if r.val = 1 then fun j => z (ix3 0 1 j)
            else PostSpec.u (wts x5 x6 x7 x8 x9 x10 x11 x12 x13 x14) ((row x0 x1 x2 x3 x4) ⟨r.val - 2, by omega⟩))
          (if r.val = 0 then fun j => z (ix3 0 1 j) else PostSpec.u (wts x5 x6 x7 x8 x9 x10 x11 x12 x13 x14) ((row x0 x1 x2 x3 x4) ⟨r.val - 1, by omega⟩)) ((row x0 x1 x2 x3 x4) r) n :=
  y_apply (wts x5 x6 x7 x8 x9 x10 x11 x12 x13 x14) (row x0 x1 x2 x3 x4)
    (fun r => if r.val = 0 then fun j => z (ix3 0 0 j) else if r.val = 1 then fun j => z (ix3 0 1 j)
      else PostSpec.u (wts x5 x6 x7 x8 x9 x10 x11 x12 x13 x14) ((row x0 x1 x2 x3 x4) ⟨r.val - 2, by omega⟩))
    (fun r => if r.val = 0 then fun j => z (ix3 0 1 j) else PostSpec.u (wts x5 x6 x7 x8 x9 x10 x11 x12 x13 x14) ((row x0 x1 x2 x3 x4) ⟨r.val - 1, by omega⟩))
    _ _ _ _ _ _ _ _ _ _ _ _ _ _
    (conv_apply (wts x5 x6 x7 x8 x9 x10 x11 x12 x13 x14) _ _ _ _ _ _ _ (fun r => PostSpec.u (wts x5 x6 x7 x8 x9 x10 x11 x12 x13 x14) ((row x0 x1 x2 x3 x4) r)) (fun j => z (ix3 0 0 j)) (fun j => z (ix3 0 1 j))
      (bu_apply x0 x1 x2 x3 x4 x5 x6 x7 x8 x9 x10 x11 x12 x13 x14) (pr0_apply z) (pr1_apply z) (fun _ => rfl)
      (cw0_apply x11) (cw1_apply x11) (cw2_apply x11))
    (val_apply (wts x5 x6 x7 x8 x9 x10 x11 x12 x13 x14) (row x0 x1 x2 x3 x4) _ x10 (bh2_apply x0 x1 x2 x3 x4 x5 x6 x7 x8 x9 x10 x11 x12 x13 x14) (fun _ _ => rfl))
    (fun _ _ => rfl) (bx1_apply x0 x1 x2 x3 x4 x5 x6 x7 x8 x9 x10 x11 x12 x13 x14) (fun _ => rfl) r n

theorem last2_apply (q : Fin 2) (j : Fin 2816) :
    k0_pay15 (bu x0 x1 x2 x3 x4 x5 x6 x7 x8 x9 x10) (ix3 0 q j) = PostSpec.u (wts x5 x6 x7 x8 x9 x10 x11 x12 x13 x14) ((row x0 x1 x2 x3 x4) ⟨510 + q.val, by omega⟩) j :=
  (last_apply _ q j).trans (bu_apply x0 x1 x2 x3 x4 x5 x6 x7 x8 x9 x10 x11 x12 x13 x14 _ j)

end

theorem zero_apply (q : Fin 2) (j : Fin 2816) : k0_pay2 (F := Ideal) (ix3 0 q j) = 0 := by
  pointwise [k0_pay2]

theorem outA15 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S3x2816 .f32) (harg13 : arg13.IsWhole) (arg14 : Memref sig .tc .vmem S1x2816 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S512x1024 .f32) (harg17 : arg17.IsWhole) (arg18 : Memref sig .tc .vmem S1x2x2816 .f32) (harg18 : arg18.IsWhole) (arg19 : Memref sig .tc .vmem S512x1024 .bf16) (harg19 : arg19.IsWhole) (hc0 : cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x2816 .f32) (x12 : Vec Ideal S1x2816 .f32) (x13 : Vec Ideal S2816x1024 .bf16) (x14 : Vec Ideal S1x1024 .f32) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = by_ x0 x1 x2 x3 x4 x5 x6 x7 x8 x9 x10 x11 x12 x13 x14 (k0_pay2 (F := Ideal)) := by
  unfold out0_A_15 kernelRun0_A
  dsimp only
  refine (Loads.stored_whole _ _ _ _ _).trans ?_
  simp only [kernelRun0_A.sl.H15_1, kernelRun0_A.sl.H16_1, kernelRun0_A.sl.HS0_1, kernelRun0_A.sl.cst_22, kernelRun0_A.sl.r, kernelRun0_A.sl.r_1, kernelRun0_A.sl.r_10, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v0, kernelRun0_A.sl.v1, kernelRun0_A.sl.v118, kernelRun0_A.sl.v2, kernelRun0_A.sl.v58, kernelRun0_A.sl.v64, kernelRun0_A.sl.v67, kernelRun0_A.sl.v69]
  simp only [Loads.load_whole, Loads.load_stored]
  simp only [Loads.load_part, Loads.load_stored_part]
  rfl

theorem outA16 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S3x2816 .f32) (harg13 : arg13.IsWhole) (arg14 : Memref sig .tc .vmem S1x2816 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S512x1024 .f32) (harg17 : arg17.IsWhole) (arg18 : Memref sig .tc .vmem S1x2x2816 .f32) (harg18 : arg18.IsWhole) (arg19 : Memref sig .tc .vmem S512x1024 .bf16) (harg19 : arg19.IsWhole) (hc0 : cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x2816 .f32) (x12 : Vec Ideal S1x2816 .f32) (x13 : Vec Ideal S2816x1024 .bf16) (x14 : Vec Ideal S1x1024 .f32) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = k0_pay15 (bu x0 x1 x2 x3 x4 x5 x6 x7 x8 x9 x10) := by
  unfold out0_A_16 kernelRun0_A
  dsimp only
  refine (Loads.stored_whole _ _ _ _ _).trans ?_
  simp only [kernelRun0_A.sl.H15_1, kernelRun0_A.sl.H16_1, kernelRun0_A.sl.HS0_1, kernelRun0_A.sl.cst_22, kernelRun0_A.sl.r, kernelRun0_A.sl.r_1, kernelRun0_A.sl.r_10, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v0, kernelRun0_A.sl.v1, kernelRun0_A.sl.v118, kernelRun0_A.sl.v2, kernelRun0_A.sl.v58, kernelRun0_A.sl.v64, kernelRun0_A.sl.v67, kernelRun0_A.sl.v69]
  simp only [Loads.load_whole, Loads.load_stored]
  skip
  rfl

theorem outB15 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S3x2816 .f32) (harg13 : arg13.IsWhole) (arg14 : Memref sig .tc .vmem S1x2816 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S512x1024 .f32) (harg17 : arg17.IsWhole) (arg18 : Memref sig .tc .vmem S1x2x2816 .f32) (harg18 : arg18.IsWhole) (arg19 : Memref sig .tc .vmem S512x1024 .bf16) (harg19 : arg19.IsWhole) (hc0 : ¬cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x2816 .f32) (x12 : Vec Ideal S1x2816 .f32) (x13 : Vec Ideal S2816x1024 .bf16) (x14 : Vec Ideal S1x1024 .f32) (xo16 : Vec Ideal S1x2x2816 .f32) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo16 = by_ x0 x1 x2 x3 x4 x5 x6 x7 x8 x9 x10 x11 x12 x13 x14 xo16 := by
  unfold out0_B_15 kernelRun0_B
  dsimp only
  refine (Loads.stored_whole _ _ _ _ _).trans ?_
  simp only [kernelRun0_B.sl.H15_1, kernelRun0_B.sl.HS0_1, kernelRun0_B.sl.cst_22, kernelRun0_B.sl.r, kernelRun0_B.sl.r_1, kernelRun0_B.sl.r_10, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v0, kernelRun0_B.sl.v1, kernelRun0_B.sl.v118, kernelRun0_B.sl.v2, kernelRun0_B.sl.v58, kernelRun0_B.sl.v64]
  simp only [Loads.load_whole, Loads.load_stored]
  simp only [Loads.load_part, Loads.load_stored_part]
  rfl

theorem outB16 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S3x2816 .f32) (harg13 : arg13.IsWhole) (arg14 : Memref sig .tc .vmem S1x2816 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S512x1024 .f32) (harg17 : arg17.IsWhole) (arg18 : Memref sig .tc .vmem S1x2x2816 .f32) (harg18 : arg18.IsWhole) (arg19 : Memref sig .tc .vmem S512x1024 .bf16) (harg19 : arg19.IsWhole) (hc0 : ¬cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x2816 .f32) (x12 : Vec Ideal S1x2816 .f32) (x13 : Vec Ideal S2816x1024 .bf16) (x14 : Vec Ideal S1x1024 .f32) (xo16 : Vec Ideal S1x2x2816 .f32) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo16 = k0_pay15 (bu x0 x1 x2 x3 x4 x5 x6 x7 x8 x9 x10) := by
  unfold out0_B_16 kernelRun0_B
  dsimp only
  refine (Loads.stored_whole _ _ _ _ _).trans ?_
  simp only [kernelRun0_B.sl.H15_1, kernelRun0_B.sl.HS0_1, kernelRun0_B.sl.cst_22, kernelRun0_B.sl.r, kernelRun0_B.sl.r_1, kernelRun0_B.sl.r_10, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v0, kernelRun0_B.sl.v1, kernelRun0_B.sl.v118, kernelRun0_B.sl.v2, kernelRun0_B.sl.v58, kernelRun0_B.sl.v64]
  simp only [Loads.load_whole, Loads.load_stored]
  skip
  rfl

end Cert.PostPIdeal.Block

end
-- ==== Proof.PostPArray.lean ====
/-
  The prompt post kernel's two result arrays, read at an index from the argument arrays.
-/
module

public import proofs.«01_k».proof.Proof.PostPBody
public import Idealize.ShloMosaic.Lib.Pipeline.ValueKit
public import Idealize.ShloMosaic.Lib.StableHlo.ReadAt

@[expose] public section

set_option maxRecDepth 16384

noncomputable section

namespace Cert.PostPIdeal.Block

open Cert.PostPIdeal Cert.PostPIdeal.Gen Idealize.ShloMosaic Idealize.ShloMosaic.TcCoe Idealize.SL.Sem

variable (m : (ℓ : Loc nD τ sig) → Buf (Elt Ideal) ℓ) (c : Dev nD)

/-! ## The host's operands -/

theorem V_v3 (k : Fin 512) (n : Fin 1024) :
    V m c main_v3 (ix2 k n) = m ((c : Thread nD τ).loc main_arg5) (ix2 (PostSpec.perm k) n) := by
  unfold V
  after_reads_at
  blk_ext
  unfold PostSpec.perm
  simp only
  omega

theorem V_v4 (k : Fin 512) (n : Fin 1024) :
    V m c main_v4 (ix2 k n) = m ((c : Thread nD τ).loc main_arg6) (ix2 k n) := by
  unfold V
  after_reads_at
  blk_ext

theorem V_v5 (k : Fin 1024) (n : Fin 1024) :
    V m c main_v5 (ix2 k n) = m ((c : Thread nD τ).loc main_arg7) (ix2 k n) := by
  unfold V
  after_reads_at
  blk_ext

theorem V_v12 (n : Fin 1024) :
    V m c main_v12 (ix2 0 n) = m ((c : Thread nD τ).loc main_arg8) (ix1 n) := by
  unfold V
  after_reads_at
  blk_ext

theorem V_v13 (n : Fin 1024) :
    V m c main_v13 (ix2 0 n) = m ((c : Thread nD τ).loc main_arg9) (ix1 n) := by
  unfold V
  after_reads_at
  blk_ext

theorem V_v9 (k : Fin 1024) (n : Fin 5632) :
    V m c main_v9 (ix2 k n) = m ((c : Thread nD τ).loc main_arg10) (ix2 k n) := by
  unfold V
  after_reads_at
  split
  · after_reads_at
    blk_ext
  · after_reads_at
    blk_ext

theorem V_v14 (n : Fin 2816) :
    V m c main_v14 (ix2 0 n) = m ((c : Thread nD τ).loc main_arg12) (ix1 n) := by
  unfold V
  after_reads_at
  blk_ext

theorem V_v10 (k : Fin 2816) (n : Fin 1024) :
    V m c main_v10 (ix2 k n) = m ((c : Thread nD τ).loc main_arg13) (ix2 k n) := by
  unfold V
  after_reads_at
  blk_ext

theorem V_v15 (n : Fin 1024) :
    V m c main_v15 (ix2 0 n) = m ((c : Thread nD τ).loc main_arg14) (ix1 n) := by
  unfold V
  after_reads_at
  blk_ext

theorem V_v11 (r : Fin 65536) (n : Fin 1024) :
    V m c main_v11 (ix2 r n) = m ((c : Thread nD τ).loc main_arg0) (ix3 ⟨r.val / 4096, by omega⟩ ⟨r.val % 4096, by omega⟩ n) := by
  unfold V
  after_reads_at
  blk_ext

/-! ## The blocks -/

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![t.val, 0] := by decide +kernel
theorem idx_3 : ∀ t : Fin cfg0.N, win0_3.index t = ![t.val, 0] := by decide +kernel
theorem idx_4 : ∀ t : Fin cfg0.N, win0_4.index t = ![t.val, 0] := by decide +kernel
theorem idx_5 : ∀ t : Fin cfg0.N, win0_5.index t = ![0, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_10 : ∀ t : Fin cfg0.N, win0_10.index t = ![0, 0] := by decide +kernel
theorem idx_11 : ∀ t : Fin cfg0.N, win0_11.index t = ![0, 0] := by decide +kernel
theorem idx_12 : ∀ t : Fin cfg0.N, win0_12.index t = ![0, 0] := by decide +kernel
theorem idx_13 : ∀ t : Fin cfg0.N, win0_13.index t = ![0, 0] := by decide +kernel
theorem idx_14 : ∀ t : Fin cfg0.N, win0_14.index t = ![0, 0] := by decide +kernel
theorem idx_15 : ∀ t : Fin cfg0.N, win0_15.index t = ![t.val, 0] := by decide +kernel
theorem idx_16 : ∀ t : Fin cfg0.N, win0_16.index t = ![t.val / 8, 0, 0] := by decide +kernel

/-- Row `r` of block `t`. -/
abbrev brow (t : Fin cfg0.N) (r : Fin 512) : Fin 65536 :=
  ⟨512 * t.val + r.val, by have h : t.val < 128 := t.isLt; omega⟩

variable (t : Fin cfg0.N)

theorem iblk_0 (r : Fin 512) (n : Fin 1024) :
    iblk m c 0 t (ix2 r n) = m ((c : Thread nD τ).loc main_arg0) (ix3 ⟨(brow t r).val / 4096, by omega⟩ ⟨(brow t r).val % 4096, by omega⟩ n) := by
  rw [← V_v11 m c (brow t r) n]
  blk_ext [iblk, idx_0 t]

theorem iblk_1 (r : Fin 512) (n : Fin 512) :
    iblk m c 1 t (ix2 r n) = m ((c : Thread nD τ).loc main_arg1) (ix2 (brow t r) n) := by
  blk_ext [iblk, V, idx_1 t]

theorem iblk_2 (r : Fin 512) (n : Fin 512) :
    iblk m c 2 t (ix2 r n) = m ((c : Thread nD τ).loc main_arg2) (ix2 (brow t r) n) := by
  blk_ext [iblk, V, idx_2 t]

theorem iblk_3 (r : Fin 512) (n : Fin 1024) :
    iblk m c 3 t (ix2 r n) = m ((c : Thread nD τ).loc main_arg3) (ix2 (brow t r) n) := by
  blk_ext [iblk, V, idx_3 t]

theorem iblk_4 (r : Fin 512) (n : Fin 1024) :
    iblk m c 4 t (ix2 r n) = m ((c : Thread nD τ).loc main_arg4) (ix2 (brow t r) n) := by
  blk_ext [iblk, V, idx_4 t]

theorem iblk_5 (k : Fin 512) (n : Fin 1024) :
    iblk m c 5 t (ix2 k n) = m ((c : Thread nD τ).loc main_arg5) (ix2 (PostSpec.perm k) n) := by
  rw [← V_v3 m c k n]
  blk_ext [iblk, idx_5 t]

theorem iblk_6 (k : Fin 512) (n : Fin 1024) :
    iblk m c 6 t (ix2 k n) = m ((c : Thread nD τ).loc main_arg6) (ix2 k n) := by
  rw [← V_v4 m c k n]
  blk_ext [iblk, idx_6 t]

theorem iblk_7 (k : Fin 1024) (n : Fin 1024) :
    iblk m c 7 t (ix2 k n) = m ((c : Thread nD τ).loc main_arg7) (ix2 k n) := by
  rw [← V_v5 m c k n]
  blk_ext [iblk, idx_7 t]

theorem iblk_8 (n : Fin 1024) :
    iblk m c 8 t (ix2 0 n) = m ((c : Thread nD τ).loc main_arg8) (ix1 n) := by
  rw [← V_v12 m c n]
  blk_ext [iblk, idx_8 t]

theorem iblk_9 (n : Fin 1024) :
    iblk m c 9 t (ix2 0 n) = m ((c : Thread nD τ).loc main_arg9) (ix1 n) := by
  rw [← V_v13 m c n]
  blk_ext [iblk, idx_9 t]

theorem iblk_10 (k : Fin 1024) (n : Fin 5632) :
    iblk m c 10 t (ix2 k n) = m ((c : Thread nD τ).loc main_arg10) (ix2 k n) := by
  rw [← V_v9 m c k n]
  blk_ext [iblk, idx_10 t]

theorem iblk_11 (k : Fin 3) (n : Fin 2816) :
    iblk m c 11 t (ix2 k n) = m ((c : Thread nD τ).loc main_arg11) (ix2 k n) := by
  blk_ext [iblk, V, idx_11 t]

theorem iblk_12 (n : Fin 2816) :
    iblk m c 12 t (ix2 0 n) = m ((c : Thread nD τ).loc main_arg12) (ix1 n) := by
  rw [← V_v14 m c n]
  blk_ext [iblk, idx_12 t]

theorem iblk_13 (k : Fin 2816) (n : Fin 1024) :
    iblk m c 13 t (ix2 k n) = m ((c : Thread nD τ).loc main_arg13) (ix2 k n) := by
  rw [← V_v10 m c k n]
  blk_ext [iblk, idx_13 t]

theorem iblk_14 (n : Fin 1024) :
    iblk m c 14 t (ix2 0 n) = m ((c : Thread nD τ).loc main_arg14) (ix1 n) := by
  rw [← V_v15 m c n]
  blk_ext [iblk, idx_14 t]

/-- The weights that the arguments hold. -/
def W : PostSpec.Weights := PostSpec.weights (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The rows that the arguments hold. -/
def R : Fin 65536 → PostSpec.Row := PostSpec.promptRows (m ((c : Thread nD τ).loc main_arg0)) (m ((c : Thread nD τ).loc main_arg1)) (m ((c : Thread nD τ).loc main_arg2)) (m ((c : Thread nD τ).loc main_arg3)) (m ((c : Thread nD τ).loc main_arg4))

theorem wts_eq : wts (iblk m c 5 t) (iblk m c 6 t) (iblk m c 7 t) (iblk m c 8 t) (iblk m c 9 t) (iblk m c 10 t) (iblk m c 11 t) (iblk m c 12 t) (iblk m c 13 t) (iblk m c 14 t) = W m c := by
  unfold wts W PostSpec.weights
  simp only [PostSpec.Weights.mk.injEq]
  exact ⟨funext fun k => funext fun n => iblk_5 m c t k n, funext fun k => funext fun n => iblk_6 m c t k n,
    funext fun k => funext fun n => iblk_7 m c t k n, funext fun n => iblk_8 m c t n, funext fun n => iblk_9 m c t n,
    funext fun k => funext fun n => iblk_10 m c t k n, funext fun k => funext fun n => iblk_11 m c t k n,
    funext fun n => iblk_12 m c t n, funext fun k => funext fun n => iblk_13 m c t k n, funext fun n => iblk_14 m c t n⟩

theorem row_eq (r : Fin 512) : row (iblk m c 0 t) (iblk m c 1 t) (iblk m c 2 t) (iblk m c 3 t) (iblk m c 4 t) r = R m c (brow t r) := by
  unfold row R PostSpec.promptRows
  simp only [PostSpec.Row.mk.injEq]
  exact ⟨funext fun n => iblk_0 m c t r n, funext fun n => iblk_1 m c t r n, funext fun n => iblk_2 m c t r n,
    funext fun n => iblk_3 m c t r n, funext fun n => iblk_4 m c t r n⟩

/-- What the convolution's block holds after block `t`: the block's last two rows. -/
theorem conv_after (q : Fin 2) (j : Fin 2816) :
    (outsAt0 m c t.val t.isLt).2 (ix3 0 q j) = PostSpec.u (W m c) (R m c (brow t ⟨510 + q.val, by omega⟩)) j := by
  rw [← wts_eq m c t, ← row_eq m c t]
  by_cases h : t.val % 8 = 0
  · rw [outsAt0_A m c t h]
    dsimp only
    rw [outA16]
    exact last2_apply _ _ _ _ _ _ _ _ _ _ _ _ _ _ _ q j
  · rw [outsAt0_B m c t h]
    dsimp only
    rw [outB16]
    exact last2_apply _ _ _ _ _ _ _ _ _ _ _ _ _ _ _ q j

/-- The result's rows. -/
def resY (r : Fin 65536) (n : Fin 1024) : EReal := PostSpec.seqY 4096 (fun _ _ _ => 0) (W m c) (R m c) r n

theorem y_after (r : Fin 512) (n : Fin 1024) :
    (outsAt0 m c t.val t.isLt).1 (ix2 r n) = resY m c (brow t r) n := by
  have ht : t.val < 128 := t.isLt
  by_cases h : t.val % 8 = 0
  · rw [outsAt0_A m c t h]
    dsimp only
    rw [outA15, by_apply, wts_eq m c t]
    simp only [row_eq m c t, zero_apply]
    unfold resY PostSpec.seqY
    have e : (brow t r).val % 4096 = r.val := by simp only; omega
    rw [e]
    by_cases e0 : r.val = 0
    · simp only [if_pos e0]
    · by_cases e1 : r.val = 1
      · have i1 : brow t ⟨r.val - 1, by omega⟩ = ⟨(brow t r).val - 1, by omega⟩ := Fin.ext (by simp only; omega)
        simp only [if_neg e0, if_pos e1, i1]
      · have i1 : brow t ⟨r.val - 1, by omega⟩ = ⟨(brow t r).val - 1, by omega⟩ := Fin.ext (by simp only; omega)
        have i2 : brow t ⟨r.val - 2, by omega⟩ = ⟨(brow t r).val - 2, by omega⟩ := Fin.ext (by simp only; omega)
        simp only [if_neg e0, if_neg e1, i1, i2]
  · have hp : t.val - 1 < cfg0.N := Nat.lt_of_le_of_lt (Nat.sub_le _ _) t.isLt
    have hz := conv_after m c ⟨t.val - 1, hp⟩
    dsimp only at hz
    rw [outsAt0_B m c t h]
    dsimp only
    rw [outB15, by_apply, wts_eq m c t]
    simp only [row_eq m c t, hz]
    unfold resY PostSpec.seqY
    have e0' : ¬ (brow t r).val % 4096 = 0 := by simp only; omega
    have e1' : ¬ (brow t r).val % 4096 = 1 := by simp only; omega
    rw [if_neg e0', if_neg e1', if_neg e0']
    by_cases e0 : r.val = 0
    · have i1 : brow ⟨t.val - 1, hp⟩ ⟨510 + (1 : Fin 2).val, by decide⟩ = ⟨(brow t r).val - 1, by omega⟩ :=
        Fin.ext (by simp only [Fin.val_one]; omega)
      have i2 : brow ⟨t.val - 1, hp⟩ ⟨510 + (0 : Fin 2).val, by decide⟩ = ⟨(brow t r).val - 2, by omega⟩ :=
        Fin.ext (by simp only [Fin.val_zero]; omega)
      simp only [if_pos e0, i1, i2]
    · by_cases e1 : r.val = 1
      · have i1 : brow t ⟨r.val - 1, by omega⟩ = ⟨(brow t r).val - 1, by omega⟩ := Fin.ext (by simp only; omega)
        have i2 : brow ⟨t.val - 1, hp⟩ ⟨510 + (1 : Fin 2).val, by decide⟩ = ⟨(brow t r).val - 2, by omega⟩ :=
          Fin.ext (by simp only [Fin.val_one]; omega)
        simp only [if_neg e0, if_pos e1, i1, i2]
      · have i1 : brow t ⟨r.val - 1, by omega⟩ = ⟨(brow t r).val - 1, by omega⟩ := Fin.ext (by simp only; omega)
        have i2 : brow t ⟨r.val - 2, by omega⟩ = ⟨(brow t r).val - 2, by omega⟩ := Fin.ext (by simp only; omega)
        simp only [if_neg e0, if_neg e1, i1, i2]

/-- The first result's rows as an array. -/
def res15 : (⟨2, ![65536, 1024]⟩ : Shape).Idx → EReal := fun i => resY m c (i 0) (i 1)

/-- The second result: the last two rows of every sequence that the convolution runs over. -/
def res16 : (⟨3, ![16, 2, 2816]⟩ : Shape).Idx → EReal := fun i =>
  PostSpec.u (W m c) (R m c ⟨4096 * (i 0).val + 4094 + (i 1).val, by
    have h0 : (i 0).val < 16 := (i 0).isLt
    have h1 : (i 1).val < 2 := (i 1).isLt
    omega⟩) (i 2)

theorem final15 : (dats m 0 c).arrAt 15 cfg0.N = res15 m c := by
  refine (dats m 0 c).arrAt_eq_of_covers 15 _ (by decide +kernel) fun t hf y => ?_
  blk_simp
  rw [after0_15]
  obtain ⟨r, n, rfl⟩ : ∃ (r : Fin 512) (n : Fin 1024), y = ix2 r n := ⟨y 0, y 1, eq_ix2 y⟩
  have he : (win0_15.blk t).view.emb (ix2 r n) = ix2 (brow t r) n := by
    blk_ext [idx_15 t]
  refine Eq.trans ?_ (congrArg (res15 m c) he).symm
  exact y_after m c t r n

theorem final16 : (dats m 0 c).arrAt 16 cfg0.N = res16 m c := by
  refine (dats m 0 c).arrAt_eq_of_covers 16 _ (by decide +kernel) fun t hf y => ?_
  blk_simp
  rw [after0_16]
  have ht : t.val % 8 = 7 := (flush0_16 t).1 hf
  have hl : t.val < 128 := t.isLt
  obtain ⟨o, q, j, rfl⟩ : ∃ (o : Fin 1) (q : Fin 2) (j : Fin 2816), y = ix3 o q j := ⟨y 0, y 1, y 2, eq_ix3 y⟩
  obtain rfl : o = 0 := Subsingleton.elim _ _
  have he : (win0_16.blk t).view.emb (ix3 0 q j) = ix3 ⟨t.val / 8, by omega⟩ q j := by
    blk_ext [idx_16 t]
  refine Eq.trans ?_ (congrArg (res16 m c) he).symm
  refine (conv_after m c t q j).trans ?_
  refine congrArg (fun r => PostSpec.u (W m c) (R m c r) j) (Fin.ext ?_)
  simp only [ix3]
  show 512 * t.val + (510 + q.val) = 4096 * (t.val / 8) + 4094 + q.val
  omega

end Cert.PostPIdeal.Block

end
-- ==== Proof.PostPRefRead.lean ====
/-
  The prompt post reference's two results, read at an index, in `Cert.PostSpec`'s words.
-/
module

public import proofs.«01_k».proof.Proof.Gen.PostPRefIdeal.Read
public import proofs.«01_k».proof.Proof.PostSpec

@[expose] public section

set_option maxRecDepth 16384

noncomputable section

namespace Cert.PostPRefIdeal.Stage

open Cert.PostPRefIdeal Cert.PostPRefIdeal.Read Idealize.ShloMosaic Idealize.ShloMosaic.TcCoe

variable (x0 : (⟨3, ![16, 4096, 1024]⟩ : Shape).Idx → EReal) (x1 x2 : (⟨2, ![65536, 512]⟩ : Shape).Idx → EReal)
  (x3 x4 : (⟨2, ![65536, 1024]⟩ : Shape).Idx → EReal) (x5 x6 : (⟨2, ![512, 1024]⟩ : Shape).Idx → EReal)
  (x7 : (⟨2, ![1024, 1024]⟩ : Shape).Idx → EReal) (x8 x9 : (⟨1, ![1024]⟩ : Shape).Idx → EReal)
  (x10 : (⟨2, ![1024, 5632]⟩ : Shape).Idx → EReal) (x11 : (⟨2, ![3, 2816]⟩ : Shape).Idx → EReal)
  (x12 : (⟨1, ![2816]⟩ : Shape).Idx → EReal) (x13 : (⟨2, ![2816, 1024]⟩ : Shape).Idx → EReal) (x14 : (⟨1, ![1024]⟩ : Shape).Idx → EReal)

/-- Row `s` of sequence `b`. -/
abbrev rr (b : Fin 16) (s : Fin 4096) : Fin 65536 := ⟨4096 * b.val + s.val, by omega⟩

variable (b : Fin 16) (s : Fin 4096)

theorem row_x (n : Fin 1024) : (PostSpec.promptRows x0 x1 x2 x3 x4 (rr b s)).x n = x0 (ix3 b s n) := by
  refine congrArg x0 ?_
  congr 1 <;> exact Fin.ext (by simp only; omega)

theorem headsA (k : Fin 512) : val_main_v6 (F := Ideal) x1 (ix3 b s k) = x1 (ix2 (rr b s) (PostSpec.unperm k)) := by
  pointwise [val_main_v6, val_main_v3, val_main_v2, val_main_v1]
  refine congrArg x1 ?_
  unfold PostSpec.unperm
  congr 1 <;> exact Fin.ext (by simp only; omega)

theorem mixA (n : Fin 1024) : val_main_v7 (F := Ideal) x1 x5 (ix3 b s n)
    = ∑ k, x1 (ix2 (rr b s) k) * x5 (ix2 (PostSpec.perm k) n) := by
  pointwise [val_main_v7]
  rw [← PostSpec.permE.sum_comp]
  refine Finset.sum_congr rfl fun k _ => congrArg (· * x5 (ix2 (PostSpec.perm k) n)) ?_
  refine (headsA x1 b s (PostSpec.perm k)).trans (congrArg (fun l => x1 (ix2 (rr b s) l)) ?_)
  exact PostSpec.permE.left_inv k

theorem mixB (n : Fin 1024) : val_main_v13 (F := Ideal) x2 x6 (ix3 b s n)
    = ∑ k, x2 (ix2 (rr b s) k) * x6 (ix2 k n) := by
  pointwise [val_main_v13, val_main_v12, val_main_v11]
  refine Finset.sum_congr rfl fun k _ => congrArg (· * x6 (ix2 k n)) (congrArg x2 ?_)
  congr 1 <;> exact Fin.ext (by simp only; omega)

theorem gateA (n : Fin 1024) : val_main_v5 (F := Ideal) x3 (ix3 b s n) = x3 (ix2 (rr b s) n) := by
  pointwise [val_main_v5, val_main_v4]
  refine congrArg x3 ?_
  congr 1 <;> exact Fin.ext (by simp only; omega)

theorem gateB (n : Fin 1024) : val_main_v10 (F := Ideal) x4 (ix3 b s n) = x4 (ix2 (rr b s) n) := by
  pointwise [val_main_v10, val_main_v9]
  refine congrArg x4 ?_
  congr 1 <;> exact Fin.ext (by simp only; omega)

theorem attn (n : Fin 1024) :
    val_main_v16 (F := Ideal) x1 x2 x3 x4 x5 x6 x7 (ix3 b s n) = PostSpec.attn (PostSpec.weights x5 x6 x7 x8 x9 x10 x11 x12 x13 x14) (PostSpec.promptRows x0 x1 x2 x3 x4 (rr b s)) n := by
  pointwise [val_main_v16, val_main_v15, val_main_v14, val_main_v8]
  simp only [mixA, mixB, gateA, gateB]
  rfl

theorem x1_apply (n : Fin 1024) :
    val_main_v30 (F := Ideal) x0 x1 x2 x3 x4 x5 x6 x7 x8 (ix3 b s n) = PostSpec.x1 (PostSpec.weights x5 x6 x7 x8 x9 x10 x11 x12 x13 x14) (PostSpec.promptRows x0 x1 x2 x3 x4 (rr b s)) n := by
  pointwise [val_main_v30, val_main_v29, val_main_v28, val_main_v27, val_main_v26, val_main_v25, val_main_v24, val_main_v23,
    val_main_v22, val_main_v21, val_main_v20, val_main_v19, val_main_v18, val_main_v17, val_main_cst_0, val_main_cst_1, val_main_cst_2]
  simp only [attn x0 x1 x2 x3 x4 x5 x6 x7 x8 x9 x10 x11 x12 x13 x14]
  rw [← row_x x0 x1 x2 x3 x4 b s n]
  rfl

theorem h2_apply (n : Fin 1024) :
    val_main_v43 (F := Ideal) x0 x1 x2 x3 x4 x5 x6 x7 x8 x9 (ix3 b s n) = PostSpec.h2 (PostSpec.weights x5 x6 x7 x8 x9 x10 x11 x12 x13 x14) (PostSpec.promptRows x0 x1 x2 x3 x4 (rr b s)) n := by
  pointwise [val_main_v43, val_main_v42, val_main_v41, val_main_v40, val_main_v39, val_main_v38, val_main_v37, val_main_v36,
    val_main_v35, val_main_v34, val_main_v33, val_main_v32, val_main_v31, val_main_cst_3, val_main_cst_4, val_main_cst_5]
  simp only [x1_apply x0 x1 x2 x3 x4 x5 x6 x7 x8 x9 x10 x11 x12 x13 x14]
  rfl

theorem uv_apply (j : Fin 5632) :
    val_main_v44 (F := Ideal) x0 x1 x2 x3 x4 x5 x6 x7 x8 x9 x10 (ix3 b s j) = PostSpec.uv (PostSpec.weights x5 x6 x7 x8 x9 x10 x11 x12 x13 x14) (PostSpec.promptRows x0 x1 x2 x3 x4 (rr b s)) j := by
  pointwise [val_main_v44]
  simp only [h2_apply x0 x1 x2 x3 x4 x5 x6 x7 x8 x9 x10 x11 x12 x13 x14]
  rfl

theorem u_apply (j : Fin 2816) :
    val_main_v45 (F := Ideal) x0 x1 x2 x3 x4 x5 x6 x7 x8 x9 x10 (ix3 b s j) = PostSpec.u (PostSpec.weights x5 x6 x7 x8 x9 x10 x11 x12 x13 x14) (PostSpec.promptRows x0 x1 x2 x3 x4 (rr b s)) j := by
  pointwise [val_main_v45]
  exact uv_apply x0 x1 x2 x3 x4 x5 x6 x7 x8 x9 x10 x11 x12 x13 x14 b s _

theorem val_apply (j : Fin 2816) :
    val_main_v46 (F := Ideal) x0 x1 x2 x3 x4 x5 x6 x7 x8 x9 x10 (ix3 b s j) = PostSpec.val (PostSpec.weights x5 x6 x7 x8 x9 x10 x11 x12 x13 x14) (PostSpec.promptRows x0 x1 x2 x3 x4 (rr b s)) j := by
  pointwise [val_main_v46]
  exact uv_apply x0 x1 x2 x3 x4 x5 x6 x7 x8 x9 x10 x11 x12 x13 x14 b s _

/-- The convolution's rows: two rows of zeros, then the sequence's. -/
theorem up_apply (q : Fin 4098) (j : Fin 2816) :
    val_main_v47 (F := Ideal) x0 x1 x2 x3 x4 x5 x6 x7 x8 x9 x10 (ix3 b q j)
      = if h : q.val < 2 then 0 else PostSpec.u (PostSpec.weights x5 x6 x7 x8 x9 x10 x11 x12 x13 x14) ((PostSpec.promptRows x0 x1 x2 x3 x4) (rr b ⟨q.val - 2, by omega⟩)) j := by
  pointwise [val_main_v47, val_main_v0, val_main_cst]
  split
  · simp
  · exact u_apply x0 x1 x2 x3 x4 x5 x6 x7 x8 x9 x10 x11 x12 x13 x14 b _ j

theorem up2 (j : Fin 2816) : val_main_v48 (F := Ideal) x0 x1 x2 x3 x4 x5 x6 x7 x8 x9 x10 (ix3 b s j)
      = (if (rr b s).val % 4096 = 0 then fun _ => 0 else if (rr b s).val % 4096 = 1 then fun _ => 0
          else PostSpec.u (PostSpec.weights x5 x6 x7 x8 x9 x10 x11 x12 x13 x14) ((PostSpec.promptRows x0 x1 x2 x3 x4) ⟨(rr b s).val - 2, by omega⟩)) j := by
  pointwise [val_main_v48]
  refine (up_apply x0 x1 x2 x3 x4 x5 x6 x7 x8 x9 x10 x11 x12 x13 x14 b _ j).trans ?_
  have e : (rr b s).val % 4096 = s.val := by simp only; omega
  rw [e]
  by_cases e0 : s.val = 0
  · rw [dif_pos (by simp only; omega), if_pos e0]
  · by_cases e1 : s.val = 1
    · rw [dif_pos (by simp only; omega), if_neg e0, if_pos e1]
    · rw [dif_neg (by simp only; omega), if_neg e0, if_neg e1]
      exact congrArg (fun r => PostSpec.u (PostSpec.weights x5 x6 x7 x8 x9 x10 x11 x12 x13 x14) ((PostSpec.promptRows x0 x1 x2 x3 x4) r) j) (Fin.ext (by simp only; omega))

theorem up1 (j : Fin 2816) : val_main_v57 (F := Ideal) x0 x1 x2 x3 x4 x5 x6 x7 x8 x9 x10 (ix3 b s j)
      = (if (rr b s).val % 4096 = 0 then fun _ => 0 else PostSpec.u (PostSpec.weights x5 x6 x7 x8 x9 x10 x11 x12 x13 x14) ((PostSpec.promptRows x0 x1 x2 x3 x4) ⟨(rr b s).val - 1, by omega⟩)) j := by
  pointwise [val_main_v57]
  refine (up_apply x0 x1 x2 x3 x4 x5 x6 x7 x8 x9 x10 x11 x12 x13 x14 b _ j).trans ?_
  have e : (rr b s).val % 4096 = s.val := by simp only; omega
  rw [e]
  by_cases e0 : s.val = 0
  · rw [dif_pos (by simp only; omega), if_pos e0]
  · rw [dif_neg (by simp only; omega), if_neg e0]
    exact congrArg (fun r => PostSpec.u (PostSpec.weights x5 x6 x7 x8 x9 x10 x11 x12 x13 x14) ((PostSpec.promptRows x0 x1 x2 x3 x4) r) j) (Fin.ext (by simp only; omega))

theorem up0 (j : Fin 2816) : val_main_v64 (F := Ideal) x0 x1 x2 x3 x4 x5 x6 x7 x8 x9 x10 (ix3 b s j) = PostSpec.u (PostSpec.weights x5 x6 x7 x8 x9 x10 x11 x12 x13 x14) (PostSpec.promptRows x0 x1 x2 x3 x4 (rr b s)) j := by
  pointwise [val_main_v64]
  refine (up_apply x0 x1 x2 x3 x4 x5 x6 x7 x8 x9 x10 x11 x12 x13 x14 b _ j).trans ?_
  rw [dif_neg (by simp only; omega)]
  exact congrArg (fun r => PostSpec.u (PostSpec.weights x5 x6 x7 x8 x9 x10 x11 x12 x13 x14) ((PostSpec.promptRows x0 x1 x2 x3 x4) r) j) (Fin.ext (by simp only; omega))

theorem conv_apply (j : Fin 2816) :
    val_main_v70 (F := Ideal) x0 x1 x2 x3 x4 x5 x6 x7 x8 x9 x10 x11 x12 (ix3 b s j)
      = PostSpec.conv (PostSpec.weights x5 x6 x7 x8 x9 x10 x11 x12 x13 x14) (if (rr b s).val % 4096 = 0 then fun _ => 0 else if (rr b s).val % 4096 = 1 then fun _ => 0 else PostSpec.u (PostSpec.weights x5 x6 x7 x8 x9 x10 x11 x12 x13 x14) ((PostSpec.promptRows x0 x1 x2 x3 x4) ⟨(rr b s).val - 2, by omega⟩)) (if (rr b s).val % 4096 = 0 then fun _ => 0 else PostSpec.u (PostSpec.weights x5 x6 x7 x8 x9 x10 x11 x12 x13 x14) ((PostSpec.promptRows x0 x1 x2 x3 x4) ⟨(rr b s).val - 1, by omega⟩)) (PostSpec.u (PostSpec.weights x5 x6 x7 x8 x9 x10 x11 x12 x13 x14) (PostSpec.promptRows x0 x1 x2 x3 x4 (rr b s))) j := by
  pointwise [val_main_v70, val_main_v69, val_main_v68, val_main_v67, val_main_v66, val_main_v65, val_main_v63, val_main_v62, val_main_v61,
    val_main_v60, val_main_v59, val_main_v58, val_main_v56, val_main_v55, val_main_v54, val_main_v53, val_main_v52, val_main_v51, val_main_v50, val_main_v49]
  simp only [up0 x0 x1 x2 x3 x4 x5 x6 x7 x8 x9 x10 x11 x12 x13 x14, up1 x0 x1 x2 x3 x4 x5 x6 x7 x8 x9 x10 x11 x12 x13 x14, up2 x0 x1 x2 x3 x4 x5 x6 x7 x8 x9 x10 x11 x12 x13 x14]
  rfl

theorem root_two : Ideal.sqrt (Ideal.ofBits FTy.f32 1073741824#32) = ((Real.sqrt 2 : ℝ) : EReal) := by
  have h : Ideal.ofBits FTy.f32 1073741824#32 = ((2 : ℝ) : EReal) := by
    simp only [Ideal.ofBits, Ideal.ieee]
    simp
    rw [← EReal.coe_mul]; norm_num
  rw [h, Ideal.sqrt_coe, if_neg (by norm_num)]

theorem over_root (x : EReal) : Ideal.div x ((Real.sqrt 2 : ℝ) : EReal) = x * (((Real.sqrt 2)⁻¹ : ℝ) : EReal) := by
  have h : ((Real.sqrt 2 : ℝ) : EReal) ≠ 0 := fun h => by
    have : Real.sqrt 2 = 0 := by exact_mod_cast h
    exact absurd this (by positivity)
  rw [Ideal.div, if_neg h, EReal.coe_inv]

theorem gated_apply (j : Fin 2816) :
    val_main_v80 (F := Ideal) x0 x1 x2 x3 x4 x5 x6 x7 x8 x9 x10 x11 x12 (ix3 b s j)
      = PostSpec.gelu (PostSpec.conv (PostSpec.weights x5 x6 x7 x8 x9 x10 x11 x12 x13 x14) (if (rr b s).val % 4096 = 0 then fun _ => 0 else if (rr b s).val % 4096 = 1 then fun _ => 0 else PostSpec.u (PostSpec.weights x5 x6 x7 x8 x9 x10 x11 x12 x13 x14) ((PostSpec.promptRows x0 x1 x2 x3 x4) ⟨(rr b s).val - 2, by omega⟩)) (if (rr b s).val % 4096 = 0 then fun _ => 0 else PostSpec.u (PostSpec.weights x5 x6 x7 x8 x9 x10 x11 x12 x13 x14) ((PostSpec.promptRows x0 x1 x2 x3 x4) ⟨(rr b s).val - 1, by omega⟩)) (PostSpec.u (PostSpec.weights x5 x6 x7 x8 x9 x10 x11 x12 x13 x14) (PostSpec.promptRows x0 x1 x2 x3 x4 (rr b s))) j) * PostSpec.val (PostSpec.weights x5 x6 x7 x8 x9 x10 x11 x12 x13 x14) (PostSpec.promptRows x0 x1 x2 x3 x4 (rr b s)) j := by
  pointwise [val_main_v80, val_main_v79, val_main_v78, val_main_v77, val_main_v76, val_main_v75, val_main_v74, val_main_v73, val_main_v72,
    val_main_v71, val_main_cst_6, val_main_cst_7, val_main_cst_8]
  rw [conv_apply x0 x1 x2 x3 x4 x5 x6 x7 x8 x9 x10 x11 x12 x13 x14, val_apply x0 x1 x2 x3 x4 x5 x6 x7 x8 x9 x10 x11 x12 x13 x14]
  simp only [root_two, over_root]
  rfl

theorem ff_apply (n : Fin 1024) :
    val_main_v81 (F := Ideal) x0 x1 x2 x3 x4 x5 x6 x7 x8 x9 x10 x11 x12 x13 (ix3 b s n) = PostSpec.ff (PostSpec.weights x5 x6 x7 x8 x9 x10 x11 x12 x13 x14) (if (rr b s).val % 4096 = 0 then fun _ => 0 else if (rr b s).val % 4096 = 1 then fun _ => 0 else PostSpec.u (PostSpec.weights x5 x6 x7 x8 x9 x10 x11 x12 x13 x14) ((PostSpec.promptRows x0 x1 x2 x3 x4) ⟨(rr b s).val - 2, by omega⟩)) (if (rr b s).val % 4096 = 0 then fun _ => 0 else PostSpec.u (PostSpec.weights x5 x6 x7 x8 x9 x10 x11 x12 x13 x14) ((PostSpec.promptRows x0 x1 x2 x3 x4) ⟨(rr b s).val - 1, by omega⟩)) (PostSpec.promptRows x0 x1 x2 x3 x4 (rr b s)) n := by
  pointwise [val_main_v81]
  simp only [gated_apply x0 x1 x2 x3 x4 x5 x6 x7 x8 x9 x10 x11 x12 x13 x14]
  rfl

theorem y_apply (n : Fin 1024) :
    val_main_v95 (F := Ideal) x0 x1 x2 x3 x4 x5 x6 x7 x8 x9 x10 x11 x12 x13 x14 (ix3 b s n)
      = PostSpec.seqY 4096 (fun _ _ _ => 0) (PostSpec.weights x5 x6 x7 x8 x9 x10 x11 x12 x13 x14) (PostSpec.promptRows x0 x1 x2 x3 x4) (rr b s) n := by
  pointwise [val_main_v95, val_main_v94, val_main_v93, val_main_v92, val_main_v91, val_main_v90, val_main_v89, val_main_v88, val_main_v87,
    val_main_v86, val_main_v85, val_main_v84, val_main_v83, val_main_v82, val_main_cst_9, val_main_cst_10, val_main_cst_11]
  simp only [ff_apply x0 x1 x2 x3 x4 x5 x6 x7 x8 x9 x10 x11 x12 x13 x14, x1_apply x0 x1 x2 x3 x4 x5 x6 x7 x8 x9 x10 x11 x12 x13 x14]
  rfl

theorem out_y (r : Fin 65536) (n : Fin 1024) :
    val_main_v96 (F := Ideal) x0 x1 x2 x3 x4 x5 x6 x7 x8 x9 x10 x11 x12 x13 x14 (ix2 r n) = PostSpec.seqY 4096 (fun _ _ _ => 0) (PostSpec.weights x5 x6 x7 x8 x9 x10 x11 x12 x13 x14) (PostSpec.promptRows x0 x1 x2 x3 x4) r n := by
  have e : rr ⟨r.val / 4096, by omega⟩ ⟨r.val % 4096, by omega⟩ = r := Fin.ext (by simp only; omega)
  rw [← e, ← y_apply]
  pointwise [val_main_v96]
  refine congrArg _ ?_
  congr 1 <;> exact Fin.ext (by simp only; omega)

theorem out_u (q : Fin 2) (j : Fin 2816) :
    val_main_v97 (F := Ideal) x0 x1 x2 x3 x4 x5 x6 x7 x8 x9 x10 (ix3 b q j)
      = PostSpec.u (PostSpec.weights x5 x6 x7 x8 x9 x10 x11 x12 x13 x14) ((PostSpec.promptRows x0 x1 x2 x3 x4) ⟨4096 * b.val + 4094 + q.val, by omega⟩) j := by
  pointwise [val_main_v97]
  refine (up_apply x0 x1 x2 x3 x4 x5 x6 x7 x8 x9 x10 x11 x12 x13 x14 b _ j).trans ?_
  rw [dif_neg (by simp only; omega)]
  exact congrArg (fun r => PostSpec.u (PostSpec.weights x5 x6 x7 x8 x9 x10 x11 x12 x13 x14) ((PostSpec.promptRows x0 x1 x2 x3 x4) r) j) (Fin.ext (by simp only; omega))

end Cert.PostPRefIdeal.Stage

end
-- ==== Proof.PostPClaim.lean ====
/-
  The prompt post kernel and its reference compute the same arrays; and the reference's frame.
-/
module

public import proofs.«01_k».proof.Defs
public import proofs.«01_k».proof.Proof.PostPArray
public import proofs.«01_k».proof.Proof.PostPRefRead
public import proofs.«01_k».proof.Proof.Gen.PostPRefIdeal.Run

@[expose] public section

set_option maxRecDepth 16384

noncomputable section

namespace Cert.PostPClaim

open Idealize.ShloMosaic Idealize.SL.Sem

theorem ref_frame : Cert.quiescent_PostPRefIdeal := fun m ρ _ =>
  (θ_run PostPRefIdeal.defs _ _).mono (fun r h => ⟨fun c => (h c).2.2, sem_eq_zero_of_no_sems (by decide) r.2⟩)
    (PostPRefIdeal.Value.run (F := Ideal) m ρ)

theorem algebraic : Cert.algebraic_PostPIdeal_PostPRefIdeal := by
  intro m g m' g' _ hargs
  refine ⟨fun c => PostPIdeal.Block.res15 m c, fun c => PostPIdeal.Block.res16 m c, ?_, ?_⟩
  · exact (θ_run PostPIdeal.defs _ _).mono (fun r h c =>
      ⟨(h c).1.trans (PostPIdeal.Block.final15 m c), (h c).2.1.trans (PostPIdeal.Block.final16 m c), (h c).2.2⟩)
      (PostPIdeal.Value.run_blocks m g)
  · refine (θ_run PostPRefIdeal.defs _ _).mono (fun r h c => ?_) (PostPRefIdeal.Value.run (F := Ideal) m' g')
    obtain ⟨e0, e1, e2, e3, e4, e5, e6, e7, e8, e9, e10, e11, e12, e13, e14⟩ := hargs c
    refine ⟨(h c).1.trans ?_, (h c).2.1.trans ?_, (h c).2.2⟩
    · refine (PostPRefIdeal.Read.val_main_v96_eq (StableHlo.launchContents m' c)).trans ?_
      change PostPRefIdeal.Read.val_main_v96 (F := Ideal)
        (m' ((c.tc : Thread PostPRefIdeal.nD PostPRefIdeal.τ).loc PostPRefIdeal.main_arg0))
        (m' ((c.tc : Thread PostPRefIdeal.nD PostPRefIdeal.τ).loc PostPRefIdeal.main_arg1))
        (m' ((c.tc : Thread PostPRefIdeal.nD PostPRefIdeal.τ).loc PostPRefIdeal.main_arg2))
        (m' ((c.tc : Thread PostPRefIdeal.nD PostPRefIdeal.τ).loc PostPRefIdeal.main_arg3))
        (m' ((c.tc : Thread PostPRefIdeal.nD PostPRefIdeal.τ).loc PostPRefIdeal.main_arg4))
        (m' ((c.tc : Thread PostPRefIdeal.nD PostPRefIdeal.τ).loc PostPRefIdeal.main_arg5))
        (m' ((c.tc : Thread PostPRefIdeal.nD PostPRefIdeal.τ).loc PostPRefIdeal.main_arg6))
        (m' ((c.tc : Thread PostPRefIdeal.nD PostPRefIdeal.τ).loc PostPRefIdeal.main_arg7))
        (m' ((c.tc : Thread PostPRefIdeal.nD PostPRefIdeal.τ).loc PostPRefIdeal.main_arg8))
        (m' ((c.tc : Thread PostPRefIdeal.nD PostPRefIdeal.τ).loc PostPRefIdeal.main_arg9))
        (m' ((c.tc : Thread PostPRefIdeal.nD PostPRefIdeal.τ).loc PostPRefIdeal.main_arg10))
        (m' ((c.tc : Thread PostPRefIdeal.nD PostPRefIdeal.τ).loc PostPRefIdeal.main_arg11))
        (m' ((c.tc : Thread PostPRefIdeal.nD PostPRefIdeal.τ).loc PostPRefIdeal.main_arg12))
        (m' ((c.tc : Thread PostPRefIdeal.nD PostPRefIdeal.τ).loc PostPRefIdeal.main_arg13))
        (m' ((c.tc : Thread PostPRefIdeal.nD PostPRefIdeal.τ).loc PostPRefIdeal.main_arg14)) = _
      rw [e0, e1, e2, e3, e4, e5, e6, e7, e8, e9, e10, e11, e12, e13, e14]
      funext i
      obtain ⟨r, n, rfl⟩ : ∃ (r : Fin 65536) (n : Fin 1024), i = ix2 r n := ⟨i 0, i 1, eq_ix2 i⟩
      exact PostPRefIdeal.Stage.out_y _ _ _ _ _ _ _ _ _ _ _ _ _ _ _ r n
    · refine (PostPRefIdeal.Read.val_main_v97_eq (StableHlo.launchContents m' c)).trans ?_
      change PostPRefIdeal.Read.val_main_v97 (F := Ideal)
        (m' ((c.tc : Thread PostPRefIdeal.nD PostPRefIdeal.τ).loc PostPRefIdeal.main_arg0))
        (m' ((c.tc : Thread PostPRefIdeal.nD PostPRefIdeal.τ).loc PostPRefIdeal.main_arg1))
        (m' ((c.tc : Thread PostPRefIdeal.nD PostPRefIdeal.τ).loc PostPRefIdeal.main_arg2))
        (m' ((c.tc : Thread PostPRefIdeal.nD PostPRefIdeal.τ).loc PostPRefIdeal.main_arg3))
        (m' ((c.tc : Thread PostPRefIdeal.nD PostPRefIdeal.τ).loc PostPRefIdeal.main_arg4))
        (m' ((c.tc : Thread PostPRefIdeal.nD PostPRefIdeal.τ).loc PostPRefIdeal.main_arg5))
        (m' ((c.tc : Thread PostPRefIdeal.nD PostPRefIdeal.τ).loc PostPRefIdeal.main_arg6))
        (m' ((c.tc : Thread PostPRefIdeal.nD PostPRefIdeal.τ).loc PostPRefIdeal.main_arg7))
        (m' ((c.tc : Thread PostPRefIdeal.nD PostPRefIdeal.τ).loc PostPRefIdeal.main_arg8))
        (m' ((c.tc : Thread PostPRefIdeal.nD PostPRefIdeal.τ).loc PostPRefIdeal.main_arg9))
        (m' ((c.tc : Thread PostPRefIdeal.nD PostPRefIdeal.τ).loc PostPRefIdeal.main_arg10)) = _
      rw [e0, e1, e2, e3, e4, e5, e6, e7, e8, e9, e10]
      funext i
      obtain ⟨b, q, j, rfl⟩ : ∃ (b : Fin 16) (q : Fin 2) (j : Fin 2816), i = ix3 b q j := ⟨i 0, i 1, i 2, eq_ix3 i⟩
      exact PostPRefIdeal.Stage.out_u _ _ _ _ _ _ _ _ _ _ _ _ _ _ _ b q j

end Cert.PostPClaim

end
-- ==== Proof.PostSBlock.lean ====
/-
  What the sample post kernel's body computes of a block of 128 rows, read at an index, in `Cert.PostSpec`'s words.
-/
module

public import proofs.«01_k».proof.Proof.Gen.PostSIdeal.Skeleton
public import proofs.«01_k».proof.Proof.PostSpec

@[expose] public section

set_option maxRecDepth 16384

noncomputable section

namespace Cert.PostSIdeal.Block

open Cert.PostSIdeal Cert.PostSIdeal.Gen Idealize.ShloMosaic Idealize.ShloMosaic.TcCoe

section
variable (W : PostSpec.Weights) (R : Fin 128 → PostSpec.Row)
variable (sa sb : Vec Ideal S128x1024 .bf16) (a b : Vec Ideal S128x512 .bf16) (woa wob : Vec Ideal S512x1024 .bf16)
  (wout : Vec Ideal S1024x1024 .bf16) (x : Vec Ideal S128x1024 .f32) (gm gp : Vec Ideal S1x1024 .f32)

/-- The mixers' residual branch over its root mean square. -/
def nrm (W : PostSpec.Weights) (R : PostSpec.Row) (n : Fin 1024) : EReal :=
  PostSpec.attn W R n * Ideal.rsqrt (Ideal.div (∑ k, PostSpec.attn W R k * PostSpec.attn W R k) (Ideal.ofBits .f32 0x44800000#32)
    + Ideal.ofBits .f32 0x358637BD#32)

theorem nrm_apply (hsa : ∀ r n, sa (ix2 r n) = (R r).sa n) (hsb : ∀ r n, sb (ix2 r n) = (R r).sb n)
    (ha : ∀ r k, a (ix2 r k) = (R r).a k) (hb : ∀ r k, b (ix2 r k) = (R r).b k)
    (hwa : ∀ k n, woa (ix2 k n) = W.woa k n) (hwb : ∀ k n, wob (ix2 k n) = W.wob k n)
    (hwo : ∀ k n, wout (ix2 k n) = W.wout k n) (r : Fin 128) (n : Fin 1024) :
    k0_pay3 sa a woa sb b wob wout (ix2 r n) = nrm W (R r) n := by
  pointwise [k0_pay3]
  simp only [hsa, hsb, ha, hb, hwa, hwb, hwo]
  rfl

theorem x1_apply (t : FVec Ideal S128x1024 .f32) (ht : ∀ r n, t (ix2 r n) = nrm W (R r) n)
    (hx : ∀ r n, x (ix2 r n) = (R r).x n) (hg : ∀ n, gm (ix2 0 n) = W.gmix n) (r : Fin 128) (n : Fin 1024) :
    k0_pay5 (k0_pay2 x) t (k0_pay4 gm) (ix2 r n) = PostSpec.x1 W (R r) n := by
  pointwise [k0_pay5, k0_pay2, k0_pay4]
  simp only [ht, hx, hg]
  rfl

theorem h2_apply (t : FVec Ideal S128x1024 .f32)
    (h : ∀ r n, k0_pay5 (k0_pay2 x) t (k0_pay4 gm) (ix2 r n) = PostSpec.x1 W (R r) n)
    (hg : ∀ n, gp (ix2 0 n) = W.gpre n) (r : Fin 128) (n : Fin 1024) :
    k0_pay6 (k0_pay2 x) t (k0_pay4 gm) gp (ix2 r n) = PostSpec.h2 W (R r) n := by
  pointwise [k0_pay6]
  simp only [h, hg]
  rfl

end

section
variable (W : PostSpec.Weights) (R : Fin 128 → PostSpec.Row)
variable (h2 : Vec Ideal S128x1024 .bf16) (wup : Vec Ideal S1024x5632 .bf16)

theorem u_apply (hh : ∀ r n, h2 (ix2 r n) = PostSpec.h2 W (R r) n) (hw : ∀ k j, wup (ix2 k j) = W.wup k j)
    (r : Fin 128) (j : Fin 2816) : k0_pay8 h2 wup (ix2 r j) = PostSpec.u W (R r) j := by
  pointwise [k0_pay8, k0_pay7]
  simp only [hh, hw]
  rfl

theorem val_apply (hh : ∀ r n, h2 (ix2 r n) = PostSpec.h2 W (R r) n) (hw : ∀ k j, wup (ix2 k j) = W.wup k j)
    (r : Fin 128) (j : Fin 2816) : k0_pay9 h2 wup (ix2 r j) = PostSpec.val W (R r) j := by
  pointwise [k0_pay9, k0_pay7]
  simp only [hh, hw]
  rfl

/-- The named constant is the real `1/√2`. -/
theorem sqrt_half : Named.named (F := Ideal) κ "sqrt_half" (φ := .f32) 0x3F3504F3#32 = (((Real.sqrt 2)⁻¹ : ℝ) : EReal) :=
  IdealRules.named_const.ideal_named_scalar _ _ _ _ rfl

/-- The kernel's remainder of a row's number by 16 is that remainder. -/
theorem rem_row (r : Fin 128) :
    (Scalar.select
      (IntOp.andi (IntOp.xori
          (IntOp.cmpi .slt (IntOp.remsi ArithUnit.vector (BitVec.ofNat 32 r.val) (Scalar.select (Scalar.cmpi .eq 16#32 0#32) 1#32 16#32)) 0#32)
          (Scalar.cmpi .slt (Scalar.select (Scalar.cmpi .eq 16#32 0#32) 1#32 16#32) 0#32))
        (IntOp.cmpi .ne (IntOp.remsi ArithUnit.vector (BitVec.ofNat 32 r.val) (Scalar.select (Scalar.cmpi .eq 16#32 0#32) 1#32 16#32)) 0#32))
      (IntOp.addi (IntOp.remsi ArithUnit.vector (BitVec.ofNat 32 r.val) (Scalar.select (Scalar.cmpi .eq 16#32 0#32) 1#32 16#32))
        (Scalar.select (Scalar.cmpi .eq 16#32 0#32) 1#32 16#32))
      (IntOp.remsi ArithUnit.vector (BitVec.ofNat 32 r.val) (Scalar.select (Scalar.cmpi .eq 16#32 0#32) 1#32 16#32)))
      = BitVec.ofNat 32 (r.val % 16) :=
  (by decide +kernel : ∀ r : Fin 128, (Scalar.select
      (IntOp.andi (IntOp.xori
          (IntOp.cmpi .slt (IntOp.remsi ArithUnit.vector (BitVec.ofNat 32 r.val) (Scalar.select (Scalar.cmpi .eq 16#32 0#32) 1#32 16#32)) 0#32)
          (Scalar.cmpi .slt (Scalar.select (Scalar.cmpi .eq 16#32 0#32) 1#32 16#32) 0#32))
        (IntOp.cmpi .ne (IntOp.remsi ArithUnit.vector (BitVec.ofNat 32 r.val) (Scalar.select (Scalar.cmpi .eq 16#32 0#32) 1#32 16#32)) 0#32))
      (IntOp.addi (IntOp.remsi ArithUnit.vector (BitVec.ofNat 32 r.val) (Scalar.select (Scalar.cmpi .eq 16#32 0#32) 1#32 16#32))
        (Scalar.select (Scalar.cmpi .eq 16#32 0#32) 1#32 16#32))
      (IntOp.remsi ArithUnit.vector (BitVec.ofNat 32 r.val) (Scalar.select (Scalar.cmpi .eq 16#32 0#32) 1#32 16#32)))
      = BitVec.ofNat 32 (r.val % 16)) r

theorem select_lt2 (k : ℕ) (hk : k < 16) (a b : EReal) :
    Scalar.select (IntOp.cmpi .slt (BitVec.ofNat 32 k) 2#32) a b = if k < 2 then a else b := by
  have h : ∀ k : Fin 16, IntOp.cmpi .slt (BitVec.ofNat 32 k.val) 2#32 = if k.val < 2 then 1#1 else 0#1 := by decide +kernel
  rw [h ⟨k, hk⟩]
  by_cases e : k < 2 <;> simp [Scalar.select, e]

theorem select_zero (k : ℕ) (hk : k < 16) (a b : EReal) :
    Scalar.select (IntOp.cmpi .eq (BitVec.ofNat 32 k) 0#32) a b = if k = 0 then a else b := by
  have h : ∀ k : Fin 16, IntOp.cmpi .eq (BitVec.ofNat 32 k.val) 0#32 = if k.val = 0 then 1#1 else 0#1 := by decide +kernel
  rw [h ⟨k, hk⟩]
  by_cases e : k = 0 <;> simp [Scalar.select, e]

theorem conv_apply (v : FVec Ideal S128x2816 .f32) (c1 c2 : Vec Ideal S128x2816 .f32) (cb w0 w1 w2 : Vec Ideal S1x2816 .f32)
    (u : Fin 128 → Fin 2816 → EReal) (p1 p2 : Fin 128 → Fin 2816 → EReal)
    (hv : ∀ r j, v (ix2 r j) = u r j) (h1 : ∀ r j, c1 (ix2 r j) = p1 r j) (h2 : ∀ r j, c2 (ix2 r j) = p2 r j)
    (hb : ∀ j, cb (ix2 0 j) = W.cb j) (hw0 : ∀ j, w0 (ix2 0 j) = W.cw 0 j) (hw1 : ∀ j, w1 (ix2 0 j) = W.cw 1 j)
    (hw2 : ∀ j, w2 (ix2 0 j) = W.cw 2 j) (r : Fin 128) (j : Fin 2816) :
    k0_pay15 v (dynamicRotate 0 1#32 none v rotates_S128x2816_d0) (dynamicRotate 0 2#32 none v rotates_S128x2816_d0)
      (Scalar.select (Scalar.cmpi .eq 16#32 0#32) 1#32 16#32) k0_pay12 k0_pay13 k0_pay14 c1 c2 cb w0 w1 w2 (ix2 r j)
      = PostSpec.conv W (if r.val % 16 < 2 then p2 r else u ⟨r.val - 2, by omega⟩)
          (if r.val % 16 = 0 then p1 r else u ⟨r.val - 1, by omega⟩) (u r) j := by
  pointwise [k0_pay15, k0_pay14, k0_pay13, k0_pay12]
  simp only [hv, h1, h2, hb, hw0, hw1, hw2]
  simp only [rem_row r, select_lt2 _ (Nat.mod_lt r.val (by omega : 0 < 16)), select_zero _ (Nat.mod_lt r.val (by omega : 0 < 16))]
  unfold PostSpec.conv
  by_cases e0 : r.val % 16 = 0
  · simp only [if_pos e0, if_pos (by omega : r.val % 16 < 2)]
  · have i1 : (⟨(r.val + 128 - 1) % 128, Nat.mod_lt _ (by omega)⟩ : Fin 128) = ⟨r.val - 1, by omega⟩ := Fin.ext (by simp only; omega)
    by_cases e1 : r.val % 16 < 2
    · simp only [if_neg e0, if_pos e1, i1]
    · have i2 : (⟨(r.val + 128 - 2) % 128, Nat.mod_lt _ (by omega)⟩ : Fin 128) = ⟨r.val - 2, by omega⟩ := Fin.ext (by simp only; omega)
      simp only [if_neg e0, if_neg e1, i1, i2]

theorem y_apply (U2 U1 : Fin 128 → Fin 2816 → EReal) (v v62 v63 : FVec Ideal S128x2816 .f32) (v65 : BitVec 32) (v67 : IVec S128x2816 32)
    (v69 : IVec S128x2816 1) (v70 : IVec S128x2816 32) (c1 c2 : Vec Ideal S128x2816 .f32) (cb w0 w1 w2 : Vec Ideal S1x2816 .f32)
    (vl : FVec Ideal S128x2816 .f32) (wd : Vec Ideal S2816x1024 .bf16) (x1 : Vec Ideal S128x1024 .f32) (gf : Vec Ideal S1x1024 .f32)
    (hc : ∀ r j, k0_pay15 v v62 v63 v65 v67 v69 v70 c1 c2 cb w0 w1 w2 (ix2 r j) = PostSpec.conv W (U2 r) (U1 r) (PostSpec.u W (R r)) j)
    (hv : ∀ r j, vl (ix2 r j) = PostSpec.val W (R r) j) (hwd : ∀ k n, wd (ix2 k n) = W.wdown k n)
    (hx : ∀ r n, x1 (ix2 r n) = PostSpec.x1 W (R r) n) (hg : ∀ n, gf (ix2 0 n) = W.gpost n) (r : Fin 128) (n : Fin 1024) :
    k0_pay1 vl (k0_pay16 v v62 v63 v65 v67 v69 v70 c1 c2 cb w0 w1 w2) (k0_pay17 v v62 v63 v65 v67 v69 v70 c1 c2 cb w0 w1 w2) wd x1 gf (ix2 r n)
      = PostSpec.y W (U2 r) (U1 r) (R r) n := by
  pointwise [k0_pay1, k0_pay16, k0_pay17]
  simp only [hc, hv, hwd, hx, hg, sqrt_half]
  rfl

end

end Cert.PostSIdeal.Block

end
-- ==== Proof.PostSBody.lean ====
/-
  What the sample post kernel's body leaves in its two output blocks: the layer's rows, and the rows that the convolution
  runs over.
-/
module

public import proofs.«01_k».proof.Proof.PostSBlock
public import proofs.«01_k».proof.Proof.Loads
public import proofs.«01_k».proof.Proof.Gen.PostSIdeal.Value

@[expose] public section

set_option maxRecDepth 16384

noncomputable section

namespace Cert.PostSIdeal.Block

open Cert.PostSIdeal Cert.PostSIdeal.Gen Idealize.ShloMosaic Idealize.ShloMosaic.TcCoe

section
variable (x0 : Vec Ideal S128x1024 .f32) (x1 x2 : Vec Ideal S128x512 .bf16) (x3 x4 : Vec Ideal S128x1024 .bf16) (x5 x6 : Vec Ideal S512x1024 .bf16)
  (x7 : Vec Ideal S1024x1024 .bf16) (x8 x9 : Vec Ideal S1x1024 .f32) (x10 : Vec Ideal S1024x5632 .bf16) (x11 : Vec Ideal S3x2816 .f32)
  (x12 : Vec Ideal S1x2816 .f32) (x13 : Vec Ideal S2816x1024 .bf16) (x14 : Vec Ideal S1x1024 .f32) (x15 x16 : Vec Ideal S128x2816 .f32)

/-- The weights that the body's blocks hold. -/
def wts (x5 x6 : Vec Ideal S512x1024 .bf16) (x7 : Vec Ideal S1024x1024 .bf16) (x8 x9 : Vec Ideal S1x1024 .f32)
    (x10 : Vec Ideal S1024x5632 .bf16) (x11 : Vec Ideal S3x2816 .f32) (x12 : Vec Ideal S1x2816 .f32)
    (x13 : Vec Ideal S2816x1024 .bf16) (x14 : Vec Ideal S1x1024 .f32) : PostSpec.Weights where
  woa k n := x5 (ix2 k n)
  wob k n := x6 (ix2 k n)
  wout k n := x7 (ix2 k n)
  gmix n := x8 (ix2 0 n)
  gpre n := x9 (ix2 0 n)
  wup k j := x10 (ix2 k j)
  cw i j := x11 (ix2 i j)
  cb j := x12 (ix2 0 j)
  wdown k n := x13 (ix2 k n)
  gpost n := x14 (ix2 0 n)

/-- Row `r` of the body's blocks. -/
def row (x0 : Vec Ideal S128x1024 .f32) (x1 x2 : Vec Ideal S128x512 .bf16) (x3 x4 : Vec Ideal S128x1024 .bf16) (r : Fin 128) :
    PostSpec.Row where
  x n := x0 (ix2 r n)
  a k := x1 (ix2 r k)
  b k := x2 (ix2 r k)
  sa n := x3 (ix2 r n)
  sb n := x4 (ix2 r n)

/-- The body's rows after the mixers' residual. -/
def bx1 : FVec Ideal S128x1024 .f32 :=
  k0_pay5 (k0_pay2 x0) (k0_pay3 x3 x1 x5 x4 x2 x6 x7) (k0_pay4 x8)

/-- The body's feed-forward input. -/
def bh2 : FVec Ideal S128x1024 .bf16 :=
  k0_pay6 (k0_pay2 x0) (k0_pay3 x3 x1 x5 x4 x2 x6 x7) (k0_pay4 x8) x9

theorem bx1_apply (r : Fin 128) (n : Fin 1024) :
    bx1 x0 x1 x2 x3 x4 x5 x6 x7 x8 (ix2 r n) = PostSpec.x1 (wts x5 x6 x7 x8 x9 x10 x11 x12 x13 x14) ((row x0 x1 x2 x3 x4) r) n :=
  have ha := nrm_apply (wts x5 x6 x7 x8 x9 x10 x11 x12 x13 x14) (row x0 x1 x2 x3 x4) x3 x4 x1 x2 x5 x6 x7 (fun _ _ => rfl) (fun _ _ => rfl) (fun _ _ => rfl)
    (fun _ _ => rfl) (fun _ _ => rfl) (fun _ _ => rfl) (fun _ _ => rfl)
  x1_apply (wts x5 x6 x7 x8 x9 x10 x11 x12 x13 x14) (row x0 x1 x2 x3 x4) x0 x8 _ ha (fun _ _ => rfl) (fun _ => rfl) r n

theorem bh2_apply (r : Fin 128) (n : Fin 1024) :
    bh2 x0 x1 x2 x3 x4 x5 x6 x7 x8 x9 (ix2 r n) = PostSpec.h2 (wts x5 x6 x7 x8 x9 x10 x11 x12 x13 x14) ((row x0 x1 x2 x3 x4) r) n :=
  h2_apply (wts x5 x6 x7 x8 x9 x10 x11 x12 x13 x14) (row x0 x1 x2 x3 x4) x0 x8 x9 _ (bx1_apply x0 x1 x2 x3 x4 x5 x6 x7 x8 x9 x10 x11 x12 x13 x14)
    (fun _ => rfl) r n

/-- Row `k` of the convolution's weights. -/
def cw0 (x11 : Vec Ideal S3x2816 .f32) : Vec Ideal S1x2816 .f32 := View.ld x11 (Rect.unit (s := S3x2816) ![0, 0] S1x2816.size inb_S3x2816_S1x2816_0_0)
def cw1 (x11 : Vec Ideal S3x2816 .f32) : Vec Ideal S1x2816 .f32 := View.ld x11 (Rect.unit (s := S3x2816) ![1, 0] S1x2816.size inb_S3x2816_S1x2816_1_0)
def cw2 (x11 : Vec Ideal S3x2816 .f32) : Vec Ideal S1x2816 .f32 := View.ld x11 (Rect.unit (s := S3x2816) ![2, 0] S1x2816.size inb_S3x2816_S1x2816_2_0)
theorem cw0_apply (j : Fin 2816) : cw0 x11 (ix2 0 j) = x11 (ix2 0 j) :=
  congrArg x11 (funext fun a => Fin.ext (by match a with | 0 => simp | 1 => simp))
theorem cw1_apply (j : Fin 2816) : cw1 x11 (ix2 0 j) = x11 (ix2 1 j) :=
  congrArg x11 (funext fun a => Fin.ext (by match a with | 0 => simp | 1 => simp))
theorem cw2_apply (j : Fin 2816) : cw2 x11 (ix2 0 j) = x11 (ix2 2 j) :=
  congrArg x11 (funext fun a => Fin.ext (by match a with | 0 => simp | 1 => simp))
/-- The body's channels that the convolution runs over. -/
def bu : FVec Ideal S128x2816 .f32 := k0_pay8 (bh2 x0 x1 x2 x3 x4 x5 x6 x7 x8 x9) x10

theorem bu_apply (r : Fin 128) (j : Fin 2816) :
    bu x0 x1 x2 x3 x4 x5 x6 x7 x8 x9 x10 (ix2 r j) = PostSpec.u (wts x5 x6 x7 x8 x9 x10 x11 x12 x13 x14) ((row x0 x1 x2 x3 x4) r) j :=
  u_apply (wts x5 x6 x7 x8 x9 x10 x11 x12 x13 x14) (row x0 x1 x2 x3 x4) _ x10 (bh2_apply x0 x1 x2 x3 x4 x5 x6 x7 x8 x9 x10 x11 x12 x13 x14) (fun _ _ => rfl) r j

/-- The body's output block. -/
def by_ : FVec Ideal S128x1024 .f32 :=
  have v := bu x0 x1 x2 x3 x4 x5 x6 x7 x8 x9 x10
  have h := bh2 x0 x1 x2 x3 x4 x5 x6 x7 x8 x9
  k0_pay1 (k0_pay9 h x10)
    (k0_pay16 v (k0_pay10 h x10) (k0_pay11 h x10) (Scalar.select (Scalar.cmpi .eq 16#32 0#32) 1#32 16#32) k0_pay12 k0_pay13 k0_pay14 x15 x16 x12 (cw0 x11) (cw1 x11) (cw2 x11))
    (k0_pay17 v (k0_pay10 h x10) (k0_pay11 h x10) (Scalar.select (Scalar.cmpi .eq 16#32 0#32) 1#32 16#32) k0_pay12 k0_pay13 k0_pay14 x15 x16 x12 (cw0 x11) (cw1 x11) (cw2 x11))
    x13 (bx1 x0 x1 x2 x3 x4 x5 x6 x7 x8) x14

theorem by_apply (r : Fin 128) (n : Fin 1024) :
    by_ x0 x1 x2 x3 x4 x5 x6 x7 x8 x9 x10 x11 x12 x13 x14 x15 x16 (ix2 r n)
      = PostSpec.y (wts x5 x6 x7 x8 x9 x10 x11 x12 x13 x14)
          (if r.val % 16 < 2 then fun j => x16 (ix2 r j) else PostSpec.u (wts x5 x6 x7 x8 x9 x10 x11 x12 x13 x14) ((row x0 x1 x2 x3 x4) ⟨r.val - 2, by omega⟩))
          (if r.val % 16 = 0 then fun j => x15 (ix2 r j) else PostSpec.u (wts x5 x6 x7 x8 x9 x10 x11 x12 x13 x14) ((row x0 x1 x2 x3 x4) ⟨r.val - 1, by omega⟩)) ((row x0 x1 x2 x3 x4) r) n :=
  y_apply (wts x5 x6 x7 x8 x9 x10 x11 x12 x13 x14) (row x0 x1 x2 x3 x4)
    (fun r => if r.val % 16 < 2 then fun j => x16 (ix2 r j) else PostSpec.u (wts x5 x6 x7 x8 x9 x10 x11 x12 x13 x14) ((row x0 x1 x2 x3 x4) ⟨r.val - 2, by omega⟩))
    (fun r => if r.val % 16 = 0 then fun j => x15 (ix2 r j) else PostSpec.u (wts x5 x6 x7 x8 x9 x10 x11 x12 x13 x14) ((row x0 x1 x2 x3 x4) ⟨r.val - 1, by omega⟩))
    _ _ _ _ _ _ _ _ _ _ _ _ _ _ _ _ _
    (conv_apply (wts x5 x6 x7 x8 x9 x10 x11 x12 x13 x14) _ _ _ _ _ _ _ (fun r => PostSpec.u (wts x5 x6 x7 x8 x9 x10 x11 x12 x13 x14) ((row x0 x1 x2 x3 x4) r)) (fun r j => x15 (ix2 r j)) (fun r j => x16 (ix2 r j))
      (bu_apply x0 x1 x2 x3 x4 x5 x6 x7 x8 x9 x10 x11 x12 x13 x14) (fun _ _ => rfl) (fun _ _ => rfl) (fun _ => rfl)
      (cw0_apply x11) (cw1_apply x11) (cw2_apply x11))
    (val_apply (wts x5 x6 x7 x8 x9 x10 x11 x12 x13 x14) (row x0 x1 x2 x3 x4) _ x10 (bh2_apply x0 x1 x2 x3 x4 x5 x6 x7 x8 x9 x10 x11 x12 x13 x14) (fun _ _ => rfl))
    (fun _ _ => rfl) (bx1_apply x0 x1 x2 x3 x4 x5 x6 x7 x8 x9 x10 x11 x12 x13 x14) (fun _ => rfl) r n

end

theorem outA17 (c : Dev nD) (i : grid0.Coords) (arg2 : Memref sig .tc .vmem S128x1024 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S3x2816 .f32) (harg13 : arg13.IsWhole) (arg14 : Memref sig .tc .vmem S1x2816 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S128x2816 .f32) (harg17 : arg17.IsWhole) (arg18 : Memref sig .tc .vmem S128x2816 .f32) (harg18 : arg18.IsWhole) (arg19 : Memref sig .tc .vmem S128x1024 .f32) (harg19 : arg19.IsWhole) (arg20 : Memref sig .tc .vmem S128x2816 .f32) (harg20 : arg20.IsWhole) (arg21 : Memref sig .tc .vmem S128x1024 .bf16) (harg21 : arg21.IsWhole)
    (x0 : Vec Ideal S128x1024 .f32) (x1 : Vec Ideal S128x512 .bf16) (x2 : Vec Ideal S128x512 .bf16) (x3 : Vec Ideal S128x1024 .bf16) (x4 : Vec Ideal S128x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x2816 .f32) (x12 : Vec Ideal S1x2816 .f32) (x13 : Vec Ideal S2816x1024 .bf16) (x14 : Vec Ideal S1x1024 .f32) (x15 : Vec Ideal S128x2816 .f32) (x16 : Vec Ideal S128x2816 .f32) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 = by_ x0 x1 x2 x3 x4 x5 x6 x7 x8 x9 x10 x11 x12 x13 x14 x15 x16 := by
  unfold out0_A_17 kernelRun0_A
  dsimp only
  refine (Loads.stored_whole _ _ _ _ _).trans ?_
  simp only [kernelRun0_A.sl.H17_1, kernelRun0_A.sl.HS0_1, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v119, kernelRun0_A.sl.v55]
  simp only [Loads.load_whole, Loads.load_stored]
  simp only [Loads.load_part, Loads.load_stored_part]
  rfl

theorem outA18 (c : Dev nD) (i : grid0.Coords) (arg2 : Memref sig .tc .vmem S128x1024 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S3x2816 .f32) (harg13 : arg13.IsWhole) (arg14 : Memref sig .tc .vmem S1x2816 .f32) (harg14 : arg14.IsWhole) (arg15 : Memref sig .tc .vmem S2816x1024 .bf16) (harg15 : arg15.IsWhole) (arg16 : Memref sig .tc .vmem S1x1024 .f32) (harg16 : arg16.IsWhole) (arg17 : Memref sig .tc .vmem S128x2816 .f32) (harg17 : arg17.IsWhole) (arg18 : Memref sig .tc .vmem S128x2816 .f32) (harg18 : arg18.IsWhole) (arg19 : Memref sig .tc .vmem S128x1024 .f32) (harg19 : arg19.IsWhole) (arg20 : Memref sig .tc .vmem S128x2816 .f32) (harg20 : arg20.IsWhole) (arg21 : Memref sig .tc .vmem S128x1024 .bf16) (harg21 : arg21.IsWhole)
    (x0 : Vec Ideal S128x1024 .f32) (x1 : Vec Ideal S128x512 .bf16) (x2 : Vec Ideal S128x512 .bf16) (x3 : Vec Ideal S128x1024 .bf16) (x4 : Vec Ideal S128x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1024x5632 .bf16) (x11 : Vec Ideal S3x2816 .f32) (x12 : Vec Ideal S1x2816 .f32) (x13 : Vec Ideal S2816x1024 .bf16) (x14 : Vec Ideal S1x1024 .f32) (x15 : Vec Ideal S128x2816 .f32) (x16 : Vec Ideal S128x2816 .f32) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 = bu x0 x1 x2 x3 x4 x5 x6 x7 x8 x9 x10 := by
  unfold out0_A_18 kernelRun0_A
  dsimp only
  refine (Loads.stored_whole _ _ _ _ _).trans ?_
  simp only [kernelRun0_A.sl.H17_1, kernelRun0_A.sl.HS0_1, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.v119, kernelRun0_A.sl.v55]
  simp only [Loads.load_whole, Loads.load_stored]
  rfl

end Cert.PostSIdeal.Block

end
-- ==== Proof.PostSArray.lean ====
/-
  The sample post kernel's two result arrays, read at an index from the argument arrays.
-/
module

public import proofs.«01_k».proof.Proof.PostSBody
public import Idealize.ShloMosaic.Lib.Pipeline.ValueKit
public import Idealize.ShloMosaic.Lib.StableHlo.ReadAt

@[expose] public section

set_option maxRecDepth 16384

noncomputable section

namespace Cert.PostSIdeal.Block

open Cert.PostSIdeal Cert.PostSIdeal.Gen Idealize.ShloMosaic Idealize.ShloMosaic.TcCoe Idealize.SL.Sem

variable (m : (ℓ : Loc nD τ sig) → Buf (Elt Ideal) ℓ) (c : Dev nD)

/-! ## The host's operands -/

theorem V_v3 (k : Fin 512) (n : Fin 1024) :
    V m c main_v3 (ix2 k n) = m ((c : Thread nD τ).loc main_arg6) (ix2 (PostSpec.perm k) n) := by
  unfold V
  after_reads_at
  blk_ext
  unfold PostSpec.perm
  simp only
  omega

theorem V_v4 (k : Fin 512) (n : Fin 1024) :
    V m c main_v4 (ix2 k n) = m ((c : Thread nD τ).loc main_arg7) (ix2 k n) := by
  unfold V
  after_reads_at
  blk_ext

theorem V_v5 (k : Fin 1024) (n : Fin 1024) :
    V m c main_v5 (ix2 k n) = m ((c : Thread nD τ).loc main_arg8) (ix2 k n) := by
  unfold V
  after_reads_at
  blk_ext

theorem V_v9 (k : Fin 1024) (n : Fin 5632) :
    V m c main_v9 (ix2 k n) = m ((c : Thread nD τ).loc main_arg11) (ix2 k n) := by
  unfold V
  after_reads_at
  split
  · after_reads_at
    blk_ext
  · after_reads_at
    blk_ext

theorem V_v10 (k : Fin 2816) (n : Fin 1024) :
    V m c main_v10 (ix2 k n) = m ((c : Thread nD τ).loc main_arg14) (ix2 k n) := by
  unfold V
  after_reads_at
  blk_ext

theorem V_v19 (n : Fin 1024) :
    V m c main_v19 (ix2 0 n) = m ((c : Thread nD τ).loc main_arg9) (ix1 n) := by
  unfold V
  after_reads_at
  blk_ext

theorem V_v20 (n : Fin 1024) :
    V m c main_v20 (ix2 0 n) = m ((c : Thread nD τ).loc main_arg10) (ix1 n) := by
  unfold V
  after_reads_at
  blk_ext

theorem V_v21 (n : Fin 2816) :
    V m c main_v21 (ix2 0 n) = m ((c : Thread nD τ).loc main_arg13) (ix1 n) := by
  unfold V
  after_reads_at
  blk_ext

theorem V_v22 (n : Fin 1024) :
    V m c main_v22 (ix2 0 n) = m ((c : Thread nD τ).loc main_arg15) (ix1 n) := by
  unfold V
  after_reads_at
  blk_ext

theorem V_v18 (r : Fin 128) (n : Fin 1024) :
    V m c main_v18 (ix2 r n) = m ((c : Thread nD τ).loc main_arg0) (ix3 ⟨r.val / 16, by omega⟩ ⟨r.val % 16, by omega⟩ n) := by
  unfold V
  after_reads_at
  blk_ext

theorem V_v15 (r : Fin 128) (hr : r.val % 16 = 0) (n : Fin 2816) :
    V m c main_v15 (ix2 r n) = m ((c : Thread nD τ).loc main_arg5) (ix3 ⟨r.val / 16, by omega⟩ 1 n) := by
  unfold V
  after_reads_at
  rw [dif_pos (by omega)]
  after_reads_at
  blk_ext

theorem V_v17 (r : Fin 128) (hr : r.val % 16 < 2) (n : Fin 2816) :
    V m c main_v17 (ix2 r n) = m ((c : Thread nD τ).loc main_arg5) (ix3 ⟨r.val / 16, by omega⟩ ⟨r.val % 16, hr⟩ n) := by
  unfold V
  after_reads_at
  rw [dif_pos hr]
  after_reads_at

/-! ## The blocks -/

theorem idx_0 : ∀ t : Fin cfg0.N, win0_0.index t = ![0, 0] := by decide +kernel
theorem idx_1 : ∀ t : Fin cfg0.N, win0_1.index t = ![0, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_10 : ∀ t : Fin cfg0.N, win0_10.index t = ![0, 0] := by decide +kernel
theorem idx_11 : ∀ t : Fin cfg0.N, win0_11.index t = ![0, 0] := by decide +kernel
theorem idx_12 : ∀ t : Fin cfg0.N, win0_12.index t = ![0, 0] := by decide +kernel
theorem idx_13 : ∀ t : Fin cfg0.N, win0_13.index t = ![0, 0] := by decide +kernel
theorem idx_14 : ∀ t : Fin cfg0.N, win0_14.index t = ![0, 0] := by decide +kernel
theorem idx_15 : ∀ t : Fin cfg0.N, win0_15.index t = ![0, 0] := by decide +kernel
theorem idx_16 : ∀ t : Fin cfg0.N, win0_16.index t = ![0, 0] := by decide +kernel
theorem idx_17 : ∀ t : Fin cfg0.N, win0_17.index t = ![0, 0] := by decide +kernel
theorem idx_18 : ∀ t : Fin cfg0.N, win0_18.index t = ![0, 0] := by decide +kernel

variable (t : Fin cfg0.N)

theorem iblk_0 (r : Fin 128) (n : Fin 1024) :
    iblk m c 0 t (ix2 r n) = m ((c : Thread nD τ).loc main_arg0) (ix3 ⟨r.val / 16, by omega⟩ ⟨r.val % 16, by omega⟩ n) := by
  rw [← V_v18 m c r n]
  blk_ext [iblk, idx_0 t]

theorem iblk_1 (r : Fin 128) (n : Fin 512) :
    iblk m c 1 t (ix2 r n) = m ((c : Thread nD τ).loc main_arg1) (ix2 r n) := by
  blk_ext [iblk, V, idx_1 t]

theorem iblk_2 (r : Fin 128) (n : Fin 512) :
    iblk m c 2 t (ix2 r n) = m ((c : Thread nD τ).loc main_arg2) (ix2 r n) := by
  blk_ext [iblk, V, idx_2 t]

theorem iblk_3 (r : Fin 128) (n : Fin 1024) :
    iblk m c 3 t (ix2 r n) = m ((c : Thread nD τ).loc main_arg3) (ix2 r n) := by
  blk_ext [iblk, V, idx_3 t]

theorem iblk_4 (r : Fin 128) (n : Fin 1024) :
    iblk m c 4 t (ix2 r n) = m ((c : Thread nD τ).loc main_arg4) (ix2 r n) := by
  blk_ext [iblk, V, idx_4 t]

theorem iblk_5 (k : Fin 512) (n : Fin 1024) :
    iblk m c 5 t (ix2 k n) = m ((c : Thread nD τ).loc main_arg6) (ix2 (PostSpec.perm k) n) := by
  rw [← V_v3 m c k n]
  blk_ext [iblk, idx_5 t]

theorem iblk_6 (k : Fin 512) (n : Fin 1024) :
    iblk m c 6 t (ix2 k n) = m ((c : Thread nD τ).loc main_arg7) (ix2 k n) := by
  rw [← V_v4 m c k n]
  blk_ext [iblk, idx_6 t]

theorem iblk_7 (k : Fin 1024) (n : Fin 1024) :
    iblk m c 7 t (ix2 k n) = m ((c : Thread nD τ).loc main_arg8) (ix2 k n) := by
  rw [← V_v5 m c k n]
  blk_ext [iblk, idx_7 t]

theorem iblk_10 (k : Fin 1024) (n : Fin 5632) :
    iblk m c 10 t (ix2 k n) = m ((c : Thread nD τ).loc main_arg11) (ix2 k n) := by
  rw [← V_v9 m c k n]
  blk_ext [iblk, idx_10 t]

theorem iblk_13 (k : Fin 2816) (n : Fin 1024) :
    iblk m c 13 t (ix2 k n) = m ((c : Thread nD τ).loc main_arg14) (ix2 k n) := by
  rw [← V_v10 m c k n]
  blk_ext [iblk, idx_13 t]

theorem iblk_8 (n : Fin 1024) :
    iblk m c 8 t (ix2 0 n) = m ((c : Thread nD τ).loc main_arg9) (ix1 n) := by
  rw [← V_v19 m c n]
  blk_ext [iblk, idx_8 t]

theorem iblk_9 (n : Fin 1024) :
    iblk m c 9 t (ix2 0 n) = m ((c : Thread nD τ).loc main_arg10) (ix1 n) := by
  rw [← V_v20 m c n]
  blk_ext [iblk, idx_9 t]

theorem iblk_12 (n : Fin 2816) :
    iblk m c 12 t (ix2 0 n) = m ((c : Thread nD τ).loc main_arg13) (ix1 n) := by
  rw [← V_v21 m c n]
  blk_ext [iblk, idx_12 t]

theorem iblk_14 (n : Fin 1024) :
    iblk m c 14 t (ix2 0 n) = m ((c : Thread nD τ).loc main_arg15) (ix1 n) := by
  rw [← V_v22 m c n]
  blk_ext [iblk, idx_14 t]

theorem iblk_11 (k : Fin 3) (n : Fin 2816) :
    iblk m c 11 t (ix2 k n) = m ((c : Thread nD τ).loc main_arg12) (ix2 k n) := by
  blk_ext [iblk, V, idx_11 t]

theorem iblk_15 (r : Fin 128) (hr : r.val % 16 = 0) (n : Fin 2816) :
    iblk m c 15 t (ix2 r n) = m ((c : Thread nD τ).loc main_arg5) (ix3 ⟨r.val / 16, by omega⟩ 1 n) := by
  rw [← V_v15 m c r hr n]
  blk_ext [iblk, idx_15 t]

theorem iblk_16 (r : Fin 128) (hr : r.val % 16 < 2) (n : Fin 2816) :
    iblk m c 16 t (ix2 r n) = m ((c : Thread nD τ).loc main_arg5) (ix3 ⟨r.val / 16, by omega⟩ ⟨r.val % 16, hr⟩ n) := by
  rw [← V_v17 m c r hr n]
  blk_ext [iblk, idx_16 t]

/-- The weights that the arguments hold. -/
def W : PostSpec.Weights := PostSpec.weights (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The rows that the arguments hold. -/
def R : Fin 128 → PostSpec.Row := PostSpec.sampleRows (m ((c : Thread nD τ).loc main_arg0)) (m ((c : Thread nD τ).loc main_arg1)) (m ((c : Thread nD τ).loc main_arg2)) (m ((c : Thread nD τ).loc main_arg3)) (m ((c : Thread nD τ).loc main_arg4))

/-- The two rows before the sequence of row `r`. -/
def P (r : Fin 128) (q : Fin 2) (j : Fin 2816) : EReal := m ((c : Thread nD τ).loc main_arg5) (ix3 ⟨r.val / 16, by omega⟩ q j)

theorem wts_eq : wts (iblk m c 5 t) (iblk m c 6 t) (iblk m c 7 t) (iblk m c 8 t) (iblk m c 9 t) (iblk m c 10 t) (iblk m c 11 t) (iblk m c 12 t) (iblk m c 13 t) (iblk m c 14 t) = W m c := by
  unfold wts W PostSpec.weights
  simp only [PostSpec.Weights.mk.injEq]
  exact ⟨funext fun k => funext fun n => iblk_5 m c t k n, funext fun k => funext fun n => iblk_6 m c t k n,
    funext fun k => funext fun n => iblk_7 m c t k n, funext fun n => iblk_8 m c t n, funext fun n => iblk_9 m c t n,
    funext fun k => funext fun n => iblk_10 m c t k n, funext fun k => funext fun n => iblk_11 m c t k n,
    funext fun n => iblk_12 m c t n, funext fun k => funext fun n => iblk_13 m c t k n, funext fun n => iblk_14 m c t n⟩

theorem row_eq (r : Fin 128) : row (iblk m c 0 t) (iblk m c 1 t) (iblk m c 2 t) (iblk m c 3 t) (iblk m c 4 t) r = R m c r := by
  unfold row R PostSpec.sampleRows
  simp only [PostSpec.Row.mk.injEq]
  exact ⟨funext fun n => iblk_0 m c t r n, funext fun n => iblk_1 m c t r n, funext fun n => iblk_2 m c t r n,
    funext fun n => iblk_3 m c t r n, funext fun n => iblk_4 m c t r n⟩

/-- The first result's rows. -/
def resY (r : Fin 128) (n : Fin 1024) : EReal := PostSpec.seqY 16 (P m c) (W m c) (R m c) r n

theorem u_after (r : Fin 128) (j : Fin 2816) : (outsAt0 m c t).2 (ix2 r j) = PostSpec.u (W m c) (R m c r) j := by
  rw [← wts_eq m c t, ← row_eq m c t]
  unfold outsAt0
  dsimp only
  rw [outA18]
  exact bu_apply _ _ _ _ _ _ _ _ _ _ _ _ _ _ _ r j

theorem y_after (r : Fin 128) (n : Fin 1024) : (outsAt0 m c t).1 (ix2 r n) = resY m c r n := by
  unfold outsAt0
  dsimp only
  rw [outA17, by_apply, wts_eq m c t]
  simp only [row_eq m c t]
  unfold resY PostSpec.seqY
  by_cases e0 : r.val % 16 = 0
  · have l : r.val % 16 < 2 := by omega
    have q : (⟨r.val % 16, l⟩ : Fin 2) = 0 := Fin.ext e0
    have h15 : (fun j => iblk m c 15 t (ix2 r j)) = P m c r 1 := funext fun j => iblk_15 m c t r e0 j
    have h16 : (fun j => iblk m c 16 t (ix2 r j)) = P m c r 0 := funext fun j => (iblk_16 m c t r l j).trans (by rw [q]; rfl)
    rw [if_pos e0, if_pos e0, if_pos e0, if_pos l, h15, h16]
  · by_cases e1 : r.val % 16 = 1
    · have l : r.val % 16 < 2 := by omega
      have q : (⟨r.val % 16, l⟩ : Fin 2) = 1 := Fin.ext e1
      have h16 : (fun j => iblk m c 16 t (ix2 r j)) = P m c r 1 := funext fun j => (iblk_16 m c t r l j).trans (by rw [q]; rfl)
      rw [if_neg e0, if_neg e0, if_neg e0, if_pos e1, if_pos l, h16]
    · rw [if_neg e0, if_neg e0, if_neg e0, if_neg e1, if_neg (by omega : ¬ r.val % 16 < 2)]

/-- The first result's rows as an array. -/
def res17 : (⟨2, ![128, 1024]⟩ : Shape).Idx → EReal := fun i => resY m c (i 0) (i 1)

/-- The second result: the rows that the convolution runs over. -/
def res18 : (⟨2, ![128, 2816]⟩ : Shape).Idx → EReal := fun i => PostSpec.u (W m c) (R m c (i 0)) (i 1)

theorem final17 : (dats m 0 c).arrAt 17 cfg0.N = res17 m c := by
  refine (dats m 0 c).arrAt_eq_of_covers 17 _ (by decide +kernel) fun t hf y => ?_
  blk_simp
  rw [after0_17]
  obtain ⟨r, n, rfl⟩ : ∃ (r : Fin 128) (n : Fin 1024), y = ix2 r n := ⟨y 0, y 1, eq_ix2 y⟩
  have he : (win0_17.blk t).view.emb (ix2 r n) = ix2 r n := by
    blk_ext [idx_17 t]
  refine Eq.trans ?_ (congrArg (res17 m c) he).symm
  exact y_after m c t r n

theorem final18 : (dats m 0 c).arrAt 18 cfg0.N = res18 m c := by
  refine (dats m 0 c).arrAt_eq_of_covers 18 _ (by decide +kernel) fun t hf y => ?_
  blk_simp
  rw [after0_18]
  obtain ⟨r, n, rfl⟩ : ∃ (r : Fin 128) (n : Fin 2816), y = ix2 r n := ⟨y 0, y 1, eq_ix2 y⟩
  have he : (win0_18.blk t).view.emb (ix2 r n) = ix2 r n := by
    blk_ext [idx_18 t]
  refine Eq.trans ?_ (congrArg (res18 m c) he).symm
  exact u_after m c t r n

end Cert.PostSIdeal.Block

end
-- ==== Proof.PostSRefRead.lean ====
/-
  The sample post reference's two results, read at an index, in `Cert.PostSpec`'s words.
-/
module

public import proofs.«01_k».proof.Proof.Gen.PostSRefIdeal.Read
public import proofs.«01_k».proof.Proof.PostSpec

@[expose] public section

set_option maxRecDepth 16384

noncomputable section

namespace Cert.PostSRefIdeal.Stage

open Cert.PostSRefIdeal Cert.PostSRefIdeal.Read Idealize.ShloMosaic Idealize.ShloMosaic.TcCoe

variable (x0 : (⟨3, ![8, 16, 1024]⟩ : Shape).Idx → EReal) (x1 x2 : (⟨2, ![128, 512]⟩ : Shape).Idx → EReal)
  (x3 x4 : (⟨2, ![128, 1024]⟩ : Shape).Idx → EReal) (z : (⟨3, ![8, 2, 2816]⟩ : Shape).Idx → EReal) (x5 x6 : (⟨2, ![512, 1024]⟩ : Shape).Idx → EReal)
  (x7 : (⟨2, ![1024, 1024]⟩ : Shape).Idx → EReal) (x8 x9 : (⟨1, ![1024]⟩ : Shape).Idx → EReal)
  (x10 : (⟨2, ![1024, 5632]⟩ : Shape).Idx → EReal) (x11 : (⟨2, ![3, 2816]⟩ : Shape).Idx → EReal)
  (x12 : (⟨1, ![2816]⟩ : Shape).Idx → EReal) (x13 : (⟨2, ![2816, 1024]⟩ : Shape).Idx → EReal) (x14 : (⟨1, ![1024]⟩ : Shape).Idx → EReal)

/-- Row `s` of sequence `b`. -/
abbrev rr (b : Fin 8) (s : Fin 16) : Fin 128 := ⟨16 * b.val + s.val, by omega⟩

variable (b : Fin 8) (s : Fin 16)

theorem row_x (n : Fin 1024) : (PostSpec.sampleRows x0 x1 x2 x3 x4 (rr b s)).x n = x0 (ix3 b s n) := by
  refine congrArg x0 ?_
  congr 1 <;> exact Fin.ext (by simp only; omega)

theorem headsA (k : Fin 512) : val_main_v5 (F := Ideal) x1 (ix3 b s k) = x1 (ix2 (rr b s) (PostSpec.unperm k)) := by
  pointwise [val_main_v5, val_main_v2, val_main_v1, val_main_v0]
  refine congrArg x1 ?_
  unfold PostSpec.unperm
  congr 1 <;> exact Fin.ext (by simp only; omega)

theorem mixA (n : Fin 1024) : val_main_v6 (F := Ideal) x1 x5 (ix3 b s n)
    = ∑ k, x1 (ix2 (rr b s) k) * x5 (ix2 (PostSpec.perm k) n) := by
  pointwise [val_main_v6]
  rw [← PostSpec.permE.sum_comp]
  refine Finset.sum_congr rfl fun k _ => congrArg (· * x5 (ix2 (PostSpec.perm k) n)) ?_
  refine (headsA x1 b s (PostSpec.perm k)).trans (congrArg (fun l => x1 (ix2 (rr b s) l)) ?_)
  exact PostSpec.permE.left_inv k

theorem mixB (n : Fin 1024) : val_main_v12 (F := Ideal) x2 x6 (ix3 b s n)
    = ∑ k, x2 (ix2 (rr b s) k) * x6 (ix2 k n) := by
  pointwise [val_main_v12, val_main_v11, val_main_v10]
  refine Finset.sum_congr rfl fun k _ => congrArg (· * x6 (ix2 k n)) (congrArg x2 ?_)
  congr 1 <;> exact Fin.ext (by simp only; omega)

theorem gateA (n : Fin 1024) : val_main_v4 (F := Ideal) x3 (ix3 b s n) = x3 (ix2 (rr b s) n) := by
  pointwise [val_main_v4, val_main_v3]
  refine congrArg x3 ?_
  congr 1 <;> exact Fin.ext (by simp only; omega)

theorem gateB (n : Fin 1024) : val_main_v9 (F := Ideal) x4 (ix3 b s n) = x4 (ix2 (rr b s) n) := by
  pointwise [val_main_v9, val_main_v8]
  refine congrArg x4 ?_
  congr 1 <;> exact Fin.ext (by simp only; omega)

theorem attn (n : Fin 1024) :
    val_main_v15 (F := Ideal) x1 x2 x3 x4 x5 x6 x7 (ix3 b s n) = PostSpec.attn (PostSpec.weights x5 x6 x7 x8 x9 x10 x11 x12 x13 x14) (PostSpec.sampleRows x0 x1 x2 x3 x4 (rr b s)) n := by
  pointwise [val_main_v15, val_main_v14, val_main_v13, val_main_v7]
  simp only [mixA, mixB, gateA, gateB]
  rfl

theorem x1_apply (n : Fin 1024) :
    val_main_v29 (F := Ideal) x0 x1 x2 x3 x4 x5 x6 x7 x8 (ix3 b s n) = PostSpec.x1 (PostSpec.weights x5 x6 x7 x8 x9 x10 x11 x12 x13 x14) (PostSpec.sampleRows x0 x1 x2 x3 x4 (rr b s)) n := by
  pointwise [val_main_v29, val_main_v28, val_main_v27, val_main_v26, val_main_v25, val_main_v24, val_main_v23, val_main_v22,
    val_main_v21, val_main_v20, val_main_v19, val_main_v18, val_main_v17, val_main_v16, val_main_cst, val_main_cst_0, val_main_cst_1]
  simp only [attn x0 x1 x2 x3 x4 x5 x6 x7 x8 x9 x10 x11 x12 x13 x14]
  rw [← row_x x0 x1 x2 x3 x4 b s n]
  rfl

theorem h2_apply (n : Fin 1024) :
    val_main_v42 (F := Ideal) x0 x1 x2 x3 x4 x5 x6 x7 x8 x9 (ix3 b s n) = PostSpec.h2 (PostSpec.weights x5 x6 x7 x8 x9 x10 x11 x12 x13 x14) (PostSpec.sampleRows x0 x1 x2 x3 x4 (rr b s)) n := by
  pointwise [val_main_v42, val_main_v41, val_main_v40, val_main_v39, val_main_v38, val_main_v37, val_main_v36, val_main_v35,
    val_main_v34, val_main_v33, val_main_v32, val_main_v31, val_main_v30, val_main_cst_2, val_main_cst_3, val_main_cst_4]
  simp only [x1_apply x0 x1 x2 x3 x4 x5 x6 x7 x8 x9 x10 x11 x12 x13 x14]
  rfl

theorem uv_apply (j : Fin 5632) :
    val_main_v43 (F := Ideal) x0 x1 x2 x3 x4 x5 x6 x7 x8 x9 x10 (ix3 b s j) = PostSpec.uv (PostSpec.weights x5 x6 x7 x8 x9 x10 x11 x12 x13 x14) (PostSpec.sampleRows x0 x1 x2 x3 x4 (rr b s)) j := by
  pointwise [val_main_v43]
  simp only [h2_apply x0 x1 x2 x3 x4 x5 x6 x7 x8 x9 x10 x11 x12 x13 x14]
  rfl

theorem u_apply (j : Fin 2816) :
    val_main_v44 (F := Ideal) x0 x1 x2 x3 x4 x5 x6 x7 x8 x9 x10 (ix3 b s j) = PostSpec.u (PostSpec.weights x5 x6 x7 x8 x9 x10 x11 x12 x13 x14) (PostSpec.sampleRows x0 x1 x2 x3 x4 (rr b s)) j := by
  pointwise [val_main_v44]
  exact uv_apply x0 x1 x2 x3 x4 x5 x6 x7 x8 x9 x10 x11 x12 x13 x14 b s _

theorem val_apply (j : Fin 2816) :
    val_main_v45 (F := Ideal) x0 x1 x2 x3 x4 x5 x6 x7 x8 x9 x10 (ix3 b s j) = PostSpec.val (PostSpec.weights x5 x6 x7 x8 x9 x10 x11 x12 x13 x14) (PostSpec.sampleRows x0 x1 x2 x3 x4 (rr b s)) j := by
  pointwise [val_main_v45]
  exact uv_apply x0 x1 x2 x3 x4 x5 x6 x7 x8 x9 x10 x11 x12 x13 x14 b s _

/-- The convolution's rows: two rows of zeros, then the sequence's. -/
theorem up_apply (q : Fin 18) (j : Fin 2816) :
    val_main_v46 (F := Ideal) x0 x1 x2 x3 x4 z x5 x6 x7 x8 x9 x10 (ix3 b q j)
      = if h : q.val < 2 then z (ix3 b ⟨q.val, h⟩ j) else PostSpec.u (PostSpec.weights x5 x6 x7 x8 x9 x10 x11 x12 x13 x14) ((PostSpec.sampleRows x0 x1 x2 x3 x4) (rr b ⟨q.val - 2, by omega⟩)) j := by
  pointwise [val_main_v46]
  split
  · rfl
  · exact u_apply x0 x1 x2 x3 x4 x5 x6 x7 x8 x9 x10 x11 x12 x13 x14 b _ j

theorem up2 (j : Fin 2816) : val_main_v47 (F := Ideal) x0 x1 x2 x3 x4 z x5 x6 x7 x8 x9 x10 (ix3 b s j)
      = (if (rr b s).val % 16 = 0 then fun j => z (ix3 ⟨(rr b s).val / 16, by omega⟩ 0 j) else if (rr b s).val % 16 = 1 then fun j => z (ix3 ⟨(rr b s).val / 16, by omega⟩ 1 j)
          else PostSpec.u (PostSpec.weights x5 x6 x7 x8 x9 x10 x11 x12 x13 x14) ((PostSpec.sampleRows x0 x1 x2 x3 x4) ⟨(rr b s).val - 2, by omega⟩)) j := by
  pointwise [val_main_v47]
  refine (up_apply x0 x1 x2 x3 x4 z x5 x6 x7 x8 x9 x10 x11 x12 x13 x14 b _ j).trans ?_
  have e : (rr b s).val % 16 = s.val := by simp only; omega
  rw [e]
  by_cases e0 : s.val = 0
  · rw [dif_pos (by simp only; omega), if_pos e0]
    refine congrArg z ?_
    congr 1 <;> exact Fin.ext (by simp; omega)
  · by_cases e1 : s.val = 1
    · rw [dif_pos (by simp only; omega), if_neg e0, if_pos e1]
      refine congrArg z ?_
      congr 1 <;> exact Fin.ext (by simp; omega)
    · rw [dif_neg (by simp only; omega), if_neg e0, if_neg e1]
      exact congrArg (fun r => PostSpec.u (PostSpec.weights x5 x6 x7 x8 x9 x10 x11 x12 x13 x14) ((PostSpec.sampleRows x0 x1 x2 x3 x4) r) j) (Fin.ext (by simp only; omega))

theorem up1 (j : Fin 2816) : val_main_v56 (F := Ideal) x0 x1 x2 x3 x4 z x5 x6 x7 x8 x9 x10 (ix3 b s j)
      = (if (rr b s).val % 16 = 0 then fun j => z (ix3 ⟨(rr b s).val / 16, by omega⟩ 1 j) else PostSpec.u (PostSpec.weights x5 x6 x7 x8 x9 x10 x11 x12 x13 x14) ((PostSpec.sampleRows x0 x1 x2 x3 x4) ⟨(rr b s).val - 1, by omega⟩)) j := by
  pointwise [val_main_v56]
  refine (up_apply x0 x1 x2 x3 x4 z x5 x6 x7 x8 x9 x10 x11 x12 x13 x14 b _ j).trans ?_
  have e : (rr b s).val % 16 = s.val := by simp only; omega
  rw [e]
  by_cases e0 : s.val = 0
  · rw [dif_pos (by simp only; omega), if_pos e0]
    refine congrArg z ?_
    congr 1 <;> exact Fin.ext (by simp; omega)
  · rw [dif_neg (by simp only; omega), if_neg e0]
    exact congrArg (fun r => PostSpec.u (PostSpec.weights x5 x6 x7 x8 x9 x10 x11 x12 x13 x14) ((PostSpec.sampleRows x0 x1 x2 x3 x4) r) j) (Fin.ext (by simp only; omega))

theorem up0 (j : Fin 2816) : val_main_v63 (F := Ideal) x0 x1 x2 x3 x4 z x5 x6 x7 x8 x9 x10 (ix3 b s j) = PostSpec.u (PostSpec.weights x5 x6 x7 x8 x9 x10 x11 x12 x13 x14) (PostSpec.sampleRows x0 x1 x2 x3 x4 (rr b s)) j := by
  pointwise [val_main_v63]
  refine (up_apply x0 x1 x2 x3 x4 z x5 x6 x7 x8 x9 x10 x11 x12 x13 x14 b _ j).trans ?_
  rw [dif_neg (by simp only; omega)]
  exact congrArg (fun r => PostSpec.u (PostSpec.weights x5 x6 x7 x8 x9 x10 x11 x12 x13 x14) ((PostSpec.sampleRows x0 x1 x2 x3 x4) r) j) (Fin.ext (by simp only; omega))

theorem conv_apply (j : Fin 2816) :
    val_main_v69 (F := Ideal) x0 x1 x2 x3 x4 z x5 x6 x7 x8 x9 x10 x11 x12 (ix3 b s j)
      = PostSpec.conv (PostSpec.weights x5 x6 x7 x8 x9 x10 x11 x12 x13 x14) (if (rr b s).val % 16 = 0 then fun j => z (ix3 ⟨(rr b s).val / 16, by omega⟩ 0 j) else if (rr b s).val % 16 = 1 then fun j => z (ix3 ⟨(rr b s).val / 16, by omega⟩ 1 j) else PostSpec.u (PostSpec.weights x5 x6 x7 x8 x9 x10 x11 x12 x13 x14) ((PostSpec.sampleRows x0 x1 x2 x3 x4) ⟨(rr b s).val - 2, by omega⟩)) (if (rr b s).val % 16 = 0 then fun j => z (ix3 ⟨(rr b s).val / 16, by omega⟩ 1 j) else PostSpec.u (PostSpec.weights x5 x6 x7 x8 x9 x10 x11 x12 x13 x14) ((PostSpec.sampleRows x0 x1 x2 x3 x4) ⟨(rr b s).val - 1, by omega⟩)) (PostSpec.u (PostSpec.weights x5 x6 x7 x8 x9 x10 x11 x12 x13 x14) (PostSpec.sampleRows x0 x1 x2 x3 x4 (rr b s))) j := by
  pointwise [val_main_v69, val_main_v68, val_main_v67, val_main_v66, val_main_v65, val_main_v64, val_main_v62, val_main_v61, val_main_v60,
    val_main_v59, val_main_v58, val_main_v57, val_main_v55, val_main_v54, val_main_v53, val_main_v52, val_main_v51, val_main_v50, val_main_v49, val_main_v48]
  simp only [up0 x0 x1 x2 x3 x4 z x5 x6 x7 x8 x9 x10 x11 x12 x13 x14, up1 x0 x1 x2 x3 x4 z x5 x6 x7 x8 x9 x10 x11 x12 x13 x14, up2 x0 x1 x2 x3 x4 z x5 x6 x7 x8 x9 x10 x11 x12 x13 x14]
  rfl

theorem root_two : Ideal.sqrt (Ideal.ofBits FTy.f32 1073741824#32) = ((Real.sqrt 2 : ℝ) : EReal) := by
  have h : Ideal.ofBits FTy.f32 1073741824#32 = ((2 : ℝ) : EReal) := by
    simp only [Ideal.ofBits, Ideal.ieee]
    simp
    rw [← EReal.coe_mul]; norm_num
  rw [h, Ideal.sqrt_coe, if_neg (by norm_num)]

theorem over_root (x : EReal) : Ideal.div x ((Real.sqrt 2 : ℝ) : EReal) = x * (((Real.sqrt 2)⁻¹ : ℝ) : EReal) := by
  have h : ((Real.sqrt 2 : ℝ) : EReal) ≠ 0 := fun h => by
    have : Real.sqrt 2 = 0 := by exact_mod_cast h
    exact absurd this (by positivity)
  rw [Ideal.div, if_neg h, EReal.coe_inv]

theorem gated_apply (j : Fin 2816) :
    val_main_v79 (F := Ideal) x0 x1 x2 x3 x4 z x5 x6 x7 x8 x9 x10 x11 x12 (ix3 b s j)
      = PostSpec.gelu (PostSpec.conv (PostSpec.weights x5 x6 x7 x8 x9 x10 x11 x12 x13 x14) (if (rr b s).val % 16 = 0 then fun j => z (ix3 ⟨(rr b s).val / 16, by omega⟩ 0 j) else if (rr b s).val % 16 = 1 then fun j => z (ix3 ⟨(rr b s).val / 16, by omega⟩ 1 j) else PostSpec.u (PostSpec.weights x5 x6 x7 x8 x9 x10 x11 x12 x13 x14) ((PostSpec.sampleRows x0 x1 x2 x3 x4) ⟨(rr b s).val - 2, by omega⟩)) (if (rr b s).val % 16 = 0 then fun j => z (ix3 ⟨(rr b s).val / 16, by omega⟩ 1 j) else PostSpec.u (PostSpec.weights x5 x6 x7 x8 x9 x10 x11 x12 x13 x14) ((PostSpec.sampleRows x0 x1 x2 x3 x4) ⟨(rr b s).val - 1, by omega⟩)) (PostSpec.u (PostSpec.weights x5 x6 x7 x8 x9 x10 x11 x12 x13 x14) (PostSpec.sampleRows x0 x1 x2 x3 x4 (rr b s))) j) * PostSpec.val (PostSpec.weights x5 x6 x7 x8 x9 x10 x11 x12 x13 x14) (PostSpec.sampleRows x0 x1 x2 x3 x4 (rr b s)) j := by
  pointwise [val_main_v79, val_main_v78, val_main_v77, val_main_v76, val_main_v75, val_main_v74, val_main_v73, val_main_v72, val_main_v71,
    val_main_v70, val_main_cst_5, val_main_cst_6, val_main_cst_7]
  rw [conv_apply x0 x1 x2 x3 x4 z x5 x6 x7 x8 x9 x10 x11 x12 x13 x14, val_apply x0 x1 x2 x3 x4 x5 x6 x7 x8 x9 x10 x11 x12 x13 x14]
  simp only [root_two, over_root]
  rfl

theorem ff_apply (n : Fin 1024) :
    val_main_v80 (F := Ideal) x0 x1 x2 x3 x4 z x5 x6 x7 x8 x9 x10 x11 x12 x13 (ix3 b s n) = PostSpec.ff (PostSpec.weights x5 x6 x7 x8 x9 x10 x11 x12 x13 x14) (if (rr b s).val % 16 = 0 then fun j => z (ix3 ⟨(rr b s).val / 16, by omega⟩ 0 j) else if (rr b s).val % 16 = 1 then fun j => z (ix3 ⟨(rr b s).val / 16, by omega⟩ 1 j) else PostSpec.u (PostSpec.weights x5 x6 x7 x8 x9 x10 x11 x12 x13 x14) ((PostSpec.sampleRows x0 x1 x2 x3 x4) ⟨(rr b s).val - 2, by omega⟩)) (if (rr b s).val % 16 = 0 then fun j => z (ix3 ⟨(rr b s).val / 16, by omega⟩ 1 j) else PostSpec.u (PostSpec.weights x5 x6 x7 x8 x9 x10 x11 x12 x13 x14) ((PostSpec.sampleRows x0 x1 x2 x3 x4) ⟨(rr b s).val - 1, by omega⟩)) (PostSpec.sampleRows x0 x1 x2 x3 x4 (rr b s)) n := by
  pointwise [val_main_v80]
  simp only [gated_apply x0 x1 x2 x3 x4 z x5 x6 x7 x8 x9 x10 x11 x12 x13 x14]
  rfl

theorem y_apply (n : Fin 1024) :
    val_main_v94 (F := Ideal) x0 x1 x2 x3 x4 z x5 x6 x7 x8 x9 x10 x11 x12 x13 x14 (ix3 b s n)
      = PostSpec.seqY 16 (fun r q j => z (ix3 ⟨r.val / 16, by omega⟩ q j)) (PostSpec.weights x5 x6 x7 x8 x9 x10 x11 x12 x13 x14) (PostSpec.sampleRows x0 x1 x2 x3 x4) (rr b s) n := by
  pointwise [val_main_v94, val_main_v93, val_main_v92, val_main_v91, val_main_v90, val_main_v89, val_main_v88, val_main_v87, val_main_v86,
    val_main_v85, val_main_v84, val_main_v83, val_main_v82, val_main_v81, val_main_cst_8, val_main_cst_9, val_main_cst_10]
  simp only [ff_apply x0 x1 x2 x3 x4 z x5 x6 x7 x8 x9 x10 x11 x12 x13 x14, x1_apply x0 x1 x2 x3 x4 x5 x6 x7 x8 x9 x10 x11 x12 x13 x14]
  rfl

theorem out_y (r : Fin 128) (n : Fin 1024) :
    val_main_v95 (F := Ideal) x0 x1 x2 x3 x4 z x5 x6 x7 x8 x9 x10 x11 x12 x13 x14 (ix2 r n) = PostSpec.seqY 16 (fun r q j => z (ix3 ⟨r.val / 16, by omega⟩ q j)) (PostSpec.weights x5 x6 x7 x8 x9 x10 x11 x12 x13 x14) (PostSpec.sampleRows x0 x1 x2 x3 x4) r n := by
  have e : rr ⟨r.val / 16, by omega⟩ ⟨r.val % 16, by omega⟩ = r := Fin.ext (by simp only; omega)
  rw [← e, ← y_apply]
  pointwise [val_main_v95]
  refine congrArg _ ?_
  congr 1 <;> exact Fin.ext (by simp only; omega)

theorem out_u (r : Fin 128) (j : Fin 2816) :
    val_main_v97 (F := Ideal) x0 x1 x2 x3 x4 z x5 x6 x7 x8 x9 x10 (ix2 r j) = PostSpec.u (PostSpec.weights x5 x6 x7 x8 x9 x10 x11 x12 x13 x14) ((PostSpec.sampleRows x0 x1 x2 x3 x4) r) j := by
  have e : rr ⟨r.val / 16, by omega⟩ ⟨r.val % 16, by omega⟩ = r := Fin.ext (by simp only; omega)
  rw [← e, ← up0 x0 x1 x2 x3 x4 z x5 x6 x7 x8 x9 x10 x11 x12 x13 x14]
  pointwise [val_main_v97, val_main_v96, val_main_v63]
  refine congrArg _ ?_
  congr 1 <;> exact Fin.ext (by simp only; omega)

end Cert.PostSRefIdeal.Stage

end
-- ==== Proof.PostSClaim.lean ====
/-
  The sample post kernel and its reference compute the same arrays; and the reference's frame.
-/
module

public import proofs.«01_k».proof.Defs
public import proofs.«01_k».proof.Proof.PostSArray
public import proofs.«01_k».proof.Proof.PostSRefRead
public import proofs.«01_k».proof.Proof.Gen.PostSRefIdeal.Run

@[expose] public section

set_option maxRecDepth 16384

noncomputable section

namespace Cert.PostSClaim

open Idealize.ShloMosaic Idealize.SL.Sem

theorem ref_frame : Cert.quiescent_PostSRefIdeal := fun m ρ _ =>
  (θ_run PostSRefIdeal.defs _ _).mono (fun r h => ⟨fun c => (h c).2.2, sem_eq_zero_of_no_sems (by decide) r.2⟩)
    (PostSRefIdeal.Value.run (F := Ideal) m ρ)

theorem algebraic : Cert.algebraic_PostSIdeal_PostSRefIdeal := by
  intro m g m' g' _ hargs
  refine ⟨fun c => PostSIdeal.Block.res17 m c, fun c => PostSIdeal.Block.res18 m c, ?_, ?_⟩
  · exact (θ_run PostSIdeal.defs _ _).mono (fun r h c =>
      ⟨(h c).1.trans (PostSIdeal.Block.final17 m c), (h c).2.1.trans (PostSIdeal.Block.final18 m c), (h c).2.2⟩)
      (PostSIdeal.Value.run_blocks m g)
  · refine (θ_run PostSRefIdeal.defs _ _).mono (fun r h c => ?_) (PostSRefIdeal.Value.run (F := Ideal) m' g')
    obtain ⟨e0, e1, e2, e3, e4, e5, e6, e7, e8, e9, e10, e11, e12, e13, e14, e15⟩ := hargs c
    refine ⟨(h c).1.trans ?_, (h c).2.1.trans ?_, (h c).2.2⟩
    · refine (PostSRefIdeal.Read.val_main_v95_eq (StableHlo.launchContents m' c)).trans ?_
      change PostSRefIdeal.Read.val_main_v95 (F := Ideal) (m' ((c.tc : Thread PostSRefIdeal.nD PostSRefIdeal.τ).loc PostSRefIdeal.main_arg0))
        (m' ((c.tc : Thread PostSRefIdeal.nD PostSRefIdeal.τ).loc PostSRefIdeal.main_arg1))
        (m' ((c.tc : Thread PostSRefIdeal.nD PostSRefIdeal.τ).loc PostSRefIdeal.main_arg2))
        (m' ((c.tc : Thread PostSRefIdeal.nD PostSRefIdeal.τ).loc PostSRefIdeal.main_arg3))
        (m' ((c.tc : Thread PostSRefIdeal.nD PostSRefIdeal.τ).loc PostSRefIdeal.main_arg4))
        (m' ((c.tc : Thread PostSRefIdeal.nD PostSRefIdeal.τ).loc PostSRefIdeal.main_arg5))
        (m' ((c.tc : Thread PostSRefIdeal.nD PostSRefIdeal.τ).loc PostSRefIdeal.main_arg6))
        (m' ((c.tc : Thread PostSRefIdeal.nD PostSRefIdeal.τ).loc PostSRefIdeal.main_arg7))
        (m' ((c.tc : Thread PostSRefIdeal.nD PostSRefIdeal.τ).loc PostSRefIdeal.main_arg8))
        (m' ((c.tc : Thread PostSRefIdeal.nD PostSRefIdeal.τ).loc PostSRefIdeal.main_arg9))
        (m' ((c.tc : Thread PostSRefIdeal.nD PostSRefIdeal.τ).loc PostSRefIdeal.main_arg10))
        (m' ((c.tc : Thread PostSRefIdeal.nD PostSRefIdeal.τ).loc PostSRefIdeal.main_arg11))
        (m' ((c.tc : Thread PostSRefIdeal.nD PostSRefIdeal.τ).loc PostSRefIdeal.main_arg12))
        (m' ((c.tc : Thread PostSRefIdeal.nD PostSRefIdeal.τ).loc PostSRefIdeal.main_arg13))
        (m' ((c.tc : Thread PostSRefIdeal.nD PostSRefIdeal.τ).loc PostSRefIdeal.main_arg14))
        (m' ((c.tc : Thread PostSRefIdeal.nD PostSRefIdeal.τ).loc PostSRefIdeal.main_arg15)) = _
      rw [e0, e1, e2, e3, e4, e5, e6, e7, e8, e9, e10, e11, e12, e13, e14, e15]
      funext i
      obtain ⟨r, n, rfl⟩ : ∃ (r : Fin 128) (n : Fin 1024), i = ix2 r n := ⟨i 0, i 1, eq_ix2 i⟩
      exact PostSRefIdeal.Stage.out_y _ _ _ _ _ _ _ _ _ _ _ _ _ _ _ _ r n
    · refine (PostSRefIdeal.Read.val_main_v97_eq (StableHlo.launchContents m' c)).trans ?_
      change PostSRefIdeal.Read.val_main_v97 (F := Ideal) (m' ((c.tc : Thread PostSRefIdeal.nD PostSRefIdeal.τ).loc PostSRefIdeal.main_arg0))
        (m' ((c.tc : Thread PostSRefIdeal.nD PostSRefIdeal.τ).loc PostSRefIdeal.main_arg1))
        (m' ((c.tc : Thread PostSRefIdeal.nD PostSRefIdeal.τ).loc PostSRefIdeal.main_arg2))
        (m' ((c.tc : Thread PostSRefIdeal.nD PostSRefIdeal.τ).loc PostSRefIdeal.main_arg3))
        (m' ((c.tc : Thread PostSRefIdeal.nD PostSRefIdeal.τ).loc PostSRefIdeal.main_arg4))
        (m' ((c.tc : Thread PostSRefIdeal.nD PostSRefIdeal.τ).loc PostSRefIdeal.main_arg5))
        (m' ((c.tc : Thread PostSRefIdeal.nD PostSRefIdeal.τ).loc PostSRefIdeal.main_arg6))
        (m' ((c.tc : Thread PostSRefIdeal.nD PostSRefIdeal.τ).loc PostSRefIdeal.main_arg7))
        (m' ((c.tc : Thread PostSRefIdeal.nD PostSRefIdeal.τ).loc PostSRefIdeal.main_arg8))
        (m' ((c.tc : Thread PostSRefIdeal.nD PostSRefIdeal.τ).loc PostSRefIdeal.main_arg9))
        (m' ((c.tc : Thread PostSRefIdeal.nD PostSRefIdeal.τ).loc PostSRefIdeal.main_arg10))
        (m' ((c.tc : Thread PostSRefIdeal.nD PostSRefIdeal.τ).loc PostSRefIdeal.main_arg11)) = _
      rw [e0, e1, e2, e3, e4, e5, e6, e7, e8, e9, e10, e11]
      funext i
      obtain ⟨r, j, rfl⟩ : ∃ (r : Fin 128) (j : Fin 2816), i = ix2 r j := ⟨i 0, i 1, eq_ix2 i⟩
      exact PostSRefIdeal.Stage.out_u _ _ _ _ _ _ _ _ _ _ _ _ _ _ _ _ r j

end Cert.PostSClaim

end
-- ==== Proof.InSpec.lean ====
/-
  One row of the input projection, as functions of the row's channels: the RMS norm, the projection to 4352 channels,
  the rotary embedding of mixer A's queries and keys, the scaled queries and the two gates.
-/
module

public import proofs.«01_k».proof.Proof.PostSpec

@[expose] public section

set_option maxRecDepth 16384

noncomputable section

namespace Cert.InSpec

open Idealize.ShloMosaic

/-- The projection of a row `x` with gain `g` by the weights `w`. -/
def proj (x g : Fin 1024 → EReal) (w : Fin 1024 → Fin 4352 → EReal) (j : Fin 4352) : EReal :=
  ∑ k, PostSpec.rms x g k * w k j

/-- The angle by which channel pair `i` of a head turns at position `p`. -/
def angle (p : BitVec 32) (i : ℕ) : EReal :=
  FloatOps.sitofp (F := Ideal) FTy.f32 p
    * Ideal.div 1 (Ideal.pow (Ideal.ofBits FTy.f32 1176256512#32)
        (FloatOps.sitofp (F := Ideal) FTy.f32 (BitVec.ofNat 32 i) * Ideal.ofBits FTy.f32 1023410176#32))

/-- The cosine at channel `l`: a head's two halves of 32 share their angles. -/
def cosT (p : BitVec 32) (l : ℕ) : EReal := Ideal.cos (angle p (l % 32))

/-- The sine at channel `l`, negative in a head's first half. -/
def sinT (p : BitVec 32) (l : ℕ) : EReal :=
  if l % 64 < 32 then -Ideal.sin (angle p (l % 32)) else Ideal.sin (angle p (l % 32))

/-- The channel of the same head that channel `j` turns with. -/
def partner (j : Fin 4352) : Fin 4352 := ⟨if j.val % 64 < 32 then j.val + 32 else j.val - 32, by split <;> omega⟩

/-- Channel `j` after the rotary embedding at position `p`. -/
def turn (P : Fin 4352 → EReal) (p : BitVec 32) (j : Fin 4352) : EReal :=
  P j * cosT p j.val + P (partner j) * sinT p j.val

/-- The queries' scale: one over the root of the head's 64 channels, over the logarithm of two. -/
def scale : EReal := (((1 / 8) * (Real.log 2)⁻¹ : ℝ) : EReal)

/-- Where the kernel's column `j` lies: mixer A's queries come as (pair, kv head), the projection's as (kv head, pair). -/
def col (j : Fin 4352) : Fin 4352 :=
  ⟨if j.val < 512 then 64 * (4 * (j.val / 64 % 2) + j.val / 128) + j.val % 64 else j.val, by split <;> omega⟩

/-- A column past mixer A's queries lies where the projection has it. -/
theorem col_ge (k : ℕ) (hk : 512 ≤ k) (h : k < 4352) : col ⟨k, h⟩ = ⟨k, h⟩ :=
  Fin.ext (by simp only [col]; rw [if_neg (by omega)])

def qa (P : Fin 4352 → EReal) (p : BitVec 32) (j : Fin 512) : EReal := turn P p (col ⟨j.val, by omega⟩) * scale
def ka (P : Fin 4352 → EReal) (p : BitVec 32) (j : Fin 128) : EReal := turn P p ⟨512 + j.val, by omega⟩
def va (P : Fin 4352 → EReal) (j : Fin 128) : EReal := P ⟨640 + j.val, by omega⟩
def qb (P : Fin 4352 → EReal) (j : Fin 512) : EReal := P ⟨768 + j.val, by omega⟩ * scale
def kb (P : Fin 4352 → EReal) (j : Fin 512) : EReal := P ⟨1280 + j.val, by omega⟩
def vb (P : Fin 4352 → EReal) (j : Fin 512) : EReal := P ⟨1792 + j.val, by omega⟩
def sga (P : Fin 4352 → EReal) (j : Fin 1024) : EReal := Ideal.logistic (P ⟨2304 + j.val, by omega⟩)
def sgb (P : Fin 4352 → EReal) (j : Fin 1024) : EReal := Ideal.logistic (P ⟨3328 + j.val, by omega⟩)

/-! ## The kernel's way of turning a block of 128 channels -/

/-- The kernel's choice of a channel's partner, by a bit of its number. -/
theorem select_half (l : ℕ) (hl : l < 128) (a b : EReal) :
    Scalar.select (IntOp.cmpi .eq (IntOp.andi (BitVec.ofNat 32 l) 32#32) 0#32) a b = if l % 64 < 32 then a else b := by
  have h : ∀ k : Fin 128, IntOp.cmpi .eq (IntOp.andi (BitVec.ofNat 32 k.val) 32#32) 0#32 = if k.val % 64 < 32 then 1#1 else 0#1 := by
    decide +kernel
  rw [h ⟨l, hl⟩]
  by_cases e : l % 64 < 32 <;> simp [Scalar.select, e]

theorem turn_of (P : Fin 4352 → EReal) (p : BitVec 32) (j a b b' : Fin 4352) (l : ℕ) (hl : l % 64 = j.val % 64) (ha : a = j)
    (h1 : j.val % 64 < 32 → b.val = j.val + 32) (h2 : ¬ j.val % 64 < 32 → b'.val = j.val - 32) :
    P a * cosT p l + (if l % 64 < 32 then P b else P b') * sinT p l = turn P p j := by
  have e : l % 32 = j.val % 32 := by omega
  unfold turn cosT sinT
  rw [hl, e, ha]
  by_cases c : j.val % 64 < 32
  · have : b = partner j := Fin.ext (by simp only [partner, if_pos c]; exact h1 c)
    simp only [if_pos c, this]
  · have : b' = partner j := Fin.ext (by simp only [partner, if_neg c]; exact h2 c)
    simp only [if_neg c, this]

theorem col_at (a : Fin 4352) (q e f : ℕ) (h : a.val = 128 * q + 64 * e + f) (hq : q < 4) (he : e < 2) (hf : f < 64) :
    (col a).val = 64 * (4 * e + q) + f := by
  have h1 : a.val / 64 % 2 = e := by omega
  have h2 : a.val / 128 = q := by omega
  have h3 : a.val % 64 = f := by omega
  simp only [col]
  rw [if_pos (by omega), h1, h2, h3]

/-- Channel `l` of block `q` of mixer A's queries, turned within its block of 128. -/
theorem turn_col (P : Fin 4352 → EReal) (p : BitVec 32) (j : Fin 512) (q : ℕ) (a b b' : Fin 4352) (l : ℕ) (hj : j.val = 128 * q + l)
    (hl : l < 128) (ha : a.val = j.val) (hq : q < 4) (hb : b.val = 128 * q + (l + 128 - 96) % 128) (hb' : b'.val = 128 * q + (l + 128 - 32) % 128) :
    P (col a) * cosT p l + (if l % 64 < 32 then P (col b) else P (col b')) * sinT p l = turn P p (col ⟨j.val, by omega⟩) := by
  obtain ⟨e, f, he, hf, rfl⟩ : ∃ e f, e < 2 ∧ f < 64 ∧ l = 64 * e + f := ⟨l / 64, l % 64, by omega, by omega, by omega⟩
  have ej := col_at ⟨j.val, by omega⟩ q e f (by simp only; omega) hq he hf
  have ha' : a = ⟨j.val, by omega⟩ := Fin.ext ha
  have m1 : (64 * e + f) % 64 = f := by omega
  have m2 : (64 * (4 * e + q) + f) % 64 = f := by omega
  refine turn_of P p _ _ _ _ (64 * e + f) ?_ (congrArg col ha') (fun h => ?_) (fun h => ?_)
  · rw [ej, m1, m2]
  · rw [ej, m2] at h
    rw [ej, col_at b q e (f + 32) (by omega) hq he (by omega)]
    omega
  · rw [ej, m2] at h
    rw [ej, col_at b' q e (f - 32) (by omega) hq he (by omega)]
    omega

/-- A channel of a head's first half, turned: the reference's form. -/
theorem turn_lo (P : Fin 4352 → EReal) (p : BitVec 32) (j a b : Fin 4352) (i : ℕ) (hi : i < 32) (hj : j.val % 64 = i)
    (ha : a.val = j.val) (hb : b.val = j.val + 32) :
    P a * Ideal.cos (angle p i) - P b * Ideal.sin (angle p i) = turn P p j := by
  have e : b = partner j := Fin.ext (by simp only [partner]; rw [if_pos (by omega), hb])
  unfold turn cosT sinT
  rw [if_pos (by omega), show j.val % 32 = i by omega, e, Fin.ext ha, mul_neg, sub_eq_add_neg]

/-- A channel of a head's second half, turned: the reference's form. -/
theorem turn_hi (P : Fin 4352 → EReal) (p : BitVec 32) (j a b : Fin 4352) (i : ℕ) (hi : i < 32) (hj : j.val % 64 = i + 32)
    (ha : a.val = j.val) (hb : b.val + 32 = j.val) :
    P a * Ideal.cos (angle p i) + P b * Ideal.sin (angle p i) = turn P p j := by
  have e : b = partner j := Fin.ext (by simp only [partner]; rw [if_neg (by omega)]; omega)
  unfold turn cosT sinT
  rw [if_neg (by omega), show j.val % 32 = i by omega, e, Fin.ext ha]

/-- The queries' scale on the reference's side: a multiplication by 1/8, then a division by the logarithm of 2. -/
theorem scaled (x : EReal) :
    Ideal.div (x * Ideal.ofBits FTy.f32 1040187392#32) (Ideal.log (Ideal.ofBits FTy.f32 1073741824#32)) = x * scale := by
  have h8 : Ideal.ofBits FTy.f32 1040187392#32 = ((1 / 8 : ℝ) : EReal) := by
    simp only [Ideal.ofBits, Ideal.ieee]
    simp
    rw [← EReal.coe_mul]; norm_num
  have h2 : Ideal.ofBits FTy.f32 1073741824#32 = ((2 : ℝ) : EReal) := by
    simp only [Ideal.ofBits, Ideal.ieee]
    simp
    rw [← EReal.coe_mul]; norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have hn : ((Real.log 2 : ℝ) : EReal) ≠ 0 := fun h => by
    have h' : Real.log 2 = 0 := by exact_mod_cast h
    exact absurd h' (Real.log_pos (by norm_num)).ne'
  rw [h8, h2, hl, Ideal.div, if_neg hn, ← EReal.coe_inv, mul_assoc, ← EReal.coe_mul]
  rfl

/-! ## The two batches -/

/-- The sample batch's rows, 8 sequences of 16 one after the other, projected. -/
def sampleP (x : (⟨3, ![8, 16, 1024]⟩ : Shape).Idx → EReal) (g : (⟨1, ![1024]⟩ : Shape).Idx → EReal)
    (w : (⟨2, ![1024, 4352]⟩ : Shape).Idx → EReal) (r : Fin 128) : Fin 4352 → EReal :=
  proj (fun n => x (ix3 ⟨r.val / 16, by omega⟩ ⟨r.val % 16, by omega⟩ n)) (fun n => g (ix1 n)) (fun k j => w (ix2 k j))

/-- The sample's rows' positions: 1024 on from the row's place in its sequence. -/
def samplePos (r : Fin 128) : BitVec 32 := IntOp.addi 1024#32 (BitVec.ofNat 32 (r.val % 16))

/-- The prompt batch's rows, 16 sequences of 4096 one after the other, projected. -/
def promptP (x : (⟨3, ![16, 4096, 1024]⟩ : Shape).Idx → EReal) (g : (⟨1, ![1024]⟩ : Shape).Idx → EReal)
    (w : (⟨2, ![1024, 4352]⟩ : Shape).Idx → EReal) (r : Fin 65536) : Fin 4352 → EReal :=
  proj (fun n => x (ix3 ⟨r.val / 4096, by omega⟩ ⟨r.val % 4096, by omega⟩ n)) (fun n => g (ix1 n)) (fun k j => w (ix2 k j))

/-- The prompt's rows' positions: the row's place in its sequence. -/
def promptPos (r : Fin 65536) : BitVec 32 := BitVec.ofNat 32 (r.val % 4096)

end Cert.InSpec

end
-- ==== Proof.InSBlock.lean ====
/-
  What the sample input projection's body computes of a block of 128 rows, read at an index, in `Cert.InSpec`'s words.
-/
module

public import proofs.«01_k».proof.Proof.Gen.InSIdeal.Skeleton
public import proofs.«01_k».proof.Proof.InSpec

@[expose] public section

set_option maxRecDepth 16384

noncomputable section

namespace Cert.InSIdeal.Block

open Cert.InSIdeal Cert.InSIdeal.Gen Idealize.ShloMosaic Idealize.ShloMosaic.TcCoe

theorem scale_eq : Named.named (F := Ideal) κ "scale" (φ := .f32) 0x3E38AA3B#32 = InSpec.scale :=
  IdealRules.named_const.ideal_named_scalar _ _ _ _ rfl

theorem proj_apply (x : Vec Ideal S128x1024 .f32) (g : Vec Ideal S1x1024 .f32) (w : Vec Ideal S1024x4352 .bf16) (X : Fin 128 → Fin 1024 → EReal)
    (G : Fin 1024 → EReal) (W : Fin 1024 → Fin 4352 → EReal) (hx : ∀ r k, x (ix2 r k) = X r k) (hg : ∀ k, g (ix2 0 k) = G k)
    (hw : ∀ k j, w (ix2 k j) = W k (InSpec.col j)) (r : Fin 128) (j : Fin 4352) :
    k0_pay1 x g w (ix2 r j) = InSpec.proj (X r) G W (InSpec.col j) := by
  pointwise [k0_pay1]
  simp only [hx, hg, hw]
  rfl

section
variable (v : FVec Ideal S128x4352 .f32) (c s : FVec Ideal S128x128 .f32) (P : Fin 128 → Fin 4352 → EReal) (p : Fin 128 → BitVec 32)

theorem qa_apply (x : Vec Ideal S128x1024 .f32) (g : Vec Ideal S1x1024 .f32) (w : Vec Ideal S1024x4352 .bf16)
    (hv : ∀ r j, k0_pay1 x g w (ix2 r j) = P r (InSpec.col j))
    (hc : ∀ r l, c (ix2 r l) = InSpec.cosT (p r) l.val) (hs : ∀ r l, s (ix2 r l) = InSpec.sinT (p r) l.val) (r : Fin 128) (j : Fin 512) :
    k0_pay9 (k0_pay2 c) (k0_pay3 s) (k0_pay4 x g w) k0_pay5 (k0_pay6 x g w c s) (k0_pay7 x g w) (k0_pay8 x g w) (ix2 r j)
      = InSpec.qa (P r) (p r) j := by
  pointwise [k0_pay9, k0_pay8, k0_pay7, k0_pay6, k0_pay5, k0_pay4, k0_pay3, k0_pay2]
  simp only [hv, hc, hs, scale_eq]
  refine congrArg (· * InSpec.scale) ?_
  split
  · rw [InSpec.select_half _ (by omega)]
    exact InSpec.turn_col _ _ j 0 _ _ _ _ (by omega) (by omega) rfl (by omega) (by simp only; omega) (by simp only; omega)
  split
  · rw [InSpec.select_half _ (by omega)]
    exact InSpec.turn_col _ _ j 1 _ _ _ _ (by omega) (by omega) (by simp only; omega) (by omega) rfl rfl
  split
  · rw [InSpec.select_half _ (by omega)]
    exact InSpec.turn_col _ _ j 2 _ _ _ _ (by omega) (by omega) (by simp only; omega) (by omega) rfl rfl
  · rw [InSpec.select_half _ (by omega)]
    exact InSpec.turn_col _ _ j 3 _ _ _ _ (by omega) (by omega) (by simp only; omega) (by omega) rfl rfl

variable (hv : ∀ r j, v (ix2 r j) = P r (InSpec.col j))
  (hc : ∀ r l, c (ix2 r l) = InSpec.cosT (p r) l.val) (hs : ∀ r l, s (ix2 r l) = InSpec.sinT (p r) l.val) (r : Fin 128)
include hv

include hc hs in
theorem ka_apply (l : Fin 128) : k0_pay10 v (k0_pay2 c) (k0_pay3 s) (ix2 r l) = InSpec.ka (P r) (p r) l := by
  pointwise [k0_pay10, k0_pay3, k0_pay2]
  simp only [hv, hc, hs]
  rw [InSpec.select_half _ (by omega), InSpec.col_ge _ (Nat.le_add_right_of_le (by decide)), InSpec.col_ge _ (Nat.le_add_right_of_le (by decide)), InSpec.col_ge _ (Nat.le_add_right_of_le (by decide))]
  refine InSpec.turn_of _ _ _ _ _ _ _ ?_ (Fin.ext ?_) (fun h => ?_) (fun h => ?_) <;> simp at * <;> omega

theorem va_apply (l : Fin 128) : k0_pay13 v (ix2 r l) = InSpec.va (P r) l := by
  pointwise [k0_pay13]
  rw [hv, InSpec.col_ge _ (Nat.le_add_right_of_le (by decide))]
  rfl

theorem qb_apply (l : Fin 512) : k0_pay16 v (ix2 r l) = InSpec.qb (P r) l := by
  pointwise [k0_pay16]
  rw [hv, InSpec.col_ge _ (Nat.le_add_right_of_le (by decide)), scale_eq]
  rfl

theorem kb_apply (l : Fin 512) : k0_pay17 v (ix2 r l) = InSpec.kb (P r) l := by
  pointwise [k0_pay17]
  rw [hv, InSpec.col_ge _ (Nat.le_add_right_of_le (by decide))]
  rfl

theorem vb_apply (l : Fin 512) : k0_pay20 v (ix2 r l) = InSpec.vb (P r) l := by
  pointwise [k0_pay20]
  rw [hv, InSpec.col_ge _ (Nat.le_add_right_of_le (by decide))]
  rfl

theorem sga_apply (l : Fin 1024) : k0_pay23 v (ix2 r l) = InSpec.sga (P r) l := by
  pointwise [k0_pay23]
  rw [hv, InSpec.col_ge _ (Nat.le_add_right_of_le (by decide))]
  rfl

theorem sgb_apply (l : Fin 1024) : k0_pay24 v (ix2 r l) = InSpec.sgb (P r) l := by
  pointwise [k0_pay24]
  rw [hv, InSpec.col_ge _ (Nat.le_add_right_of_le (by decide))]
  rfl

end

end Cert.InSIdeal.Block

end
-- ==== Proof.InSArray.lean ====
/-
  The sample input projection's twelve result arrays, read at an index from the argument arrays.
-/
module

public import proofs.«01_k».proof.Proof.InSBlock
public import proofs.«01_k».proof.Proof.Gen.InSIdeal.Value
public import Idealize.ShloMosaic.Lib.Pipeline.ValueKit
public import Idealize.ShloMosaic.Lib.StableHlo.ReadAt

@[expose] public section

set_option maxRecDepth 16384

noncomputable section

namespace Cert.InSIdeal.Block

open Cert.InSIdeal Cert.InSIdeal.Gen Idealize.ShloMosaic Idealize.ShloMosaic.TcCoe Idealize.SL.Sem

/-! ## The body's output blocks -/

section
variable (x0 : Vec Ideal S128x1024 .f32) (x1 : Vec Ideal S1x1024 .f32) (x2 : Vec Ideal S1024x4352 .bf16) (x3 x4 : Vec Ideal S128x128 .f32)
  (P : Fin 128 → Fin 4352 → EReal) (p : Fin 128 → BitVec 32)
  (hv : ∀ r j, k0_pay1 x0 x1 x2 (ix2 r j) = P r (InSpec.col j))
  (hc : ∀ r l, x3 (ix2 r l) = InSpec.cosT (p r) l.val) (hs : ∀ r l, x4 (ix2 r l) = InSpec.sinT (p r) l.val) (r : Fin 128)
include hv

include hc hs in
theorem out_5 (j : Fin 512) : out0_5 x0 x1 x2 x3 x4 (ix2 r j) = InSpec.qa (P r) (p r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  exact qa_apply x3 x4 P p x0 x1 x2 hv hc hs r j

include hc hs in
theorem out_6 (j : Fin 128) : out0_6 x0 x1 x2 x3 x4 (ix2 r j) = InSpec.ka (P r) (p r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  exact ka_apply _ x3 x4 P p hv hc hs r j

theorem out_7 (j : Fin 128) : out0_7 x0 x1 x2 x3 x4 (ix2 r j) = InSpec.va (P r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  exact va_apply _ P hv r j

theorem out_8 (j : Fin 512) : out0_8 x0 x1 x2 x3 x4 (ix2 r j) = InSpec.qb (P r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  exact qb_apply _ P hv r j

theorem out_9 (j : Fin 512) : out0_9 x0 x1 x2 x3 x4 (ix2 r j) = InSpec.kb (P r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  exact kb_apply _ P hv r j

theorem out_10 (j : Fin 512) : out0_10 x0 x1 x2 x3 x4 (ix2 r j) = InSpec.vb (P r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  exact vb_apply _ P hv r j

theorem out_11 (j : Fin 1024) : out0_11 x0 x1 x2 x3 x4 (ix2 r j) = InSpec.sga (P r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  exact sga_apply _ P hv r j

theorem out_12 (j : Fin 1024) : out0_12 x0 x1 x2 x3 x4 (ix2 r j) = InSpec.sgb (P r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  exact sgb_apply _ P hv r j

include hc hs in
theorem out_13 (j : Fin 128) : out0_13 x0 x1 x2 x3 x4 (ix3 0 r j) = InSpec.ka (P r) (p r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  pointwise [k0_pay12]
  exact ka_apply _ x3 x4 P p hv hc hs r j

theorem out_14 (j : Fin 128) : out0_14 x0 x1 x2 x3 x4 (ix3 0 r j) = InSpec.va (P r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  pointwise [k0_pay15]
  exact va_apply _ P hv r j

theorem out_15 (j : Fin 512) : out0_15 x0 x1 x2 x3 x4 (ix3 0 r j) = InSpec.kb (P r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  pointwise [k0_pay19]
  exact kb_apply _ P hv r j

theorem out_16 (j : Fin 512) : out0_16 x0 x1 x2 x3 x4 (ix3 0 r j) = InSpec.vb (P r) j := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : View.ld x4 r0_3 = x4 := View.ld_unit_lit _ _ (by decide)
  refine (congrFun (View.canon_cons_unit_lit _ _ _ (by decide)) _).trans ?_
  simp only [k0_pay25, k0_pay26, k0_pay27, e0, e1, e2, e3, e4]
  pointwise [k0_pay22]
  exact vb_apply _ P hv r j

end

variable (m : (ℓ : Loc nD τ sig) → Buf (Elt Ideal) ℓ) (c : Dev nD)

/-! ## The host's operands -/

theorem V_v30 (r : Fin 128) (n : Fin 1024) :
    V m c main_v30 (ix2 r n) = m ((c : Thread nD τ).loc main_arg0) (ix3 ⟨r.val / 16, by omega⟩ ⟨r.val % 16, by omega⟩ n) := by
  unfold V
  after_reads_at
  blk_ext

theorem V_v38 (n : Fin 1024) : V m c main_v38 (ix2 0 n) = m ((c : Thread nD τ).loc main_arg1) (ix1 n) := by
  unfold V
  after_reads_at
  blk_ext

theorem V_v37 (k : Fin 1024) (j : Fin 4352) :
    V m c main_v37 (ix2 k j) = m ((c : Thread nD τ).loc main_arg2) (ix2 k (InSpec.col j)) := by
  unfold V
  after_reads_at
  split
  · after_reads_at
    refine congrArg (fun l => m ((c : Thread nD τ).loc main_arg2) (ix2 k l)) (Fin.ext ?_)
    simp only [InSpec.col]
    rw [if_pos (by assumption)]
    omega
  · after_reads_at
    refine congrArg (fun l => m ((c : Thread nD τ).loc main_arg2) (ix2 k l)) (Fin.ext ?_)
    simp only [InSpec.col]
    rw [if_neg (by omega)]
    omega

theorem V_v24 (r l : Fin 128) : V m c main_v24 (ix2 r l) = InSpec.cosT (InSpec.samplePos r) l.val := by
  unfold V
  after_reads_at
  split
  · after_reads_at
    refine congrArg (fun l => Ideal.cos (InSpec.angle (InSpec.samplePos r) l)) ?_
    omega
  · after_reads_at
    refine congrArg (fun l => Ideal.cos (InSpec.angle (InSpec.samplePos r) l)) ?_
    omega

theorem V_v29 (r l : Fin 128) : V m c main_v29 (ix2 r l) = InSpec.sinT (InSpec.samplePos r) l.val := by
  unfold V
  after_reads_at
  unfold InSpec.sinT
  split
  · after_reads_at
    refine congrArg (fun l => -Ideal.sin (InSpec.angle (InSpec.samplePos r) l)) ?_
    omega
  · after_reads_at
    refine congrArg (fun l => Ideal.sin (InSpec.angle (InSpec.samplePos r) l)) ?_
    omega

/-! ## The windows' blocks -/

theorem idx_0 : ∀ t : Fin cfg0.N, win0_0.index t = ![0, 0] := by decide +kernel
theorem idx_1 : ∀ t : Fin cfg0.N, win0_1.index t = ![0, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_10 : ∀ t : Fin cfg0.N, win0_10.index t = ![0, 0] := by decide +kernel
theorem idx_11 : ∀ t : Fin cfg0.N, win0_11.index t = ![0, 0] := by decide +kernel
theorem idx_12 : ∀ t : Fin cfg0.N, win0_12.index t = ![0, 0] := by decide +kernel
theorem idx_13 : ∀ t : Fin cfg0.N, win0_13.index t = ![0, 0, 0] := by decide +kernel
theorem idx_14 : ∀ t : Fin cfg0.N, win0_14.index t = ![0, 0, 0] := by decide +kernel
theorem idx_15 : ∀ t : Fin cfg0.N, win0_15.index t = ![0, 0, 0] := by decide +kernel
theorem idx_16 : ∀ t : Fin cfg0.N, win0_16.index t = ![0, 0, 0] := by decide +kernel

variable (t : Fin cfg0.N)

theorem iblk_0 (r : Fin 128) (n : Fin 1024) :
    iblk m c 0 t (ix2 r n) = m ((c : Thread nD τ).loc main_arg0) (ix3 ⟨r.val / 16, by omega⟩ ⟨r.val % 16, by omega⟩ n) := by
  rw [← V_v30 m c r n]
  blk_ext [iblk, idx_0 t]

theorem iblk_1 (n : Fin 1024) : iblk m c 1 t (ix2 0 n) = m ((c : Thread nD τ).loc main_arg1) (ix1 n) := by
  rw [← V_v38 m c n]
  blk_ext [iblk, idx_1 t]

theorem iblk_2 (k : Fin 1024) (j : Fin 4352) :
    iblk m c 2 t (ix2 k j) = m ((c : Thread nD τ).loc main_arg2) (ix2 k (InSpec.col j)) := by
  rw [← V_v37 m c k j]
  blk_ext [iblk, idx_2 t]

theorem iblk_3 (r l : Fin 128) : iblk m c 3 t (ix2 r l) = InSpec.cosT (InSpec.samplePos r) l.val := by
  rw [← V_v24 m c r l]
  blk_ext [iblk, idx_3 t]

theorem iblk_4 (r l : Fin 128) : iblk m c 4 t (ix2 r l) = InSpec.sinT (InSpec.samplePos r) l.val := by
  rw [← V_v29 m c r l]
  blk_ext [iblk, idx_4 t]

/-- The batch's rows, projected. -/
def P (r : Fin 128) : Fin 4352 → EReal :=
  InSpec.sampleP (m ((c : Thread nD τ).loc main_arg0)) (m ((c : Thread nD τ).loc main_arg1)) (m ((c : Thread nD τ).loc main_arg2)) r

theorem proj_at (r : Fin 128) (j : Fin 4352) : k0_pay1 (iblk m c 0 t) (iblk m c 1 t) (iblk m c 2 t) (ix2 r j) = P m c r (InSpec.col j) :=
  proj_apply _ _ _ (fun r n => m ((c : Thread nD τ).loc main_arg0) (ix3 ⟨r.val / 16, by omega⟩ ⟨r.val % 16, by omega⟩ n))
    (fun n => m ((c : Thread nD τ).loc main_arg1) (ix1 n)) (fun k j => m ((c : Thread nD τ).loc main_arg2) (ix2 k j))
    (iblk_0 m c t) (iblk_1 m c t) (iblk_2 m c t) r j

/-! ## The results -/

def res5 : (⟨2, ![128, 512]⟩ : Shape).Idx → EReal := fun i => InSpec.qa (P m c (i 0)) (InSpec.samplePos (i 0)) (i 1)

theorem final5 : (dats m 0 c).arrAt 5 cfg0.N = res5 m c := by
  refine (dats m 0 c).arrAt_eq_of_covers 5 _ (by decide +kernel) fun t hf y => ?_
  blk_simp
  rw [after0_5]
  obtain ⟨r, n, rfl⟩ : ∃ (r : Fin 128) (n : Fin 512), y = ix2 r n := ⟨y 0, y 1, eq_ix2 y⟩
  have he : (win0_5.blk t).view.emb (ix2 r n) = ix2 r n := by
    blk_ext [idx_5 t]
  refine Eq.trans ?_ (congrArg (res5 m c) he).symm
  exact out_5 _ _ _ _ _ (P m c) InSpec.samplePos (proj_at m c t) (iblk_3 m c t) (iblk_4 m c t) r n

def res6 : (⟨2, ![128, 128]⟩ : Shape).Idx → EReal := fun i => InSpec.ka (P m c (i 0)) (InSpec.samplePos (i 0)) (i 1)

theorem final6 : (dats m 0 c).arrAt 6 cfg0.N = res6 m c := by
  refine (dats m 0 c).arrAt_eq_of_covers 6 _ (by decide +kernel) fun t hf y => ?_
  blk_simp
  rw [after0_6]
  obtain ⟨r, n, rfl⟩ : ∃ (r : Fin 128) (n : Fin 128), y = ix2 r n := ⟨y 0, y 1, eq_ix2 y⟩
  have he : (win0_6.blk t).view.emb (ix2 r n) = ix2 r n := by
    blk_ext [idx_6 t]
  refine Eq.trans ?_ (congrArg (res6 m c) he).symm
  exact out_6 _ _ _ _ _ (P m c) InSpec.samplePos (proj_at m c t) (iblk_3 m c t) (iblk_4 m c t) r n

def res7 : (⟨2, ![128, 128]⟩ : Shape).Idx → EReal := fun i => InSpec.va (P m c (i 0)) (i 1)

theorem final7 : (dats m 0 c).arrAt 7 cfg0.N = res7 m c := by
  refine (dats m 0 c).arrAt_eq_of_covers 7 _ (by decide +kernel) fun t hf y => ?_
  blk_simp
  rw [after0_7]
  obtain ⟨r, n, rfl⟩ : ∃ (r : Fin 128) (n : Fin 128), y = ix2 r n := ⟨y 0, y 1, eq_ix2 y⟩
  have he : (win0_7.blk t).view.emb (ix2 r n) = ix2 r n := by
    blk_ext [idx_7 t]
  refine Eq.trans ?_ (congrArg (res7 m c) he).symm
  exact out_7 _ _ _ _ _ (P m c) (proj_at m c t) r n

def res8 : (⟨2, ![128, 512]⟩ : Shape).Idx → EReal := fun i => InSpec.qb (P m c (i 0)) (i 1)

theorem final8 : (dats m 0 c).arrAt 8 cfg0.N = res8 m c := by
  refine (dats m 0 c).arrAt_eq_of_covers 8 _ (by decide +kernel) fun t hf y => ?_
  blk_simp
  rw [after0_8]
  obtain ⟨r, n, rfl⟩ : ∃ (r : Fin 128) (n : Fin 512), y = ix2 r n := ⟨y 0, y 1, eq_ix2 y⟩
  have he : (win0_8.blk t).view.emb (ix2 r n) = ix2 r n := by
    blk_ext [idx_8 t]
  refine Eq.trans ?_ (congrArg (res8 m c) he).symm
  exact out_8 _ _ _ _ _ (P m c) (proj_at m c t) r n

def res9 : (⟨2, ![128, 512]⟩ : Shape).Idx → EReal := fun i => InSpec.kb (P m c (i 0)) (i 1)

theorem final9 : (dats m 0 c).arrAt 9 cfg0.N = res9 m c := by
  refine (dats m 0 c).arrAt_eq_of_covers 9 _ (by decide +kernel) fun t hf y => ?_
  blk_simp
  rw [after0_9]
  obtain ⟨r, n, rfl⟩ : ∃ (r : Fin 128) (n : Fin 512), y = ix2 r n := ⟨y 0, y 1, eq_ix2 y⟩
  have he : (win0_9.blk t).view.emb (ix2 r n) = ix2 r n := by
    blk_ext [idx_9 t]
  refine Eq.trans ?_ (congrArg (res9 m c) he).symm
  exact out_9 _ _ _ _ _ (P m c) (proj_at m c t) r n

def res10 : (⟨2, ![128, 512]⟩ : Shape).Idx → EReal := fun i => InSpec.vb (P m c (i 0)) (i 1)

theorem final10 : (dats m 0 c).arrAt 10 cfg0.N = res10 m c := by
  refine (dats m 0 c).arrAt_eq_of_covers 10 _ (by decide +kernel) fun t hf y => ?_
  blk_simp
  rw [after0_10]
  obtain ⟨r, n, rfl⟩ : ∃ (r : Fin 128) (n : Fin 512), y = ix2 r n := ⟨y 0, y 1, eq_ix2 y⟩
  have he : (win0_10.blk t).view.emb (ix2 r n) = ix2 r n := by
    blk_ext [idx_10 t]
  refine Eq.trans ?_ (congrArg (res10 m c) he).symm
  exact out_10 _ _ _ _ _ (P m c) (proj_at m c t) r n

def res11 : (⟨2, ![128, 1024]⟩ : Shape).Idx → EReal := fun i => InSpec.sga (P m c (i 0)) (i 1)

theorem final11 : (dats m 0 c).arrAt 11 cfg0.N = res11 m c := by
  refine (dats m 0 c).arrAt_eq_of_covers 11 _ (by decide +kernel) fun t hf y => ?_
  blk_simp
  rw [after0_11]
  obtain ⟨r, n, rfl⟩ : ∃ (r : Fin 128) (n : Fin 1024), y = ix2 r n := ⟨y 0, y 1, eq_ix2 y⟩
  have he : (win0_11.blk t).view.emb (ix2 r n) = ix2 r n := by
    blk_ext [idx_11 t]
  refine Eq.trans ?_ (congrArg (res11 m c) he).symm
  exact out_11 _ _ _ _ _ (P m c) (proj_at m c t) r n

def res12 : (⟨2, ![128, 1024]⟩ : Shape).Idx → EReal := fun i => InSpec.sgb (P m c (i 0)) (i 1)

theorem final12 : (dats m 0 c).arrAt 12 cfg0.N = res12 m c := by
  refine (dats m 0 c).arrAt_eq_of_covers 12 _ (by decide +kernel) fun t hf y => ?_
  blk_simp
  rw [after0_12]
  obtain ⟨r, n, rfl⟩ : ∃ (r : Fin 128) (n : Fin 1024), y = ix2 r n := ⟨y 0, y 1, eq_ix2 y⟩
  have he : (win0_12.blk t).view.emb (ix2 r n) = ix2 r n := by
    blk_ext [idx_12 t]
  refine Eq.trans ?_ (congrArg (res12 m c) he).symm
  exact out_12 _ _ _ _ _ (P m c) (proj_at m c t) r n

def res13 : (⟨3, ![1, 128, 128]⟩ : Shape).Idx → EReal := fun i => InSpec.ka (P m c (i 1)) (InSpec.samplePos (i 1)) (i 2)

theorem final13 : (dats m 0 c).arrAt 13 cfg0.N = res13 m c := by
  refine (dats m 0 c).arrAt_eq_of_covers 13 _ (by decide +kernel) fun t hf y => ?_
  blk_simp
  rw [after0_13]
  obtain ⟨r, n, rfl⟩ : ∃ (r : Fin 128) (n : Fin 128), y = ix3 0 r n := ⟨y 1, y 2, (eq_ix3 y).trans (by congr 1; exact Subsingleton.elim _ _)⟩
  have he : (win0_13.blk t).view.emb (ix3 0 r n) = ix3 0 r n := by
    blk_ext [idx_13 t]
  refine Eq.trans ?_ (congrArg (res13 m c) he).symm
  exact out_13 _ _ _ _ _ (P m c) InSpec.samplePos (proj_at m c t) (iblk_3 m c t) (iblk_4 m c t) r n

def res14 : (⟨3, ![1, 128, 128]⟩ : Shape).Idx → EReal := fun i => InSpec.va (P m c (i 1)) (i 2)

theorem final14 : (dats m 0 c).arrAt 14 cfg0.N = res14 m c := by
  refine (dats m 0 c).arrAt_eq_of_covers 14 _ (by decide +kernel) fun t hf y => ?_
  blk_simp
  rw [after0_14]
  obtain ⟨r, n, rfl⟩ : ∃ (r : Fin 128) (n : Fin 128), y = ix3 0 r n := ⟨y 1, y 2, (eq_ix3 y).trans (by congr 1; exact Subsingleton.elim _ _)⟩
  have he : (win0_14.blk t).view.emb (ix3 0 r n) = ix3 0 r n := by
    blk_ext [idx_14 t]
  refine Eq.trans ?_ (congrArg (res14 m c) he).symm
  exact out_14 _ _ _ _ _ (P m c) (proj_at m c t) r n

def res15 : (⟨3, ![1, 128, 512]⟩ : Shape).Idx → EReal := fun i => InSpec.kb (P m c (i 1)) (i 2)

theorem final15 : (dats m 0 c).arrAt 15 cfg0.N = res15 m c := by
  refine (dats m 0 c).arrAt_eq_of_covers 15 _ (by decide +kernel) fun t hf y => ?_
  blk_simp
  rw [after0_15]
  obtain ⟨r, n, rfl⟩ : ∃ (r : Fin 128) (n : Fin 512), y = ix3 0 r n := ⟨y 1, y 2, (eq_ix3 y).trans (by congr 1; exact Subsingleton.elim _ _)⟩
  have he : (win0_15.blk t).view.emb (ix3 0 r n) = ix3 0 r n := by
    blk_ext [idx_15 t]
  refine Eq.trans ?_ (congrArg (res15 m c) he).symm
  exact out_15 _ _ _ _ _ (P m c) (proj_at m c t) r n

def res16 : (⟨3, ![1, 128, 512]⟩ : Shape).Idx → EReal := fun i => InSpec.vb (P m c (i 1)) (i 2)

theorem final16 : (dats m 0 c).arrAt 16 cfg0.N = res16 m c := by
  refine (dats m 0 c).arrAt_eq_of_covers 16 _ (by decide +kernel) fun t hf y => ?_
  blk_simp
  rw [after0_16]
  obtain ⟨r, n, rfl⟩ : ∃ (r : Fin 128) (n : Fin 512), y = ix3 0 r n := ⟨y 1, y 2, (eq_ix3 y).trans (by congr 1; exact Subsingleton.elim _ _)⟩
  have he : (win0_16.blk t).view.emb (ix3 0 r n) = ix3 0 r n := by
    blk_ext [idx_16 t]
  refine Eq.trans ?_ (congrArg (res16 m c) he).symm
  exact out_16 _ _ _ _ _ (P m c) (proj_at m c t) r n

end Cert.InSIdeal.Block

end
-- ==== Proof.InSRefRead.lean ====
/-
  The sample input projection reference's twelve results, read at an index, in `Cert.InSpec`'s words.
-/
module

public import proofs.«01_k».proof.Proof.Gen.InSRefIdeal.Read
public import proofs.«01_k».proof.Proof.InSpec

@[expose] public section

set_option maxRecDepth 16384

noncomputable section

namespace Cert.InSRefIdeal.Stage

open Cert.InSRefIdeal Cert.InSRefIdeal.Read Idealize.ShloMosaic Idealize.ShloMosaic.TcCoe

variable (x0 : (⟨3, ![8, 16, 1024]⟩ : Shape).Idx → EReal) (x1 : (⟨1, ![1024]⟩ : Shape).Idx → EReal)
  (x2 : (⟨2, ![1024, 4352]⟩ : Shape).Idx → EReal)

/-- Row `s` of sequence `b`. -/
abbrev rr (b : Fin 8) (s : Fin 16) : Fin 128 := ⟨16 * b.val + s.val, by omega⟩

/-- A row of the batch is the row of its sequence. -/
theorem rr_div (r : Fin 128) : rr ⟨r.val / 16, by omega⟩ ⟨r.val % 16, by omega⟩ = r := Fin.ext (by simp only; omega)

variable (b : Fin 8) (s : Fin 16)

theorem row_x (n : Fin 1024) : x0 (ix3 ⟨(rr b s).val / 16, by omega⟩ ⟨(rr b s).val % 16, by omega⟩ n) = x0 (ix3 b s n) := by
  refine congrArg x0 ?_
  congr 1 <;> exact Fin.ext (by simp only; omega)

theorem proj_apply (j : Fin 4352) : val_main_v13 (F := Ideal) x0 x1 x2 (ix3 b s j) = InSpec.sampleP x0 x1 x2 (rr b s) j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold InSpec.sampleP InSpec.proj PostSpec.rms
  simp only [row_x]

theorem pos_eq : IntOp.addi 1024#32 (BitVec.ofNat 32 s.val) = InSpec.samplePos (rr b s) := by
  have e : (rr b s).val % 16 = s.val := by simp only; omega
  unfold InSpec.samplePos
  rw [e]

theorem cos_q (i : Fin 32) : val_main_v39 (F := Ideal) (ix2 s i) = Ideal.cos (InSpec.angle (InSpec.samplePos (rr b s)) i.val) := by
  pointwise [val_main_v39, val_main_v38, val_main_v37, val_main_v36, val_main_v35, val_main_v34, val_main_v33, val_main_v32, val_main_v31, val_main_v30, val_main_v29, val_main_v28, val_main_v27, val_main_v26, val_main_v24, val_main_v23, val_main_v22, val_main_c, val_main_cst_2, val_main_cst_3, val_main_cst_4]
  rw [pos_eq b s]
  rfl

theorem sin_q (i : Fin 32) : val_main_v41 (F := Ideal) (ix2 s i) = Ideal.sin (InSpec.angle (InSpec.samplePos (rr b s)) i.val) := by
  pointwise [val_main_v41, val_main_v38, val_main_v37, val_main_v36, val_main_v35, val_main_v34, val_main_v33, val_main_v32, val_main_v31, val_main_v30, val_main_v29, val_main_v28, val_main_v27, val_main_v26, val_main_v24, val_main_v23, val_main_v22, val_main_c, val_main_cst_2, val_main_cst_3, val_main_cst_4]
  rw [pos_eq b s]
  rfl

theorem turn_q (h : Fin 8) (d : Fin 64) : val_main_v59 (F := Ideal) x0 x1 x2 (ix4 b s h d)
    = InSpec.turn (InSpec.sampleP x0 x1 x2 (rr b s)) (InSpec.samplePos (rr b s)) ⟨64 * h.val + d.val, by omega⟩ := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v40, val_main_v25, val_main_v14]
  split
  · simp only [proj_apply, cos_q b s, sin_q b s]
    exact InSpec.turn_lo _ _ _ _ _ _ (by omega) (by simp only; omega) (by simp only; omega) (by simp only; omega)
  · simp only [proj_apply, cos_q b s, sin_q b s]
    exact InSpec.turn_hi _ _ _ _ _ _ (by omega) (by simp only; omega) (by simp only; omega) (by simp only; omega)

theorem cos_k (i : Fin 32) : val_main_v74 (F := Ideal) (ix2 s i) = Ideal.cos (InSpec.angle (InSpec.samplePos (rr b s)) i.val) := by
  pointwise [val_main_v74, val_main_v73, val_main_v72, val_main_v71, val_main_v70, val_main_v69, val_main_v68, val_main_v67, val_main_v66, val_main_v65, val_main_v64, val_main_v63, val_main_v62, val_main_v61, val_main_v24, val_main_v23, val_main_v22, val_main_c, val_main_cst_5, val_main_cst_6, val_main_cst_7]
  rw [pos_eq b s]
  rfl

theorem sin_k (i : Fin 32) : val_main_v76 (F := Ideal) (ix2 s i) = Ideal.sin (InSpec.angle (InSpec.samplePos (rr b s)) i.val) := by
  pointwise [val_main_v76, val_main_v73, val_main_v72, val_main_v71, val_main_v70, val_main_v69, val_main_v68, val_main_v67, val_main_v66, val_main_v65, val_main_v64, val_main_v63, val_main_v62, val_main_v61, val_main_v24, val_main_v23, val_main_v22, val_main_c, val_main_cst_5, val_main_cst_6, val_main_cst_7]
  rw [pos_eq b s]
  rfl

theorem turn_k (h : Fin 2) (d : Fin 64) : val_main_v94 (F := Ideal) x0 x1 x2 (ix4 b s h d)
    = InSpec.turn (InSpec.sampleP x0 x1 x2 (rr b s)) (InSpec.samplePos (rr b s)) ⟨512 + (64 * h.val + d.val), by omega⟩ := by
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v75, val_main_v60, val_main_v15]
  split
  · simp only [proj_apply, cos_k b s, sin_k b s]
    exact InSpec.turn_lo _ _ _ _ _ _ (by omega) (by simp only; omega) (by simp only; omega) (by simp only; omega)
  · simp only [proj_apply, cos_k b s, sin_k b s]
    exact InSpec.turn_hi _ _ _ _ _ _ (by omega) (by simp only; omega) (by simp only; omega) (by simp only; omega)

theorem qa_head (h : Fin 8) (d : Fin 64) : val_main_v100 (F := Ideal) x0 x1 x2 (ix4 b s h d)
    = InSpec.turn (InSpec.sampleP x0 x1 x2 (rr b s)) (InSpec.samplePos (rr b s)) ⟨64 * h.val + d.val, by omega⟩ * InSpec.scale := by
  pointwise [val_main_v100, val_main_v99, val_main_v98, val_main_v97, val_main_v96, val_main_cst_8, val_main_cst_9]
  rw [turn_q, InSpec.scaled]

theorem ka_row (j : Fin 128) : val_main_v95 (F := Ideal) x0 x1 x2 (ix3 b s j) = InSpec.ka (InSpec.sampleP x0 x1 x2 (rr b s)) (InSpec.samplePos (rr b s)) j := by
  pointwise [val_main_v95]
  refine (turn_k x0 x1 x2 b s _ _).trans ?_
  refine congrArg (InSpec.turn (InSpec.sampleP x0 x1 x2 (rr b s)) (InSpec.samplePos (rr b s))) (Fin.ext ?_)
  simp only
  omega

theorem va_row (j : Fin 128) : val_main_v16 (F := Ideal) x0 x1 x2 (ix3 b s j) = InSpec.va (InSpec.sampleP x0 x1 x2 (rr b s)) j := by
  pointwise [val_main_v16]
  exact proj_apply x0 x1 x2 b s _

theorem qb_row (j : Fin 512) : val_main_v113 (F := Ideal) x0 x1 x2 (ix3 b s j) = InSpec.qb (InSpec.sampleP x0 x1 x2 (rr b s)) j := by
  pointwise [val_main_v113, val_main_v112, val_main_v111, val_main_v110, val_main_v109, val_main_v17, val_main_cst_10, val_main_cst_11]
  rw [proj_apply, InSpec.scaled]
  rfl

theorem kb_row (j : Fin 512) : val_main_v18 (F := Ideal) x0 x1 x2 (ix3 b s j) = InSpec.kb (InSpec.sampleP x0 x1 x2 (rr b s)) j := by
  pointwise [val_main_v18]
  exact proj_apply x0 x1 x2 b s _

theorem vb_row (j : Fin 512) : val_main_v19 (F := Ideal) x0 x1 x2 (ix3 b s j) = InSpec.vb (InSpec.sampleP x0 x1 x2 (rr b s)) j := by
  pointwise [val_main_v19]
  exact proj_apply x0 x1 x2 b s _

theorem sga_row (j : Fin 1024) : val_main_v125 (F := Ideal) x0 x1 x2 (ix3 b s j) = InSpec.sga (InSpec.sampleP x0 x1 x2 (rr b s)) j := by
  pointwise [val_main_v125, val_main_v124, val_main_v123, val_main_v122, val_main_v121, val_main_v120, val_main_v20, val_main_cst_12, val_main_cst_13]
  rw [proj_apply]
  rfl

theorem sgb_row (j : Fin 1024) : val_main_v133 (F := Ideal) x0 x1 x2 (ix3 b s j) = InSpec.sgb (InSpec.sampleP x0 x1 x2 (rr b s)) j := by
  pointwise [val_main_v133, val_main_v132, val_main_v131, val_main_v130, val_main_v129, val_main_v128, val_main_v21, val_main_cst_14, val_main_cst_15]
  rw [proj_apply]
  rfl

/-! ## The results -/

variable (r : Fin 128)

theorem out_0 (j : Fin 512) : val_main_v104 (F := Ideal) x0 x1 x2 (ix2 r j) = InSpec.qa (InSpec.sampleP x0 x1 x2 r) (InSpec.samplePos r) j := by
  pointwise [val_main_v104, val_main_v103, val_main_v102, val_main_v101]
  refine (qa_head x0 x1 x2 _ _ _ _).trans ?_
  have er : rr ⟨r.val / 16, by omega⟩ ⟨r.val % 16, by omega⟩ = r := rr_div r
  refine Eq.trans (congrArg (fun q => InSpec.turn (InSpec.sampleP x0 x1 x2 q) (InSpec.samplePos q) _ * InSpec.scale) er) ?_
  refine congrArg (fun q => InSpec.turn (InSpec.sampleP x0 x1 x2 r) (InSpec.samplePos r) q * InSpec.scale) (Fin.ext ?_)
  rw [InSpec.col_at ⟨j.val, by omega⟩ (j.val / 128) (j.val / 64 % 2) (j.val % 64) (by simp only; omega) (by omega) (by omega) (by omega)]
  simp only
  omega

theorem out_1 (j : Fin 128) : val_main_v106 (F := Ideal) x0 x1 x2 (ix2 r j) = InSpec.ka (InSpec.sampleP x0 x1 x2 r) (InSpec.samplePos r) j := by
  pointwise [val_main_v106, val_main_v105]
  exact (ka_row x0 x1 x2 _ _ _).trans (congrArg (fun q => InSpec.ka (InSpec.sampleP x0 x1 x2 q) (InSpec.samplePos q) j) (rr_div r))

theorem out_2 (j : Fin 128) : val_main_v108 (F := Ideal) x0 x1 x2 (ix2 r j) = InSpec.va (InSpec.sampleP x0 x1 x2 r) j := by
  pointwise [val_main_v108, val_main_v107]
  exact (va_row x0 x1 x2 _ _ _).trans (congrArg (fun q => InSpec.va (InSpec.sampleP x0 x1 x2 q) j) (rr_div r))

theorem out_3 (j : Fin 512) : val_main_v115 (F := Ideal) x0 x1 x2 (ix2 r j) = InSpec.qb (InSpec.sampleP x0 x1 x2 r) j := by
  pointwise [val_main_v115, val_main_v114]
  exact (qb_row x0 x1 x2 _ _ _).trans (congrArg (fun q => InSpec.qb (InSpec.sampleP x0 x1 x2 q) j) (rr_div r))

theorem out_4 (j : Fin 512) : val_main_v117 (F := Ideal) x0 x1 x2 (ix2 r j) = InSpec.kb (InSpec.sampleP x0 x1 x2 r) j := by
  pointwise [val_main_v117, val_main_v116]
  exact (kb_row x0 x1 x2 _ _ _).trans (congrArg (fun q => InSpec.kb (InSpec.sampleP x0 x1 x2 q) j) (rr_div r))

theorem out_5 (j : Fin 512) : val_main_v119 (F := Ideal) x0 x1 x2 (ix2 r j) = InSpec.vb (InSpec.sampleP x0 x1 x2 r) j := by
  pointwise [val_main_v119, val_main_v118]
  exact (vb_row x0 x1 x2 _ _ _).trans (congrArg (fun q => InSpec.vb (InSpec.sampleP x0 x1 x2 q) j) (rr_div r))

theorem out_6 (j : Fin 1024) : val_main_v127 (F := Ideal) x0 x1 x2 (ix2 r j) = InSpec.sga (InSpec.sampleP x0 x1 x2 r) j := by
  pointwise [val_main_v127, val_main_v126]
  exact (sga_row x0 x1 x2 _ _ _).trans (congrArg (fun q => InSpec.sga (InSpec.sampleP x0 x1 x2 q) j) (rr_div r))

theorem out_7 (j : Fin 1024) : val_main_v135 (F := Ideal) x0 x1 x2 (ix2 r j) = InSpec.sgb (InSpec.sampleP x0 x1 x2 r) j := by
  pointwise [val_main_v135, val_main_v134]
  exact (sgb_row x0 x1 x2 _ _ _).trans (congrArg (fun q => InSpec.sgb (InSpec.sampleP x0 x1 x2 q) j) (rr_div r))

theorem out_8 (j : Fin 128) : val_main_v136 (F := Ideal) x0 x1 x2 (ix3 0 r j) = InSpec.ka (InSpec.sampleP x0 x1 x2 r) (InSpec.samplePos r) j := by
  pointwise [val_main_v136]
  exact (ka_row x0 x1 x2 _ _ _).trans (congrArg (fun q => InSpec.ka (InSpec.sampleP x0 x1 x2 q) (InSpec.samplePos q) j) (rr_div r))

theorem out_9 (j : Fin 128) : val_main_v137 (F := Ideal) x0 x1 x2 (ix3 0 r j) = InSpec.va (InSpec.sampleP x0 x1 x2 r) j := by
  pointwise [val_main_v137]
  exact (va_row x0 x1 x2 _ _ _).trans (congrArg (fun q => InSpec.va (InSpec.sampleP x0 x1 x2 q) j) (rr_div r))

theorem out_10 (j : Fin 512) : val_main_v138 (F := Ideal) x0 x1 x2 (ix3 0 r j) = InSpec.kb (InSpec.sampleP x0 x1 x2 r) j := by
  pointwise [val_main_v138]
  exact (kb_row x0 x1 x2 _ _ _).trans (congrArg (fun q => InSpec.kb (InSpec.sampleP x0 x1 x2 q) j) (rr_div r))

theorem out_11 (j : Fin 512) : val_main_v139 (F := Ideal) x0 x1 x2 (ix3 0 r j) = InSpec.vb (InSpec.sampleP x0 x1 x2 r) j := by
  pointwise [val_main_v139]
  exact (vb_row x0 x1 x2 _ _ _).trans (congrArg (fun q => InSpec.vb (InSpec.sampleP x0 x1 x2 q) j) (rr_div r))

end Cert.InSRefIdeal.Stage

end
-- ==== Proof.InSClaim.lean ====
/-
  The sample input projection and its reference compute the same arrays; and the reference's frame.
-/
module

public import proofs.«01_k».proof.Defs
public import proofs.«01_k».proof.Proof.InSArray
public import proofs.«01_k».proof.Proof.InSRefRead
public import proofs.«01_k».proof.Proof.Gen.InSRefIdeal.Run

@[expose] public section

set_option maxRecDepth 16384

noncomputable section

namespace Cert.InSClaim

open Idealize.ShloMosaic Idealize.SL.Sem

theorem ref_frame : Cert.quiescent_InSRefIdeal := fun m ρ _ =>
  (θ_run InSRefIdeal.defs _ _).mono (fun r h => ⟨fun c => (h c).2.2.2.2.2.2.2.2.2.2.2.2, sem_eq_zero_of_no_sems (by decide) r.2⟩)
    (InSRefIdeal.Value.run (F := Ideal) m ρ)

theorem ref_0 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v104 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res5 m c := by
  rw [e0, e1, e2]
  funext i
  obtain ⟨r, n, rfl⟩ : ∃ (r : Fin 128) (n : Fin 512), i = ix2 r n := ⟨i 0, i 1, eq_ix2 i⟩
  exact InSRefIdeal.Stage.out_0 _ _ _ r n

theorem ref_1 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v106 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res6 m c := by
  rw [e0, e1, e2]
  funext i
  obtain ⟨r, n, rfl⟩ : ∃ (r : Fin 128) (n : Fin 128), i = ix2 r n := ⟨i 0, i 1, eq_ix2 i⟩
  exact InSRefIdeal.Stage.out_1 _ _ _ r n

theorem ref_2 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v108 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res7 m c := by
  rw [e0, e1, e2]
  funext i
  obtain ⟨r, n, rfl⟩ : ∃ (r : Fin 128) (n : Fin 128), i = ix2 r n := ⟨i 0, i 1, eq_ix2 i⟩
  exact InSRefIdeal.Stage.out_2 _ _ _ r n

theorem ref_3 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v115 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res8 m c := by
  rw [e0, e1, e2]
  funext i
  obtain ⟨r, n, rfl⟩ : ∃ (r : Fin 128) (n : Fin 512), i = ix2 r n := ⟨i 0, i 1, eq_ix2 i⟩
  exact InSRefIdeal.Stage.out_3 _ _ _ r n

theorem ref_4 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v117 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res9 m c := by
  rw [e0, e1, e2]
  funext i
  obtain ⟨r, n, rfl⟩ : ∃ (r : Fin 128) (n : Fin 512), i = ix2 r n := ⟨i 0, i 1, eq_ix2 i⟩
  exact InSRefIdeal.Stage.out_4 _ _ _ r n

theorem ref_5 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v119 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res10 m c := by
  rw [e0, e1, e2]
  funext i
  obtain ⟨r, n, rfl⟩ : ∃ (r : Fin 128) (n : Fin 512), i = ix2 r n := ⟨i 0, i 1, eq_ix2 i⟩
  exact InSRefIdeal.Stage.out_5 _ _ _ r n

theorem ref_6 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v127 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res11 m c := by
  rw [e0, e1, e2]
  funext i
  obtain ⟨r, n, rfl⟩ : ∃ (r : Fin 128) (n : Fin 1024), i = ix2 r n := ⟨i 0, i 1, eq_ix2 i⟩
  exact InSRefIdeal.Stage.out_6 _ _ _ r n

theorem ref_7 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v135 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res12 m c := by
  rw [e0, e1, e2]
  funext i
  obtain ⟨r, n, rfl⟩ : ∃ (r : Fin 128) (n : Fin 1024), i = ix2 r n := ⟨i 0, i 1, eq_ix2 i⟩
  exact InSRefIdeal.Stage.out_7 _ _ _ r n

theorem ref_8 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v136 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res13 m c := by
  rw [e0, e1, e2]
  funext i
  obtain ⟨r, n, rfl⟩ : ∃ (r : Fin 128) (n : Fin 128), i = ix3 0 r n :=
    ⟨i 1, i 2, (eq_ix3 i).trans (by congr 1; exact Subsingleton.elim _ _)⟩
  exact InSRefIdeal.Stage.out_8 _ _ _ r n

theorem ref_9 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v137 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res14 m c := by
  rw [e0, e1, e2]
  funext i
  obtain ⟨r, n, rfl⟩ : ∃ (r : Fin 128) (n : Fin 128), i = ix3 0 r n :=
    ⟨i 1, i 2, (eq_ix3 i).trans (by congr 1; exact Subsingleton.elim _ _)⟩
  exact InSRefIdeal.Stage.out_9 _ _ _ r n

theorem ref_10 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v138 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res15 m c := by
  rw [e0, e1, e2]
  funext i
  obtain ⟨r, n, rfl⟩ : ∃ (r : Fin 128) (n : Fin 512), i = ix3 0 r n :=
    ⟨i 1, i 2, (eq_ix3 i).trans (by congr 1; exact Subsingleton.elim _ _)⟩
  exact InSRefIdeal.Stage.out_10 _ _ _ r n

theorem ref_11 (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (e0 : m' ((c.tc : Thread InSRefIdeal.nD InSRefIdeal.τ).loc InSRefIdeal.main_arg0) = m ((c.tc : Thread InSIdeal.nD InSIdeal.τ).loc InSIdeal.main_arg0))
    (e1 : m' ((c.tc : Thread InSRefIdeal.nD InSRefIdeal.τ).loc InSRefIdeal.main_arg1) = m ((c.tc : Thread InSIdeal.nD InSIdeal.τ).loc InSIdeal.main_arg1))
    (e2 : m' ((c.tc : Thread InSRefIdeal.nD InSRefIdeal.τ).loc InSRefIdeal.main_arg2) = m ((c.tc : Thread InSIdeal.nD InSIdeal.τ).loc InSIdeal.main_arg2)) :
    InSRefIdeal.Read.val_main_v139 (F := Ideal) (m' ((c.tc : Thread InSRefIdeal.nD InSRefIdeal.τ).loc InSRefIdeal.main_arg0)) (m' ((c.tc : Thread InSRefIdeal.nD InSRefIdeal.τ).loc InSRefIdeal.main_arg1)) (m' ((c.tc : Thread InSRefIdeal.nD InSRefIdeal.τ).loc InSRefIdeal.main_arg2)) = InSIdeal.Block.res16 m c := by
  rw [e0, e1, e2]
  funext i
  obtain ⟨r, n, rfl⟩ : ∃ (r : Fin 128) (n : Fin 512), i = ix3 0 r n :=
    ⟨i 1, i 2, (eq_ix3 i).trans (by congr 1; exact Subsingleton.elim _ _)⟩
  exact InSRefIdeal.Stage.out_11 _ _ _ r n

theorem algebraic : Cert.algebraic_InSIdeal_InSRefIdeal := by
  intro m g m' g' _ hargs
  refine ⟨fun c => InSIdeal.Block.res5 m c, fun c => InSIdeal.Block.res6 m c, fun c => InSIdeal.Block.res7 m c, fun c => InSIdeal.Block.res8 m c, fun c => InSIdeal.Block.res9 m c, fun c => InSIdeal.Block.res10 m c, fun c => InSIdeal.Block.res11 m c, fun c => InSIdeal.Block.res12 m c, fun c => InSIdeal.Block.res13 m c, fun c => InSIdeal.Block.res14 m c, fun c => InSIdeal.Block.res15 m c, fun c => InSIdeal.Block.res16 m c, ?_, ?_⟩
  · exact (θ_run InSIdeal.defs _ _).mono (fun r h c =>
      ⟨(h c).1.trans (InSIdeal.Block.final5 m c), (h c).2.1.trans (InSIdeal.Block.final6 m c), (h c).2.2.1.trans (InSIdeal.Block.final7 m c), (h c).2.2.2.1.trans (InSIdeal.Block.final8 m c), (h c).2.2.2.2.1.trans (InSIdeal.Block.final9 m c), (h c).2.2.2.2.2.1.trans (InSIdeal.Block.final10 m c), (h c).2.2.2.2.2.2.1.trans (InSIdeal.Block.final11 m c), (h c).2.2.2.2.2.2.2.1.trans (InSIdeal.Block.final12 m c), (h c).2.2.2.2.2.2.2.2.1.trans (InSIdeal.Block.final13 m c), (h c).2.2.2.2.2.2.2.2.2.1.trans (InSIdeal.Block.final14 m c), (h c).2.2.2.2.2.2.2.2.2.2.1.trans (InSIdeal.Block.final15 m c), (h c).2.2.2.2.2.2.2.2.2.2.2.1.trans (InSIdeal.Block.final16 m c), (h c).2.2.2.2.2.2.2.2.2.2.2.2⟩)
      (InSIdeal.Value.run_blocks m g)
  · refine (θ_run InSRefIdeal.defs _ _).mono (fun r h c => ?_) (InSRefIdeal.Value.run (F := Ideal) m' g')
    obtain ⟨e0, e1, e2⟩ := hargs c
    exact ⟨((h c).1.trans (InSRefIdeal.Read.val_main_v104_eq m' c)).trans (ref_0 m m' c e0 e1 e2), ((h c).2.1.trans (InSRefIdeal.Read.val_main_v106_eq m' c)).trans (ref_1 m m' c e0 e1 e2), ((h c).2.2.1.trans (InSRefIdeal.Read.val_main_v108_eq _ _ _)).trans (ref_2 m m' c e0 e1 e2), ((h c).2.2.2.1.trans (InSRefIdeal.Read.val_main_v115_eq _ _ _)).trans (ref_3 m m' c e0 e1 e2), ((h c).2.2.2.2.1.trans (InSRefIdeal.Read.val_main_v117_eq _ _ _)).trans (ref_4 m m' c e0 e1 e2), ((h c).2.2.2.2.2.1.trans (InSRefIdeal.Read.val_main_v119_eq _ _ _)).trans (ref_5 m m' c e0 e1 e2), ((h c).2.2.2.2.2.2.1.trans (InSRefIdeal.Read.val_main_v127_eq _ _ _)).trans (ref_6 m m' c e0 e1 e2), ((h c).2.2.2.2.2.2.2.1.trans (InSRefIdeal.Read.val_main_v135_eq _ _ _)).trans (ref_7 m m' c e0 e1 e2), ((h c).2.2.2.2.2.2.2.2.1.trans (InSRefIdeal.Read.val_main_v136_eq m' c)).trans (ref_8 m m' c e0 e1 e2), ((h c).2.2.2.2.2.2.2.2.2.1.trans (InSRefIdeal.Read.val_main_v137_eq _ _ _)).trans (ref_9 m m' c e0 e1 e2), ((h c).2.2.2.2.2.2.2.2.2.2.1.trans (InSRefIdeal.Read.val_main_v138_eq _ _ _)).trans (ref_10 m m' c e0 e1 e2), ((h c).2.2.2.2.2.2.2.2.2.2.2.1.trans (InSRefIdeal.Read.val_main_v139_eq _ _ _)).trans (ref_11 m m' c e0 e1 e2), (h c).2.2.2.2.2.2.2.2.2.2.2.2⟩

end Cert.InSClaim

end
-- ==== Proof.InPBlock.lean ====
/-
  What the prompt input projection's body computes of each of its four blocks of 256 rows, read at an index, in
  `Cert.InSpec`'s words.
-/
module

public import proofs.«01_k».proof.Proof.Gen.InPIdeal.Skeleton
public import proofs.«01_k».proof.Proof.InSpec

@[expose] public section

set_option maxRecDepth 16384

noncomputable section

namespace Cert.InPIdeal.Block

open Cert.InPIdeal Cert.InPIdeal.Gen Idealize.ShloMosaic Idealize.ShloMosaic.TcCoe

theorem scale_eq : Named.named (F := Ideal) κ "scale" (φ := .f32) 0x3E38AA3B#32 = InSpec.scale :=
  IdealRules.named_const.ideal_named_scalar _ _ _ _ rfl

/-! ## Rows 0 to 255 of the block -/

theorem proj_0 (x : Vec Ideal S256x1024 .f32) (g : Vec Ideal S1x1024 .f32) (w : Vec Ideal S1024x4352 .bf16) (X : Fin 256 → Fin 1024 → EReal)
    (G : Fin 1024 → EReal) (W : Fin 1024 → Fin 4352 → EReal) (hx : ∀ r k, x (ix2 r k) = X r k) (hg : ∀ k, g (ix2 0 k) = G k)
    (hw : ∀ k j, w (ix2 k j) = W k (InSpec.col j)) (r : Fin 256) (j : Fin 4352) :
    k0_pay2 x g w (ix2 r j) = InSpec.proj (X r) G W (InSpec.col j) := by
  pointwise [k0_pay2]
  simp only [hx, hg, hw]
  rfl

section
variable (v : FVec Ideal S256x4352 .f32) (c s : FVec Ideal S256x128 .f32) (P : Fin 256 → Fin 4352 → EReal) (p : Fin 256 → BitVec 32)

theorem qa_0 (x : Vec Ideal S256x1024 .f32) (g : Vec Ideal S1x1024 .f32) (w : Vec Ideal S1024x4352 .bf16)
    (hv : ∀ r j, k0_pay2 x g w (ix2 r j) = P r (InSpec.col j))
    (hc : ∀ r l, c (ix2 r l) = InSpec.cosT (p r) l.val) (hs : ∀ r l, s (ix2 r l) = InSpec.sinT (p r) l.val) (r : Fin 256) (j : Fin 512) :
    k0_pay10 (k0_pay3 c) (k0_pay4 s) (k0_pay5 x g w) k0_pay6 (k0_pay7 x g w c s) (k0_pay8 x g w) (k0_pay9 x g w) (ix2 r j)
      = InSpec.qa (P r) (p r) j := by
  pointwise [k0_pay10, k0_pay9, k0_pay8, k0_pay7, k0_pay6, k0_pay5, k0_pay4, k0_pay3]
  simp only [hv, hc, hs, scale_eq]
  refine congrArg (· * InSpec.scale) ?_
  split
  · rw [InSpec.select_half _ (by omega)]
    exact InSpec.turn_col _ _ j 0 _ _ _ _ (by omega) (by omega) rfl (by omega) (by simp only; omega) (by simp only; omega)
  split
  · rw [InSpec.select_half _ (by omega)]
    exact InSpec.turn_col _ _ j 1 _ _ _ _ (by omega) (by omega) (by simp only; omega) (by omega) rfl rfl
  split
  · rw [InSpec.select_half _ (by omega)]
    exact InSpec.turn_col _ _ j 2 _ _ _ _ (by omega) (by omega) (by simp only; omega) (by omega) rfl rfl
  · rw [InSpec.select_half _ (by omega)]
    exact InSpec.turn_col _ _ j 3 _ _ _ _ (by omega) (by omega) (by simp only; omega) (by omega) rfl rfl

variable (hv : ∀ r j, v (ix2 r j) = P r (InSpec.col j))
  (hc : ∀ r l, c (ix2 r l) = InSpec.cosT (p r) l.val) (hs : ∀ r l, s (ix2 r l) = InSpec.sinT (p r) l.val)
include hv

include hc hs in
theorem ka_0 (r : Fin 256) (l : Fin 128) : k0_pay11 v (k0_pay3 c) (k0_pay4 s) (ix2 r l) = InSpec.ka (P r) (p r) l := by
  pointwise [k0_pay11, k0_pay4, k0_pay3]
  simp only [hv, hc, hs]
  rw [InSpec.select_half _ (by omega), InSpec.col_ge _ (Nat.le_add_right_of_le (by decide)), InSpec.col_ge _ (Nat.le_add_right_of_le (by decide)), InSpec.col_ge _ (Nat.le_add_right_of_le (by decide))]
  refine InSpec.turn_of _ _ _ _ _ _ _ ?_ (Fin.ext ?_) (fun h => ?_) (fun h => ?_) <;> simp at * <;> omega

theorem va_0 (r : Fin 256) (l : Fin 128) : k0_pay12 v (ix2 r l) = InSpec.va (P r) l := by
  pointwise [k0_pay12]
  rw [hv, InSpec.col_ge _ (Nat.le_add_right_of_le (by decide))]
  rfl

theorem qb_0 (r : Fin 256) (l : Fin 512) : k0_pay13 v (ix2 r l) = InSpec.qb (P r) l := by
  pointwise [k0_pay13]
  rw [hv, InSpec.col_ge _ (Nat.le_add_right_of_le (by decide)), scale_eq]
  rfl

theorem kb_0 (r : Fin 256) (l : Fin 512) : k0_pay14 v (ix2 r l) = InSpec.kb (P r) l := by
  pointwise [k0_pay14]
  rw [hv, InSpec.col_ge _ (Nat.le_add_right_of_le (by decide))]
  rfl

theorem vb_0 (r : Fin 256) (l : Fin 512) : k0_pay15 v (ix2 r l) = InSpec.vb (P r) l := by
  pointwise [k0_pay15]
  rw [hv, InSpec.col_ge _ (Nat.le_add_right_of_le (by decide))]
  rfl

theorem sga_0 (r : Fin 256) (l : Fin 1024) : k0_pay16 v (ix2 r l) = InSpec.sga (P r) l := by
  pointwise [k0_pay16]
  rw [hv, InSpec.col_ge _ (Nat.le_add_right_of_le (by decide))]
  rfl

theorem sgb_0 (r : Fin 256) (l : Fin 1024) : k0_pay17 v (ix2 r l) = InSpec.sgb (P r) l := by
  pointwise [k0_pay17]
  rw [hv, InSpec.col_ge _ (Nat.le_add_right_of_le (by decide))]
  rfl

end

/-! ## Rows 256 to 511 of the block -/

theorem proj_1 (x : Vec Ideal S256x1024 .f32) (g : Vec Ideal S1x1024 .f32) (w : Vec Ideal S1024x4352 .bf16) (X : Fin 256 → Fin 1024 → EReal)
    (G : Fin 1024 → EReal) (W : Fin 1024 → Fin 4352 → EReal) (hx : ∀ r k, x (ix2 r k) = X r k) (hg : ∀ k, g (ix2 0 k) = G k)
    (hw : ∀ k j, w (ix2 k j) = W k (InSpec.col j)) (r : Fin 256) (j : Fin 4352) :
    k0_pay19 (k0_pay18 x g) w (ix2 r j) = InSpec.proj (X r) G W (InSpec.col j) := by
  pointwise [k0_pay19, k0_pay18]
  simp only [hx, hg, hw]
  rfl

section
variable (v : FVec Ideal S256x4352 .f32) (c s : FVec Ideal S256x128 .f32) (P : Fin 256 → Fin 4352 → EReal) (p : Fin 256 → BitVec 32)

theorem qa_1 (x : Vec Ideal S256x1024 .f32) (g : Vec Ideal S1x1024 .f32) (w : Vec Ideal S1024x4352 .bf16)
    (hv : ∀ r j, k0_pay19 (k0_pay18 x g) w (ix2 r j) = P r (InSpec.col j))
    (hc : ∀ r l, c (ix2 r l) = InSpec.cosT (p r) l.val) (hs : ∀ r l, s (ix2 r l) = InSpec.sinT (p r) l.val) (r : Fin 256) (j : Fin 512) :
    k0_pay24 (k0_pay22 (k0_pay18 x g) w c s) (k0_pay23 (F := Ideal)) (ix2 r j)
      = InSpec.qa (P r) (p r) j := by
  pointwise [k0_pay24, k0_pay23, k0_pay22, k0_pay21, k0_pay20]
  simp only [hv, hc, hs, scale_eq]
  refine congrArg (· * InSpec.scale) ?_
  split
  · rw [InSpec.select_half _ (by omega)]
    exact InSpec.turn_col _ _ j 0 _ _ _ _ (by omega) (by omega) rfl (by omega) (by simp only; omega) (by simp only; omega)
  split
  · rw [InSpec.select_half _ (by omega)]
    exact InSpec.turn_col _ _ j 1 _ _ _ _ (by omega) (by omega) (by simp only; omega) (by omega) rfl rfl
  split
  · rw [InSpec.select_half _ (by omega)]
    exact InSpec.turn_col _ _ j 2 _ _ _ _ (by omega) (by omega) (by simp only; omega) (by omega) rfl rfl
  · rw [InSpec.select_half _ (by omega)]
    exact InSpec.turn_col _ _ j 3 _ _ _ _ (by omega) (by omega) (by simp only; omega) (by omega) rfl rfl

variable (hv : ∀ r j, v (ix2 r j) = P r (InSpec.col j))
  (hc : ∀ r l, c (ix2 r l) = InSpec.cosT (p r) l.val) (hs : ∀ r l, s (ix2 r l) = InSpec.sinT (p r) l.val)
include hv

include hc hs in
theorem ka_1 (r : Fin 256) (l : Fin 128) : k0_pay25 v (k0_pay20 c) (k0_pay21 s) (ix2 r l) = InSpec.ka (P r) (p r) l := by
  pointwise [k0_pay25, k0_pay21, k0_pay20]
  simp only [hv, hc, hs]
  rw [InSpec.select_half _ (by omega), InSpec.col_ge _ (Nat.le_add_right_of_le (by decide)), InSpec.col_ge _ (Nat.le_add_right_of_le (by decide)), InSpec.col_ge _ (Nat.le_add_right_of_le (by decide))]
  refine InSpec.turn_of _ _ _ _ _ _ _ ?_ (Fin.ext ?_) (fun h => ?_) (fun h => ?_) <;> simp at * <;> omega

theorem va_1 (r : Fin 256) (l : Fin 128) : k0_pay26 v (ix2 r l) = InSpec.va (P r) l := by
  pointwise [k0_pay26]
  rw [hv, InSpec.col_ge _ (Nat.le_add_right_of_le (by decide))]
  rfl

theorem qb_1 (r : Fin 256) (l : Fin 512) : k0_pay27 v (ix2 r l) = InSpec.qb (P r) l := by
  pointwise [k0_pay27]
  rw [hv, InSpec.col_ge _ (Nat.le_add_right_of_le (by decide)), scale_eq]
  rfl

theorem kb_1 (r : Fin 256) (l : Fin 512) : k0_pay28 v (ix2 r l) = InSpec.kb (P r) l := by
  pointwise [k0_pay28]
  rw [hv, InSpec.col_ge _ (Nat.le_add_right_of_le (by decide))]
  rfl

theorem vb_1 (r : Fin 256) (l : Fin 512) : k0_pay29 v (ix2 r l) = InSpec.vb (P r) l := by
  pointwise [k0_pay29]
  rw [hv, InSpec.col_ge _ (Nat.le_add_right_of_le (by decide))]
  rfl

theorem sga_1 (r : Fin 256) (l : Fin 1024) : k0_pay30 v (ix2 r l) = InSpec.sga (P r) l := by
  pointwise [k0_pay30]
  rw [hv, InSpec.col_ge _ (Nat.le_add_right_of_le (by decide))]
  rfl

theorem sgb_1 (r : Fin 256) (l : Fin 1024) : k0_pay31 v (ix2 r l) = InSpec.sgb (P r) l := by
  pointwise [k0_pay31]
  rw [hv, InSpec.col_ge _ (Nat.le_add_right_of_le (by decide))]
  rfl

end

/-! ## Rows 512 to 767 of the block -/

theorem proj_2 (x : Vec Ideal S256x1024 .f32) (g : Vec Ideal S1x1024 .f32) (w : Vec Ideal S1024x4352 .bf16) (X : Fin 256 → Fin 1024 → EReal)
    (G : Fin 1024 → EReal) (W : Fin 1024 → Fin 4352 → EReal) (hx : ∀ r k, x (ix2 r k) = X r k) (hg : ∀ k, g (ix2 0 k) = G k)
    (hw : ∀ k j, w (ix2 k j) = W k (InSpec.col j)) (r : Fin 256) (j : Fin 4352) :
    k0_pay32 x g w (ix2 r j) = InSpec.proj (X r) G W (InSpec.col j) := by
  pointwise [k0_pay32]
  simp only [hx, hg, hw]
  rfl

section
variable (v : FVec Ideal S256x4352 .f32) (c s : FVec Ideal S256x128 .f32) (P : Fin 256 → Fin 4352 → EReal) (p : Fin 256 → BitVec 32)

theorem qa_2 (x : Vec Ideal S256x1024 .f32) (g : Vec Ideal S1x1024 .f32) (w : Vec Ideal S1024x4352 .bf16)
    (hv : ∀ r j, k0_pay32 x g w (ix2 r j) = P r (InSpec.col j))
    (hc : ∀ r l, c (ix2 r l) = InSpec.cosT (p r) l.val) (hs : ∀ r l, s (ix2 r l) = InSpec.sinT (p r) l.val) (r : Fin 256) (j : Fin 512) :
    k0_pay41 (k0_pay33 c) (k0_pay34 s) (k0_pay35 x g w) k0_pay36 (k0_pay38 x g w) (k0_pay39 x g w) (k0_pay40 x g w c) (ix2 r j)
      = InSpec.qa (P r) (p r) j := by
  pointwise [k0_pay41, k0_pay40, k0_pay39, k0_pay38, k0_pay37, k0_pay36, k0_pay35, k0_pay34, k0_pay33]
  simp only [hv, hc, hs, scale_eq]
  refine congrArg (· * InSpec.scale) ?_
  split
  · rw [InSpec.select_half _ (by omega)]
    exact InSpec.turn_col _ _ j 0 _ _ _ _ (by omega) (by omega) rfl (by omega) (by simp only; omega) (by simp only; omega)
  split
  · rw [InSpec.select_half _ (by omega)]
    exact InSpec.turn_col _ _ j 1 _ _ _ _ (by omega) (by omega) (by simp only; omega) (by omega) rfl rfl
  split
  · rw [InSpec.select_half _ (by omega)]
    exact InSpec.turn_col _ _ j 2 _ _ _ _ (by omega) (by omega) (by simp only; omega) (by omega) rfl rfl
  · rw [InSpec.select_half _ (by omega)]
    exact InSpec.turn_col _ _ j 3 _ _ _ _ (by omega) (by omega) (by simp only; omega) (by omega) rfl rfl

variable (hv : ∀ r j, v (ix2 r j) = P r (InSpec.col j))
  (hc : ∀ r l, c (ix2 r l) = InSpec.cosT (p r) l.val) (hs : ∀ r l, s (ix2 r l) = InSpec.sinT (p r) l.val)
include hv

include hc hs in
theorem ka_2 (r : Fin 256) (l : Fin 128) : k0_pay42 v (k0_pay33 c) (k0_pay34 s) (ix2 r l) = InSpec.ka (P r) (p r) l := by
  pointwise [k0_pay42, k0_pay34, k0_pay33]
  simp only [hv, hc, hs]
  rw [InSpec.select_half _ (by omega), InSpec.col_ge _ (Nat.le_add_right_of_le (by decide)), InSpec.col_ge _ (Nat.le_add_right_of_le (by decide)), InSpec.col_ge _ (Nat.le_add_right_of_le (by decide))]
  refine InSpec.turn_of _ _ _ _ _ _ _ ?_ (Fin.ext ?_) (fun h => ?_) (fun h => ?_) <;> simp at * <;> omega

theorem va_2 (r : Fin 256) (l : Fin 128) : k0_pay43 v (ix2 r l) = InSpec.va (P r) l := by
  pointwise [k0_pay43]
  rw [hv, InSpec.col_ge _ (Nat.le_add_right_of_le (by decide))]
  rfl

theorem qb_2 (r : Fin 256) (l : Fin 512) : k0_pay44 v (ix2 r l) = InSpec.qb (P r) l := by
  pointwise [k0_pay44]
  rw [hv, InSpec.col_ge _ (Nat.le_add_right_of_le (by decide)), scale_eq]
  rfl

theorem kb_2 (r : Fin 256) (l : Fin 512) : k0_pay46 v (ix2 r l) = InSpec.kb (P r) l := by
  pointwise [k0_pay46, k0_pay45]
  rw [hv, InSpec.col_ge _ (Nat.le_add_right_of_le (by decide))]
  rfl

theorem vb_2 (r : Fin 256) (l : Fin 512) : k0_pay49 v (ix2 r l) = InSpec.vb (P r) l := by
  pointwise [k0_pay49, k0_pay48]
  rw [hv, InSpec.col_ge _ (Nat.le_add_right_of_le (by decide))]
  rfl

theorem sga_2 (r : Fin 256) (l : Fin 1024) : k0_pay51 v (ix2 r l) = InSpec.sga (P r) l := by
  pointwise [k0_pay51]
  rw [hv, InSpec.col_ge _ (Nat.le_add_right_of_le (by decide))]
  rfl

theorem sgb_2 (r : Fin 256) (l : Fin 1024) : k0_pay52 v (ix2 r l) = InSpec.sgb (P r) l := by
  pointwise [k0_pay52]
  rw [hv, InSpec.col_ge _ (Nat.le_add_right_of_le (by decide))]
  rfl

theorem tkb_2 (r : Fin 256) (l : Fin 512) : k0_pay47 v (ix3 0 r l) = InSpec.kb (P r) l := by
  pointwise [k0_pay47, k0_pay45]
  rw [hv, InSpec.col_ge _ (Nat.le_add_right_of_le (by decide))]
  rfl

theorem tvb_2 (r : Fin 256) (l : Fin 512) : k0_pay50 v (ix3 0 r l) = InSpec.vb (P r) l := by
  pointwise [k0_pay50, k0_pay48]
  rw [hv, InSpec.col_ge _ (Nat.le_add_right_of_le (by decide))]
  rfl

end

/-! ## Rows 768 to 1023 of the block -/

theorem proj_3 (x : Vec Ideal S256x1024 .f32) (g : Vec Ideal S1x1024 .f32) (w : Vec Ideal S1024x4352 .bf16) (X : Fin 256 → Fin 1024 → EReal)
    (G : Fin 1024 → EReal) (W : Fin 1024 → Fin 4352 → EReal) (hx : ∀ r k, x (ix2 r k) = X r k) (hg : ∀ k, g (ix2 0 k) = G k)
    (hw : ∀ k j, w (ix2 k j) = W k (InSpec.col j)) (r : Fin 256) (j : Fin 4352) :
    k0_pay54 (k0_pay53 x) g w (ix2 r j) = InSpec.proj (X r) G W (InSpec.col j) := by
  pointwise [k0_pay54, k0_pay53]
  simp only [hx, hg, hw]
  rfl

section
variable (v : FVec Ideal S256x4352 .f32) (c s : FVec Ideal S256x128 .f32) (P : Fin 256 → Fin 4352 → EReal) (p : Fin 256 → BitVec 32)

theorem qa_3 (x : Vec Ideal S256x1024 .f32) (g : Vec Ideal S1x1024 .f32) (w : Vec Ideal S1024x4352 .bf16)
    (hv : ∀ r j, k0_pay54 (k0_pay53 x) g w (ix2 r j) = P r (InSpec.col j))
    (hc : ∀ r l, c (ix2 r l) = InSpec.cosT (p r) l.val) (hs : ∀ r l, s (ix2 r l) = InSpec.sinT (p r) l.val) (r : Fin 256) (j : Fin 512) :
    k0_pay62 (k0_pay55 c) (k0_pay56 s) (k0_pay57 (k0_pay53 x) g w) k0_pay58 (k0_pay59 (k0_pay53 x) g w c s) (k0_pay60 (k0_pay53 x) g w c s) (k0_pay61 (k0_pay53 x) g w) (ix2 r j)
      = InSpec.qa (P r) (p r) j := by
  pointwise [k0_pay62, k0_pay61, k0_pay60, k0_pay59, k0_pay58, k0_pay57, k0_pay56, k0_pay55]
  simp only [hv, hc, hs, scale_eq]
  refine congrArg (· * InSpec.scale) ?_
  split
  · rw [InSpec.select_half _ (by omega)]
    exact InSpec.turn_col _ _ j 0 _ _ _ _ (by omega) (by omega) rfl (by omega) (by simp only; omega) (by simp only; omega)
  split
  · rw [InSpec.select_half _ (by omega)]
    exact InSpec.turn_col _ _ j 1 _ _ _ _ (by omega) (by omega) (by simp only; omega) (by omega) rfl rfl
  split
  · rw [InSpec.select_half _ (by omega)]
    exact InSpec.turn_col _ _ j 2 _ _ _ _ (by omega) (by omega) (by simp only; omega) (by omega) rfl rfl
  · rw [InSpec.select_half _ (by omega)]
    exact InSpec.turn_col _ _ j 3 _ _ _ _ (by omega) (by omega) (by simp only; omega) (by omega) rfl rfl

variable (hv : ∀ r j, v (ix2 r j) = P r (InSpec.col j))
  (hc : ∀ r l, c (ix2 r l) = InSpec.cosT (p r) l.val) (hs : ∀ r l, s (ix2 r l) = InSpec.sinT (p r) l.val)
include hv

include hc hs in
theorem ka_3 (r : Fin 256) (l : Fin 128) : k0_pay64 v (k0_pay55 c) (k0_pay56 s) (ix2 r l) = InSpec.ka (P r) (p r) l := by
  pointwise [k0_pay64, k0_pay63, k0_pay56, k0_pay55]
  simp only [hv, hc, hs]
  rw [InSpec.select_half _ (by omega), InSpec.col_ge _ (Nat.le_add_right_of_le (by decide)), InSpec.col_ge _ (Nat.le_add_right_of_le (by decide)), InSpec.col_ge _ (Nat.le_add_right_of_le (by decide))]
  refine InSpec.turn_of _ _ _ _ _ _ _ ?_ (Fin.ext ?_) (fun h => ?_) (fun h => ?_) <;> simp at * <;> omega

theorem va_3 (r : Fin 256) (l : Fin 128) : k0_pay67 v (ix2 r l) = InSpec.va (P r) l := by
  pointwise [k0_pay67, k0_pay66]
  rw [hv, InSpec.col_ge _ (Nat.le_add_right_of_le (by decide))]
  rfl

theorem qb_3 (r : Fin 256) (l : Fin 512) : k0_pay69 v (ix2 r l) = InSpec.qb (P r) l := by
  pointwise [k0_pay69]
  rw [hv, InSpec.col_ge _ (Nat.le_add_right_of_le (by decide)), scale_eq]
  rfl

theorem kb_3 (r : Fin 256) (l : Fin 512) : k0_pay71 v (ix2 r l) = InSpec.kb (P r) l := by
  pointwise [k0_pay71, k0_pay70]
  rw [hv, InSpec.col_ge _ (Nat.le_add_right_of_le (by decide))]
  rfl

theorem vb_3 (r : Fin 256) (l : Fin 512) : k0_pay74 v (ix2 r l) = InSpec.vb (P r) l := by
  pointwise [k0_pay74, k0_pay73]
  rw [hv, InSpec.col_ge _ (Nat.le_add_right_of_le (by decide))]
  rfl

theorem sga_3 (r : Fin 256) (l : Fin 1024) : k0_pay76 v (ix2 r l) = InSpec.sga (P r) l := by
  pointwise [k0_pay76]
  rw [hv, InSpec.col_ge _ (Nat.le_add_right_of_le (by decide))]
  rfl

theorem sgb_3 (r : Fin 256) (l : Fin 1024) : k0_pay1 v (ix2 r l) = InSpec.sgb (P r) l := by
  pointwise [k0_pay1]
  rw [hv, InSpec.col_ge _ (Nat.le_add_right_of_le (by decide))]
  rfl

include hc hs in
/-- The last 128 rows, kept apart. -/
theorem tka_3 (r l : Fin 128) : k0_pay65 v (k0_pay55 c) (k0_pay56 s) (ix3 0 r l) = InSpec.ka (P ⟨128 + r.val, by omega⟩) (p ⟨128 + r.val, by omega⟩) l := by
  pointwise [k0_pay65, k0_pay63, k0_pay56, k0_pay55]
  simp only [hv, hc, hs]
  rw [InSpec.select_half _ (by omega), InSpec.col_ge _ (Nat.le_add_right_of_le (by decide)), InSpec.col_ge _ (Nat.le_add_right_of_le (by decide)), InSpec.col_ge _ (Nat.le_add_right_of_le (by decide))]
  refine InSpec.turn_of _ _ _ _ _ _ _ ?_ (Fin.ext ?_) (fun h => ?_) (fun h => ?_) <;> simp at * <;> omega

theorem tva_3 (r l : Fin 128) : k0_pay68 (k0_pay66 v) (ix3 0 r l) = InSpec.va (P ⟨128 + r.val, by omega⟩) l := by
  pointwise [k0_pay68, k0_pay66]
  rw [hv, InSpec.col_ge _ (Nat.le_add_right_of_le (by decide))]
  rfl

theorem tkb_3 (r : Fin 256) (l : Fin 512) : k0_pay72 v (ix3 0 r l) = InSpec.kb (P r) l := by
  pointwise [k0_pay72, k0_pay70]
  rw [hv, InSpec.col_ge _ (Nat.le_add_right_of_le (by decide))]
  rfl

theorem tvb_3 (r : Fin 256) (l : Fin 512) : k0_pay75 v (ix3 0 r l) = InSpec.vb (P r) l := by
  pointwise [k0_pay75, k0_pay73]
  rw [hv, InSpec.col_ge _ (Nat.le_add_right_of_le (by decide))]
  rfl

end

end Cert.InPIdeal.Block

end
-- ==== Proof.InPBody.lean ====
/-
  What the prompt input projection's body leaves in its twelve output blocks, read at an index: the four blocks of 256
  rows one below another, and the sequence's last rows kept apart.
-/
module

public import proofs.«01_k».proof.Proof.InPBlock
public import proofs.«01_k».proof.Proof.Gen.InPIdeal.Value
public import Idealize.ShloMosaic.Lib.Pipeline.ValueKit

@[expose] public section

set_option maxRecDepth 16384

noncomputable section

namespace Cert.InPIdeal.Block

open Cert.InPIdeal Cert.InPIdeal.Gen Idealize.ShloMosaic Idealize.ShloMosaic.TcCoe

/-- Row `a` of the `k`-th 256 rows. -/
abbrev row (k : Fin 4) (a : Fin 256) : Fin 1024 := ⟨256 * k.val + a.val, by omega⟩

theorem ldx_0 (x : Vec Ideal S1024x1024 .f32) (r : Fin 256) (j : Fin 1024) : View.ld x r0_0 (ix2 r j) = x (ix2 (row 0 r) j) := by
  refine congrArg x (funext fun a => Fin.ext ?_); match a with | 0 => simp | 1 => simp
theorem ldc_0 (x : Vec Ideal S1024x128 .f32) (r : Fin 256) (j : Fin 128) : View.ld x r0_3 (ix2 r j) = x (ix2 (row 0 r) j) := by
  refine congrArg x (funext fun a => Fin.ext ?_); match a with | 0 => simp | 1 => simp
theorem embx_0 (y : S256x1024.Idx) : r0_0.emb y = ix2 (row 0 (y 0)) (y 1) := by
  funext a; refine Fin.ext ?_; match a with | 0 => simp | 1 => simp
theorem embc_0 (y : S256x128.Idx) : r0_3.emb y = ix2 (row 0 (y 0)) (y 1) := by
  funext a; refine Fin.ext ?_; match a with | 0 => simp | 1 => simp
theorem embb_0 (y : S256x512.Idx) : r0_4.emb y = ix2 (row 0 (y 0)) (y 1) := by
  funext a; refine Fin.ext ?_; match a with | 0 => simp | 1 => simp

theorem ldx_1 (x : Vec Ideal S1024x1024 .f32) (r : Fin 256) (j : Fin 1024) : View.ld x r0_5 (ix2 r j) = x (ix2 (row 1 r) j) := by
  refine congrArg x (funext fun a => Fin.ext ?_); match a with | 0 => simp | 1 => simp
theorem ldc_1 (x : Vec Ideal S1024x128 .f32) (r : Fin 256) (j : Fin 128) : View.ld x r0_6 (ix2 r j) = x (ix2 (row 1 r) j) := by
  refine congrArg x (funext fun a => Fin.ext ?_); match a with | 0 => simp | 1 => simp
theorem embx_1 (y : S256x1024.Idx) : r0_5.emb y = ix2 (row 1 (y 0)) (y 1) := by
  funext a; refine Fin.ext ?_; match a with | 0 => simp | 1 => simp
theorem embc_1 (y : S256x128.Idx) : r0_6.emb y = ix2 (row 1 (y 0)) (y 1) := by
  funext a; refine Fin.ext ?_; match a with | 0 => simp | 1 => simp
theorem embb_1 (y : S256x512.Idx) : r0_7.emb y = ix2 (row 1 (y 0)) (y 1) := by
  funext a; refine Fin.ext ?_; match a with | 0 => simp | 1 => simp

theorem ldx_2 (x : Vec Ideal S1024x1024 .f32) (r : Fin 256) (j : Fin 1024) : View.ld x r0_8 (ix2 r j) = x (ix2 (row 2 r) j) := by
  refine congrArg x (funext fun a => Fin.ext ?_); match a with | 0 => simp | 1 => simp
theorem ldc_2 (x : Vec Ideal S1024x128 .f32) (r : Fin 256) (j : Fin 128) : View.ld x r0_9 (ix2 r j) = x (ix2 (row 2 r) j) := by
  refine congrArg x (funext fun a => Fin.ext ?_); match a with | 0 => simp | 1 => simp
theorem embx_2 (y : S256x1024.Idx) : r0_8.emb y = ix2 (row 2 (y 0)) (y 1) := by
  funext a; refine Fin.ext ?_; match a with | 0 => simp | 1 => simp
theorem embc_2 (y : S256x128.Idx) : r0_9.emb y = ix2 (row 2 (y 0)) (y 1) := by
  funext a; refine Fin.ext ?_; match a with | 0 => simp | 1 => simp
theorem embb_2 (y : S256x512.Idx) : r0_10.emb y = ix2 (row 2 (y 0)) (y 1) := by
  funext a; refine Fin.ext ?_; match a with | 0 => simp | 1 => simp

theorem ldx_3 (x : Vec Ideal S1024x1024 .f32) (r : Fin 256) (j : Fin 1024) : View.ld x r0_12 (ix2 r j) = x (ix2 (row 3 r) j) := by
  refine congrArg x (funext fun a => Fin.ext ?_); match a with | 0 => simp | 1 => simp
theorem ldc_3 (x : Vec Ideal S1024x128 .f32) (r : Fin 256) (j : Fin 128) : View.ld x r0_13 (ix2 r j) = x (ix2 (row 3 r) j) := by
  refine congrArg x (funext fun a => Fin.ext ?_); match a with | 0 => simp | 1 => simp
theorem embx_3 (y : S256x1024.Idx) : r0_12.emb y = ix2 (row 3 (y 0)) (y 1) := by
  funext a; refine Fin.ext ?_; match a with | 0 => simp | 1 => simp
theorem embc_3 (y : S256x128.Idx) : r0_13.emb y = ix2 (row 3 (y 0)) (y 1) := by
  funext a; refine Fin.ext ?_; match a with | 0 => simp | 1 => simp
theorem embb_3 (y : S256x512.Idx) : r0_14.emb y = ix2 (row 3 (y 0)) (y 1) := by
  funext a; refine Fin.ext ?_; match a with | 0 => simp | 1 => simp

theorem embt_0 (y : S1x256x512.Idx) : r0_11.emb y = ix3 0 (⟨256 * 0 + (y 1).val, by have h : (y 1).val < 256 := (y 1).isLt; omega⟩ : Fin 512) (y 2) := by
  have h : (y 0).val < 1 := (y 0).isLt
  funext a; refine Fin.ext ?_; match a with | 0 => simp | 1 => simp | 2 => simp

theorem embt_1 (y : S1x256x512.Idx) : r0_16.emb y = ix3 0 (⟨256 * 1 + (y 1).val, by have h : (y 1).val < 256 := (y 1).isLt; omega⟩ : Fin 512) (y 2) := by
  have h : (y 0).val < 1 := (y 0).isLt
  funext a; refine Fin.ext ?_; match a with | 0 => simp | 1 => simp | 2 => simp

section
variable (x0 : Vec Ideal S1024x1024 .f32) (x1 : Vec Ideal S1x1024 .f32) (x2 : Vec Ideal S1024x4352 .bf16) (x3 x4 : Vec Ideal S1024x128 .f32)
  (X : Fin 1024 → Fin 1024 → EReal) (G : Fin 1024 → EReal) (W : Fin 1024 → Fin 4352 → EReal) (p : Fin 1024 → BitVec 32)
  (hx : ∀ r k, x0 (ix2 r k) = X r k) (hg : ∀ k, x1 (ix2 0 k) = G k) (hw : ∀ k j, x2 (ix2 k j) = W k (InSpec.col j))
  (hc : ∀ r l, x3 (ix2 r l) = InSpec.cosT (p r) l.val) (hs : ∀ r l, x4 (ix2 r l) = InSpec.sinT (p r) l.val)

include hg in
theorem ldg (k : Fin 1024) : View.ld x1 r0_1 (ix2 0 k) = G k :=
  (congrFun (show View.ld x1 r0_1 = x1 from View.ld_unit_lit _ _ (by decide)) _).trans (hg k)

include hw in
theorem ldw (k : Fin 1024) (j : Fin 4352) : View.ld x2 r0_2 (ix2 k j) = W k (InSpec.col j) :=
  (congrFun (show View.ld x2 r0_2 = x2 from View.ld_unit_lit _ _ (by decide)) _).trans (hw k j)

include hc in
theorem hc_0 (r : Fin 256) (l : Fin 128) : View.ld x3 r0_3 (ix2 r l) = InSpec.cosT ((fun a => p (row 0 a)) r) l.val :=
  (ldc_0 x3 r l).trans (hc _ l)

include hs in
theorem hs_0 (r : Fin 256) (l : Fin 128) : View.ld x4 r0_3 (ix2 r l) = InSpec.sinT ((fun a => p (row 0 a)) r) l.val :=
  (ldc_0 x4 r l).trans (hs _ l)

include hc in
theorem hc_1 (r : Fin 256) (l : Fin 128) : View.ld x3 r0_6 (ix2 r l) = InSpec.cosT ((fun a => p (row 1 a)) r) l.val :=
  (ldc_1 x3 r l).trans (hc _ l)

include hs in
theorem hs_1 (r : Fin 256) (l : Fin 128) : View.ld x4 r0_6 (ix2 r l) = InSpec.sinT ((fun a => p (row 1 a)) r) l.val :=
  (ldc_1 x4 r l).trans (hs _ l)

include hc in
theorem hc_2 (r : Fin 256) (l : Fin 128) : View.ld x3 r0_9 (ix2 r l) = InSpec.cosT ((fun a => p (row 2 a)) r) l.val :=
  (ldc_2 x3 r l).trans (hc _ l)

include hs in
theorem hs_2 (r : Fin 256) (l : Fin 128) : View.ld x4 r0_9 (ix2 r l) = InSpec.sinT ((fun a => p (row 2 a)) r) l.val :=
  (ldc_2 x4 r l).trans (hs _ l)

include hc in
theorem hc_3 (r : Fin 256) (l : Fin 128) : View.ld x3 r0_13 (ix2 r l) = InSpec.cosT ((fun a => p (row 3 a)) r) l.val :=
  (ldc_3 x3 r l).trans (hc _ l)

include hs in
theorem hs_3 (r : Fin 256) (l : Fin 128) : View.ld x4 r0_13 (ix2 r l) = InSpec.sinT ((fun a => p (row 3 a)) r) l.val :=
  (ldc_3 x4 r l).trans (hs _ l)

include hx hg hw

theorem hv_0 (r : Fin 256) (j : Fin 4352) : k0_pay2 (View.ld x0 r0_0) (View.ld x1 r0_1) (View.ld x2 r0_2) (ix2 r j) = (fun a => InSpec.proj (X (row 0 a)) G W) r (InSpec.col j) :=
  proj_0 _ _ _ (fun a => X (row 0 a)) G W (fun r j => (ldx_0 x0 r j).trans (hx _ j)) (ldg x1 G hg) (ldw x2 W hw) r j

theorem hv_1 (r : Fin 256) (j : Fin 4352) : k0_pay19 (k0_pay18 (View.ld x0 r0_5) (View.ld x1 r0_1)) (View.ld x2 r0_2) (ix2 r j) = (fun a => InSpec.proj (X (row 1 a)) G W) r (InSpec.col j) :=
  proj_1 _ _ _ (fun a => X (row 1 a)) G W (fun r j => (ldx_1 x0 r j).trans (hx _ j)) (ldg x1 G hg) (ldw x2 W hw) r j

theorem hv_2 (r : Fin 256) (j : Fin 4352) : k0_pay32 (View.ld x0 r0_8) (View.ld x1 r0_1) (View.ld x2 r0_2) (ix2 r j) = (fun a => InSpec.proj (X (row 2 a)) G W) r (InSpec.col j) :=
  proj_2 _ _ _ (fun a => X (row 2 a)) G W (fun r j => (ldx_2 x0 r j).trans (hx _ j)) (ldg x1 G hg) (ldw x2 W hw) r j

theorem hv_3 (r : Fin 256) (j : Fin 4352) : k0_pay54 (k0_pay53 (View.ld x0 r0_12)) (View.ld x1 r0_1) (View.ld x2 r0_2) (ix2 r j) = (fun a => InSpec.proj (X (row 3 a)) G W) r (InSpec.col j) :=
  proj_3 _ _ _ (fun a => X (row 3 a)) G W (fun r j => (ldx_3 x0 r j).trans (hx _ j)) (ldg x1 G hg) (ldw x2 W hw) r j

include hc hs in
theorem out_5 (r : Fin 1024) (j : Fin 512) : out0_5 x0 x1 x2 x3 x4 (ix2 r j) = InSpec.qa (InSpec.proj (X r) G W) (p r) j := by
  refine View.canon_apply_of_pieces (fun y => InSpec.qa (InSpec.proj (X (y 0)) G W) (p (y 0)) (y 1)) _ (fun q hq y => ?_) (ix2 r j) (cover0_5 (F := Ideal) _ _ _ _ _)
  simp only [List.mem_cons, List.not_mem_nil, or_false] at hq
  rcases hq with rfl | rfl | rfl | rfl
  · rw [embb_3 y]
    refine (congrArg _ (ix2_eta y)).symm.trans ?_
    exact qa_3 (View.ld x3 r0_13) (View.ld x4 r0_13) (fun a => InSpec.proj (X (row 3 a)) G W) (fun a => p (row 3 a)) (View.ld x0 r0_12) (View.ld x1 r0_1) (View.ld x2 r0_2) (hv_3 x0 x1 x2 X G W hx hg hw) (hc_3 x3 p hc) (hs_3 x4 p hs) (y 0) (y 1)
  · rw [embb_2 y]
    refine (congrArg _ (ix2_eta y)).symm.trans ?_
    exact qa_2 (View.ld x3 r0_9) (View.ld x4 r0_9) (fun a => InSpec.proj (X (row 2 a)) G W) (fun a => p (row 2 a)) (View.ld x0 r0_8) (View.ld x1 r0_1) (View.ld x2 r0_2) (hv_2 x0 x1 x2 X G W hx hg hw) (hc_2 x3 p hc) (hs_2 x4 p hs) (y 0) (y 1)
  · rw [embb_1 y]
    refine (congrArg _ (ix2_eta y)).symm.trans ?_
    exact qa_1 (View.ld x3 r0_6) (View.ld x4 r0_6) (fun a => InSpec.proj (X (row 1 a)) G W) (fun a => p (row 1 a)) (View.ld x0 r0_5) (View.ld x1 r0_1) (View.ld x2 r0_2) (hv_1 x0 x1 x2 X G W hx hg hw) (hc_1 x3 p hc) (hs_1 x4 p hs) (y 0) (y 1)
  · rw [embb_0 y]
    refine (congrArg _ (ix2_eta y)).symm.trans ?_
    exact qa_0 (View.ld x3 r0_3) (View.ld x4 r0_3) (fun a => InSpec.proj (X (row 0 a)) G W) (fun a => p (row 0 a)) (View.ld x0 r0_0) (View.ld x1 r0_1) (View.ld x2 r0_2) (hv_0 x0 x1 x2 X G W hx hg hw) (hc_0 x3 p hc) (hs_0 x4 p hs) (y 0) (y 1)

include hc hs in
theorem out_6 (r : Fin 1024) (j : Fin 128) : out0_6 x0 x1 x2 x3 x4 (ix2 r j) = InSpec.ka (InSpec.proj (X r) G W) (p r) j := by
  refine View.canon_apply_of_pieces (fun y => InSpec.ka (InSpec.proj (X (y 0)) G W) (p (y 0)) (y 1)) _ (fun q hq y => ?_) (ix2 r j) (cover0_6 (F := Ideal) _ _ _ _ _)
  simp only [List.mem_cons, List.not_mem_nil, or_false] at hq
  rcases hq with rfl | rfl | rfl | rfl
  · rw [embc_3 y]
    refine (congrArg _ (ix2_eta y)).symm.trans ?_
    exact ka_3 (k0_pay54 (k0_pay53 (View.ld x0 r0_12)) (View.ld x1 r0_1) (View.ld x2 r0_2)) (View.ld x3 r0_13) (View.ld x4 r0_13) (fun a => InSpec.proj (X (row 3 a)) G W) (fun a => p (row 3 a)) (hv_3 x0 x1 x2 X G W hx hg hw) (hc_3 x3 p hc) (hs_3 x4 p hs) (y 0) (y 1)
  · rw [embc_2 y]
    refine (congrArg _ (ix2_eta y)).symm.trans ?_
    exact ka_2 (k0_pay32 (View.ld x0 r0_8) (View.ld x1 r0_1) (View.ld x2 r0_2)) (View.ld x3 r0_9) (View.ld x4 r0_9) (fun a => InSpec.proj (X (row 2 a)) G W) (fun a => p (row 2 a)) (hv_2 x0 x1 x2 X G W hx hg hw) (hc_2 x3 p hc) (hs_2 x4 p hs) (y 0) (y 1)
  · rw [embc_1 y]
    refine (congrArg _ (ix2_eta y)).symm.trans ?_
    exact ka_1 (k0_pay19 (k0_pay18 (View.ld x0 r0_5) (View.ld x1 r0_1)) (View.ld x2 r0_2)) (View.ld x3 r0_6) (View.ld x4 r0_6) (fun a => InSpec.proj (X (row 1 a)) G W) (fun a => p (row 1 a)) (hv_1 x0 x1 x2 X G W hx hg hw) (hc_1 x3 p hc) (hs_1 x4 p hs) (y 0) (y 1)
  · rw [embc_0 y]
    refine (congrArg _ (ix2_eta y)).symm.trans ?_
    exact ka_0 (k0_pay2 (View.ld x0 r0_0) (View.ld x1 r0_1) (View.ld x2 r0_2)) (View.ld x3 r0_3) (View.ld x4 r0_3) (fun a => InSpec.proj (X (row 0 a)) G W) (fun a => p (row 0 a)) (hv_0 x0 x1 x2 X G W hx hg hw) (hc_0 x3 p hc) (hs_0 x4 p hs) (y 0) (y 1)

theorem out_7 (r : Fin 1024) (j : Fin 128) : out0_7 x0 x1 x2 x3 x4 (ix2 r j) = InSpec.va (InSpec.proj (X r) G W) j := by
  refine View.canon_apply_of_pieces (fun y => InSpec.va (InSpec.proj (X (y 0)) G W) (y 1)) _ (fun q hq y => ?_) (ix2 r j) (cover0_7 (F := Ideal) _ _ _ _ _)
  simp only [List.mem_cons, List.not_mem_nil, or_false] at hq
  rcases hq with rfl | rfl | rfl | rfl
  · rw [embc_3 y]
    refine (congrArg _ (ix2_eta y)).symm.trans ?_
    exact va_3 (k0_pay54 (k0_pay53 (View.ld x0 r0_12)) (View.ld x1 r0_1) (View.ld x2 r0_2)) (fun a => InSpec.proj (X (row 3 a)) G W) (hv_3 x0 x1 x2 X G W hx hg hw) (y 0) (y 1)
  · rw [embc_2 y]
    refine (congrArg _ (ix2_eta y)).symm.trans ?_
    exact va_2 (k0_pay32 (View.ld x0 r0_8) (View.ld x1 r0_1) (View.ld x2 r0_2)) (fun a => InSpec.proj (X (row 2 a)) G W) (hv_2 x0 x1 x2 X G W hx hg hw) (y 0) (y 1)
  · rw [embc_1 y]
    refine (congrArg _ (ix2_eta y)).symm.trans ?_
    exact va_1 (k0_pay19 (k0_pay18 (View.ld x0 r0_5) (View.ld x1 r0_1)) (View.ld x2 r0_2)) (fun a => InSpec.proj (X (row 1 a)) G W) (hv_1 x0 x1 x2 X G W hx hg hw) (y 0) (y 1)
  · rw [embc_0 y]
    refine (congrArg _ (ix2_eta y)).symm.trans ?_
    exact va_0 (k0_pay2 (View.ld x0 r0_0) (View.ld x1 r0_1) (View.ld x2 r0_2)) (fun a => InSpec.proj (X (row 0 a)) G W) (hv_0 x0 x1 x2 X G W hx hg hw) (y 0) (y 1)

theorem out_8 (r : Fin 1024) (j : Fin 512) : out0_8 x0 x1 x2 x3 x4 (ix2 r j) = InSpec.qb (InSpec.proj (X r) G W) j := by
  refine View.canon_apply_of_pieces (fun y => InSpec.qb (InSpec.proj (X (y 0)) G W) (y 1)) _ (fun q hq y => ?_) (ix2 r j) (cover0_8 (F := Ideal) _ _ _ _ _)
  simp only [List.mem_cons, List.not_mem_nil, or_false] at hq
  rcases hq with rfl | rfl | rfl | rfl
  · rw [embb_3 y]
    refine (congrArg _ (ix2_eta y)).symm.trans ?_
    exact qb_3 (k0_pay54 (k0_pay53 (View.ld x0 r0_12)) (View.ld x1 r0_1) (View.ld x2 r0_2)) (fun a => InSpec.proj (X (row 3 a)) G W) (hv_3 x0 x1 x2 X G W hx hg hw) (y 0) (y 1)
  · rw [embb_2 y]
    refine (congrArg _ (ix2_eta y)).symm.trans ?_
    exact qb_2 (k0_pay32 (View.ld x0 r0_8) (View.ld x1 r0_1) (View.ld x2 r0_2)) (fun a => InSpec.proj (X (row 2 a)) G W) (hv_2 x0 x1 x2 X G W hx hg hw) (y 0) (y 1)
  · rw [embb_1 y]
    refine (congrArg _ (ix2_eta y)).symm.trans ?_
    exact qb_1 (k0_pay19 (k0_pay18 (View.ld x0 r0_5) (View.ld x1 r0_1)) (View.ld x2 r0_2)) (fun a => InSpec.proj (X (row 1 a)) G W) (hv_1 x0 x1 x2 X G W hx hg hw) (y 0) (y 1)
  · rw [embb_0 y]
    refine (congrArg _ (ix2_eta y)).symm.trans ?_
    exact qb_0 (k0_pay2 (View.ld x0 r0_0) (View.ld x1 r0_1) (View.ld x2 r0_2)) (fun a => InSpec.proj (X (row 0 a)) G W) (hv_0 x0 x1 x2 X G W hx hg hw) (y 0) (y 1)

theorem out_9 (r : Fin 1024) (j : Fin 512) : out0_9 x0 x1 x2 x3 x4 (ix2 r j) = InSpec.kb (InSpec.proj (X r) G W) j := by
  refine View.canon_apply_of_pieces (fun y => InSpec.kb (InSpec.proj (X (y 0)) G W) (y 1)) _ (fun q hq y => ?_) (ix2 r j) (cover0_9 (F := Ideal) _ _ _ _ _)
  simp only [List.mem_cons, List.not_mem_nil, or_false] at hq
  rcases hq with rfl | rfl | rfl | rfl
  · rw [embb_3 y]
    refine (congrArg _ (ix2_eta y)).symm.trans ?_
    exact kb_3 (k0_pay54 (k0_pay53 (View.ld x0 r0_12)) (View.ld x1 r0_1) (View.ld x2 r0_2)) (fun a => InSpec.proj (X (row 3 a)) G W) (hv_3 x0 x1 x2 X G W hx hg hw) (y 0) (y 1)
  · rw [embb_2 y]
    refine (congrArg _ (ix2_eta y)).symm.trans ?_
    exact kb_2 (k0_pay32 (View.ld x0 r0_8) (View.ld x1 r0_1) (View.ld x2 r0_2)) (fun a => InSpec.proj (X (row 2 a)) G W) (hv_2 x0 x1 x2 X G W hx hg hw) (y 0) (y 1)
  · rw [embb_1 y]
    refine (congrArg _ (ix2_eta y)).symm.trans ?_
    exact kb_1 (k0_pay19 (k0_pay18 (View.ld x0 r0_5) (View.ld x1 r0_1)) (View.ld x2 r0_2)) (fun a => InSpec.proj (X (row 1 a)) G W) (hv_1 x0 x1 x2 X G W hx hg hw) (y 0) (y 1)
  · rw [embb_0 y]
    refine (congrArg _ (ix2_eta y)).symm.trans ?_
    exact kb_0 (k0_pay2 (View.ld x0 r0_0) (View.ld x1 r0_1) (View.ld x2 r0_2)) (fun a => InSpec.proj (X (row 0 a)) G W) (hv_0 x0 x1 x2 X G W hx hg hw) (y 0) (y 1)

theorem out_10 (r : Fin 1024) (j : Fin 512) : out0_10 x0 x1 x2 x3 x4 (ix2 r j) = InSpec.vb (InSpec.proj (X r) G W) j := by
  refine View.canon_apply_of_pieces (fun y => InSpec.vb (InSpec.proj (X (y 0)) G W) (y 1)) _ (fun q hq y => ?_) (ix2 r j) (cover0_10 (F := Ideal) _ _ _ _ _)
  simp only [List.mem_cons, List.not_mem_nil, or_false] at hq
  rcases hq with rfl | rfl | rfl | rfl
  · rw [embb_3 y]
    refine (congrArg _ (ix2_eta y)).symm.trans ?_
    exact vb_3 (k0_pay54 (k0_pay53 (View.ld x0 r0_12)) (View.ld x1 r0_1) (View.ld x2 r0_2)) (fun a => InSpec.proj (X (row 3 a)) G W) (hv_3 x0 x1 x2 X G W hx hg hw) (y 0) (y 1)
  · rw [embb_2 y]
    refine (congrArg _ (ix2_eta y)).symm.trans ?_
    exact vb_2 (k0_pay32 (View.ld x0 r0_8) (View.ld x1 r0_1) (View.ld x2 r0_2)) (fun a => InSpec.proj (X (row 2 a)) G W) (hv_2 x0 x1 x2 X G W hx hg hw) (y 0) (y 1)
  · rw [embb_1 y]
    refine (congrArg _ (ix2_eta y)).symm.trans ?_
    exact vb_1 (k0_pay19 (k0_pay18 (View.ld x0 r0_5) (View.ld x1 r0_1)) (View.ld x2 r0_2)) (fun a => InSpec.proj (X (row 1 a)) G W) (hv_1 x0 x1 x2 X G W hx hg hw) (y 0) (y 1)
  · rw [embb_0 y]
    refine (congrArg _ (ix2_eta y)).symm.trans ?_
    exact vb_0 (k0_pay2 (View.ld x0 r0_0) (View.ld x1 r0_1) (View.ld x2 r0_2)) (fun a => InSpec.proj (X (row 0 a)) G W) (hv_0 x0 x1 x2 X G W hx hg hw) (y 0) (y 1)

theorem out_11 (r : Fin 1024) (j : Fin 1024) : out0_11 x0 x1 x2 x3 x4 (ix2 r j) = InSpec.sga (InSpec.proj (X r) G W) j := by
  refine View.canon_apply_of_pieces (fun y => InSpec.sga (InSpec.proj (X (y 0)) G W) (y 1)) _ (fun q hq y => ?_) (ix2 r j) (cover0_11 (F := Ideal) _ _ _ _ _)
  simp only [List.mem_cons, List.not_mem_nil, or_false] at hq
  rcases hq with rfl | rfl | rfl | rfl
  · rw [embx_3 y]
    refine (congrArg _ (ix2_eta y)).symm.trans ?_
    exact sga_3 (k0_pay54 (k0_pay53 (View.ld x0 r0_12)) (View.ld x1 r0_1) (View.ld x2 r0_2)) (fun a => InSpec.proj (X (row 3 a)) G W) (hv_3 x0 x1 x2 X G W hx hg hw) (y 0) (y 1)
  · rw [embx_2 y]
    refine (congrArg _ (ix2_eta y)).symm.trans ?_
    exact sga_2 (k0_pay32 (View.ld x0 r0_8) (View.ld x1 r0_1) (View.ld x2 r0_2)) (fun a => InSpec.proj (X (row 2 a)) G W) (hv_2 x0 x1 x2 X G W hx hg hw) (y 0) (y 1)
  · rw [embx_1 y]
    refine (congrArg _ (ix2_eta y)).symm.trans ?_
    exact sga_1 (k0_pay19 (k0_pay18 (View.ld x0 r0_5) (View.ld x1 r0_1)) (View.ld x2 r0_2)) (fun a => InSpec.proj (X (row 1 a)) G W) (hv_1 x0 x1 x2 X G W hx hg hw) (y 0) (y 1)
  · rw [embx_0 y]
    refine (congrArg _ (ix2_eta y)).symm.trans ?_
    exact sga_0 (k0_pay2 (View.ld x0 r0_0) (View.ld x1 r0_1) (View.ld x2 r0_2)) (fun a => InSpec.proj (X (row 0 a)) G W) (hv_0 x0 x1 x2 X G W hx hg hw) (y 0) (y 1)

theorem out_12 (r : Fin 1024) (j : Fin 1024) : out0_12 x0 x1 x2 x3 x4 (ix2 r j) = InSpec.sgb (InSpec.proj (X r) G W) j := by
  refine View.canon_apply_of_pieces (fun y => InSpec.sgb (InSpec.proj (X (y 0)) G W) (y 1)) _ (fun q hq y => ?_) (ix2 r j) (cover0_12 (F := Ideal) _ _ _ _ _)
  simp only [List.mem_cons, List.not_mem_nil, or_false] at hq
  rcases hq with rfl | rfl | rfl | rfl
  · rw [embx_3 y]
    refine (congrArg _ (ix2_eta y)).symm.trans ?_
    exact sgb_3 (k0_pay54 (k0_pay53 (View.ld x0 r0_12)) (View.ld x1 r0_1) (View.ld x2 r0_2)) (fun a => InSpec.proj (X (row 3 a)) G W) (hv_3 x0 x1 x2 X G W hx hg hw) (y 0) (y 1)
  · rw [embx_2 y]
    refine (congrArg _ (ix2_eta y)).symm.trans ?_
    exact sgb_2 (k0_pay32 (View.ld x0 r0_8) (View.ld x1 r0_1) (View.ld x2 r0_2)) (fun a => InSpec.proj (X (row 2 a)) G W) (hv_2 x0 x1 x2 X G W hx hg hw) (y 0) (y 1)
  · rw [embx_1 y]
    refine (congrArg _ (ix2_eta y)).symm.trans ?_
    exact sgb_1 (k0_pay19 (k0_pay18 (View.ld x0 r0_5) (View.ld x1 r0_1)) (View.ld x2 r0_2)) (fun a => InSpec.proj (X (row 1 a)) G W) (hv_1 x0 x1 x2 X G W hx hg hw) (y 0) (y 1)
  · rw [embx_0 y]
    refine (congrArg _ (ix2_eta y)).symm.trans ?_
    exact sgb_0 (k0_pay2 (View.ld x0 r0_0) (View.ld x1 r0_1) (View.ld x2 r0_2)) (fun a => InSpec.proj (X (row 0 a)) G W) (hv_0 x0 x1 x2 X G W hx hg hw) (y 0) (y 1)

include hc hs in
theorem out_13 (r : Fin 128) (j : Fin 128) : out0_13 x0 x1 x2 x3 x4 (ix3 0 r j) = InSpec.ka (InSpec.proj (X ⟨896 + r.val, by omega⟩) G W) (p ⟨896 + r.val, by omega⟩) j := by
  refine (congrFun (View.canon_cons_unit_lit _ _ _ (by decide)) _).trans ?_
  refine (tka_3 (k0_pay54 (k0_pay53 (View.ld x0 r0_12)) (View.ld x1 r0_1) (View.ld x2 r0_2)) (View.ld x3 r0_13) (View.ld x4 r0_13) (fun a => InSpec.proj (X (row 3 a)) G W) (fun a => p (row 3 a)) (hv_3 x0 x1 x2 X G W hx hg hw) (hc_3 x3 p hc) (hs_3 x4 p hs) r j).trans ?_
  have e : row 3 (⟨128 + r.val, by omega⟩ : Fin 256) = ⟨896 + r.val, by omega⟩ := Fin.ext (by show 256 * 3 + (128 + r.val) = 896 + r.val; omega)
  simp only [e]

theorem out_14 (r : Fin 128) (j : Fin 128) : out0_14 x0 x1 x2 x3 x4 (ix3 0 r j) = InSpec.va (InSpec.proj (X ⟨896 + r.val, by omega⟩) G W) j := by
  refine (congrFun (View.canon_cons_unit_lit _ _ _ (by decide)) _).trans ?_
  refine (tva_3 (k0_pay54 (k0_pay53 (View.ld x0 r0_12)) (View.ld x1 r0_1) (View.ld x2 r0_2)) (fun a => InSpec.proj (X (row 3 a)) G W) (hv_3 x0 x1 x2 X G W hx hg hw) r j).trans ?_
  have e : row 3 (⟨128 + r.val, by omega⟩ : Fin 256) = ⟨896 + r.val, by omega⟩ := Fin.ext (by show 256 * 3 + (128 + r.val) = 896 + r.val; omega)
  simp only [e]

theorem out_15 (r j : Fin 512) : out0_15 x0 x1 x2 x3 x4 (ix3 0 r j) = InSpec.kb (InSpec.proj (X ⟨512 + r.val, by omega⟩) G W) j := by
  refine View.canon_apply_of_pieces (fun y => InSpec.kb (InSpec.proj (X ⟨512 + (y 1).val, by have h : (y 1).val < 512 := (y 1).isLt; omega⟩) G W) (y 2)) _ (fun q hq y => ?_)
    (ix3 0 r j) (cover0_15 (F := Ideal) _ _ _)
  simp only [List.mem_cons, List.not_mem_nil, or_false] at hq
  rcases hq with rfl | rfl
  · have h : (y 1).val < 256 := (y 1).isLt
    have e : row 3 (y 1) = ⟨512 + (256 * 1 + (y 1).val), by omega⟩ := Fin.ext (by show 256 * 3 + (y 1).val = 512 + (256 * 1 + (y 1).val); omega)
    have ey : y = ix3 0 (y 1) (y 2) := funext fun a => match a with
      | 0 => Fin.ext (by have h : (y 0).val < 1 := (y 0).isLt; show (y 0).val = 0; omega)
      | 1 => rfl
      | 2 => rfl
    rw [embt_1 y]
    refine (congrArg _ ey).trans ((tkb_3 (k0_pay54 (k0_pay53 (View.ld x0 r0_12)) (View.ld x1 r0_1) (View.ld x2 r0_2)) (fun a => InSpec.proj (X (row 3 a)) G W) (hv_3 x0 x1 x2 X G W hx hg hw) (y 1) (y 2)).trans ?_)
    exact congrArg (fun i => InSpec.kb (InSpec.proj (X i) G W) (y 2)) e
  · have h : (y 1).val < 256 := (y 1).isLt
    have e : row 2 (y 1) = ⟨512 + (256 * 0 + (y 1).val), by omega⟩ := Fin.ext (by show 256 * 2 + (y 1).val = 512 + (256 * 0 + (y 1).val); omega)
    have ey : y = ix3 0 (y 1) (y 2) := funext fun a => match a with
      | 0 => Fin.ext (by have h : (y 0).val < 1 := (y 0).isLt; show (y 0).val = 0; omega)
      | 1 => rfl
      | 2 => rfl
    rw [embt_0 y]
    refine (congrArg _ ey).trans ((tkb_2 (k0_pay32 (View.ld x0 r0_8) (View.ld x1 r0_1) (View.ld x2 r0_2)) (fun a => InSpec.proj (X (row 2 a)) G W) (hv_2 x0 x1 x2 X G W hx hg hw) (y 1) (y 2)).trans ?_)
    exact congrArg (fun i => InSpec.kb (InSpec.proj (X i) G W) (y 2)) e

theorem out_16 (r j : Fin 512) : out0_16 x0 x1 x2 x3 x4 (ix3 0 r j) = InSpec.vb (InSpec.proj (X ⟨512 + r.val, by omega⟩) G W) j := by
  refine View.canon_apply_of_pieces (fun y => InSpec.vb (InSpec.proj (X ⟨512 + (y 1).val, by have h : (y 1).val < 512 := (y 1).isLt; omega⟩) G W) (y 2)) _ (fun q hq y => ?_)
    (ix3 0 r j) (cover0_16 (F := Ideal) _ _ _)
  simp only [List.mem_cons, List.not_mem_nil, or_false] at hq
  rcases hq with rfl | rfl
  · have h : (y 1).val < 256 := (y 1).isLt
    have e : row 3 (y 1) = ⟨512 + (256 * 1 + (y 1).val), by omega⟩ := Fin.ext (by show 256 * 3 + (y 1).val = 512 + (256 * 1 + (y 1).val); omega)
    have ey : y = ix3 0 (y 1) (y 2) := funext fun a => match a with
      | 0 => Fin.ext (by have h : (y 0).val < 1 := (y 0).isLt; show (y 0).val = 0; omega)
      | 1 => rfl
      | 2 => rfl
    rw [embt_1 y]
    refine (congrArg _ ey).trans ((tvb_3 (k0_pay54 (k0_pay53 (View.ld x0 r0_12)) (View.ld x1 r0_1) (View.ld x2 r0_2)) (fun a => InSpec.proj (X (row 3 a)) G W) (hv_3 x0 x1 x2 X G W hx hg hw) (y 1) (y 2)).trans ?_)
    exact congrArg (fun i => InSpec.vb (InSpec.proj (X i) G W) (y 2)) e
  · have h : (y 1).val < 256 := (y 1).isLt
    have e : row 2 (y 1) = ⟨512 + (256 * 0 + (y 1).val), by omega⟩ := Fin.ext (by show 256 * 2 + (y 1).val = 512 + (256 * 0 + (y 1).val); omega)
    have ey : y = ix3 0 (y 1) (y 2) := funext fun a => match a with
      | 0 => Fin.ext (by have h : (y 0).val < 1 := (y 0).isLt; show (y 0).val = 0; omega)
      | 1 => rfl
      | 2 => rfl
    rw [embt_0 y]
    refine (congrArg _ ey).trans ((tvb_2 (k0_pay32 (View.ld x0 r0_8) (View.ld x1 r0_1) (View.ld x2 r0_2)) (fun a => InSpec.proj (X (row 2 a)) G W) (hv_2 x0 x1 x2 X G W hx hg hw) (y 1) (y 2)).trans ?_)
    exact congrArg (fun i => InSpec.vb (InSpec.proj (X i) G W) (y 2)) e

end

end Cert.InPIdeal.Block

end
-- ==== Proof.InPArray.lean ====
/-
  The prompt input projection's twelve result arrays, read at an index from the argument arrays.
-/
module

public import proofs.«01_k».proof.Proof.InPBody
public import Idealize.ShloMosaic.Lib.StableHlo.ReadAt

@[expose] public section

set_option maxRecDepth 16384

noncomputable section

namespace Cert.InPIdeal.Block

open Cert.InPIdeal Cert.InPIdeal.Gen Idealize.ShloMosaic Idealize.ShloMosaic.TcCoe Idealize.SL.Sem

variable (m : (ℓ : Loc nD τ sig) → Buf (Elt Ideal) ℓ) (c : Dev nD)

/-! ## The host's operands -/

theorem V_v25 (r : Fin 65536) (n : Fin 1024) :
    V m c main_v25 (ix2 r n) = m ((c : Thread nD τ).loc main_arg0) (ix3 ⟨r.val / 4096, by omega⟩ ⟨r.val % 4096, by omega⟩ n) := by
  unfold V
  after_reads_at
  blk_ext

theorem V_v33 (n : Fin 1024) : V m c main_v33 (ix2 0 n) = m ((c : Thread nD τ).loc main_arg1) (ix1 n) := by
  unfold V
  after_reads_at
  blk_ext

theorem V_v32 (k : Fin 1024) (j : Fin 4352) :
    V m c main_v32 (ix2 k j) = m ((c : Thread nD τ).loc main_arg2) (ix2 k (InSpec.col j)) := by
  unfold V
  after_reads_at
  split
  · after_reads_at
    refine congrArg (fun l => m ((c : Thread nD τ).loc main_arg2) (ix2 k l)) (Fin.ext ?_)
    simp only [InSpec.col]
    rw [if_pos (by assumption)]
    omega
  · after_reads_at
    refine congrArg (fun l => m ((c : Thread nD τ).loc main_arg2) (ix2 k l)) (Fin.ext ?_)
    simp only [InSpec.col]
    rw [if_neg (by omega)]
    omega

theorem V_v19 (r : Fin 4096) (l : Fin 128) : V m c main_v19 (ix2 r l) = InSpec.cosT (BitVec.ofNat 32 r.val) l.val := by
  unfold V
  after_reads_at
  split
  · after_reads_at
    refine congrArg (fun l => Ideal.cos (InSpec.angle (BitVec.ofNat 32 r.val) l)) ?_
    omega
  · after_reads_at
    refine congrArg (fun l => Ideal.cos (InSpec.angle (BitVec.ofNat 32 r.val) l)) ?_
    omega

theorem V_v24 (r : Fin 4096) (l : Fin 128) : V m c main_v24 (ix2 r l) = InSpec.sinT (BitVec.ofNat 32 r.val) l.val := by
  unfold V
  after_reads_at
  unfold InSpec.sinT
  split
  · after_reads_at
    refine congrArg (fun l => -Ideal.sin (InSpec.angle (BitVec.ofNat 32 r.val) l)) ?_
    omega
  · after_reads_at
    refine congrArg (fun l => Ideal.sin (InSpec.angle (BitVec.ofNat 32 r.val) l)) ?_
    omega

/-! ## The windows' blocks -/

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![0, 0] := by decide +kernel
theorem idx_3 : ∀ t : Fin cfg0.N, win0_3.index t = ![t.val % 4, 0] := by decide +kernel
theorem idx_4 : ∀ t : Fin cfg0.N, win0_4.index t = ![t.val % 4, 0] := by decide +kernel
theorem idx_5 : ∀ t : Fin cfg0.N, win0_5.index t = ![t.val, 0] := by decide +kernel
theorem idx_6 : ∀ t : Fin cfg0.N, win0_6.index t = ![t.val, 0] := by decide +kernel
theorem idx_7 : ∀ t : Fin cfg0.N, win0_7.index t = ![t.val, 0] := by decide +kernel
theorem idx_8 : ∀ t : Fin cfg0.N, win0_8.index t = ![t.val, 0] := by decide +kernel
theorem idx_9 : ∀ t : Fin cfg0.N, win0_9.index t = ![t.val, 0] := by decide +kernel
theorem idx_10 : ∀ t : Fin cfg0.N, win0_10.index t = ![t.val, 0] := by decide +kernel
theorem idx_11 : ∀ t : Fin cfg0.N, win0_11.index t = ![t.val, 0] := by decide +kernel
theorem idx_12 : ∀ t : Fin cfg0.N, win0_12.index t = ![t.val, 0] := by decide +kernel
theorem idx_13 : ∀ t : Fin cfg0.N, win0_13.index t = ![t.val / 4, 0, 0] := by decide +kernel
theorem idx_14 : ∀ t : Fin cfg0.N, win0_14.index t = ![t.val / 4, 0, 0] := by decide +kernel
theorem idx_15 : ∀ t : Fin cfg0.N, win0_15.index t = ![t.val / 4, 0, 0] := by decide +kernel
theorem idx_16 : ∀ t : Fin cfg0.N, win0_16.index t = ![t.val / 4, 0, 0] := by decide +kernel

/-- Row `r` of block `t`. -/
abbrev brow (t : Fin cfg0.N) (r : Fin 1024) : Fin 65536 :=
  ⟨1024 * t.val + r.val, by have h : t.val < 64 := t.isLt; omega⟩

/-- Row `q` of sequence `b`'s rows from `o` on. -/
abbrev trow (o : Nat) (b q : Nat) (hb : b < 16) (hq : o + q < 4096) : Fin 65536 := ⟨4096 * b + (o + q), by omega⟩

variable (t : Fin cfg0.N)

theorem pos_eq (r : Fin 1024) : InSpec.promptPos (brow t r) = BitVec.ofNat 32 (1024 * (t.val % 4) + r.val) := by
  refine congrArg (BitVec.ofNat 32) ?_
  show (1024 * t.val + r.val) % 4096 = _
  omega

theorem iblk_0 (r : Fin 1024) (n : Fin 1024) :
    iblk m c 0 t (ix2 r n) = m ((c : Thread nD τ).loc main_arg0) (ix3 ⟨(brow t r).val / 4096, by omega⟩ ⟨(brow t r).val % 4096, by omega⟩ n) := by
  rw [← V_v25 m c (brow t r) n]
  blk_ext [iblk, idx_0 t]

theorem iblk_1 (n : Fin 1024) : iblk m c 1 t (ix2 0 n) = m ((c : Thread nD τ).loc main_arg1) (ix1 n) := by
  rw [← V_v33 m c n]
  blk_ext [iblk, idx_1 t]

theorem iblk_2 (k : Fin 1024) (j : Fin 4352) :
    iblk m c 2 t (ix2 k j) = m ((c : Thread nD τ).loc main_arg2) (ix2 k (InSpec.col j)) := by
  rw [← V_v32 m c k j]
  blk_ext [iblk, idx_2 t]

theorem iblk_3 (r : Fin 1024) (l : Fin 128) : iblk m c 3 t (ix2 r l) = InSpec.cosT (InSpec.promptPos (brow t r)) l.val := by
  rw [pos_eq t r, ← V_v19 m c ⟨1024 * (t.val % 4) + r.val, by omega⟩ l]
  blk_ext [iblk, idx_3 t]

theorem iblk_4 (r : Fin 1024) (l : Fin 128) : iblk m c 4 t (ix2 r l) = InSpec.sinT (InSpec.promptPos (brow t r)) l.val := by
  rw [pos_eq t r, ← V_v24 m c ⟨1024 * (t.val % 4) + r.val, by omega⟩ l]
  blk_ext [iblk, idx_4 t]

/-- The batch's rows, projected. -/
def P (r : Fin 65536) : Fin 4352 → EReal :=
  InSpec.promptP (m ((c : Thread nD τ).loc main_arg0)) (m ((c : Thread nD τ).loc main_arg1)) (m ((c : Thread nD τ).loc main_arg2)) r

/-! ## The results -/

def res5 : (⟨2, ![65536, 512]⟩ : Shape).Idx → EReal := fun i => InSpec.qa (P m c (i 0)) (InSpec.promptPos (i 0)) (i 1)

theorem after_5 (r : Fin 1024) (n : Fin 512) :
    out0_5 (iblk m c 0 t) (iblk m c 1 t) (iblk m c 2 t) (iblk m c 3 t) (iblk m c 4 t) (ix2 r n) = InSpec.qa (P m c (brow t r)) (InSpec.promptPos (brow t r)) n :=
  out_5 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (fun r => InSpec.promptPos (brow t r)) (iblk_0 m c t) (iblk_1 m c t) (iblk_2 m c t) (iblk_3 m c t) (iblk_4 m c t) r n

theorem final5 : (dats m 0 c).arrAt 5 cfg0.N = res5 m c := by
  refine (dats m 0 c).arrAt_eq_of_covers 5 _ (by decide +kernel) fun t hf y => ?_
  blk_simp
  rw [after0_5]
  obtain ⟨r, n, rfl⟩ : ∃ (r : Fin 1024) (n : Fin 512), y = ix2 r n := ⟨y 0, y 1, eq_ix2 y⟩
  have he : (win0_5.blk t).view.emb (ix2 r n) = ix2 (brow t r) n := by
    blk_ext [idx_5 t]
  refine Eq.trans ?_ (congrArg (res5 m c) he).symm
  exact after_5 m c t r n

def res6 : (⟨2, ![65536, 128]⟩ : Shape).Idx → EReal := fun i => InSpec.ka (P m c (i 0)) (InSpec.promptPos (i 0)) (i 1)

theorem after_6 (r : Fin 1024) (n : Fin 128) :
    out0_6 (iblk m c 0 t) (iblk m c 1 t) (iblk m c 2 t) (iblk m c 3 t) (iblk m c 4 t) (ix2 r n) = InSpec.ka (P m c (brow t r)) (InSpec.promptPos (brow t r)) n :=
  out_6 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (fun r => InSpec.promptPos (brow t r)) (iblk_0 m c t) (iblk_1 m c t) (iblk_2 m c t) (iblk_3 m c t) (iblk_4 m c t) r n

theorem final6 : (dats m 0 c).arrAt 6 cfg0.N = res6 m c := by
  refine (dats m 0 c).arrAt_eq_of_covers 6 _ (by decide +kernel) fun t hf y => ?_
  blk_simp
  rw [after0_6]
  obtain ⟨r, n, rfl⟩ : ∃ (r : Fin 1024) (n : Fin 128), y = ix2 r n := ⟨y 0, y 1, eq_ix2 y⟩
  have he : (win0_6.blk t).view.emb (ix2 r n) = ix2 (brow t r) n := by
    blk_ext [idx_6 t]
  refine Eq.trans ?_ (congrArg (res6 m c) he).symm
  exact after_6 m c t r n

def res7 : (⟨2, ![65536, 128]⟩ : Shape).Idx → EReal := fun i => InSpec.va (P m c (i 0)) (i 1)

theorem after_7 (r : Fin 1024) (n : Fin 128) :
    out0_7 (iblk m c 0 t) (iblk m c 1 t) (iblk m c 2 t) (iblk m c 3 t) (iblk m c 4 t) (ix2 r n) = InSpec.va (P m c (brow t r)) n :=
  out_7 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (iblk_0 m c t) (iblk_1 m c t) (iblk_2 m c t) r n

theorem final7 : (dats m 0 c).arrAt 7 cfg0.N = res7 m c := by
  refine (dats m 0 c).arrAt_eq_of_covers 7 _ (by decide +kernel) fun t hf y => ?_
  blk_simp
  rw [after0_7]
  obtain ⟨r, n, rfl⟩ : ∃ (r : Fin 1024) (n : Fin 128), y = ix2 r n := ⟨y 0, y 1, eq_ix2 y⟩
  have he : (win0_7.blk t).view.emb (ix2 r n) = ix2 (brow t r) n := by
    blk_ext [idx_7 t]
  refine Eq.trans ?_ (congrArg (res7 m c) he).symm
  exact after_7 m c t r n

def res8 : (⟨2, ![65536, 512]⟩ : Shape).Idx → EReal := fun i => InSpec.qb (P m c (i 0)) (i 1)

theorem after_8 (r : Fin 1024) (n : Fin 512) :
    out0_8 (iblk m c 0 t) (iblk m c 1 t) (iblk m c 2 t) (iblk m c 3 t) (iblk m c 4 t) (ix2 r n) = InSpec.qb (P m c (brow t r)) n :=
  out_8 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (iblk_0 m c t) (iblk_1 m c t) (iblk_2 m c t) r n

theorem final8 : (dats m 0 c).arrAt 8 cfg0.N = res8 m c := by
  refine (dats m 0 c).arrAt_eq_of_covers 8 _ (by decide +kernel) fun t hf y => ?_
  blk_simp
  rw [after0_8]
  obtain ⟨r, n, rfl⟩ : ∃ (r : Fin 1024) (n : Fin 512), y = ix2 r n := ⟨y 0, y 1, eq_ix2 y⟩
  have he : (win0_8.blk t).view.emb (ix2 r n) = ix2 (brow t r) n := by
    blk_ext [idx_8 t]
  refine Eq.trans ?_ (congrArg (res8 m c) he).symm
  exact after_8 m c t r n

def res9 : (⟨2, ![65536, 512]⟩ : Shape).Idx → EReal := fun i => InSpec.kb (P m c (i 0)) (i 1)

theorem after_9 (r : Fin 1024) (n : Fin 512) :
    out0_9 (iblk m c 0 t) (iblk m c 1 t) (iblk m c 2 t) (iblk m c 3 t) (iblk m c 4 t) (ix2 r n) = InSpec.kb (P m c (brow t r)) n :=
  out_9 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (iblk_0 m c t) (iblk_1 m c t) (iblk_2 m c t) r n

theorem final9 : (dats m 0 c).arrAt 9 cfg0.N = res9 m c := by
  refine (dats m 0 c).arrAt_eq_of_covers 9 _ (by decide +kernel) fun t hf y => ?_
  blk_simp
  rw [after0_9]
  obtain ⟨r, n, rfl⟩ : ∃ (r : Fin 1024) (n : Fin 512), y = ix2 r n := ⟨y 0, y 1, eq_ix2 y⟩
  have he : (win0_9.blk t).view.emb (ix2 r n) = ix2 (brow t r) n := by
    blk_ext [idx_9 t]
  refine Eq.trans ?_ (congrArg (res9 m c) he).symm
  exact after_9 m c t r n

def res10 : (⟨2, ![65536, 512]⟩ : Shape).Idx → EReal := fun i => InSpec.vb (P m c (i 0)) (i 1)

theorem after_10 (r : Fin 1024) (n : Fin 512) :
    out0_10 (iblk m c 0 t) (iblk m c 1 t) (iblk m c 2 t) (iblk m c 3 t) (iblk m c 4 t) (ix2 r n) = InSpec.vb (P m c (brow t r)) n :=
  out_10 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (iblk_0 m c t) (iblk_1 m c t) (iblk_2 m c t) r n

theorem final10 : (dats m 0 c).arrAt 10 cfg0.N = res10 m c := by
  refine (dats m 0 c).arrAt_eq_of_covers 10 _ (by decide +kernel) fun t hf y => ?_
  blk_simp
  rw [after0_10]
  obtain ⟨r, n, rfl⟩ : ∃ (r : Fin 1024) (n : Fin 512), y = ix2 r n := ⟨y 0, y 1, eq_ix2 y⟩
  have he : (win0_10.blk t).view.emb (ix2 r n) = ix2 (brow t r) n := by
    blk_ext [idx_10 t]
  refine Eq.trans ?_ (congrArg (res10 m c) he).symm
  exact after_10 m c t r n

def res11 : (⟨2, ![65536, 1024]⟩ : Shape).Idx → EReal := fun i => InSpec.sga (P m c (i 0)) (i 1)

theorem after_11 (r : Fin 1024) (n : Fin 1024) :
    out0_11 (iblk m c 0 t) (iblk m c 1 t) (iblk m c 2 t) (iblk m c 3 t) (iblk m c 4 t) (ix2 r n) = InSpec.sga (P m c (brow t r)) n :=
  out_11 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (iblk_0 m c t) (iblk_1 m c t) (iblk_2 m c t) r n

theorem final11 : (dats m 0 c).arrAt 11 cfg0.N = res11 m c := by
  refine (dats m 0 c).arrAt_eq_of_covers 11 _ (by decide +kernel) fun t hf y => ?_
  blk_simp
  rw [after0_11]
  obtain ⟨r, n, rfl⟩ : ∃ (r : Fin 1024) (n : Fin 1024), y = ix2 r n := ⟨y 0, y 1, eq_ix2 y⟩
  have he : (win0_11.blk t).view.emb (ix2 r n) = ix2 (brow t r) n := by
    blk_ext [idx_11 t]
  refine Eq.trans ?_ (congrArg (res11 m c) he).symm
  exact after_11 m c t r n

def res12 : (⟨2, ![65536, 1024]⟩ : Shape).Idx → EReal := fun i => InSpec.sgb (P m c (i 0)) (i 1)

theorem after_12 (r : Fin 1024) (n : Fin 1024) :
    out0_12 (iblk m c 0 t) (iblk m c 1 t) (iblk m c 2 t) (iblk m c 3 t) (iblk m c 4 t) (ix2 r n) = InSpec.sgb (P m c (brow t r)) n :=
  out_12 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (iblk_0 m c t) (iblk_1 m c t) (iblk_2 m c t) r n

theorem final12 : (dats m 0 c).arrAt 12 cfg0.N = res12 m c := by
  refine (dats m 0 c).arrAt_eq_of_covers 12 _ (by decide +kernel) fun t hf y => ?_
  blk_simp
  rw [after0_12]
  obtain ⟨r, n, rfl⟩ : ∃ (r : Fin 1024) (n : Fin 1024), y = ix2 r n := ⟨y 0, y 1, eq_ix2 y⟩
  have he : (win0_12.blk t).view.emb (ix2 r n) = ix2 (brow t r) n := by
    blk_ext [idx_12 t]
  refine Eq.trans ?_ (congrArg (res12 m c) he).symm
  exact after_12 m c t r n

def res13 : (⟨3, ![16, 128, 128]⟩ : Shape).Idx → EReal := fun i =>
  InSpec.ka (P m c (trow 3968 (i 0).val (i 1).val (show (i 0).val < 16 from (i 0).isLt) (by have h : (i 1).val < 128 := (i 1).isLt; omega))) (InSpec.promptPos (trow 3968 (i 0).val (i 1).val (show (i 0).val < 16 from (i 0).isLt) (by have h : (i 1).val < 128 := (i 1).isLt; omega))) (i 2)

theorem after_13 (r n : Fin 128) :
    out0_13 (iblk m c 0 t) (iblk m c 1 t) (iblk m c 2 t) (iblk m c 3 t) (iblk m c 4 t) (ix3 0 r n) = InSpec.ka (P m c (brow t ⟨896 + r.val, by omega⟩)) (InSpec.promptPos (brow t ⟨896 + r.val, by omega⟩)) n :=
  out_13 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (fun r => InSpec.promptPos (brow t r)) (iblk_0 m c t) (iblk_1 m c t) (iblk_2 m c t) (iblk_3 m c t) (iblk_4 m c t) r n

theorem final13 : (dats m 0 c).arrAt 13 cfg0.N = res13 m c := by
  refine (dats m 0 c).arrAt_eq_of_covers 13 _ (by decide +kernel) fun t hf y => ?_
  blk_simp
  rw [after0_13]
  have ht : t.val % 4 = 3 := (flush0_13 t).1 hf
  have hl : t.val < 64 := t.isLt
  obtain ⟨o, r, n, rfl⟩ : ∃ (o : Fin 1) (r n : Fin 128), y = ix3 o r n := ⟨y 0, y 1, y 2, eq_ix3 y⟩
  obtain rfl : o = 0 := Subsingleton.elim _ _
  have he : (win0_13.blk t).view.emb (ix3 0 r n) = ix3 ⟨t.val / 4, by omega⟩ r n := by
    blk_ext [idx_13 t]
  refine Eq.trans ?_ (congrArg (res13 m c) he).symm
  refine (after_13 m c t r n).trans ?_
  refine congrArg (fun i => InSpec.ka (P m c i) (InSpec.promptPos i) n) (Fin.ext ?_)
  show 1024 * t.val + (896 + r.val) = 4096 * (t.val / 4) + (3968 + r.val)
  omega

def res14 : (⟨3, ![16, 128, 128]⟩ : Shape).Idx → EReal := fun i =>
  InSpec.va (P m c (trow 3968 (i 0).val (i 1).val (show (i 0).val < 16 from (i 0).isLt) (by have h : (i 1).val < 128 := (i 1).isLt; omega))) (i 2)

theorem after_14 (r n : Fin 128) :
    out0_14 (iblk m c 0 t) (iblk m c 1 t) (iblk m c 2 t) (iblk m c 3 t) (iblk m c 4 t) (ix3 0 r n) = InSpec.va (P m c (brow t ⟨896 + r.val, by omega⟩)) n :=
  out_14 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (iblk_0 m c t) (iblk_1 m c t) (iblk_2 m c t) r n

theorem final14 : (dats m 0 c).arrAt 14 cfg0.N = res14 m c := by
  refine (dats m 0 c).arrAt_eq_of_covers 14 _ (by decide +kernel) fun t hf y => ?_
  blk_simp
  rw [after0_14]
  have ht : t.val % 4 = 3 := (flush0_14 t).1 hf
  have hl : t.val < 64 := t.isLt
  obtain ⟨o, r, n, rfl⟩ : ∃ (o : Fin 1) (r n : Fin 128), y = ix3 o r n := ⟨y 0, y 1, y 2, eq_ix3 y⟩
  obtain rfl : o = 0 := Subsingleton.elim _ _
  have he : (win0_14.blk t).view.emb (ix3 0 r n) = ix3 ⟨t.val / 4, by omega⟩ r n := by
    blk_ext [idx_14 t]
  refine Eq.trans ?_ (congrArg (res14 m c) he).symm
  refine (after_14 m c t r n).trans ?_
  refine congrArg (fun i => InSpec.va (P m c i) n) (Fin.ext ?_)
  show 1024 * t.val + (896 + r.val) = 4096 * (t.val / 4) + (3968 + r.val)
  omega

def res15 : (⟨3, ![16, 512, 512]⟩ : Shape).Idx → EReal := fun i =>
  InSpec.kb (P m c (trow 3584 (i 0).val (i 1).val (show (i 0).val < 16 from (i 0).isLt) (by have h : (i 1).val < 512 := (i 1).isLt; omega))) (i 2)

theorem after_15 (r n : Fin 512) :
    out0_15 (iblk m c 0 t) (iblk m c 1 t) (iblk m c 2 t) (iblk m c 3 t) (iblk m c 4 t) (ix3 0 r n) = InSpec.kb (P m c (brow t ⟨512 + r.val, by omega⟩)) n :=
  out_15 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (iblk_0 m c t) (iblk_1 m c t) (iblk_2 m c t) r n

theorem final15 : (dats m 0 c).arrAt 15 cfg0.N = res15 m c := by
  refine (dats m 0 c).arrAt_eq_of_covers 15 _ (by decide +kernel) fun t hf y => ?_
  blk_simp
  rw [after0_15]
  have ht : t.val % 4 = 3 := (flush0_15 t).1 hf
  have hl : t.val < 64 := t.isLt
  obtain ⟨o, r, n, rfl⟩ : ∃ (o : Fin 1) (r n : Fin 512), y = ix3 o r n := ⟨y 0, y 1, y 2, eq_ix3 y⟩
  obtain rfl : o = 0 := Subsingleton.elim _ _
  have he : (win0_15.blk t).view.emb (ix3 0 r n) = ix3 ⟨t.val / 4, by omega⟩ r n := by
    blk_ext [idx_15 t]
  refine Eq.trans ?_ (congrArg (res15 m c) he).symm
  refine (after_15 m c t r n).trans ?_
  refine congrArg (fun i => InSpec.kb (P m c i) n) (Fin.ext ?_)
  show 1024 * t.val + (512 + r.val) = 4096 * (t.val / 4) + (3584 + r.val)
  omega

def res16 : (⟨3, ![16, 512, 512]⟩ : Shape).Idx → EReal := fun i =>
  InSpec.vb (P m c (trow 3584 (i 0).val (i 1).val (show (i 0).val < 16 from (i 0).isLt) (by have h : (i 1).val < 512 := (i 1).isLt; omega))) (i 2)

theorem after_16 (r n : Fin 512) :
    out0_16 (iblk m c 0 t) (iblk m c 1 t) (iblk m c 2 t) (iblk m c 3 t) (iblk m c 4 t) (ix3 0 r n) = InSpec.vb (P m c (brow t ⟨512 + r.val, by omega⟩)) n :=
  out_16 _ _ _ _ _ (fun r n => m ((c : Thread nD τ).loc main_arg0) (ix3 ⟨(brow t r).val / 4096, by omega⟩ ⟨(brow t r).val % 4096, by omega⟩ n))
    (fun n => m ((c : Thread nD τ).loc main_arg1) (ix1 n)) (fun k j => m ((c : Thread nD τ).loc main_arg2) (ix2 k j))
    (iblk_0 m c t) (iblk_1 m c t) (iblk_2 m c t) r n

theorem final16 : (dats m 0 c).arrAt 16 cfg0.N = res16 m c := by
  refine (dats m 0 c).arrAt_eq_of_covers 16 _ (by decide +kernel) fun t hf y => ?_
  blk_simp
  rw [after0_16]
  have ht : t.val % 4 = 3 := (flush0_16 t).1 hf
  have hl : t.val < 64 := t.isLt
  obtain ⟨o, r, n, rfl⟩ : ∃ (o : Fin 1) (r n : Fin 512), y = ix3 o r n := ⟨y 0, y 1, y 2, eq_ix3 y⟩
  obtain rfl : o = 0 := Subsingleton.elim _ _
  have he : (win0_16.blk t).view.emb (ix3 0 r n) = ix3 ⟨t.val / 4, by omega⟩ r n := by
    blk_ext [idx_16 t]
  refine Eq.trans ?_ (congrArg (res16 m c) he).symm
  refine (after_16 m c t r n).trans ?_
  refine congrArg (fun i => InSpec.vb (P m c i) n) (Fin.ext ?_)
  show 1024 * t.val + (512 + r.val) = 4096 * (t.val / 4) + (3584 + r.val)
  omega

end Cert.InPIdeal.Block

end
-- ==== Proof.InPRefRead.lean ====
/-
  The prompt input projection reference's twelve results, read at an index, in `Cert.InSpec`'s words.
-/
module

public import proofs.«01_k».proof.Proof.Gen.InPRefIdeal.Read
public import proofs.«01_k».proof.Proof.InSpec

@[expose] public section

set_option maxRecDepth 16384

noncomputable section

namespace Cert.InPRefIdeal.Stage

open Cert.InPRefIdeal Cert.InPRefIdeal.Read Idealize.ShloMosaic Idealize.ShloMosaic.TcCoe

variable (x0 : (⟨3, ![16, 4096, 1024]⟩ : Shape).Idx → EReal) (x1 : (⟨1, ![1024]⟩ : Shape).Idx → EReal)
  (x2 : (⟨2, ![1024, 4352]⟩ : Shape).Idx → EReal)

/-- Row `s` of sequence `b`. -/
abbrev rr (b : Fin 16) (s : Fin 4096) : Fin 65536 := ⟨4096 * b.val + s.val, by omega⟩

/-- A row of the batch is the row of its sequence. -/
theorem rr_div (r : Fin 65536) : rr ⟨r.val / 4096, by omega⟩ ⟨r.val % 4096, by omega⟩ = r := Fin.ext (by simp only; omega)

variable (b : Fin 16) (s : Fin 4096)

theorem row_x (n : Fin 1024) : x0 (ix3 ⟨(rr b s).val / 4096, by omega⟩ ⟨(rr b s).val % 4096, by omega⟩ n) = x0 (ix3 b s n) := by
  refine congrArg x0 ?_
  congr 1 <;> exact Fin.ext (by simp only; omega)

theorem proj_apply (j : Fin 4352) : val_main_v13 (F := Ideal) x0 x1 x2 (ix3 b s j) = InSpec.promptP x0 x1 x2 (rr b s) j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold InSpec.promptP InSpec.proj PostSpec.rms
  simp only [row_x]

theorem pos_eq : IntOp.addi 0#32 (BitVec.ofNat 32 s.val) = InSpec.promptPos (rr b s) := by
  have e : (rr b s).val % 4096 = s.val := by simp only; omega
  unfold InSpec.promptPos
  rw [e]
  exact BitVec.zero_add _

theorem cos_q (i : Fin 32) : val_main_v39 (F := Ideal) (ix2 s i) = Ideal.cos (InSpec.angle (InSpec.promptPos (rr b s)) i.val) := by
  pointwise [val_main_v39, val_main_v38, val_main_v37, val_main_v36, val_main_v35, val_main_v34, val_main_v33, val_main_v32, val_main_v31, val_main_v30, val_main_v29, val_main_v28, val_main_v27, val_main_v26, val_main_v24, val_main_v23, val_main_v22, val_main_c, val_main_cst_2, val_main_cst_3, val_main_cst_4]
  rw [pos_eq b s]
  rfl

theorem sin_q (i : Fin 32) : val_main_v41 (F := Ideal) (ix2 s i) = Ideal.sin (InSpec.angle (InSpec.promptPos (rr b s)) i.val) := by
  pointwise [val_main_v41, val_main_v38, val_main_v37, val_main_v36, val_main_v35, val_main_v34, val_main_v33, val_main_v32, val_main_v31, val_main_v30, val_main_v29, val_main_v28, val_main_v27, val_main_v26, val_main_v24, val_main_v23, val_main_v22, val_main_c, val_main_cst_2, val_main_cst_3, val_main_cst_4]
  rw [pos_eq b s]
  rfl

theorem turn_q (h : Fin 8) (d : Fin 64) : val_main_v59 (F := Ideal) x0 x1 x2 (ix4 b s h d)
    = InSpec.turn (InSpec.promptP x0 x1 x2 (rr b s)) (InSpec.promptPos (rr b s)) ⟨64 * h.val + d.val, by omega⟩ := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v40, val_main_v25, val_main_v14]
  split
  · simp only [proj_apply, cos_q b s, sin_q b s]
    exact InSpec.turn_lo _ _ _ _ _ _ (by omega) (by simp only; omega) (by simp only; omega) (by simp only; omega)
  · simp only [proj_apply, cos_q b s, sin_q b s]
    exact InSpec.turn_hi _ _ _ _ _ _ (by omega) (by simp only; omega) (by simp only; omega) (by simp only; omega)

theorem cos_k (i : Fin 32) : val_main_v74 (F := Ideal) (ix2 s i) = Ideal.cos (InSpec.angle (InSpec.promptPos (rr b s)) i.val) := by
  pointwise [val_main_v74, val_main_v73, val_main_v72, val_main_v71, val_main_v70, val_main_v69, val_main_v68, val_main_v67, val_main_v66, val_main_v65, val_main_v64, val_main_v63, val_main_v62, val_main_v61, val_main_v24, val_main_v23, val_main_v22, val_main_c, val_main_cst_5, val_main_cst_6, val_main_cst_7]
  rw [pos_eq b s]
  rfl

theorem sin_k (i : Fin 32) : val_main_v76 (F := Ideal) (ix2 s i) = Ideal.sin (InSpec.angle (InSpec.promptPos (rr b s)) i.val) := by
  pointwise [val_main_v76, val_main_v73, val_main_v72, val_main_v71, val_main_v70, val_main_v69, val_main_v68, val_main_v67, val_main_v66, val_main_v65, val_main_v64, val_main_v63, val_main_v62, val_main_v61, val_main_v24, val_main_v23, val_main_v22, val_main_c, val_main_cst_5, val_main_cst_6, val_main_cst_7]
  rw [pos_eq b s]
  rfl

theorem turn_k (h : Fin 2) (d : Fin 64) : val_main_v94 (F := Ideal) x0 x1 x2 (ix4 b s h d)
    = InSpec.turn (InSpec.promptP x0 x1 x2 (rr b s)) (InSpec.promptPos (rr b s)) ⟨512 + (64 * h.val + d.val), by omega⟩ := by
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v75, val_main_v60, val_main_v15]
  split
  · simp only [proj_apply, cos_k b s, sin_k b s]
    exact InSpec.turn_lo _ _ _ _ _ _ (by omega) (by simp only; omega) (by simp only; omega) (by simp only; omega)
  · simp only [proj_apply, cos_k b s, sin_k b s]
    exact InSpec.turn_hi _ _ _ _ _ _ (by omega) (by simp only; omega) (by simp only; omega) (by simp only; omega)

theorem qa_head (h : Fin 8) (d : Fin 64) : val_main_v100 (F := Ideal) x0 x1 x2 (ix4 b s h d)
    = InSpec.turn (InSpec.promptP x0 x1 x2 (rr b s)) (InSpec.promptPos (rr b s)) ⟨64 * h.val + d.val, by omega⟩ * InSpec.scale := by
  pointwise [val_main_v100, val_main_v99, val_main_v98, val_main_v97, val_main_v96, val_main_cst_8, val_main_cst_9]
  rw [turn_q, InSpec.scaled]

theorem ka_row (j : Fin 128) : val_main_v95 (F := Ideal) x0 x1 x2 (ix3 b s j) = InSpec.ka (InSpec.promptP x0 x1 x2 (rr b s)) (InSpec.promptPos (rr b s)) j := by
  pointwise [val_main_v95]
  refine (turn_k x0 x1 x2 b s _ _).trans ?_
  refine congrArg (InSpec.turn (InSpec.promptP x0 x1 x2 (rr b s)) (InSpec.promptPos (rr b s))) (Fin.ext ?_)
  simp only
  omega

theorem va_row (j : Fin 128) : val_main_v16 (F := Ideal) x0 x1 x2 (ix3 b s j) = InSpec.va (InSpec.promptP x0 x1 x2 (rr b s)) j := by
  pointwise [val_main_v16]
  exact proj_apply x0 x1 x2 b s _

theorem qb_row (j : Fin 512) : val_main_v113 (F := Ideal) x0 x1 x2 (ix3 b s j) = InSpec.qb (InSpec.promptP x0 x1 x2 (rr b s)) j := by
  pointwise [val_main_v113, val_main_v112, val_main_v111, val_main_v110, val_main_v109, val_main_v17, val_main_cst_10, val_main_cst_11]
  rw [proj_apply, InSpec.scaled]
  rfl

theorem kb_row (j : Fin 512) : val_main_v18 (F := Ideal) x0 x1 x2 (ix3 b s j) = InSpec.kb (InSpec.promptP x0 x1 x2 (rr b s)) j := by
  pointwise [val_main_v18]
  exact proj_apply x0 x1 x2 b s _

theorem vb_row (j : Fin 512) : val_main_v19 (F := Ideal) x0 x1 x2 (ix3 b s j) = InSpec.vb (InSpec.promptP x0 x1 x2 (rr b s)) j := by
  pointwise [val_main_v19]
  exact proj_apply x0 x1 x2 b s _

theorem sga_row (j : Fin 1024) : val_main_v125 (F := Ideal) x0 x1 x2 (ix3 b s j) = InSpec.sga (InSpec.promptP x0 x1 x2 (rr b s)) j := by
  pointwise [val_main_v125, val_main_v124, val_main_v123, val_main_v122, val_main_v121, val_main_v120, val_main_v20, val_main_cst_12, val_main_cst_13]
  rw [proj_apply]
  rfl

theorem sgb_row (j : Fin 1024) : val_main_v133 (F := Ideal) x0 x1 x2 (ix3 b s j) = InSpec.sgb (InSpec.promptP x0 x1 x2 (rr b s)) j := by
  pointwise [val_main_v133, val_main_v132, val_main_v131, val_main_v130, val_main_v129, val_main_v128, val_main_v21, val_main_cst_14, val_main_cst_15]
  rw [proj_apply]
  rfl

/-! ## The results -/

variable (r : Fin 65536)

theorem out_0 (j : Fin 512) : val_main_v104 (F := Ideal) x0 x1 x2 (ix2 r j) = InSpec.qa (InSpec.promptP x0 x1 x2 r) (InSpec.promptPos r) j := by
  pointwise [val_main_v104, val_main_v103, val_main_v102, val_main_v101]
  refine (qa_head x0 x1 x2 _ _ _ _).trans ?_
  have er : rr ⟨r.val / 4096, by omega⟩ ⟨r.val % 4096, by omega⟩ = r := rr_div r
  refine Eq.trans (congrArg (fun q => InSpec.turn (InSpec.promptP x0 x1 x2 q) (InSpec.promptPos q) _ * InSpec.scale) er) ?_
  refine congrArg (fun q => InSpec.turn (InSpec.promptP x0 x1 x2 r) (InSpec.promptPos r) q * InSpec.scale) (Fin.ext ?_)
  rw [InSpec.col_at ⟨j.val, by omega⟩ (j.val / 128) (j.val / 64 % 2) (j.val % 64) (by simp only; omega) (by omega) (by omega) (by omega)]
  simp only
  omega

theorem out_1 (j : Fin 128) : val_main_v106 (F := Ideal) x0 x1 x2 (ix2 r j) = InSpec.ka (InSpec.promptP x0 x1 x2 r) (InSpec.promptPos r) j := by
  pointwise [val_main_v106, val_main_v105]
  exact (ka_row x0 x1 x2 _ _ _).trans (congrArg (fun q => InSpec.ka (InSpec.promptP x0 x1 x2 q) (InSpec.promptPos q) j) (rr_div r))

theorem out_2 (j : Fin 128) : val_main_v108 (F := Ideal) x0 x1 x2 (ix2 r j) = InSpec.va (InSpec.promptP x0 x1 x2 r) j := by
  pointwise [val_main_v108, val_main_v107]
  exact (va_row x0 x1 x2 _ _ _).trans (congrArg (fun q => InSpec.va (InSpec.promptP x0 x1 x2 q) j) (rr_div r))

theorem out_3 (j : Fin 512) : val_main_v115 (F := Ideal) x0 x1 x2 (ix2 r j) = InSpec.qb (InSpec.promptP x0 x1 x2 r) j := by
  pointwise [val_main_v115, val_main_v114]
  exact (qb_row x0 x1 x2 _ _ _).trans (congrArg (fun q => InSpec.qb (InSpec.promptP x0 x1 x2 q) j) (rr_div r))

theorem out_4 (j : Fin 512) : val_main_v117 (F := Ideal) x0 x1 x2 (ix2 r j) = InSpec.kb (InSpec.promptP x0 x1 x2 r) j := by
  pointwise [val_main_v117, val_main_v116]
  exact (kb_row x0 x1 x2 _ _ _).trans (congrArg (fun q => InSpec.kb (InSpec.promptP x0 x1 x2 q) j) (rr_div r))

theorem out_5 (j : Fin 512) : val_main_v119 (F := Ideal) x0 x1 x2 (ix2 r j) = InSpec.vb (InSpec.promptP x0 x1 x2 r) j := by
  pointwise [val_main_v119, val_main_v118]
  exact (vb_row x0 x1 x2 _ _ _).trans (congrArg (fun q => InSpec.vb (InSpec.promptP x0 x1 x2 q) j) (rr_div r))

theorem out_6 (j : Fin 1024) : val_main_v127 (F := Ideal) x0 x1 x2 (ix2 r j) = InSpec.sga (InSpec.promptP x0 x1 x2 r) j := by
  pointwise [val_main_v127, val_main_v126]
  exact (sga_row x0 x1 x2 _ _ _).trans (congrArg (fun q => InSpec.sga (InSpec.promptP x0 x1 x2 q) j) (rr_div r))

theorem out_7 (j : Fin 1024) : val_main_v135 (F := Ideal) x0 x1 x2 (ix2 r j) = InSpec.sgb (InSpec.promptP x0 x1 x2 r) j := by
  pointwise [val_main_v135, val_main_v134]
  exact (sgb_row x0 x1 x2 _ _ _).trans (congrArg (fun q => InSpec.sgb (InSpec.promptP x0 x1 x2 q) j) (rr_div r))

theorem out_8 (q : Fin 128) (j : Fin 128) : val_main_v136 (F := Ideal) x0 x1 x2 (ix3 b q j)
    = InSpec.ka (InSpec.promptP x0 x1 x2 (rr b ⟨3968 + q.val, by omega⟩)) (InSpec.promptPos (rr b ⟨3968 + q.val, by omega⟩)) j := by
  pointwise [val_main_v136]
  exact ka_row x0 x1 x2 b _ j

theorem out_9 (q : Fin 128) (j : Fin 128) : val_main_v137 (F := Ideal) x0 x1 x2 (ix3 b q j)
    = InSpec.va (InSpec.promptP x0 x1 x2 (rr b ⟨3968 + q.val, by omega⟩)) j := by
  pointwise [val_main_v137]
  exact va_row x0 x1 x2 b _ j

theorem out_10 (q : Fin 512) (j : Fin 512) : val_main_v138 (F := Ideal) x0 x1 x2 (ix3 b q j)
    = InSpec.kb (InSpec.promptP x0 x1 x2 (rr b ⟨3584 + q.val, by omega⟩)) j := by
  pointwise [val_main_v138]
  exact kb_row x0 x1 x2 b _ j

theorem out_11 (q : Fin 512) (j : Fin 512) : val_main_v139 (F := Ideal) x0 x1 x2 (ix3 b q j)
    = InSpec.vb (InSpec.promptP x0 x1 x2 (rr b ⟨3584 + q.val, by omega⟩)) j := by
  pointwise [val_main_v139]
  exact vb_row x0 x1 x2 b _ j

end Cert.InPRefIdeal.Stage

end
-- ==== Proof.InPClaim.lean ====
/-
  The prompt input projection and its reference compute the same arrays; and the reference's frame.
-/
module

public import proofs.«01_k».proof.Defs
public import proofs.«01_k».proof.Proof.InPArray
public import proofs.«01_k».proof.Proof.InPRefRead
public import proofs.«01_k».proof.Proof.Gen.InPRefIdeal.Run

@[expose] public section

set_option maxRecDepth 16384

noncomputable section

namespace Cert.InPClaim

open Idealize.ShloMosaic Idealize.SL.Sem

theorem ref_frame : Cert.quiescent_InPRefIdeal := fun m ρ _ =>
  (θ_run InPRefIdeal.defs _ _).mono (fun r h => ⟨fun c => (h c).2.2.2.2.2.2.2.2.2.2.2.2, sem_eq_zero_of_no_sems (by decide) r.2⟩)
    (InPRefIdeal.Value.run (F := Ideal) m ρ)

theorem ref_0 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v104 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res5 m c := by
  rw [e0, e1, e2]
  funext i
  obtain ⟨r, n, rfl⟩ : ∃ (r : Fin 65536) (n : Fin 512), i = ix2 r n := ⟨i 0, i 1, eq_ix2 i⟩
  exact InPRefIdeal.Stage.out_0 _ _ _ r n

theorem ref_1 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v106 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res6 m c := by
  rw [e0, e1, e2]
  funext i
  obtain ⟨r, n, rfl⟩ : ∃ (r : Fin 65536) (n : Fin 128), i = ix2 r n := ⟨i 0, i 1, eq_ix2 i⟩
  exact InPRefIdeal.Stage.out_1 _ _ _ r n

theorem ref_2 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v108 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res7 m c := by
  rw [e0, e1, e2]
  funext i
  obtain ⟨r, n, rfl⟩ : ∃ (r : Fin 65536) (n : Fin 128), i = ix2 r n := ⟨i 0, i 1, eq_ix2 i⟩
  exact InPRefIdeal.Stage.out_2 _ _ _ r n

theorem ref_3 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v115 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res8 m c := by
  rw [e0, e1, e2]
  funext i
  obtain ⟨r, n, rfl⟩ : ∃ (r : Fin 65536) (n : Fin 512), i = ix2 r n := ⟨i 0, i 1, eq_ix2 i⟩
  exact InPRefIdeal.Stage.out_3 _ _ _ r n

theorem ref_4 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v117 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res9 m c := by
  rw [e0, e1, e2]
  funext i
  obtain ⟨r, n, rfl⟩ : ∃ (r : Fin 65536) (n : Fin 512), i = ix2 r n := ⟨i 0, i 1, eq_ix2 i⟩
  exact InPRefIdeal.Stage.out_4 _ _ _ r n

theorem ref_5 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v119 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res10 m c := by
  rw [e0, e1, e2]
  funext i
  obtain ⟨r, n, rfl⟩ : ∃ (r : Fin 65536) (n : Fin 512), i = ix2 r n := ⟨i 0, i 1, eq_ix2 i⟩
  exact InPRefIdeal.Stage.out_5 _ _ _ r n

theorem ref_6 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v127 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res11 m c := by
  rw [e0, e1, e2]
  funext i
  obtain ⟨r, n, rfl⟩ : ∃ (r : Fin 65536) (n : Fin 1024), i = ix2 r n := ⟨i 0, i 1, eq_ix2 i⟩
  exact InPRefIdeal.Stage.out_6 _ _ _ r n

theorem ref_7 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v135 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res12 m c := by
  rw [e0, e1, e2]
  funext i
  obtain ⟨r, n, rfl⟩ : ∃ (r : Fin 65536) (n : Fin 1024), i = ix2 r n := ⟨i 0, i 1, eq_ix2 i⟩
  exact InPRefIdeal.Stage.out_7 _ _ _ r n

theorem ref_8 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v136 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res13 m c := by
  rw [e0, e1, e2]
  funext i
  obtain ⟨b, q, n, rfl⟩ : ∃ (b : Fin 16) (q : Fin 128) (n : Fin 128), i = ix3 b q n := ⟨i 0, i 1, i 2, eq_ix3 i⟩
  exact InPRefIdeal.Stage.out_8 _ _ _ b q n

theorem ref_9 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v137 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res14 m c := by
  rw [e0, e1, e2]
  funext i
  obtain ⟨b, q, n, rfl⟩ : ∃ (b : Fin 16) (q : Fin 128) (n : Fin 128), i = ix3 b q n := ⟨i 0, i 1, i 2, eq_ix3 i⟩
  exact InPRefIdeal.Stage.out_9 _ _ _ b q n

theorem ref_10 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v138 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res15 m c := by
  rw [e0, e1, e2]
  funext i
  obtain ⟨b, q, n, rfl⟩ : ∃ (b : Fin 16) (q : Fin 512) (n : Fin 512), i = ix3 b q n := ⟨i 0, i 1, i 2, eq_ix3 i⟩
  exact InPRefIdeal.Stage.out_10 _ _ _ b q n

theorem ref_11 (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (e0 : m' ((c.tc : Thread InPRefIdeal.nD InPRefIdeal.τ).loc InPRefIdeal.main_arg0) = m ((c.tc : Thread InPIdeal.nD InPIdeal.τ).loc InPIdeal.main_arg0))
    (e1 : m' ((c.tc : Thread InPRefIdeal.nD InPRefIdeal.τ).loc InPRefIdeal.main_arg1) = m ((c.tc : Thread InPIdeal.nD InPIdeal.τ).loc InPIdeal.main_arg1))
    (e2 : m' ((c.tc : Thread InPRefIdeal.nD InPRefIdeal.τ).loc InPRefIdeal.main_arg2) = m ((c.tc : Thread InPIdeal.nD InPIdeal.τ).loc InPIdeal.main_arg2)) :
    InPRefIdeal.Read.val_main_v139 (F := Ideal) (m' ((c.tc : Thread InPRefIdeal.nD InPRefIdeal.τ).loc InPRefIdeal.main_arg0)) (m' ((c.tc : Thread InPRefIdeal.nD InPRefIdeal.τ).loc InPRefIdeal.main_arg1)) (m' ((c.tc : Thread InPRefIdeal.nD InPRefIdeal.τ).loc InPRefIdeal.main_arg2)) = InPIdeal.Block.res16 m c := by
  rw [e0, e1, e2]
  funext i
  obtain ⟨b, q, n, rfl⟩ : ∃ (b : Fin 16) (q : Fin 512) (n : Fin 512), i = ix3 b q n := ⟨i 0, i 1, i 2, eq_ix3 i⟩
  exact InPRefIdeal.Stage.out_11 _ _ _ b q n

theorem algebraic : Cert.algebraic_InPIdeal_InPRefIdeal := by
  intro m g m' g' _ hargs
  refine ⟨fun c => InPIdeal.Block.res5 m c, fun c => InPIdeal.Block.res6 m c, fun c => InPIdeal.Block.res7 m c, fun c => InPIdeal.Block.res8 m c, fun c => InPIdeal.Block.res9 m c, fun c => InPIdeal.Block.res10 m c, fun c => InPIdeal.Block.res11 m c, fun c => InPIdeal.Block.res12 m c, fun c => InPIdeal.Block.res13 m c, fun c => InPIdeal.Block.res14 m c, fun c => InPIdeal.Block.res15 m c, fun c => InPIdeal.Block.res16 m c, ?_, ?_⟩
  · exact (θ_run InPIdeal.defs _ _).mono (fun r h c =>
      ⟨(h c).1.trans (InPIdeal.Block.final5 m c), (h c).2.1.trans (InPIdeal.Block.final6 m c), (h c).2.2.1.trans (InPIdeal.Block.final7 m c), (h c).2.2.2.1.trans (InPIdeal.Block.final8 m c), (h c).2.2.2.2.1.trans (InPIdeal.Block.final9 m c), (h c).2.2.2.2.2.1.trans (InPIdeal.Block.final10 m c), (h c).2.2.2.2.2.2.1.trans (InPIdeal.Block.final11 m c), (h c).2.2.2.2.2.2.2.1.trans (InPIdeal.Block.final12 m c), (h c).2.2.2.2.2.2.2.2.1.trans (InPIdeal.Block.final13 m c), (h c).2.2.2.2.2.2.2.2.2.1.trans (InPIdeal.Block.final14 m c), (h c).2.2.2.2.2.2.2.2.2.2.1.trans (InPIdeal.Block.final15 m c), (h c).2.2.2.2.2.2.2.2.2.2.2.1.trans (InPIdeal.Block.final16 m c), (h c).2.2.2.2.2.2.2.2.2.2.2.2⟩)
      (InPIdeal.Value.run_blocks m g)
  · refine (θ_run InPRefIdeal.defs _ _).mono (fun r h c => ?_) (InPRefIdeal.Value.run (F := Ideal) m' g')
    obtain ⟨e0, e1, e2⟩ := hargs c
    exact ⟨((h c).1.trans (InPRefIdeal.Read.val_main_v104_eq m' c)).trans (ref_0 m m' c e0 e1 e2), ((h c).2.1.trans (InPRefIdeal.Read.val_main_v106_eq m' c)).trans (ref_1 m m' c e0 e1 e2), ((h c).2.2.1.trans (InPRefIdeal.Read.val_main_v108_eq _ _ _)).trans (ref_2 m m' c e0 e1 e2), ((h c).2.2.2.1.trans (InPRefIdeal.Read.val_main_v115_eq _ _ _)).trans (ref_3 m m' c e0 e1 e2), ((h c).2.2.2.2.1.trans (InPRefIdeal.Read.val_main_v117_eq _ _ _)).trans (ref_4 m m' c e0 e1 e2), ((h c).2.2.2.2.2.1.trans (InPRefIdeal.Read.val_main_v119_eq _ _ _)).trans (ref_5 m m' c e0 e1 e2), ((h c).2.2.2.2.2.2.1.trans (InPRefIdeal.Read.val_main_v127_eq _ _ _)).trans (ref_6 m m' c e0 e1 e2), ((h c).2.2.2.2.2.2.2.1.trans (InPRefIdeal.Read.val_main_v135_eq _ _ _)).trans (ref_7 m m' c e0 e1 e2), ((h c).2.2.2.2.2.2.2.2.1.trans (InPRefIdeal.Read.val_main_v136_eq m' c)).trans (ref_8 m m' c e0 e1 e2), ((h c).2.2.2.2.2.2.2.2.2.1.trans (InPRefIdeal.Read.val_main_v137_eq _ _ _)).trans (ref_9 m m' c e0 e1 e2), ((h c).2.2.2.2.2.2.2.2.2.2.1.trans (InPRefIdeal.Read.val_main_v138_eq _ _ _)).trans (ref_10 m m' c e0 e1 e2), ((h c).2.2.2.2.2.2.2.2.2.2.2.1.trans (InPRefIdeal.Read.val_main_v139_eq _ _ _)).trans (ref_11 m m' c e0 e1 e2), (h c).2.2.2.2.2.2.2.2.2.2.2.2⟩

end Cert.InPClaim

end
-- ==== Proof.BiasBlock.lean ====
/-
  What the bias tile's body leaves in its output block: each head's row turned by the query's number, read at an index.
-/
module

public import proofs.«01_k».proof.Proof.Gen.BiasIdeal.Value
public import Idealize.ShloMosaic.Lib.Pipeline.ValueKit
public import Idealize.ShloMosaic.Lib.StableHlo.ReadAt
public import Idealize.ShloMosaic.Lib.ValueIdxCore
public import Idealize.ShloMosaic.Lib.KernelVsHost

@[expose] public section

set_option maxRecDepth 16384

noncomputable section

namespace Cert.BiasIdeal.Block

open Cert.BiasIdeal Cert.BiasIdeal.Gen Idealize.ShloMosaic Idealize.ShloMosaic.TcCoe

/-- One step of the turn: the rows whose number has bit `b` are rotated by `k`. -/
def stepV (b k : BitVec 32) (x : FVec Ideal S64x1024 .f32) : FVec Ideal S64x1024 .f32 :=
  select (cmpi .eq (andi (shrsi (iota .tc S64x1024 32 [0] iota_S64x1024_d0_w32) (broadcast S64x1024 b)) (broadcast S64x1024 1#32)) (broadcast S64x1024 1#32))
    (dynamicRotate 1 k none x rotates_S64x1024_d1) x

/-- A head's row, once for each query. -/
def rowV (x : Vec Ideal S1x1x1024 .f32) : FVec Ideal S64x1024 .f32 :=
  broadcastTo S64x1024 (shapeCast S1x1024 (shapeCast S1x1024 x shapeCasts_S1x1x1024_S1x1024) shapeCasts_S1x1024_S1x1024) broadcasts_S1x1024_S64x1024

/-- A head's row turned. -/
def turnV (x : Vec Ideal S1x1x1024 .f32) : FVec Ideal S64x1024 .f32 :=
  stepV 5#32 32#32 (stepV 4#32 16#32 (stepV 3#32 8#32 (stepV 2#32 4#32 (stepV 1#32 2#32 (stepV 0#32 1#32 (rowV x))))))

theorem row_apply (x : Vec Ideal S1x1x1024 .f32) (r : Fin 64) (c : Fin 1024) : rowV x (ix2 r c) = x (ix3 0 0 c) := by
  pointwise [rowV]

/-- Column `c`, moved back by `s`, of 1024 columns. -/
def back (c : Fin 1024) (s : Nat) : Fin 1024 := ⟨(c.val + 1024 - s) % 1024, Nat.mod_lt _ (by decide)⟩

theorem back_back (c : Fin 1024) (s t : Nat) (h : s + t ≤ 1024) : back (back c s) t = back c (s + t) := by
  refine Fin.ext ?_
  show ((c.val + 1024 - s) % 1024 + 1024 - t) % 1024 = (c.val + 1024 - (s + t)) % 1024
  have := c.isLt
  omega

theorem back_zero (c : Fin 1024) : back c 0 = c := by
  refine Fin.ext ?_
  show (c.val + 1024 - 0) % 1024 = c.val
  have := c.isLt
  omega

/-- One step, at an index, where `n` is the step's bit as a number and `k` the amount of its rotation. -/
theorem step_apply (b kw : BitVec 32) (k n : Nat) (hk : kw.toNat % 1024 = k)
    (hb : ∀ r : Fin 64, IntOp.cmpi .eq (IntOp.andi (IntOp.shrsi .vector (BitVec.ofNat 32 r.val) b) 1#32) 1#32
      = BitVec.ofBool (decide (r.val / n % 2 = 1))) (x : FVec Ideal S64x1024 .f32) (r : Fin 64) (c : Fin 1024) :
    stepV b kw x (ix2 r c) = x (ix2 r (back c (k * (r.val / n % 2)))) := by
  show Scalar.select (cmpi .eq (andi (shrsi (iota .tc S64x1024 32 [0] iota_S64x1024_d0_w32) (broadcast S64x1024 b))
      (broadcast S64x1024 1#32)) (broadcast S64x1024 1#32) (ix2 r c)) (dynamicRotate 1 kw none x rotates_S64x1024_d1 (ix2 r c)) (x (ix2 r c)) = _
  have e : cmpi .eq (andi (shrsi (iota .tc S64x1024 32 [0] iota_S64x1024_d0_w32) (broadcast S64x1024 b))
      (broadcast S64x1024 1#32)) (broadcast S64x1024 1#32) (ix2 r c) = BitVec.ofBool (decide (r.val / n % 2 = 1)) := by
    rw [← hb r]
    pointwise
  rw [e, dynamicRotate_apply 1 _ x _ (ix2 r c) (ix2 r (back c k)) (fun a => match a with
    | 0 => rfl
    | 1 => by
      refine Eq.trans ?_ (if_pos rfl).symm
      show _ = (c.val + 1024 - kw.toNat % 1024) % 1024
      rw [hk]
      rfl)]
  by_cases h : r.val / n % 2 = 1
  · rw [h, Nat.mul_one]
    rfl
  · have h0 : r.val / n % 2 = 0 := by omega
    rw [h0, Nat.mul_zero, back_zero]
    rfl

theorem step0 (x : FVec Ideal S64x1024 .f32) (r : Fin 64) (c : Fin 1024) :
    stepV 0#32 1#32 x (ix2 r c) = x (ix2 r (back c (1 * (r.val / 1 % 2)))) :=
  step_apply 0#32 1#32 1 1 (by decide) (by decide +kernel) x r c

theorem step1 (x : FVec Ideal S64x1024 .f32) (r : Fin 64) (c : Fin 1024) :
    stepV 1#32 2#32 x (ix2 r c) = x (ix2 r (back c (2 * (r.val / 2 % 2)))) :=
  step_apply 1#32 2#32 2 2 (by decide) (by decide +kernel) x r c

theorem step2 (x : FVec Ideal S64x1024 .f32) (r : Fin 64) (c : Fin 1024) :
    stepV 2#32 4#32 x (ix2 r c) = x (ix2 r (back c (4 * (r.val / 4 % 2)))) :=
  step_apply 2#32 4#32 4 4 (by decide) (by decide +kernel) x r c

theorem step3 (x : FVec Ideal S64x1024 .f32) (r : Fin 64) (c : Fin 1024) :
    stepV 3#32 8#32 x (ix2 r c) = x (ix2 r (back c (8 * (r.val / 8 % 2)))) :=
  step_apply 3#32 8#32 8 8 (by decide) (by decide +kernel) x r c

theorem step4 (x : FVec Ideal S64x1024 .f32) (r : Fin 64) (c : Fin 1024) :
    stepV 4#32 16#32 x (ix2 r c) = x (ix2 r (back c (16 * (r.val / 16 % 2)))) :=
  step_apply 4#32 16#32 16 16 (by decide) (by decide +kernel) x r c

theorem step5 (x : FVec Ideal S64x1024 .f32) (r : Fin 64) (c : Fin 1024) :
    stepV 5#32 32#32 x (ix2 r c) = x (ix2 r (back c (32 * (r.val / 32 % 2)))) :=
  step_apply 5#32 32#32 32 32 (by decide) (by decide +kernel) x r c

theorem bits_sum (r : Nat) (h : r < 64) : 32 * (r / 32 % 2) + (16 * (r / 16 % 2) + (8 * (r / 8 % 2) + (4 * (r / 4 % 2) + (2 * (r / 2 % 2) + 1 * (r / 1 % 2))))) = r := by
  omega

theorem turn_apply (x : Vec Ideal S1x1x1024 .f32) (r : Fin 64) (c : Fin 1024) :
    turnV x (ix2 r c) = x (ix3 0 0 (back c r.val)) := by
  have hs := bits_sum r.val r.isLt
  have hr := r.isLt
  unfold turnV
  rw [step5, step4, step3, step2, step1, step0, row_apply, back_back _ _ _ (by omega), back_back _ _ _ (by omega), back_back _ _ _ (by omega),
    back_back _ _ _ (by omega), back_back _ _ _ (by omega), hs]

/-- One head's tile before it is stored: the turned row's first 640 columns, and `-1e30` past the band. -/
def tileV (x : Vec Ideal S1x1x1024 .f32) : FVec Ideal S64x640 .f32 :=
  select (cmpi .slt (iota .tc S64x640 32 [1] iota_S64x640_d1_w32) (broadcast S64x640 576#32))
    (extractStridedSlice S64x640 ![0, 0] (turnV x) slices_S64x1024_o0_0_S64x640)
    (broadcast S64x640 (Scalar.ofBits (F := Ideal) .f32 0xF149F2CA#32))

def headV (x : Vec Ideal S1x1x1024 .f32) : FVec Ideal S1x64x640 .f32 :=
  shapeCast S1x64x640 (tileV x) shapeCasts_S64x640_S1x64x640

theorem band_eq : ∀ c : Fin 640, IntOp.cmpi .slt (BitVec.ofNat 32 c.val) 576#32 = BitVec.ofBool (decide (c.val < 576)) := by decide +kernel

theorem tile_apply (x : Vec Ideal S1x1x1024 .f32) (r : Fin 64) (c : Fin 640) :
    tileV x (ix2 r c) = if c.val < 576 then x (ix3 0 0 (back ⟨c.val, by omega⟩ r.val))
      else Scalar.ofBits (F := Ideal) .f32 0xF149F2CA#32 := by
  have e : cmpi .slt (iota .tc S64x640 32 [1] iota_S64x640_d1_w32) (broadcast S64x640 576#32) (ix2 r c) = BitVec.ofBool (decide (c.val < 576)) := by
    rw [← band_eq c]
    pointwise
  have e2 : extractStridedSlice S64x640 ![0, 0] (turnV x) slices_S64x1024_o0_0_S64x640 (ix2 r c) = x (ix3 0 0 (back ⟨c.val, by omega⟩ r.val)) := by
    rw [← turn_apply x r ⟨c.val, by omega⟩]
    generalize turnV x = t
    pointwise
  show Scalar.select (cmpi .slt (iota .tc S64x640 32 [1] iota_S64x640_d1_w32) (broadcast S64x640 576#32) (ix2 r c))
    (extractStridedSlice S64x640 ![0, 0] (turnV x) slices_S64x1024_o0_0_S64x640 (ix2 r c)) (Scalar.ofBits (F := Ideal) .f32 0xF149F2CA#32) = _
  rw [e, e2]
  by_cases h : c.val < 576
  · rw [if_pos h, decide_eq_true h]
    rfl
  · rw [if_neg h, decide_eq_false h]
    rfl

theorem head_apply (x : Vec Ideal S1x1x1024 .f32) (r : Fin 64) (c : Fin 640) :
    headV x (ix3 0 r c) = if c.val < 576 then x (ix3 0 0 (back ⟨c.val, by omega⟩ r.val))
      else Scalar.ofBits (F := Ideal) .f32 0xF149F2CA#32 := by
  rw [← tile_apply x r c]
  unfold headV
  generalize tileV x = t
  pointwise

end Cert.BiasIdeal.Block

end
-- ==== Proof.BiasBody.lean ====
/-
  Each of the bias tile's eight stored payloads is the turned head, and the output block read at an index.
-/
module

public import proofs.«01_k».proof.Proof.BiasBlock

@[expose] public section

set_option maxRecDepth 16384

noncomputable section

namespace Cert.BiasIdeal.Block

open Cert.BiasIdeal Cert.BiasIdeal.Gen Idealize.ShloMosaic Idealize.ShloMosaic.TcCoe

theorem step_fold (b k : BitVec 32) (x : FVec Ideal S64x1024 .f32) :
    select (cmpi .eq (andi (shrsi (iota .tc S64x1024 32 [0] iota_S64x1024_d0_w32) (broadcast S64x1024 b)) (broadcast S64x1024 1#32)) (broadcast S64x1024 1#32))
      (dynamicRotate 1 k none x rotates_S64x1024_d1) x = stepV b k x := rfl

theorem row_fold (x : Vec Ideal S1x1x1024 .f32) :
    broadcastTo S64x1024 (shapeCast S1x1024 (shapeCast S1x1024 x shapeCasts_S1x1x1024_S1x1024) shapeCasts_S1x1024_S1x1024) broadcasts_S1x1024_S64x1024 = rowV x := rfl

variable (x0 : Vec Ideal S8x1x1024 .f32) (x : Vec Ideal S1x1x1024 .f32)

theorem head0 : k0_pay4 (k0_pay40 x0) (k0_pay41 x0) (k0_pay2 x) k0_pay3
    = headV x := by
  simp only [k0_pay2, k0_pay3, k0_pay4, k0_pay40, k0_pay41, step_fold, row_fold]
  rfl

theorem head1 : k0_pay10 (k0_pay8 (k0_pay41 x0)) (k0_pay9 (k0_pay40 x0) (k0_pay5 (k0_pay40 x0) x) (k0_pay6 (k0_pay40 x0)) k0_pay7) (Scalar.ofBits (F := Ideal) .f32 0xF149F2CA#32)
    = headV x := by
  simp only [k0_pay10, k0_pay40, k0_pay41, k0_pay5, k0_pay6, k0_pay7, k0_pay8, k0_pay9, step_fold, row_fold]
  rfl

theorem head2 : k0_pay14 (k0_pay40 x0) (k0_pay41 x0) (k0_pay11 (k0_pay40 x0) x) (k0_pay12 (k0_pay40 x0)) k0_pay13
    = headV x := by
  simp only [k0_pay11, k0_pay12, k0_pay13, k0_pay14, k0_pay40, k0_pay41, step_fold, row_fold]
  rfl

theorem head3 : k0_pay21 (k0_pay41 x0) (k0_pay18 (k0_pay40 x0) (k0_pay15 x) (k0_pay16 (k0_pay40 x0)) (k0_pay17 x)) (k0_pay19 (k0_pay40 x0)) (k0_pay20 (k0_pay40 x0) (k0_pay15 x) (k0_pay16 (k0_pay40 x0)) (k0_pay17 x))
    = headV x := by
  simp only [k0_pay15, k0_pay16, k0_pay17, k0_pay18, k0_pay19, k0_pay20, k0_pay21, k0_pay40, k0_pay41, step_fold, row_fold]
  rfl

theorem head4 : k0_pay24 (k0_pay40 x0) (k0_pay41 x0) (k0_pay22 (k0_pay40 x0) x) k0_pay23
    = headV x := by
  simp only [k0_pay22, k0_pay23, k0_pay24, k0_pay40, k0_pay41, step_fold, row_fold]
  rfl

theorem head5 : k0_pay31 (k0_pay41 x0) (k0_pay28 (k0_pay40 x0) (k0_pay25 x) (k0_pay26 (k0_pay40 x0)) k0_pay27) (k0_pay29 (k0_pay40 x0)) k0_pay30
    = headV x := by
  simp only [k0_pay25, k0_pay26, k0_pay27, k0_pay28, k0_pay29, k0_pay30, k0_pay31, k0_pay40, k0_pay41, step_fold, row_fold]
  rfl

theorem head6 : k0_pay35 (k0_pay40 x0) (k0_pay41 x0) (k0_pay32 (k0_pay40 x0) x) (k0_pay33 (k0_pay40 x0)) k0_pay34
    = headV x := by
  simp only [k0_pay32, k0_pay33, k0_pay34, k0_pay35, k0_pay40, k0_pay41, step_fold, row_fold]
  rfl

theorem head7 : k0_pay1 (k0_pay40 x0) (k0_pay41 x0) (k0_pay37 (k0_pay40 x0) (k0_pay36 x)) (k0_pay38 (k0_pay40 x0)) (k0_pay39 (k0_pay40 x0) (k0_pay36 x))
    = headV x := by
  simp only [k0_pay1, k0_pay36, k0_pay37, k0_pay38, k0_pay39, k0_pay40, k0_pay41, step_fold, row_fold]
  rfl

/-- The output block as a function: head, query, key column. -/
def tile (x0 : Vec Ideal S8x1x1024 .f32) (h : Fin 8) (r : Fin 64) (c : Fin 640) : Ideal .f32 :=
  if c.val < 576 then x0 (ix3 h 0 (back ⟨c.val, by omega⟩ r.val)) else Scalar.ofBits (F := Ideal) .f32 0xF149F2CA#32

theorem head_tile (h : Fin 8) (e : ∀ p, x (ix3 0 0 p) = x0 (ix3 h 0 p)) (y : S1x64x640.Idx) :
    headV x y = tile x0 h (y 1) (y 2) := by
  have e0 : y = ix3 0 (y 1) (y 2) := by
    funext a; refine Fin.ext ?_
    match a with
    | 0 => exact Nat.lt_one_iff.mp (y 0).isLt
    | 1 => rfl
    | 2 => rfl
  refine (congrArg (headV x) e0).trans ((head_apply x (y 1) (y 2)).trans ?_)
  unfold tile
  rw [e]

theorem out_apply (h : Fin 8) (r : Fin 64) (c : Fin 640) : out0_1 x0 (ix3 h r c) = tile x0 h r c := by
  let G : S8x64x640.Idx → Ideal .f32 := fun i => tile x0 (i 0) (i 1) (i 2)
  show out0_1 x0 (ix3 h r c) = G (ix3 h r c)
  unfold out0_1
  refine View.canon_apply_of_pieces G _ (fun q hq y => ?_) (ix3 h r c) (cover0_1 (F := Ideal) _ _ _ _ _ _ _ _ _)
  simp only [List.mem_cons, List.not_mem_nil, or_false] at hq
  rcases hq with rfl | rfl | rfl | rfl | rfl | rfl | rfl | rfl
  · refine (congrFun (head7 x0 (View.ld x0 r0_14)) y).trans ((head_tile x0 _ 7 (fun p => congrArg x0 (funext fun a => Fin.ext ?_)) y).trans ?_)
    · match a with | 0 => simp | 1 => simp | 2 => simp
    · have e : (Rect.emb r0_15 y) = ix3 7 (y 1) (y 2) := by
        funext a; refine Fin.ext ?_
        match a with | 0 => simp | 1 => simp | 2 => simp
      exact (congrArg G e).symm
  · refine (congrFun (head6 x0 (View.ld x0 r0_12)) y).trans ((head_tile x0 _ 6 (fun p => congrArg x0 (funext fun a => Fin.ext ?_)) y).trans ?_)
    · match a with | 0 => simp | 1 => simp | 2 => simp
    · have e : (Rect.emb r0_13 y) = ix3 6 (y 1) (y 2) := by
        funext a; refine Fin.ext ?_
        match a with | 0 => simp | 1 => simp | 2 => simp
      exact (congrArg G e).symm
  · refine (congrFun (head5 x0 (View.ld x0 r0_10)) y).trans ((head_tile x0 _ 5 (fun p => congrArg x0 (funext fun a => Fin.ext ?_)) y).trans ?_)
    · match a with | 0 => simp | 1 => simp | 2 => simp
    · have e : (Rect.emb r0_11 y) = ix3 5 (y 1) (y 2) := by
        funext a; refine Fin.ext ?_
        match a with | 0 => simp | 1 => simp | 2 => simp
      exact (congrArg G e).symm
  · refine (congrFun (head4 x0 (View.ld x0 r0_8)) y).trans ((head_tile x0 _ 4 (fun p => congrArg x0 (funext fun a => Fin.ext ?_)) y).trans ?_)
    · match a with | 0 => simp | 1 => simp | 2 => simp
    · have e : (Rect.emb r0_9 y) = ix3 4 (y 1) (y 2) := by
        funext a; refine Fin.ext ?_
        match a with | 0 => simp | 1 => simp | 2 => simp
      exact (congrArg G e).symm
  · refine (congrFun (head3 x0 (View.ld x0 r0_6)) y).trans ((head_tile x0 _ 3 (fun p => congrArg x0 (funext fun a => Fin.ext ?_)) y).trans ?_)
    · match a with | 0 => simp | 1 => simp | 2 => simp
    · have e : (Rect.emb r0_7 y) = ix3 3 (y 1) (y 2) := by
        funext a; refine Fin.ext ?_
        match a with | 0 => simp | 1 => simp | 2 => simp
      exact (congrArg G e).symm
  · refine (congrFun (head2 x0 (View.ld x0 r0_4)) y).trans ((head_tile x0 _ 2 (fun p => congrArg x0 (funext fun a => Fin.ext ?_)) y).trans ?_)
    · match a with | 0 => simp | 1 => simp | 2 => simp
    · have e : (Rect.emb r0_5 y) = ix3 2 (y 1) (y 2) := by
        funext a; refine Fin.ext ?_
        match a with | 0 => simp | 1 => simp | 2 => simp
      exact (congrArg G e).symm
  · refine (congrFun (head1 x0 (View.ld x0 r0_2)) y).trans ((head_tile x0 _ 1 (fun p => congrArg x0 (funext fun a => Fin.ext ?_)) y).trans ?_)
    · match a with | 0 => simp | 1 => simp | 2 => simp
    · have e : (Rect.emb r0_3 y) = ix3 1 (y 1) (y 2) := by
        funext a; refine Fin.ext ?_
        match a with | 0 => simp | 1 => simp | 2 => simp
      exact (congrArg G e).symm
  · refine (congrFun (head0 x0 (View.ld x0 r0_0)) y).trans ((head_tile x0 _ 0 (fun p => congrArg x0 (funext fun a => Fin.ext ?_)) y).trans ?_)
    · match a with | 0 => simp | 1 => simp | 2 => simp
    · have e : (Rect.emb r0_1 y) = ix3 0 (y 1) (y 2) := by
        funext a; refine Fin.ext ?_
        match a with | 0 => simp | 1 => simp | 2 => simp
      exact (congrArg G e).symm

end Cert.BiasIdeal.Block

end
-- ==== Proof.BiasArray.lean ====
/-
  The bias tile's result array, read at an index from the argument array.
-/
module

public import proofs.«01_k».proof.Proof.BiasBody
public import Idealize.ShloMosaic.Lib.Pipeline.ValueKit
public import Idealize.ShloMosaic.Lib.StableHlo.ReadAt

@[expose] public section

set_option maxRecDepth 16384

noncomputable section

namespace Cert.BiasSpec

open Idealize.ShloMosaic

/-- Head `h`'s bias at entry `j` of its row of the table, less the row's first entry, times log2(e) as f32. -/
def entry (x : (⟨2, ![8, 257]⟩ : Shape).Idx → EReal) (h : Fin 8) (j : Fin 257) : EReal :=
  (x (ix2 h j) - x (ix2 h 0)) * Ideal.ofBits .f32 0x3FB8AA3B#32

/-- The table's entry for query `r` of a chunk and key `c` of its band: the clipped relative position plus 128. -/
def clipIdx (r : Fin 64) (c : Fin 640) : Fin 257 := ⟨min (c.val - r.val - 384) 256, by omega⟩

/-- The bias of head `h`, query `r` and key `c`. -/
def bias (x : (⟨2, ![8, 257]⟩ : Shape).Idx → EReal) (h : Fin 8) (r : Fin 64) (c : Fin 640) : EReal :=
  if c.val < 576 then entry x h (clipIdx r c) else Ideal.ofBits .f32 0xF149F2CA#32

theorem entry_of (x : (⟨2, ![8, 257]⟩ : Shape).Idx → EReal) (h : Fin 8) (j j' : Fin 257) (e : j.val = j'.val) :
    (x (ix2 h j) - x (ix2 h 0)) * Ideal.ofBits .f32 0x3FB8AA3B#32 = entry x h j' := by
  rw [Fin.ext e]
  rfl

end Cert.BiasSpec

namespace Cert.BiasIdeal.Block

open Cert.BiasIdeal Cert.BiasIdeal.Gen Idealize.ShloMosaic Idealize.ShloMosaic.TcCoe Idealize.SL.Sem

variable (m : (ℓ : Loc nD τ sig) → Buf (Elt Ideal) ℓ) (c : Dev nD)

/-- The kernel's row: the table's entries at columns 384 to 575, the first entry elsewhere. -/
theorem V_v11 (h : Fin 8) (p : Fin 1024) : V m c main_v11 (ix3 h 0 p)
    = BiasSpec.entry (m ((c : Thread nD τ).loc main_arg0)) h ⟨if p.val < 576 then p.val - 384 else 0, by split <;> omega⟩ := by
  unfold V
  after_reads_at
  split
  · after_reads_at
    refine BiasSpec.entry_of _ h 0 _ ?_
    show 0 = if p.val < 576 then p.val - 384 else 0
    split <;> omega
  · split
    · after_reads_at
      refine BiasSpec.entry_of _ h ⟨p.val - 384, by omega⟩ _ ?_
      show p.val - 384 = if p.val < 576 then p.val - 384 else 0
      split <;> omega
    · after_reads_at
      refine BiasSpec.entry_of _ h 0 _ ?_
      show 0 = if p.val < 576 then p.val - 384 else 0
      split <;> omega

theorem idx_0 : ∀ t : Fin cfg0.N, win0_0.index t = ![0, 0, 0] := by decide +kernel
theorem idx_1 : ∀ t : Fin cfg0.N, win0_1.index t = ![0, 0, 0] := by decide +kernel

theorem iblk_0 (t : Fin cfg0.N) (h : Fin 8) (p : Fin 1024) : iblk m c 0 t (ix3 h 0 p)
    = BiasSpec.entry (m ((c : Thread nD τ).loc main_arg0)) h ⟨if p.val < 576 then p.val - 384 else 0, by split <;> omega⟩ := by
  rw [← V_v11 m c h p]
  blk_ext [iblk, idx_0 t]

def res1 : (⟨3, ![8, 64, 640]⟩ : Shape).Idx → EReal := fun i => BiasSpec.bias (m ((c : Thread nD τ).loc main_arg0)) (i 0) (i 1) (i 2)

theorem final1 : (dats m 0 c).arrAt 1 cfg0.N = res1 m c := by
  refine (dats m 0 c).arrAt_eq_of_covers 1 _ (by decide +kernel) fun t hf y => ?_
  blk_simp
  rw [after0_1]
  obtain ⟨h, r, n, rfl⟩ : ∃ (h : Fin 8) (r : Fin 64) (n : Fin 640), y = ix3 h r n := ⟨y 0, y 1, y 2, eq_ix3 y⟩
  have he : (win0_1.blk t).view.emb (ix3 h r n) = ix3 h r n := by
    blk_ext [idx_1 t]
  refine Eq.trans ?_ (congrArg (res1 m c) he).symm
  refine (out_apply _ h r n).trans ?_
  show tile _ h r n = BiasSpec.bias _ h r n
  unfold tile BiasSpec.bias
  by_cases hn : n.val < 576
  · rw [if_pos hn, if_pos hn, iblk_0]
    refine congrArg _ (Fin.ext ?_)
    show (if (n.val + 1024 - r.val) % 1024 < 576 then (n.val + 1024 - r.val) % 1024 - 384 else 0) = min (n.val - r.val - 384) 256
    have := r.isLt
    split <;> omega
  · rw [if_neg hn, if_neg hn]
    rfl

end Cert.BiasIdeal.Block

end
-- ==== Proof.BiasRefRead.lean ====
/-
  The bias tile's reference, read at an index.
-/
module

public import proofs.«01_k».proof.Proof.Gen.BiasRefIdeal.Read
public import proofs.«01_k».proof.Proof.BiasArray
public import Idealize.ShloMosaic.Lib.ValueIdxCore

@[expose] public section

set_option maxRecDepth 16384

noncomputable section

namespace Cert.BiasRefIdeal.Stage

open Cert.BiasRefIdeal Cert.BiasRefIdeal.Read Idealize.ShloMosaic Idealize.ShloMosaic.TcCoe

/-- The table's columns taken at an array of column numbers: at each index, the column of that number, kept to the table. -/
theorem take_apply (x : (⟨2, ![8, 257]⟩ : Shape).Idx → EReal) (idx : IVec S64x640x1 32) (h : Fin 8) (r : Fin 64) (c : Fin 640) :
    Host.gather gather_S8x257_S64x640x1_S8x64x640_0_1_n_n_1_2_81 x idx (ix3 h r c)
      = x (ix2 h ⟨min (idx (ix3 r c 0)).toInt.toNat 256, by omega⟩) := by
  unfold Host.gather
  refine congrArg x (funext fun a => Fin.ext ?_)
  show (gather_S8x257_S64x640x1_S8x64x640_0_1_n_n_1_2_81).start (ix3 h r c) idx a
    + (gather_S8x257_S64x640x1_S8x64x640_0_1_n_n_1_2_81).batchCoord (ix3 h r c) a
    + (gather_S8x257_S64x640x1_S8x64x640_0_1_n_n_1_2_81).offCoord (ix3 h r c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show ¬ (0 : Fin 2) ∈ (gather_S8x257_S64x640x1_S8x64x640_0_1_n_n_1_2_81).startIndexMap from by decide)]
    simp only [Nat.zero_add, Nat.add_zero]
    unfold GatherDims.offCoord
    rw [dif_pos (show (0 : Fin 2) ∈ (gather_S8x257_S64x640x1_S8x64x640_0_1_n_n_1_2_81).sKept from by decide)]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S8x257_S64x640x1_S8x64x640_0_1_n_n_1_2_81).startIndexMap from List.mem_singleton.mpr rfl)]
    have hsi : (gather_S8x257_S64x640x1_S8x64x640_0_1_n_n_1_2_81).siIdx (ix3 h r c) ⟨List.idxOf (1 : Fin 2) (gather_S8x257_S64x640x1_S8x64x640_0_1_n_n_1_2_81).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl

theorem band_eq : ∀ c : Fin 640, IntOp.cmpi .slt (IntOp.subi (BitVec.ofNat 32 c.val) 512#32) 64#32 = BitVec.ofBool (decide (c.val < 576)) := by
  decide +kernel

theorem idx_apply (r : Fin 64) (c : Fin 640) : val_main_call1_v0 (F := Ideal) (ix3 r c 0)
    = IntOp.addi (IntOp.minsi 128#32 (IntOp.maxsi 4294967168#32
      (IntOp.subi (IntOp.subi (BitVec.ofNat 32 c.val) 512#32) (BitVec.ofNat 32 r.val)))) 128#32 := by
  pointwise [val_main_call1_v0, val_main_v11, val_main_v10, val_main_c_2, val_main_v9, val_main_call0_v4, val_main_call0_v3, val_main_c_1,
    val_main_call0_v2, val_main_call0_v1, val_main_call0_v0, val_main_c_0, val_main_v8, val_main_v7, val_main_v6, val_main_v5, val_main_v4,
    val_main_v3, val_main_v2, val_main_v1, val_main_c, val_main_v0]
  rfl

theorem clip_all : ∀ d : Fin 703, (IntOp.addi (IntOp.minsi 128#32 (IntOp.maxsi 4294967168#32
      (BitVec.ofNat 32 d.val - 575#32))) 128#32).toInt.toNat = min (d.val - 447) 256 := by
  decide +kernel

theorem sub_word (r : Fin 64) (c : Fin 640) : IntOp.subi (IntOp.subi (BitVec.ofNat 32 c.val) 512#32) (BitVec.ofNat 32 r.val)
    = BitVec.ofNat 32 (c.val + 63 - r.val) - 575#32 := by
  have hr := r.isLt
  have hc := c.isLt
  show BitVec.ofNat 32 c.val - 512#32 - BitVec.ofNat 32 r.val = _
  refine BitVec.eq_of_toNat_eq ?_
  simp only [BitVec.toNat_sub, BitVec.toNat_ofNat]
  omega

/-- The clipped relative position as a word is the table's entry number. -/
theorem clip_word (r : Fin 64) (c : Fin 640) : (IntOp.addi (IntOp.minsi 128#32 (IntOp.maxsi 4294967168#32
      (IntOp.subi (IntOp.subi (BitVec.ofNat 32 c.val) 512#32) (BitVec.ofNat 32 r.val)))) 128#32).toInt.toNat
    = min (c.val - r.val - 384) 256 := by
  have hr := r.isLt
  have hc := c.isLt
  rw [sub_word]
  refine (clip_all ⟨c.val + 63 - r.val, by omega⟩).trans ?_
  show min (c.val + 63 - r.val - 447) 256 = _
  omega

theorem take_eq (x : (⟨2, ![8, 257]⟩ : Shape).Idx → EReal) (h : Fin 8) (r : Fin 64) (c : Fin 640) :
    val_main_v12 (F := Ideal) x (ix3 h r c) = x (ix2 h (BiasSpec.clipIdx r c)) := by
  have e : (val_main_call1_v0 (F := Ideal) (ix3 r c 0)).toInt.toNat = min (c.val - r.val - 384) 256 :=
    (congrArg (fun w : BitVec 32 => w.toInt.toNat) (idx_apply r c)).trans (clip_word r c)
  unfold val_main_v12
  generalize val_main_call1_v0 (F := Ideal) = w at e
  rw [take_apply]
  refine congrArg (fun j => x (ix2 h j)) (Fin.ext ?_)
  show min (w (ix3 r c 0)).toInt.toNat 256 = min (c.val - r.val - 384) 256
  rw [e]
  omega

theorem out_apply (x : (⟨2, ![8, 257]⟩ : Shape).Idx → EReal) (h : Fin 8) (r : Fin 64) (c : Fin 640) :
    val_main_v22 (F := Ideal) x (ix3 h r c) = BiasSpec.bias x h r c := by
  have e16 : val_main_v16 (F := Ideal) x (ix3 h r c) = x (ix2 h 0) := by
    pointwise [val_main_v16, val_main_v15, val_main_v14, val_main_v13]
  have e18 : val_main_v18 (F := Ideal) (ix3 h r c) = Ideal.ofBits .f32 0x3FB8AA3B#32 := by
    pointwise [val_main_v18, val_main_cst]
  have e1 : val_main_call2_v1 (F := Ideal) (ix3 h r c) = BitVec.ofBool (decide (c.val < 576)) := by
    rw [← band_eq c]
    pointwise [val_main_call2_v1, val_main_v21, val_main_v20, val_main_c_3, val_main_v2, val_main_v1, val_main_v0, val_main_c]
  have e2 : val_main_call2_v2 (F := Ideal) (ix3 h r c) = Ideal.ofBits .f32 0xF149F2CA#32 := by
    pointwise [val_main_call2_v2, val_main_call2_v0, val_main_cst_4]
    rfl
  rw [val_main_v22_apply, val_main_v19_apply, val_main_v17_apply, take_eq, e16, e18, e1, e2]
  unfold BiasSpec.bias
  by_cases hc : c.val < 576
  · rw [if_pos hc, decide_eq_true hc]
    rfl
  · rw [if_neg hc, decide_eq_false hc]
    rfl

end Cert.BiasRefIdeal.Stage

end
-- ==== Proof.BiasClaim.lean ====
/-
  The bias tile and its reference compute the same array; and the reference's frame.
-/
module

public import proofs.«01_k».proof.Defs
public import proofs.«01_k».proof.Proof.BiasArray
public import proofs.«01_k».proof.Proof.BiasRefRead
public import proofs.«01_k».proof.Proof.Gen.BiasRefIdeal.Run

@[expose] public section

set_option maxRecDepth 16384

noncomputable section

namespace Cert.BiasClaim

open Idealize.ShloMosaic Idealize.SL.Sem

theorem ref_frame : Cert.quiescent_BiasRefIdeal := fun m ρ _ =>
  (θ_run BiasRefIdeal.defs _ _).mono (fun r h => ⟨fun c => (h c).2, sem_eq_zero_of_no_sems (by decide) r.2⟩)
    (BiasRefIdeal.Value.run (F := Ideal) m ρ)

theorem ref_0 (m : (ℓ : Loc BiasIdeal.nD BiasIdeal.τ BiasIdeal.sig) → Buf (Elt Ideal) ℓ)
    (m' : (ℓ : Loc BiasRefIdeal.nD BiasRefIdeal.τ BiasRefIdeal.sig) → Buf (Elt Ideal) ℓ) (c : Dev BiasIdeal.nD)
    (e0 : m' ((c.tc : Thread BiasRefIdeal.nD BiasRefIdeal.τ).loc BiasRefIdeal.main_arg0) = m ((c.tc : Thread BiasIdeal.nD BiasIdeal.τ).loc BiasIdeal.main_arg0)) :
    BiasRefIdeal.Read.val_main_v22 (F := Ideal) (m' ((c.tc : Thread BiasRefIdeal.nD BiasRefIdeal.τ).loc BiasRefIdeal.main_arg0)) = BiasIdeal.Block.res1 m c := by
  rw [e0]
  funext i
  obtain ⟨h, r, n, rfl⟩ : ∃ (h : Fin 8) (r : Fin 64) (n : Fin 640), i = ix3 h r n := ⟨i 0, i 1, i 2, eq_ix3 i⟩
  exact BiasRefIdeal.Stage.out_apply _ h r n

theorem algebraic : Cert.algebraic_BiasIdeal_BiasRefIdeal := by
  intro m g m' g' _ hargs
  refine ⟨fun c => BiasIdeal.Block.res1 m c, ?_, ?_⟩
  · exact (θ_run BiasIdeal.defs _ _).mono (fun r h c => ⟨(h c).1.trans (BiasIdeal.Block.final1 m c), (h c).2⟩)
      (BiasIdeal.Value.run_blocks m g)
  · refine (θ_run BiasRefIdeal.defs _ _).mono (fun r h c => ?_) (BiasRefIdeal.Value.run (F := Ideal) m' g')
    exact ⟨((h c).1.trans (BiasRefIdeal.Read.val_main_v22_eq _)).trans (ref_0 m m' c (hargs c)), (h c).2⟩

end Cert.BiasClaim

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_logits
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.PostSIdeal.Value
public import proofs.«01_k».proof.Proof.Gen.PostPIdeal.Value
public import proofs.«01_k».proof.Proof.Gen.PostSRefIdeal.Run
public import proofs.«01_k».proof.Proof.Gen.PostSRefIdeal.Read
public import proofs.«01_k».proof.Proof.Gen.PostPRefIdeal
public import proofs.«01_k».proof.Proof.Gen.InSIdeal.Value
public import proofs.«01_k».proof.Proof.Gen.InPIdeal.Value
public import proofs.«01_k».proof.Proof.Gen.InSRefIdeal.Run
public import proofs.«01_k».proof.Proof.Gen.InSRefIdeal.Read
public import proofs.«01_k».proof.Proof.Gen.InPRefIdeal.Run
public import proofs.«01_k».proof.Proof.Gen.InPRefIdeal.Read
public import proofs.«01_k».proof.Proof.Gen.BiasIdeal.Value
public import proofs.«01_k».proof.Proof.Gen.BiasRefIdeal.Run
public import proofs.«01_k».proof.Proof.Gen.BiasRefIdeal.Read
public import proofs.«01_k».proof.Proof.Gen.Bias
public import proofs.«01_k».proof.Proof.Gen.BiasIdeal
public import proofs.«01_k».proof.Proof.Gen.BiasRefIdeal
public import proofs.«01_k».proof.Proof.Gen.Bias.Frame
public import proofs.«01_k».proof.Proof.Gen.InS
public import proofs.«01_k».proof.Proof.Gen.InS.Skeleton
public import proofs.«01_k».proof.Proof.Gen.InS.Launch
public import proofs.«01_k».proof.Proof.Gen.InS.Points
public import proofs.«01_k».proof.Proof.Gen.InS.Frame
public import proofs.«01_k».proof.Proof.Gen.InSIdeal
public import proofs.«01_k».proof.Proof.Gen.InSIdeal.Skeleton
public import proofs.«01_k».proof.Proof.Gen.InSIdeal.Launch
public import proofs.«01_k».proof.Proof.Gen.InSIdeal.Points
public import proofs.«01_k».proof.Proof.Gen.InSIdeal.Frame
public import proofs.«01_k».proof.Proof.Gen.InP
public import proofs.«01_k».proof.Proof.Gen.InP.Skeleton
public import proofs.«01_k».proof.Proof.Gen.InP.Launch
public import proofs.«01_k».proof.Proof.Gen.InP.Points
public import proofs.«01_k».proof.Proof.Gen.InP.Frame
public import proofs.«01_k».proof.Proof.Gen.InPIdeal
public import proofs.«01_k».proof.Proof.Gen.InPIdeal.Skeleton
public import proofs.«01_k».proof.Proof.Gen.InPIdeal.Launch
public import proofs.«01_k».proof.Proof.Gen.InPIdeal.Points
public import proofs.«01_k».proof.Proof.Gen.InPIdeal.Frame
public import proofs.«01_k».proof.Proof.Gen.InSRefIdeal
public import proofs.«01_k».proof.Proof.Gen.InPRefIdeal.Run
public import proofs.«01_k».proof.Proof.Gen.PostPRefIdeal.Read
public import proofs.«01_k».proof.Proof.Gen.PostS
public import proofs.«01_k».proof.Proof.Gen.PostS.Skeleton
public import proofs.«01_k».proof.Proof.Gen.PostS.Launch
public import proofs.«01_k».proof.Proof.Gen.PostS.Points
public import proofs.«01_k».proof.Proof.Gen.PostS.Frame
public import proofs.«01_k».proof.Proof.Gen.PostSIdeal
public import proofs.«01_k».proof.Proof.Gen.PostSIdeal.Skeleton
public import proofs.«01_k».proof.Proof.Gen.PostSIdeal.Launch
public import proofs.«01_k».proof.Proof.Gen.PostSIdeal.Points
public import proofs.«01_k».proof.Proof.Gen.PostSIdeal.Frame
public import proofs.«01_k».proof.Proof.Gen.PostP
public import proofs.«01_k».proof.Proof.Gen.PostP.Skeleton
public import proofs.«01_k».proof.Proof.Gen.PostP.Launch
public import proofs.«01_k».proof.Proof.Gen.PostP.Points
public import proofs.«01_k».proof.Proof.Gen.PostP.Frame
public import proofs.«01_k».proof.Proof.Gen.PostPIdeal
public import proofs.«01_k».proof.Proof.Gen.PostPIdeal.Skeleton
public import proofs.«01_k».proof.Proof.Gen.PostPIdeal.Launch
public import proofs.«01_k».proof.Proof.Gen.PostPIdeal.Points
public import proofs.«01_k».proof.Proof.Gen.PostPIdeal.Frame
public import proofs.«01_k».proof.Proof.Gen.PostSRefIdeal
public import proofs.«01_k».proof.Proof.Gen.PostPRefIdeal
public import proofs.«01_k».proof.Proof.AttnClaim
public import proofs.«01_k».proof.Proof.PostPClaim
public import proofs.«01_k».proof.Proof.PostSClaim
public import proofs.«01_k».proof.Proof.InSClaim
public import proofs.«01_k».proof.Proof.InPClaim
public import proofs.«01_k».proof.Proof.BiasClaim
public import Idealize.ShloMosaic.Adequacy
public import Idealize.ShloMosaic.Init

@[expose] public section

noncomputable section

namespace Cert.Proof

open Idealize.ShloMosaic Idealize.SL.Sem Cert.Attn

/-- The table of named constants gives `sqrt_half` its value. -/
theorem named_PostS : Cert.preserves_PostS_PostSIdeal :=
  IdealRules.named_const.statement Cert.PostSIdeal.κ "sqrt_half" .f32 0x3F3504F3#32 (((Real.sqrt 2)⁻¹ : ℝ) : EReal) rfl

theorem named_PostP : Cert.preserves_PostP_PostPIdeal :=
  IdealRules.named_const.statement Cert.PostPIdeal.κ "sqrt_half" .f32 0x3F3504F3#32 (((Real.sqrt 2)⁻¹ : ℝ) : EReal) rfl

/-- The table of named constants gives `scale` its value. -/
theorem named_InS : Cert.preserves_InS_InSIdeal :=
  IdealRules.named_const.statement Cert.InSIdeal.κ "scale" .f32 0x3E38AA3B#32 (((1 / 8) * (Real.log 2)⁻¹ : ℝ) : EReal) rfl

theorem named_InP : Cert.preserves_InP_InPIdeal :=
  IdealRules.named_const.statement Cert.InPIdeal.κ "scale" .f32 0x3E38AA3B#32 (((1 / 8) * (Real.log 2)⁻¹ : ℝ) : EReal) rfl

theorem claim : Cert.Claim := ⟨Cert.Attn.Gen.facts, Cert.AttnIdeal.Gen.facts, Cert.AttnRefIdeal.Gen.facts,
  Cert.PostS.Gen.facts, Cert.PostSIdeal.Gen.facts, Cert.PostSRefIdeal.Gen.facts,
  Cert.PostP.Gen.facts, Cert.PostPIdeal.Gen.facts, Cert.PostPRefIdeal.Gen.facts,
  Cert.InS.Gen.facts, Cert.InSIdeal.Gen.facts, Cert.InSRefIdeal.Gen.facts,
  Cert.InP.Gen.facts, Cert.InPIdeal.Gen.facts, Cert.InPRefIdeal.Gen.facts,
  Cert.Bias.Gen.facts, Cert.BiasIdeal.Gen.facts, Cert.BiasRefIdeal.Gen.facts, Cert.Pre_finite_logits.Gen.facts,
  fun m ρ _ => Cert.Attn.Gen.frame m ρ, fun m ρ _ => Cert.AttnIdeal.Gen.frame m ρ, fun m ρ _ => Cert.AttnIdeal.Gen.frame m ρ,
  Cert.AttnClaim.ref_frame, fun m ρ _ => Cert.AttnClaim.ref_frame m ρ trivial,
  fun m ρ _ => Cert.PostS.Gen.frame m ρ, fun m ρ _ => Cert.PostSIdeal.Gen.frame m ρ, Cert.PostSClaim.ref_frame,
  fun m ρ _ => Cert.PostP.Gen.frame m ρ, fun m ρ _ => Cert.PostPIdeal.Gen.frame m ρ, Cert.PostPClaim.ref_frame,
  fun m ρ _ => Cert.InS.Gen.frame m ρ, fun m ρ _ => Cert.InSIdeal.Gen.frame m ρ, Cert.InSClaim.ref_frame,
  fun m ρ _ => Cert.InP.Gen.frame m ρ, fun m ρ _ => Cert.InPIdeal.Gen.frame m ρ, Cert.InPClaim.ref_frame,
  fun m ρ _ => Cert.Bias.Gen.frame m ρ, fun m ρ _ => Cert.BiasIdeal.Gen.frame m ρ, Cert.BiasClaim.ref_frame,
  trivial, Cert.AttnClaim.algebraic, named_PostS, Cert.PostSClaim.algebraic, named_PostP, Cert.PostPClaim.algebraic,
  named_InS, Cert.InSClaim.algebraic, named_InP, Cert.InPClaim.algebraic,
  trivial, Cert.BiasClaim.algebraic⟩

end Cert.Proof

end
